-- ==== Defs.lean ====
def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdIdeal_finite_norm [hPre_finite_norm : Cert.Pre_finite_norm.Facts] (m : (ℓ : Loc Cert.NormBwdIdeal.nD Cert.NormBwdIdeal.τ Cert.NormBwdIdeal.sig) → Buf (Elt Ideal) ℓ) : Prop :=
  ∀ c : Dev Cert.NormBwdIdeal.nD,
    (Cert.Pre_finite_norm.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3))).1 = (fun _ => 1#1)
    ∧ (Cert.Pre_finite_norm.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3))).2.1 = (fun _ => 1#1)
    ∧ (Cert.Pre_finite_norm.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3))).2.2 = (fun _ => 1#1)

def Pre_NormBwdRefIdeal (m : (ℓ : Loc Cert.NormBwdRefIdeal.nD Cert.NormBwdRefIdeal.τ Cert.NormBwdRefIdeal.sig) → Buf (Elt Ideal) ℓ) : Prop :=
  True

def Pre_NormBwdRefIdeal_finite_norm [hPre_finite_norm : Cert.Pre_finite_norm.Facts] (m : (ℓ : Loc Cert.NormBwdRefIdeal.nD Cert.NormBwdRefIdeal.τ Cert.NormBwdRefIdeal.sig) → Buf (Elt Ideal) ℓ) : Prop :=
  ∀ c : Dev Cert.NormBwdRefIdeal.nD,
    (Cert.Pre_finite_norm.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3))).1 = (fun _ => 1#1)
    ∧ (Cert.Pre_finite_norm.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3))).2.1 = (fun _ => 1#1)
    ∧ (Cert.Pre_finite_norm.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3))).2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.2 = (fun _ => 1#1)

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdRefIdeal (m : (ℓ : Loc Cert.ConvBwdRefIdeal.nD Cert.ConvBwdRefIdeal.τ Cert.ConvBwdRefIdeal.sig) → Buf (Elt Ideal) ℓ) : Prop :=
  True

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdIdeal_finite_gate [hPre_finite_gate : Cert.Pre_finite_gate.Facts] (m : (ℓ : Loc Cert.GateBwdIdeal.nD Cert.GateBwdIdeal.τ Cert.GateBwdIdeal.sig) → Buf (Elt Ideal) ℓ) : Prop :=
  ∀ c : Dev Cert.GateBwdIdeal.nD,
    (Cert.Pre_finite_gate.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3)) (m ((c.tc : Thread Cert.GateBwdIdeal.nD Cert.GateBwdIdeal.τ).loc Cert.GateBwdIdeal.main_arg4))).1 = (fun _ => 1#1)
    ∧ (Cert.Pre_finite_gate.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3)) (m ((c.tc : Thread Cert.GateBwdIdeal.nD Cert.GateBwdIdeal.τ).loc Cert.GateBwdIdeal.main_arg4))).2.1 = (fun _ => 1#1)
    ∧ (Cert.Pre_finite_gate.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3)) (m ((c.tc : Thread Cert.GateBwdIdeal.nD Cert.GateBwdIdeal.τ).loc Cert.GateBwdIdeal.main_arg4))).2.2.1 = (fun _ => 1#1)
    ∧ (Cert.Pre_finite_gate.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3)) (m ((c.tc : Thread Cert.GateBwdIdeal.nD Cert.GateBwdIdeal.τ).loc Cert.GateBwdIdeal.main_arg4))).2.2.2.1 = (fun _ => 1#1)
    ∧ (Cert.Pre_finite_gate.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3)) (m ((c.tc : Thread Cert.GateBwdIdeal.nD Cert.GateBwdIdeal.τ).loc Cert.GateBwdIdeal.main_arg4))).2.2.2.2 = (fun _ => 1#1)

def Pre_GateBwdRefIdeal (m : (ℓ : Loc Cert.GateBwdRefIdeal.nD Cert.GateBwdRefIdeal.τ Cert.GateBwdRefIdeal.sig) → Buf (Elt Ideal) ℓ) : Prop :=
  True

def Pre_GateBwdRefIdeal_finite_gate [hPre_finite_gate : Cert.Pre_finite_gate.Facts] (m : (ℓ : Loc Cert.GateBwdRefIdeal.nD Cert.GateBwdRefIdeal.τ Cert.GateBwdRefIdeal.sig) → Buf (Elt Ideal) ℓ) : Prop :=
  ∀ c : Dev Cert.GateBwdRefIdeal.nD,
    (Cert.Pre_finite_gate.fn (F := Ideal) (m ((c.tc : Thread Cert.GateBwdRefIdeal.nD Cert.GateBwdRefIdeal.τ).loc Cert.GateBwdRefIdeal.main_arg0)) (m ((c.tc : Thread Cert.GateBwdRefIdeal.nD Cert.GateBwdRefIdeal.τ).loc Cert.GateBwdRefIdeal.main_arg1)) (m ((c.tc : Thread Cert.GateBwdRefIdeal.nD Cert.GateBwdRefIdeal.τ).loc Cert.GateBwdRefIdeal.main_arg2)) (m ((c.tc : Thread Cert.GateBwdRefIdeal.nD Cert.GateBwdRefIdeal.τ).loc Cert.GateBwdRefIdeal.main_arg3)) (m ((c.tc : Thread Cert.GateBwdRefIdeal.nD Cert.GateBwdRefIdeal.τ).loc Cert.GateBwdRefIdeal.main_arg4))).1 = (fun _ => 1#1)
    ∧ (Cert.Pre_finite_gate.fn (F := Ideal) (m ((c.tc : Thread Cert.GateBwdRefIdeal.nD Cert.GateBwdRefIdeal.τ).loc Cert.GateBwdRefIdeal.main_arg0)) (m ((c.tc : Thread Cert.GateBwdRefIdeal.nD Cert.GateBwdRefIdeal.τ).loc Cert.GateBwdRefIdeal.main_arg1)) (m ((c.tc : Thread Cert.GateBwdRefIdeal.nD Cert.GateBwdRefIdeal.τ).loc Cert.GateBwdRefIdeal.main_arg2)) (m ((c.tc : Thread Cert.GateBwdRefIdeal.nD Cert.GateBwdRefIdeal.τ).loc Cert.GateBwdRefIdeal.main_arg3)) (m ((c.tc : Thread Cert.GateBwdRefIdeal.nD Cert.GateBwdRefIdeal.τ).loc Cert.GateBwdRefIdeal.main_arg4))).2.1 = (fun _ => 1#1)
    ∧ (Cert.Pre_finite_gate.fn (F := Ideal) (m ((c.tc : Thread Cert.GateBwdRefIdeal.nD Cert.GateBwdRefIdeal.τ).loc Cert.GateBwdRefIdeal.main_arg0)) (m ((c.tc : Thread Cert.GateBwdRefIdeal.nD Cert.GateBwdRefIdeal.τ).loc Cert.GateBwdRefIdeal.main_arg1)) (m ((c.tc : Thread Cert.GateBwdRefIdeal.nD Cert.GateBwdRefIdeal.τ).loc Cert.GateBwdRefIdeal.main_arg2)) (m ((c.tc : Thread Cert.GateBwdRefIdeal.nD Cert.GateBwdRefIdeal.τ).loc Cert.GateBwdRefIdeal.main_arg3)) (m ((c.tc : Thread Cert.GateBwdRefIdeal.nD Cert.GateBwdRefIdeal.τ).loc Cert.GateBwdRefIdeal.main_arg4))).2.2.1 = (fun _ => 1#1)
    ∧ (Cert.Pre_finite_gate.fn (F := Ideal) (m ((c.tc : Thread Cert.GateBwdRefIdeal.nD Cert.GateBwdRefIdeal.τ).loc Cert.GateBwdRefIdeal.main_arg0)) (m ((c.tc : Thread Cert.GateBwdRefIdeal.nD Cert.GateBwdRefIdeal.τ).loc Cert.GateBwdRefIdeal.main_arg1)) (m ((c.tc : Thread Cert.GateBwdRefIdeal.nD Cert.GateBwdRefIdeal.τ).loc Cert.GateBwdRefIdeal.main_arg2)) (m ((c.tc : Thread Cert.GateBwdRefIdeal.nD Cert.GateBwdRefIdeal.τ).loc Cert.GateBwdRefIdeal.main_arg3)) (m ((c.tc : Thread Cert.GateBwdRefIdeal.nD Cert.GateBwdRefIdeal.τ).loc Cert.GateBwdRefIdeal.main_arg4))).2.2.2.1 = (fun _ => 1#1)
    ∧ (Cert.Pre_finite_gate.fn (F := Ideal) (m ((c.tc : Thread Cert.GateBwdRefIdeal.nD Cert.GateBwdRefIdeal.τ).loc Cert.GateBwdRefIdeal.main_arg0)) (m ((c.tc : Thread Cert.GateBwdRefIdeal.nD Cert.GateBwdRefIdeal.τ).loc Cert.GateBwdRefIdeal.main_arg1)) (m ((c.tc : Thread Cert.GateBwdRefIdeal.nD Cert.GateBwdRefIdeal.τ).loc Cert.GateBwdRefIdeal.main_arg2)) (m ((c.tc : Thread Cert.GateBwdRefIdeal.nD Cert.GateBwdRefIdeal.τ).loc Cert.GateBwdRefIdeal.main_arg3)) (m ((c.tc : Thread Cert.GateBwdRefIdeal.nD Cert.GateBwdRefIdeal.τ).loc Cert.GateBwdRefIdeal.main_arg4))).2.2.2.2 = (fun _ => 1#1)

def Pre_MlstmFwd (m : (ℓ : Loc Cert.MlstmFwd.nD Cert.MlstmFwd.τ Cert.MlstmFwd.sig) → Buf (Elt Bits) ℓ) : Prop :=
  True

def Pre_MlstmFwdIdeal (m : (ℓ : Loc Cert.MlstmFwdIdeal.nD Cert.MlstmFwdIdeal.τ Cert.MlstmFwdIdeal.sig) → Buf (Elt Ideal) ℓ) : Prop :=
  True

def Pre_MlstmFwdRefIdeal (m : (ℓ : Loc Cert.MlstmFwdRefIdeal.nD Cert.MlstmFwdRefIdeal.τ Cert.MlstmFwdRefIdeal.sig) → Buf (Elt Ideal) ℓ) : Prop :=
  True

def Pre_NormProj (m : (ℓ : Loc Cert.NormProj.nD Cert.NormProj.τ Cert.NormProj.sig) → Buf (Elt Bits) ℓ) : Prop :=
  True

def Pre_NormProjIdeal (m : (ℓ : Loc Cert.NormProjIdeal.nD Cert.NormProjIdeal.τ Cert.NormProjIdeal.sig) → Buf (Elt Ideal) ℓ) : Prop :=
  True

def Pre_NormProjRefIdeal (m : (ℓ : Loc Cert.NormProjRefIdeal.nD Cert.NormProjRefIdeal.τ Cert.NormProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_MlstmBwd (m : (ℓ : Loc Cert.MlstmBwd.nD Cert.MlstmBwd.τ Cert.MlstmBwd.sig) → Buf (Elt Bits) ℓ) : Prop :=
  True

def Pre_MlstmBwdIdeal (m : (ℓ : Loc Cert.MlstmBwdIdeal.nD Cert.MlstmBwdIdeal.τ Cert.MlstmBwdIdeal.sig) → Buf (Elt Ideal) ℓ) : Prop :=
  True

def Pre_MmNn (m : (ℓ : Loc Cert.MmNn.nD Cert.MmNn.τ Cert.MmNn.sig) → Buf (Elt Bits) ℓ) : Prop :=
  True

def Pre_MmNnIdeal (m : (ℓ : Loc Cert.MmNnIdeal.nD Cert.MmNnIdeal.τ Cert.MmNnIdeal.sig) → Buf (Elt Ideal) ℓ) : Prop :=
  True

def Pre_MmNnRefIdeal (m : (ℓ : Loc Cert.MmNnRefIdeal.nD Cert.MmNnRefIdeal.τ Cert.MmNnRefIdeal.sig) → Buf (Elt Ideal) ℓ) : Prop :=
  True

def Pre_MmTwo (m : (ℓ : Loc Cert.MmTwo.nD Cert.MmTwo.τ Cert.MmTwo.sig) → Buf (Elt Bits) ℓ) : Prop :=
  True

def Pre_MmTwoIdeal (m : (ℓ : Loc Cert.MmTwoIdeal.nD Cert.MmTwoIdeal.τ Cert.MmTwoIdeal.sig) → Buf (Elt Ideal) ℓ) : Prop :=
  True

def Pre_MmTwoRefIdeal (m : (ℓ : Loc Cert.MmTwoRefIdeal.nD Cert.MmTwoRefIdeal.τ Cert.MmTwoRefIdeal.sig) → Buf (Elt Ideal) ℓ) : Prop :=
  True

def Pre_MmNt (m : (ℓ : Loc Cert.MmNt.nD Cert.MmNt.τ Cert.MmNt.sig) → Buf (Elt Bits) ℓ) : Prop :=
  True

def Pre_MmNtIdeal (m : (ℓ : Loc Cert.MmNtIdeal.nD Cert.MmNtIdeal.τ Cert.MmNtIdeal.sig) → Buf (Elt Ideal) ℓ) : Prop :=
  True

def Pre_MmNtRefIdeal (m : (ℓ : Loc Cert.MmNtRefIdeal.nD Cert.MmNtRefIdeal.τ Cert.MmNtRefIdeal.sig) → Buf (Elt Ideal) ℓ) : Prop :=
  True

def Pre_MmBcols (m : (ℓ : Loc Cert.MmBcols.nD Cert.MmBcols.τ Cert.MmBcols.sig) → Buf (Elt Bits) ℓ) : Prop :=
  True

def Pre_MmBcolsIdeal (m : (ℓ : Loc Cert.MmBcolsIdeal.nD Cert.MmBcolsIdeal.τ Cert.MmBcolsIdeal.sig) → Buf (Elt Ideal) ℓ) : Prop :=
  True

def Pre_MmBcolsRefIdeal (m : (ℓ : Loc Cert.MmBcolsRefIdeal.nD Cert.MmBcolsRefIdeal.τ Cert.MmBcolsRefIdeal.sig) → Buf (Elt Ideal) ℓ) : Prop :=
  True

def Pre_MmTn (m : (ℓ : Loc Cert.MmTn.nD Cert.MmTn.τ Cert.MmTn.sig) → Buf (Elt Bits) ℓ) : Prop :=
  True

def Pre_MmTnIdeal (m : (ℓ : Loc Cert.MmTnIdeal.nD Cert.MmTnIdeal.τ Cert.MmTnIdeal.sig) → Buf (Elt Ideal) ℓ) : Prop :=
  True

def Pre_MmTnRefIdeal (m : (ℓ : Loc Cert.MmTnRefIdeal.nD Cert.MmTnRefIdeal.τ Cert.MmTnRefIdeal.sig) → Buf (Elt Ideal) ℓ) : Prop :=
  True

def Pre_MmAcols (m : (ℓ : Loc Cert.MmAcols.nD Cert.MmAcols.τ Cert.MmAcols.sig) → Buf (Elt Bits) ℓ) : Prop :=
  True

def Pre_MmAcolsIdeal (m : (ℓ : Loc Cert.MmAcolsIdeal.nD Cert.MmAcolsIdeal.τ Cert.MmAcolsIdeal.sig) → Buf (Elt Ideal) ℓ) : Prop :=
  True

def Pre_MmAcolsRefIdeal (m : (ℓ : Loc Cert.MmAcolsRefIdeal.nD Cert.MmAcolsRefIdeal.τ Cert.MmAcolsRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdIdeal_pre_finite_norm [hNormBwdIdeal : Cert.NormBwdIdeal.Facts] [hPre_finite_norm : Cert.Pre_finite_norm.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal_finite_norm m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_NormBwdRefIdeal_pre_finite_norm [hNormBwdRefIdeal : Cert.NormBwdRefIdeal.Facts] [hPre_finite_norm : Cert.Pre_finite_norm.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal_finite_norm m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3)
      ∧ r.2.mem ((c.tc : Thread Cert.ConvBwd.nD Cert.ConvBwd.τ).loc Cert.ConvBwd.main_arg4) = m ((c.tc : Thread Cert.ConvBwd.nD Cert.ConvBwd.τ).loc Cert.ConvBwd.main_arg4))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
      ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3)
      ∧ r.2.mem ((c.tc : Thread Cert.ConvBwdRefIdeal.nD Cert.ConvBwdRefIdeal.τ).loc Cert.ConvBwdRefIdeal.main_arg4) = m ((c.tc : Thread Cert.ConvBwdRefIdeal.nD Cert.ConvBwdRefIdeal.τ).loc Cert.ConvBwdRefIdeal.main_arg4))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2)
      ∧ r.2.mem ((c.tc : Thread Cert.GateBwd.nD Cert.GateBwd.τ).loc Cert.GateBwd.main_arg3) = m ((c.tc : Thread Cert.GateBwd.nD Cert.GateBwd.τ).loc Cert.GateBwd.main_arg3)
      ∧ r.2.mem ((c.tc : Thread Cert.GateBwd.nD Cert.GateBwd.τ).loc Cert.GateBwd.main_arg4) = m ((c.tc : Thread Cert.GateBwd.nD Cert.GateBwd.τ).loc Cert.GateBwd.main_arg4))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
      ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4))
      ∧ r.2.sem = fun _ => 0)

def quiescent_GateBwdIdeal_pre_finite_gate [hGateBwdIdeal : Cert.GateBwdIdeal.Facts] [hPre_finite_gate : Cert.Pre_finite_gate.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal_finite_gate m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
      ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4))
      ∧ r.2.sem = fun _ => 0)

def quiescent_GateBwdRefIdeal [hGateBwdRefIdeal : Cert.GateBwdRefIdeal.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2)
      ∧ r.2.mem ((c.tc : Thread Cert.GateBwdRefIdeal.nD Cert.GateBwdRefIdeal.τ).loc Cert.GateBwdRefIdeal.main_arg3) = m ((c.tc : Thread Cert.GateBwdRefIdeal.nD Cert.GateBwdRefIdeal.τ).loc Cert.GateBwdRefIdeal.main_arg3)
      ∧ r.2.mem ((c.tc : Thread Cert.GateBwdRefIdeal.nD Cert.GateBwdRefIdeal.τ).loc Cert.GateBwdRefIdeal.main_arg4) = m ((c.tc : Thread Cert.GateBwdRefIdeal.nD Cert.GateBwdRefIdeal.τ).loc Cert.GateBwdRefIdeal.main_arg4))
      ∧ r.2.sem = fun _ => 0)

def quiescent_GateBwdRefIdeal_pre_finite_gate [hGateBwdRefIdeal : Cert.GateBwdRefIdeal.Facts] [hPre_finite_gate : Cert.Pre_finite_gate.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal_finite_gate m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2)
      ∧ r.2.mem ((c.tc : Thread Cert.GateBwdRefIdeal.nD Cert.GateBwdRefIdeal.τ).loc Cert.GateBwdRefIdeal.main_arg3) = m ((c.tc : Thread Cert.GateBwdRefIdeal.nD Cert.GateBwdRefIdeal.τ).loc Cert.GateBwdRefIdeal.main_arg3)
      ∧ r.2.mem ((c.tc : Thread Cert.GateBwdRefIdeal.nD Cert.GateBwdRefIdeal.τ).loc Cert.GateBwdRefIdeal.main_arg4) = m ((c.tc : Thread Cert.GateBwdRefIdeal.nD Cert.GateBwdRefIdeal.τ).loc Cert.GateBwdRefIdeal.main_arg4))
      ∧ r.2.sem = fun _ => 0)

def quiescent_MlstmFwd [hMlstmFwd : Cert.MlstmFwd.Facts] : Prop :=
  ∀ (m : (ℓ : Loc Cert.MlstmFwd.nD Cert.MlstmFwd.τ Cert.MlstmFwd.sig) → Buf (Elt Bits) ℓ) (g : Dev Cert.MlstmFwd.nD → PrngReg), Pre_MlstmFwd m →
    θ_run (Cert.MlstmFwd.defs (F := Bits)) (onTc (τ := Cert.MlstmFwd.τ) (Cert.MlstmFwd.main (F := Bits))) ⟨m, fun _ => 0, g⟩ (fun r => (∀ c : Dev Cert.MlstmFwd.nD,
      r.2.mem ((c.tc : Thread Cert.MlstmFwd.nD Cert.MlstmFwd.τ).loc Cert.MlstmFwd.main_arg0) = m ((c.tc : Thread Cert.MlstmFwd.nD Cert.MlstmFwd.τ).loc Cert.MlstmFwd.main_arg0)
      ∧ r.2.mem ((c.tc : Thread Cert.MlstmFwd.nD Cert.MlstmFwd.τ).loc Cert.MlstmFwd.main_arg1) = m ((c.tc : Thread Cert.MlstmFwd.nD Cert.MlstmFwd.τ).loc Cert.MlstmFwd.main_arg1)
      ∧ r.2.mem ((c.tc : Thread Cert.MlstmFwd.nD Cert.MlstmFwd.τ).loc Cert.MlstmFwd.main_arg2) = m ((c.tc : Thread Cert.MlstmFwd.nD Cert.MlstmFwd.τ).loc Cert.MlstmFwd.main_arg2))
      ∧ r.2.sem = fun _ => 0)

def quiescent_MlstmFwdIdeal [hMlstmFwdIdeal : Cert.MlstmFwdIdeal.Facts] : Prop :=
  ∀ (m : (ℓ : Loc Cert.MlstmFwdIdeal.nD Cert.MlstmFwdIdeal.τ Cert.MlstmFwdIdeal.sig) → Buf (Elt Ideal) ℓ) (g : Dev Cert.MlstmFwdIdeal.nD → PrngReg), Pre_MlstmFwdIdeal m →
    θ_run (Cert.MlstmFwdIdeal.defs (F := Ideal)) (onTc (τ := Cert.MlstmFwdIdeal.τ) (Cert.MlstmFwdIdeal.main (F := Ideal))) ⟨m, fun _ => 0, g⟩ (fun r => (∀ c : Dev Cert.MlstmFwdIdeal.nD,
      r.2.mem ((c.tc : Thread Cert.MlstmFwdIdeal.nD Cert.MlstmFwdIdeal.τ).loc Cert.MlstmFwdIdeal.main_arg0) = m ((c.tc : Thread Cert.MlstmFwdIdeal.nD Cert.MlstmFwdIdeal.τ).loc Cert.MlstmFwdIdeal.main_arg0)
      ∧ r.2.mem ((c.tc : Thread Cert.MlstmFwdIdeal.nD Cert.MlstmFwdIdeal.τ).loc Cert.MlstmFwdIdeal.main_arg1) = m ((c.tc : Thread Cert.MlstmFwdIdeal.nD Cert.MlstmFwdIdeal.τ).loc Cert.MlstmFwdIdeal.main_arg1)
      ∧ r.2.mem ((c.tc : Thread Cert.MlstmFwdIdeal.nD Cert.MlstmFwdIdeal.τ).loc Cert.MlstmFwdIdeal.main_arg2) = m ((c.tc : Thread Cert.MlstmFwdIdeal.nD Cert.MlstmFwdIdeal.τ).loc Cert.MlstmFwdIdeal.main_arg2))
      ∧ r.2.sem = fun _ => 0)

def quiescent_MlstmFwdRefIdeal [hMlstmFwdRefIdeal : Cert.MlstmFwdRefIdeal.Facts] : Prop :=
  ∀ (m : (ℓ : Loc Cert.MlstmFwdRefIdeal.nD Cert.MlstmFwdRefIdeal.τ Cert.MlstmFwdRefIdeal.sig) → Buf (Elt Ideal) ℓ) (g : Dev Cert.MlstmFwdRefIdeal.nD → PrngReg), Pre_MlstmFwdRefIdeal m →
    θ_run (Cert.MlstmFwdRefIdeal.defs (F := Ideal)) (onTc (τ := Cert.MlstmFwdRefIdeal.τ) (Cert.MlstmFwdRefIdeal.main (F := Ideal))) ⟨m, fun _ => 0, g⟩ (fun r => (∀ c : Dev Cert.MlstmFwdRefIdeal.nD,
      r.2.mem ((c.tc : Thread Cert.MlstmFwdRefIdeal.nD Cert.MlstmFwdRefIdeal.τ).loc Cert.MlstmFwdRefIdeal.main_arg0) = m ((c.tc : Thread Cert.MlstmFwdRefIdeal.nD Cert.MlstmFwdRefIdeal.τ).loc Cert.MlstmFwdRefIdeal.main_arg0)
      ∧ r.2.mem ((c.tc : Thread Cert.MlstmFwdRefIdeal.nD Cert.MlstmFwdRefIdeal.τ).loc Cert.MlstmFwdRefIdeal.main_arg1) = m ((c.tc : Thread Cert.MlstmFwdRefIdeal.nD Cert.MlstmFwdRefIdeal.τ).loc Cert.MlstmFwdRefIdeal.main_arg1)
      ∧ r.2.mem ((c.tc : Thread Cert.MlstmFwdRefIdeal.nD Cert.MlstmFwdRefIdeal.τ).loc Cert.MlstmFwdRefIdeal.main_arg2) = m ((c.tc : Thread Cert.MlstmFwdRefIdeal.nD Cert.MlstmFwdRefIdeal.τ).loc Cert.MlstmFwdRefIdeal.main_arg2))
      ∧ r.2.sem = fun _ => 0)

def quiescent_NormProj [hNormProj : Cert.NormProj.Facts] : Prop :=
  ∀ (m : (ℓ : Loc Cert.NormProj.nD Cert.NormProj.τ Cert.NormProj.sig) → Buf (Elt Bits) ℓ) (g : Dev Cert.NormProj.nD → PrngReg), Pre_NormProj m →
    θ_run (Cert.NormProj.defs (F := Bits)) (onTc (τ := Cert.NormProj.τ) (Cert.NormProj.main (F := Bits))) ⟨m, fun _ => 0, g⟩ (fun r => (∀ c : Dev Cert.NormProj.nD,
      r.2.mem ((c.tc : Thread Cert.NormProj.nD Cert.NormProj.τ).loc Cert.NormProj.main_arg0) = m ((c.tc : Thread Cert.NormProj.nD Cert.NormProj.τ).loc Cert.NormProj.main_arg0)
      ∧ r.2.mem ((c.tc : Thread Cert.NormProj.nD Cert.NormProj.τ).loc Cert.NormProj.main_arg1) = m ((c.tc : Thread Cert.NormProj.nD Cert.NormProj.τ).loc Cert.NormProj.main_arg1)
      ∧ r.2.mem ((c.tc : Thread Cert.NormProj.nD Cert.NormProj.τ).loc Cert.NormProj.main_arg2) = m ((c.tc : Thread Cert.NormProj.nD Cert.NormProj.τ).loc Cert.NormProj.main_arg2))
      ∧ r.2.sem = fun _ => 0)

def quiescent_NormProjIdeal [hNormProjIdeal : Cert.NormProjIdeal.Facts] : Prop :=
  ∀ (m : (ℓ : Loc Cert.NormProjIdeal.nD Cert.NormProjIdeal.τ Cert.NormProjIdeal.sig) → Buf (Elt Ideal) ℓ) (g : Dev Cert.NormProjIdeal.nD → PrngReg), Pre_NormProjIdeal m →
    θ_run (Cert.NormProjIdeal.defs (F := Ideal)) (onTc (τ := Cert.NormProjIdeal.τ) (Cert.NormProjIdeal.main (F := Ideal))) ⟨m, fun _ => 0, g⟩ (fun r => (∀ c : Dev Cert.NormProjIdeal.nD,
      r.2.mem ((c.tc : Thread Cert.NormProjIdeal.nD Cert.NormProjIdeal.τ).loc Cert.NormProjIdeal.main_arg0) = m ((c.tc : Thread Cert.NormProjIdeal.nD Cert.NormProjIdeal.τ).loc Cert.NormProjIdeal.main_arg0)
      ∧ r.2.mem ((c.tc : Thread Cert.NormProjIdeal.nD Cert.NormProjIdeal.τ).loc Cert.NormProjIdeal.main_arg1) = m ((c.tc : Thread Cert.NormProjIdeal.nD Cert.NormProjIdeal.τ).loc Cert.NormProjIdeal.main_arg1)
      ∧ r.2.mem ((c.tc : Thread Cert.NormProjIdeal.nD Cert.NormProjIdeal.τ).loc Cert.NormProjIdeal.main_arg2) = m ((c.tc : Thread Cert.NormProjIdeal.nD Cert.NormProjIdeal.τ).loc Cert.NormProjIdeal.main_arg2))
      ∧ r.2.sem = fun _ => 0)

def quiescent_NormProjRefIdeal [hNormProjRefIdeal : Cert.NormProjRefIdeal.Facts] : Prop :=
  ∀ (m : (ℓ : Loc Cert.NormProjRefIdeal.nD Cert.NormProjRefIdeal.τ Cert.NormProjRefIdeal.sig) → Buf (Elt Ideal) ℓ) (g : Dev Cert.NormProjRefIdeal.nD → PrngReg), Pre_NormProjRefIdeal m →
    θ_run (Cert.NormProjRefIdeal.defs (F := Ideal)) (onTc (τ := Cert.NormProjRefIdeal.τ) (Cert.NormProjRefIdeal.main (F := Ideal))) ⟨m, fun _ => 0, g⟩ (fun r => (∀ c : Dev Cert.NormProjRefIdeal.nD,
      r.2.mem ((c.tc : Thread Cert.NormProjRefIdeal.nD Cert.NormProjRefIdeal.τ).loc Cert.NormProjRefIdeal.main_arg0) = m ((c.tc : Thread Cert.NormProjRefIdeal.nD Cert.NormProjRefIdeal.τ).loc Cert.NormProjRefIdeal.main_arg0)
      ∧ r.2.mem ((c.tc : Thread Cert.NormProjRefIdeal.nD Cert.NormProjRefIdeal.τ).loc Cert.NormProjRefIdeal.main_arg1) = m ((c.tc : Thread Cert.NormProjRefIdeal.nD Cert.NormProjRefIdeal.τ).loc Cert.NormProjRefIdeal.main_arg1)
      ∧ r.2.mem ((c.tc : Thread Cert.NormProjRefIdeal.nD Cert.NormProjRefIdeal.τ).loc Cert.NormProjRefIdeal.main_arg2) = m ((c.tc : Thread Cert.NormProjRefIdeal.nD Cert.NormProjRefIdeal.τ).loc Cert.NormProjRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2)
      ∧ r.2.mem ((c.tc : Thread Cert.ConvFwd.nD Cert.ConvFwd.τ).loc Cert.ConvFwd.main_arg3) = m ((c.tc : Thread Cert.ConvFwd.nD Cert.ConvFwd.τ).loc Cert.ConvFwd.main_arg3)
      ∧ r.2.mem ((c.tc : Thread Cert.ConvFwd.nD Cert.ConvFwd.τ).loc Cert.ConvFwd.main_arg4) = m ((c.tc : Thread Cert.ConvFwd.nD Cert.ConvFwd.τ).loc Cert.ConvFwd.main_arg4))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
      ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
      ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2)
      ∧ r.2.mem ((c.tc : Thread Cert.ConvFwdRefIdeal.nD Cert.ConvFwdRefIdeal.τ).loc Cert.ConvFwdRefIdeal.main_arg3) = m ((c.tc : Thread Cert.ConvFwdRefIdeal.nD Cert.ConvFwdRefIdeal.τ).loc Cert.ConvFwdRefIdeal.main_arg3)
      ∧ r.2.mem ((c.tc : Thread Cert.ConvFwdRefIdeal.nD Cert.ConvFwdRefIdeal.τ).loc Cert.ConvFwdRefIdeal.main_arg4) = m ((c.tc : Thread Cert.ConvFwdRefIdeal.nD Cert.ConvFwdRefIdeal.τ).loc Cert.ConvFwdRefIdeal.main_arg4))
      ∧ r.2.sem = fun _ => 0)

def quiescent_MlstmBwd [hMlstmBwd : Cert.MlstmBwd.Facts] : Prop :=
  ∀ (m : (ℓ : Loc Cert.MlstmBwd.nD Cert.MlstmBwd.τ Cert.MlstmBwd.sig) → Buf (Elt Bits) ℓ) (g : Dev Cert.MlstmBwd.nD → PrngReg), Pre_MlstmBwd m →
    θ_run (Cert.MlstmBwd.defs (F := Bits)) (onTc (τ := Cert.MlstmBwd.τ) (Cert.MlstmBwd.main (F := Bits))) ⟨m, fun _ => 0, g⟩ (fun r => (∀ c : Dev Cert.MlstmBwd.nD,
      r.2.mem ((c.tc : Thread Cert.MlstmBwd.nD Cert.MlstmBwd.τ).loc Cert.MlstmBwd.main_arg0) = m ((c.tc : Thread Cert.MlstmBwd.nD Cert.MlstmBwd.τ).loc Cert.MlstmBwd.main_arg0)
      ∧ r.2.mem ((c.tc : Thread Cert.MlstmBwd.nD Cert.MlstmBwd.τ).loc Cert.MlstmBwd.main_arg1) = m ((c.tc : Thread Cert.MlstmBwd.nD Cert.MlstmBwd.τ).loc Cert.MlstmBwd.main_arg1)
      ∧ r.2.mem ((c.tc : Thread Cert.MlstmBwd.nD Cert.MlstmBwd.τ).loc Cert.MlstmBwd.main_arg2) = m ((c.tc : Thread Cert.MlstmBwd.nD Cert.MlstmBwd.τ).loc Cert.MlstmBwd.main_arg2)
      ∧ r.2.mem ((c.tc : Thread Cert.MlstmBwd.nD Cert.MlstmBwd.τ).loc Cert.MlstmBwd.main_arg3) = m ((c.tc : Thread Cert.MlstmBwd.nD Cert.MlstmBwd.τ).loc Cert.MlstmBwd.main_arg3)
      ∧ r.2.mem ((c.tc : Thread Cert.MlstmBwd.nD Cert.MlstmBwd.τ).loc Cert.MlstmBwd.main_arg4) = m ((c.tc : Thread Cert.MlstmBwd.nD Cert.MlstmBwd.τ).loc Cert.MlstmBwd.main_arg4)
      ∧ r.2.mem ((c.tc : Thread Cert.MlstmBwd.nD Cert.MlstmBwd.τ).loc Cert.MlstmBwd.main_arg5) = m ((c.tc : Thread Cert.MlstmBwd.nD Cert.MlstmBwd.τ).loc Cert.MlstmBwd.main_arg5)
      ∧ r.2.mem ((c.tc : Thread Cert.MlstmBwd.nD Cert.MlstmBwd.τ).loc Cert.MlstmBwd.main_arg6) = m ((c.tc : Thread Cert.MlstmBwd.nD Cert.MlstmBwd.τ).loc Cert.MlstmBwd.main_arg6)
      ∧ r.2.mem ((c.tc : Thread Cert.MlstmBwd.nD Cert.MlstmBwd.τ).loc Cert.MlstmBwd.main_arg7) = m ((c.tc : Thread Cert.MlstmBwd.nD Cert.MlstmBwd.τ).loc Cert.MlstmBwd.main_arg7))
      ∧ r.2.sem = fun _ => 0)

def quiescent_MlstmBwdIdeal [hMlstmBwdIdeal : Cert.MlstmBwdIdeal.Facts] : Prop :=
  ∀ (m : (ℓ : Loc Cert.MlstmBwdIdeal.nD Cert.MlstmBwdIdeal.τ Cert.MlstmBwdIdeal.sig) → Buf (Elt Ideal) ℓ) (g : Dev Cert.MlstmBwdIdeal.nD → PrngReg), Pre_MlstmBwdIdeal m →
    θ_run (Cert.MlstmBwdIdeal.defs (F := Ideal)) (onTc (τ := Cert.MlstmBwdIdeal.τ) (Cert.MlstmBwdIdeal.main (F := Ideal))) ⟨m, fun _ => 0, g⟩ (fun r => (∀ c : Dev Cert.MlstmBwdIdeal.nD,
      r.2.mem ((c.tc : Thread Cert.MlstmBwdIdeal.nD Cert.MlstmBwdIdeal.τ).loc Cert.MlstmBwdIdeal.main_arg0) = m ((c.tc : Thread Cert.MlstmBwdIdeal.nD Cert.MlstmBwdIdeal.τ).loc Cert.MlstmBwdIdeal.main_arg0)
      ∧ r.2.mem ((c.tc : Thread Cert.MlstmBwdIdeal.nD Cert.MlstmBwdIdeal.τ).loc Cert.MlstmBwdIdeal.main_arg1) = m ((c.tc : Thread Cert.MlstmBwdIdeal.nD Cert.MlstmBwdIdeal.τ).loc Cert.MlstmBwdIdeal.main_arg1)
      ∧ r.2.mem ((c.tc : Thread Cert.MlstmBwdIdeal.nD Cert.MlstmBwdIdeal.τ).loc Cert.MlstmBwdIdeal.main_arg2) = m ((c.tc : Thread Cert.MlstmBwdIdeal.nD Cert.MlstmBwdIdeal.τ).loc Cert.MlstmBwdIdeal.main_arg2)
      ∧ r.2.mem ((c.tc : Thread Cert.MlstmBwdIdeal.nD Cert.MlstmBwdIdeal.τ).loc Cert.MlstmBwdIdeal.main_arg3) = m ((c.tc : Thread Cert.MlstmBwdIdeal.nD Cert.MlstmBwdIdeal.τ).loc Cert.MlstmBwdIdeal.main_arg3)
      ∧ r.2.mem ((c.tc : Thread Cert.MlstmBwdIdeal.nD Cert.MlstmBwdIdeal.τ).loc Cert.MlstmBwdIdeal.main_arg4) = m ((c.tc : Thread Cert.MlstmBwdIdeal.nD Cert.MlstmBwdIdeal.τ).loc Cert.MlstmBwdIdeal.main_arg4)
      ∧ r.2.mem ((c.tc : Thread Cert.MlstmBwdIdeal.nD Cert.MlstmBwdIdeal.τ).loc Cert.MlstmBwdIdeal.main_arg5) = m ((c.tc : Thread Cert.MlstmBwdIdeal.nD Cert.MlstmBwdIdeal.τ).loc Cert.MlstmBwdIdeal.main_arg5)
      ∧ r.2.mem ((c.tc : Thread Cert.MlstmBwdIdeal.nD Cert.MlstmBwdIdeal.τ).loc Cert.MlstmBwdIdeal.main_arg6) = m ((c.tc : Thread Cert.MlstmBwdIdeal.nD Cert.MlstmBwdIdeal.τ).loc Cert.MlstmBwdIdeal.main_arg6)
      ∧ r.2.mem ((c.tc : Thread Cert.MlstmBwdIdeal.nD Cert.MlstmBwdIdeal.τ).loc Cert.MlstmBwdIdeal.main_arg7) = m ((c.tc : Thread Cert.MlstmBwdIdeal.nD Cert.MlstmBwdIdeal.τ).loc Cert.MlstmBwdIdeal.main_arg7))
      ∧ r.2.sem = fun _ => 0)

def quiescent_MmNn [hMmNn : Cert.MmNn.Facts] : Prop :=
  ∀ (m : (ℓ : Loc Cert.MmNn.nD Cert.MmNn.τ Cert.MmNn.sig) → Buf (Elt Bits) ℓ) (g : Dev Cert.MmNn.nD → PrngReg), Pre_MmNn m →
    θ_run (Cert.MmNn.defs (F := Bits)) (onTc (τ := Cert.MmNn.τ) (Cert.MmNn.main (F := Bits))) ⟨m, fun _ => 0, g⟩ (fun r => (∀ c : Dev Cert.MmNn.nD,
      r.2.mem ((c.tc : Thread Cert.MmNn.nD Cert.MmNn.τ).loc Cert.MmNn.main_arg0) = m ((c.tc : Thread Cert.MmNn.nD Cert.MmNn.τ).loc Cert.MmNn.main_arg0)
      ∧ r.2.mem ((c.tc : Thread Cert.MmNn.nD Cert.MmNn.τ).loc Cert.MmNn.main_arg1) = m ((c.tc : Thread Cert.MmNn.nD Cert.MmNn.τ).loc Cert.MmNn.main_arg1)
      ∧ r.2.mem ((c.tc : Thread Cert.MmNn.nD Cert.MmNn.τ).loc Cert.MmNn.main_arg2) = m ((c.tc : Thread Cert.MmNn.nD Cert.MmNn.τ).loc Cert.MmNn.main_arg2))
      ∧ r.2.sem = fun _ => 0)

def quiescent_MmNnIdeal [hMmNnIdeal : Cert.MmNnIdeal.Facts] : Prop :=
  ∀ (m : (ℓ : Loc Cert.MmNnIdeal.nD Cert.MmNnIdeal.τ Cert.MmNnIdeal.sig) → Buf (Elt Ideal) ℓ) (g : Dev Cert.MmNnIdeal.nD → PrngReg), Pre_MmNnIdeal m →
    θ_run (Cert.MmNnIdeal.defs (F := Ideal)) (onTc (τ := Cert.MmNnIdeal.τ) (Cert.MmNnIdeal.main (F := Ideal))) ⟨m, fun _ => 0, g⟩ (fun r => (∀ c : Dev Cert.MmNnIdeal.nD,
      r.2.mem ((c.tc : Thread Cert.MmNnIdeal.nD Cert.MmNnIdeal.τ).loc Cert.MmNnIdeal.main_arg0) = m ((c.tc : Thread Cert.MmNnIdeal.nD Cert.MmNnIdeal.τ).loc Cert.MmNnIdeal.main_arg0)
      ∧ r.2.mem ((c.tc : Thread Cert.MmNnIdeal.nD Cert.MmNnIdeal.τ).loc Cert.MmNnIdeal.main_arg1) = m ((c.tc : Thread Cert.MmNnIdeal.nD Cert.MmNnIdeal.τ).loc Cert.MmNnIdeal.main_arg1)
      ∧ r.2.mem ((c.tc : Thread Cert.MmNnIdeal.nD Cert.MmNnIdeal.τ).loc Cert.MmNnIdeal.main_arg2) = m ((c.tc : Thread Cert.MmNnIdeal.nD Cert.MmNnIdeal.τ).loc Cert.MmNnIdeal.main_arg2))
      ∧ r.2.sem = fun _ => 0)

def quiescent_MmNnRefIdeal [hMmNnRefIdeal : Cert.MmNnRefIdeal.Facts] : Prop :=
  ∀ (m : (ℓ : Loc Cert.MmNnRefIdeal.nD Cert.MmNnRefIdeal.τ Cert.MmNnRefIdeal.sig) → Buf (Elt Ideal) ℓ) (g : Dev Cert.MmNnRefIdeal.nD → PrngReg), Pre_MmNnRefIdeal m →
    θ_run (Cert.MmNnRefIdeal.defs (F := Ideal)) (onTc (τ := Cert.MmNnRefIdeal.τ) (Cert.MmNnRefIdeal.main (F := Ideal))) ⟨m, fun _ => 0, g⟩ (fun r => (∀ c : Dev Cert.MmNnRefIdeal.nD,
      r.2.mem ((c.tc : Thread Cert.MmNnRefIdeal.nD Cert.MmNnRefIdeal.τ).loc Cert.MmNnRefIdeal.main_arg0) = m ((c.tc : Thread Cert.MmNnRefIdeal.nD Cert.MmNnRefIdeal.τ).loc Cert.MmNnRefIdeal.main_arg0)
      ∧ r.2.mem ((c.tc : Thread Cert.MmNnRefIdeal.nD Cert.MmNnRefIdeal.τ).loc Cert.MmNnRefIdeal.main_arg1) = m ((c.tc : Thread Cert.MmNnRefIdeal.nD Cert.MmNnRefIdeal.τ).loc Cert.MmNnRefIdeal.main_arg1)
      ∧ r.2.mem ((c.tc : Thread Cert.MmNnRefIdeal.nD Cert.MmNnRefIdeal.τ).loc Cert.MmNnRefIdeal.main_arg2) = m ((c.tc : Thread Cert.MmNnRefIdeal.nD Cert.MmNnRefIdeal.τ).loc Cert.MmNnRefIdeal.main_arg2))
      ∧ r.2.sem = fun _ => 0)

def quiescent_MmTwo [hMmTwo : Cert.MmTwo.Facts] : Prop :=
  ∀ (m : (ℓ : Loc Cert.MmTwo.nD Cert.MmTwo.τ Cert.MmTwo.sig) → Buf (Elt Bits) ℓ) (g : Dev Cert.MmTwo.nD → PrngReg), Pre_MmTwo m →
    θ_run (Cert.MmTwo.defs (F := Bits)) (onTc (τ := Cert.MmTwo.τ) (Cert.MmTwo.main (F := Bits))) ⟨m, fun _ => 0, g⟩ (fun r => (∀ c : Dev Cert.MmTwo.nD,
      r.2.mem ((c.tc : Thread Cert.MmTwo.nD Cert.MmTwo.τ).loc Cert.MmTwo.main_arg0) = m ((c.tc : Thread Cert.MmTwo.nD Cert.MmTwo.τ).loc Cert.MmTwo.main_arg0)
      ∧ r.2.mem ((c.tc : Thread Cert.MmTwo.nD Cert.MmTwo.τ).loc Cert.MmTwo.main_arg1) = m ((c.tc : Thread Cert.MmTwo.nD Cert.MmTwo.τ).loc Cert.MmTwo.main_arg1))
      ∧ r.2.sem = fun _ => 0)

def quiescent_MmTwoIdeal [hMmTwoIdeal : Cert.MmTwoIdeal.Facts] : Prop :=
  ∀ (m : (ℓ : Loc Cert.MmTwoIdeal.nD Cert.MmTwoIdeal.τ Cert.MmTwoIdeal.sig) → Buf (Elt Ideal) ℓ) (g : Dev Cert.MmTwoIdeal.nD → PrngReg), Pre_MmTwoIdeal m →
    θ_run (Cert.MmTwoIdeal.defs (F := Ideal)) (onTc (τ := Cert.MmTwoIdeal.τ) (Cert.MmTwoIdeal.main (F := Ideal))) ⟨m, fun _ => 0, g⟩ (fun r => (∀ c : Dev Cert.MmTwoIdeal.nD,
      r.2.mem ((c.tc : Thread Cert.MmTwoIdeal.nD Cert.MmTwoIdeal.τ).loc Cert.MmTwoIdeal.main_arg0) = m ((c.tc : Thread Cert.MmTwoIdeal.nD Cert.MmTwoIdeal.τ).loc Cert.MmTwoIdeal.main_arg0)
      ∧ r.2.mem ((c.tc : Thread Cert.MmTwoIdeal.nD Cert.MmTwoIdeal.τ).loc Cert.MmTwoIdeal.main_arg1) = m ((c.tc : Thread Cert.MmTwoIdeal.nD Cert.MmTwoIdeal.τ).loc Cert.MmTwoIdeal.main_arg1))
      ∧ r.2.sem = fun _ => 0)

def quiescent_MmTwoRefIdeal [hMmTwoRefIdeal : Cert.MmTwoRefIdeal.Facts] : Prop :=
  ∀ (m : (ℓ : Loc Cert.MmTwoRefIdeal.nD Cert.MmTwoRefIdeal.τ Cert.MmTwoRefIdeal.sig) → Buf (Elt Ideal) ℓ) (g : Dev Cert.MmTwoRefIdeal.nD → PrngReg), Pre_MmTwoRefIdeal m →
    θ_run (Cert.MmTwoRefIdeal.defs (F := Ideal)) (onTc (τ := Cert.MmTwoRefIdeal.τ) (Cert.MmTwoRefIdeal.main (F := Ideal))) ⟨m, fun _ => 0, g⟩ (fun r => (∀ c : Dev Cert.MmTwoRefIdeal.nD,
      r.2.mem ((c.tc : Thread Cert.MmTwoRefIdeal.nD Cert.MmTwoRefIdeal.τ).loc Cert.MmTwoRefIdeal.main_arg0) = m ((c.tc : Thread Cert.MmTwoRefIdeal.nD Cert.MmTwoRefIdeal.τ).loc Cert.MmTwoRefIdeal.main_arg0)
      ∧ r.2.mem ((c.tc : Thread Cert.MmTwoRefIdeal.nD Cert.MmTwoRefIdeal.τ).loc Cert.MmTwoRefIdeal.main_arg1) = m ((c.tc : Thread Cert.MmTwoRefIdeal.nD Cert.MmTwoRefIdeal.τ).loc Cert.MmTwoRefIdeal.main_arg1))
      ∧ r.2.sem = fun _ => 0)

def quiescent_MmNt [hMmNt : Cert.MmNt.Facts] : Prop :=
  ∀ (m : (ℓ : Loc Cert.MmNt.nD Cert.MmNt.τ Cert.MmNt.sig) → Buf (Elt Bits) ℓ) (g : Dev Cert.MmNt.nD → PrngReg), Pre_MmNt m →
    θ_run (Cert.MmNt.defs (F := Bits)) (onTc (τ := Cert.MmNt.τ) (Cert.MmNt.main (F := Bits))) ⟨m, fun _ => 0, g⟩ (fun r => (∀ c : Dev Cert.MmNt.nD,
      r.2.mem ((c.tc : Thread Cert.MmNt.nD Cert.MmNt.τ).loc Cert.MmNt.main_arg0) = m ((c.tc : Thread Cert.MmNt.nD Cert.MmNt.τ).loc Cert.MmNt.main_arg0)
      ∧ r.2.mem ((c.tc : Thread Cert.MmNt.nD Cert.MmNt.τ).loc Cert.MmNt.main_arg1) = m ((c.tc : Thread Cert.MmNt.nD Cert.MmNt.τ).loc Cert.MmNt.main_arg1))
      ∧ r.2.sem = fun _ => 0)

def quiescent_MmNtIdeal [hMmNtIdeal : Cert.MmNtIdeal.Facts] : Prop :=
  ∀ (m : (ℓ : Loc Cert.MmNtIdeal.nD Cert.MmNtIdeal.τ Cert.MmNtIdeal.sig) → Buf (Elt Ideal) ℓ) (g : Dev Cert.MmNtIdeal.nD → PrngReg), Pre_MmNtIdeal m →
    θ_run (Cert.MmNtIdeal.defs (F := Ideal)) (onTc (τ := Cert.MmNtIdeal.τ) (Cert.MmNtIdeal.main (F := Ideal))) ⟨m, fun _ => 0, g⟩ (fun r => (∀ c : Dev Cert.MmNtIdeal.nD,
      r.2.mem ((c.tc : Thread Cert.MmNtIdeal.nD Cert.MmNtIdeal.τ).loc Cert.MmNtIdeal.main_arg0) = m ((c.tc : Thread Cert.MmNtIdeal.nD Cert.MmNtIdeal.τ).loc Cert.MmNtIdeal.main_arg0)
      ∧ r.2.mem ((c.tc : Thread Cert.MmNtIdeal.nD Cert.MmNtIdeal.τ).loc Cert.MmNtIdeal.main_arg1) = m ((c.tc : Thread Cert.MmNtIdeal.nD Cert.MmNtIdeal.τ).loc Cert.MmNtIdeal.main_arg1))
      ∧ r.2.sem = fun _ => 0)

def quiescent_MmNtRefIdeal [hMmNtRefIdeal : Cert.MmNtRefIdeal.Facts] : Prop :=
  ∀ (m : (ℓ : Loc Cert.MmNtRefIdeal.nD Cert.MmNtRefIdeal.τ Cert.MmNtRefIdeal.sig) → Buf (Elt Ideal) ℓ) (g : Dev Cert.MmNtRefIdeal.nD → PrngReg), Pre_MmNtRefIdeal m →
    θ_run (Cert.MmNtRefIdeal.defs (F := Ideal)) (onTc (τ := Cert.MmNtRefIdeal.τ) (Cert.MmNtRefIdeal.main (F := Ideal))) ⟨m, fun _ => 0, g⟩ (fun r => (∀ c : Dev Cert.MmNtRefIdeal.nD,
      r.2.mem ((c.tc : Thread Cert.MmNtRefIdeal.nD Cert.MmNtRefIdeal.τ).loc Cert.MmNtRefIdeal.main_arg0) = m ((c.tc : Thread Cert.MmNtRefIdeal.nD Cert.MmNtRefIdeal.τ).loc Cert.MmNtRefIdeal.main_arg0)
      ∧ r.2.mem ((c.tc : Thread Cert.MmNtRefIdeal.nD Cert.MmNtRefIdeal.τ).loc Cert.MmNtRefIdeal.main_arg1) = m ((c.tc : Thread Cert.MmNtRefIdeal.nD Cert.MmNtRefIdeal.τ).loc Cert.MmNtRefIdeal.main_arg1))
      ∧ r.2.sem = fun _ => 0)

def quiescent_MmBcols [hMmBcols : Cert.MmBcols.Facts] : Prop :=
  ∀ (m : (ℓ : Loc Cert.MmBcols.nD Cert.MmBcols.τ Cert.MmBcols.sig) → Buf (Elt Bits) ℓ) (g : Dev Cert.MmBcols.nD → PrngReg), Pre_MmBcols m →
    θ_run (Cert.MmBcols.defs (F := Bits)) (onTc (τ := Cert.MmBcols.τ) (Cert.MmBcols.main (F := Bits))) ⟨m, fun _ => 0, g⟩ (fun r => (∀ c : Dev Cert.MmBcols.nD,
      r.2.mem ((c.tc : Thread Cert.MmBcols.nD Cert.MmBcols.τ).loc Cert.MmBcols.main_arg0) = m ((c.tc : Thread Cert.MmBcols.nD Cert.MmBcols.τ).loc Cert.MmBcols.main_arg0)
      ∧ r.2.mem ((c.tc : Thread Cert.MmBcols.nD Cert.MmBcols.τ).loc Cert.MmBcols.main_arg1) = m ((c.tc : Thread Cert.MmBcols.nD Cert.MmBcols.τ).loc Cert.MmBcols.main_arg1))
      ∧ r.2.sem = fun _ => 0)

def quiescent_MmBcolsIdeal [hMmBcolsIdeal : Cert.MmBcolsIdeal.Facts] : Prop :=
  ∀ (m : (ℓ : Loc Cert.MmBcolsIdeal.nD Cert.MmBcolsIdeal.τ Cert.MmBcolsIdeal.sig) → Buf (Elt Ideal) ℓ) (g : Dev Cert.MmBcolsIdeal.nD → PrngReg), Pre_MmBcolsIdeal m →
    θ_run (Cert.MmBcolsIdeal.defs (F := Ideal)) (onTc (τ := Cert.MmBcolsIdeal.τ) (Cert.MmBcolsIdeal.main (F := Ideal))) ⟨m, fun _ => 0, g⟩ (fun r => (∀ c : Dev Cert.MmBcolsIdeal.nD,
      r.2.mem ((c.tc : Thread Cert.MmBcolsIdeal.nD Cert.MmBcolsIdeal.τ).loc Cert.MmBcolsIdeal.main_arg0) = m ((c.tc : Thread Cert.MmBcolsIdeal.nD Cert.MmBcolsIdeal.τ).loc Cert.MmBcolsIdeal.main_arg0)
      ∧ r.2.mem ((c.tc : Thread Cert.MmBcolsIdeal.nD Cert.MmBcolsIdeal.τ).loc Cert.MmBcolsIdeal.main_arg1) = m ((c.tc : Thread Cert.MmBcolsIdeal.nD Cert.MmBcolsIdeal.τ).loc Cert.MmBcolsIdeal.main_arg1))
      ∧ r.2.sem = fun _ => 0)

def quiescent_MmBcolsRefIdeal [hMmBcolsRefIdeal : Cert.MmBcolsRefIdeal.Facts] : Prop :=
  ∀ (m : (ℓ : Loc Cert.MmBcolsRefIdeal.nD Cert.MmBcolsRefIdeal.τ Cert.MmBcolsRefIdeal.sig) → Buf (Elt Ideal) ℓ) (g : Dev Cert.MmBcolsRefIdeal.nD → PrngReg), Pre_MmBcolsRefIdeal m →
    θ_run (Cert.MmBcolsRefIdeal.defs (F := Ideal)) (onTc (τ := Cert.MmBcolsRefIdeal.τ) (Cert.MmBcolsRefIdeal.main (F := Ideal))) ⟨m, fun _ => 0, g⟩ (fun r => (∀ c : Dev Cert.MmBcolsRefIdeal.nD,
      r.2.mem ((c.tc : Thread Cert.MmBcolsRefIdeal.nD Cert.MmBcolsRefIdeal.τ).loc Cert.MmBcolsRefIdeal.main_arg0) = m ((c.tc : Thread Cert.MmBcolsRefIdeal.nD Cert.MmBcolsRefIdeal.τ).loc Cert.MmBcolsRefIdeal.main_arg0)
      ∧ r.2.mem ((c.tc : Thread Cert.MmBcolsRefIdeal.nD Cert.MmBcolsRefIdeal.τ).loc Cert.MmBcolsRefIdeal.main_arg1) = m ((c.tc : Thread Cert.MmBcolsRefIdeal.nD Cert.MmBcolsRefIdeal.τ).loc Cert.MmBcolsRefIdeal.main_arg1))
      ∧ r.2.sem = fun _ => 0)

def quiescent_MmTn [hMmTn : Cert.MmTn.Facts] : Prop :=
  ∀ (m : (ℓ : Loc Cert.MmTn.nD Cert.MmTn.τ Cert.MmTn.sig) → Buf (Elt Bits) ℓ) (g : Dev Cert.MmTn.nD → PrngReg), Pre_MmTn m →
    θ_run (Cert.MmTn.defs (F := Bits)) (onTc (τ := Cert.MmTn.τ) (Cert.MmTn.main (F := Bits))) ⟨m, fun _ => 0, g⟩ (fun r => (∀ c : Dev Cert.MmTn.nD,
      r.2.mem ((c.tc : Thread Cert.MmTn.nD Cert.MmTn.τ).loc Cert.MmTn.main_arg0) = m ((c.tc : Thread Cert.MmTn.nD Cert.MmTn.τ).loc Cert.MmTn.main_arg0)
      ∧ r.2.mem ((c.tc : Thread Cert.MmTn.nD Cert.MmTn.τ).loc Cert.MmTn.main_arg1) = m ((c.tc : Thread Cert.MmTn.nD Cert.MmTn.τ).loc Cert.MmTn.main_arg1))
      ∧ r.2.sem = fun _ => 0)

def quiescent_MmTnIdeal [hMmTnIdeal : Cert.MmTnIdeal.Facts] : Prop :=
  ∀ (m : (ℓ : Loc Cert.MmTnIdeal.nD Cert.MmTnIdeal.τ Cert.MmTnIdeal.sig) → Buf (Elt Ideal) ℓ) (g : Dev Cert.MmTnIdeal.nD → PrngReg), Pre_MmTnIdeal m →
    θ_run (Cert.MmTnIdeal.defs (F := Ideal)) (onTc (τ := Cert.MmTnIdeal.τ) (Cert.MmTnIdeal.main (F := Ideal))) ⟨m, fun _ => 0, g⟩ (fun r => (∀ c : Dev Cert.MmTnIdeal.nD,
      r.2.mem ((c.tc : Thread Cert.MmTnIdeal.nD Cert.MmTnIdeal.τ).loc Cert.MmTnIdeal.main_arg0) = m ((c.tc : Thread Cert.MmTnIdeal.nD Cert.MmTnIdeal.τ).loc Cert.MmTnIdeal.main_arg0)
      ∧ r.2.mem ((c.tc : Thread Cert.MmTnIdeal.nD Cert.MmTnIdeal.τ).loc Cert.MmTnIdeal.main_arg1) = m ((c.tc : Thread Cert.MmTnIdeal.nD Cert.MmTnIdeal.τ).loc Cert.MmTnIdeal.main_arg1))
      ∧ r.2.sem = fun _ => 0)

def quiescent_MmTnRefIdeal [hMmTnRefIdeal : Cert.MmTnRefIdeal.Facts] : Prop :=
  ∀ (m : (ℓ : Loc Cert.MmTnRefIdeal.nD Cert.MmTnRefIdeal.τ Cert.MmTnRefIdeal.sig) → Buf (Elt Ideal) ℓ) (g : Dev Cert.MmTnRefIdeal.nD → PrngReg), Pre_MmTnRefIdeal m →
    θ_run (Cert.MmTnRefIdeal.defs (F := Ideal)) (onTc (τ := Cert.MmTnRefIdeal.τ) (Cert.MmTnRefIdeal.main (F := Ideal))) ⟨m, fun _ => 0, g⟩ (fun r => (∀ c : Dev Cert.MmTnRefIdeal.nD,
      r.2.mem ((c.tc : Thread Cert.MmTnRefIdeal.nD Cert.MmTnRefIdeal.τ).loc Cert.MmTnRefIdeal.main_arg0) = m ((c.tc : Thread Cert.MmTnRefIdeal.nD Cert.MmTnRefIdeal.τ).loc Cert.MmTnRefIdeal.main_arg0)
      ∧ r.2.mem ((c.tc : Thread Cert.MmTnRefIdeal.nD Cert.MmTnRefIdeal.τ).loc Cert.MmTnRefIdeal.main_arg1) = m ((c.tc : Thread Cert.MmTnRefIdeal.nD Cert.MmTnRefIdeal.τ).loc Cert.MmTnRefIdeal.main_arg1))
      ∧ r.2.sem = fun _ => 0)

def quiescent_MmAcols [hMmAcols : Cert.MmAcols.Facts] : Prop :=
  ∀ (m : (ℓ : Loc Cert.MmAcols.nD Cert.MmAcols.τ Cert.MmAcols.sig) → Buf (Elt Bits) ℓ) (g : Dev Cert.MmAcols.nD → PrngReg), Pre_MmAcols m →
    θ_run (Cert.MmAcols.defs (F := Bits)) (onTc (τ := Cert.MmAcols.τ) (Cert.MmAcols.main (F := Bits))) ⟨m, fun _ => 0, g⟩ (fun r => (∀ c : Dev Cert.MmAcols.nD,
      r.2.mem ((c.tc : Thread Cert.MmAcols.nD Cert.MmAcols.τ).loc Cert.MmAcols.main_arg0) = m ((c.tc : Thread Cert.MmAcols.nD Cert.MmAcols.τ).loc Cert.MmAcols.main_arg0)
      ∧ r.2.mem ((c.tc : Thread Cert.MmAcols.nD Cert.MmAcols.τ).loc Cert.MmAcols.main_arg1) = m ((c.tc : Thread Cert.MmAcols.nD Cert.MmAcols.τ).loc Cert.MmAcols.main_arg1)
      ∧ r.2.mem ((c.tc : Thread Cert.MmAcols.nD Cert.MmAcols.τ).loc Cert.MmAcols.main_arg2) = m ((c.tc : Thread Cert.MmAcols.nD Cert.MmAcols.τ).loc Cert.MmAcols.main_arg2)
      ∧ r.2.mem ((c.tc : Thread Cert.MmAcols.nD Cert.MmAcols.τ).loc Cert.MmAcols.main_arg3) = m ((c.tc : Thread Cert.MmAcols.nD Cert.MmAcols.τ).loc Cert.MmAcols.main_arg3))
      ∧ r.2.sem = fun _ => 0)

def quiescent_MmAcolsIdeal [hMmAcolsIdeal : Cert.MmAcolsIdeal.Facts] : Prop :=
  ∀ (m : (ℓ : Loc Cert.MmAcolsIdeal.nD Cert.MmAcolsIdeal.τ Cert.MmAcolsIdeal.sig) → Buf (Elt Ideal) ℓ) (g : Dev Cert.MmAcolsIdeal.nD → PrngReg), Pre_MmAcolsIdeal m →
    θ_run (Cert.MmAcolsIdeal.defs (F := Ideal)) (onTc (τ := Cert.MmAcolsIdeal.τ) (Cert.MmAcolsIdeal.main (F := Ideal))) ⟨m, fun _ => 0, g⟩ (fun r => (∀ c : Dev Cert.MmAcolsIdeal.nD,
      r.2.mem ((c.tc : Thread Cert.MmAcolsIdeal.nD Cert.MmAcolsIdeal.τ).loc Cert.MmAcolsIdeal.main_arg0) = m ((c.tc : Thread Cert.MmAcolsIdeal.nD Cert.MmAcolsIdeal.τ).loc Cert.MmAcolsIdeal.main_arg0)
      ∧ r.2.mem ((c.tc : Thread Cert.MmAcolsIdeal.nD Cert.MmAcolsIdeal.τ).loc Cert.MmAcolsIdeal.main_arg1) = m ((c.tc : Thread Cert.MmAcolsIdeal.nD Cert.MmAcolsIdeal.τ).loc Cert.MmAcolsIdeal.main_arg1)
      ∧ r.2.mem ((c.tc : Thread Cert.MmAcolsIdeal.nD Cert.MmAcolsIdeal.τ).loc Cert.MmAcolsIdeal.main_arg2) = m ((c.tc : Thread Cert.MmAcolsIdeal.nD Cert.MmAcolsIdeal.τ).loc Cert.MmAcolsIdeal.main_arg2)
      ∧ r.2.mem ((c.tc : Thread Cert.MmAcolsIdeal.nD Cert.MmAcolsIdeal.τ).loc Cert.MmAcolsIdeal.main_arg3) = m ((c.tc : Thread Cert.MmAcolsIdeal.nD Cert.MmAcolsIdeal.τ).loc Cert.MmAcolsIdeal.main_arg3))
      ∧ r.2.sem = fun _ => 0)

def quiescent_MmAcolsRefIdeal [hMmAcolsRefIdeal : Cert.MmAcolsRefIdeal.Facts] : Prop :=
  ∀ (m : (ℓ : Loc Cert.MmAcolsRefIdeal.nD Cert.MmAcolsRefIdeal.τ Cert.MmAcolsRefIdeal.sig) → Buf (Elt Ideal) ℓ) (g : Dev Cert.MmAcolsRefIdeal.nD → PrngReg), Pre_MmAcolsRefIdeal m →
    θ_run (Cert.MmAcolsRefIdeal.defs (F := Ideal)) (onTc (τ := Cert.MmAcolsRefIdeal.τ) (Cert.MmAcolsRefIdeal.main (F := Ideal))) ⟨m, fun _ => 0, g⟩ (fun r => (∀ c : Dev Cert.MmAcolsRefIdeal.nD,
      r.2.mem ((c.tc : Thread Cert.MmAcolsRefIdeal.nD Cert.MmAcolsRefIdeal.τ).loc Cert.MmAcolsRefIdeal.main_arg0) = m ((c.tc : Thread Cert.MmAcolsRefIdeal.nD Cert.MmAcolsRefIdeal.τ).loc Cert.MmAcolsRefIdeal.main_arg0)
      ∧ r.2.mem ((c.tc : Thread Cert.MmAcolsRefIdeal.nD Cert.MmAcolsRefIdeal.τ).loc Cert.MmAcolsRefIdeal.main_arg1) = m ((c.tc : Thread Cert.MmAcolsRefIdeal.nD Cert.MmAcolsRefIdeal.τ).loc Cert.MmAcolsRefIdeal.main_arg1)
      ∧ r.2.mem ((c.tc : Thread Cert.MmAcolsRefIdeal.nD Cert.MmAcolsRefIdeal.τ).loc Cert.MmAcolsRefIdeal.main_arg2) = m ((c.tc : Thread Cert.MmAcolsRefIdeal.nD Cert.MmAcolsRefIdeal.τ).loc Cert.MmAcolsRefIdeal.main_arg2)
      ∧ r.2.mem ((c.tc : Thread Cert.MmAcolsRefIdeal.nD Cert.MmAcolsRefIdeal.τ).loc Cert.MmAcolsRefIdeal.main_arg3) = m ((c.tc : Thread Cert.MmAcolsRefIdeal.nD Cert.MmAcolsRefIdeal.τ).loc Cert.MmAcolsRefIdeal.main_arg3))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3)
      ∧ r.2.mem ((c.tc : Thread Cert.Adam.nD Cert.Adam.τ).loc Cert.Adam.main_arg4) = m ((c.tc : Thread Cert.Adam.nD Cert.Adam.τ).loc Cert.Adam.main_arg4)
      ∧ r.2.mem ((c.tc : Thread Cert.Adam.nD Cert.Adam.τ).loc Cert.Adam.main_arg5) = m ((c.tc : Thread Cert.Adam.nD Cert.Adam.τ).loc Cert.Adam.main_arg5)
      ∧ r.2.mem ((c.tc : Thread Cert.Adam.nD Cert.Adam.τ).loc Cert.Adam.main_arg6) = m ((c.tc : Thread Cert.Adam.nD Cert.Adam.τ).loc Cert.Adam.main_arg6)
      ∧ r.2.mem ((c.tc : Thread Cert.Adam.nD Cert.Adam.τ).loc Cert.Adam.main_arg7) = m ((c.tc : Thread Cert.Adam.nD Cert.Adam.τ).loc Cert.Adam.main_arg7)
      ∧ r.2.mem ((c.tc : Thread Cert.Adam.nD Cert.Adam.τ).loc Cert.Adam.main_arg8) = m ((c.tc : Thread Cert.Adam.nD Cert.Adam.τ).loc Cert.Adam.main_arg8)
      ∧ r.2.mem ((c.tc : Thread Cert.Adam.nD Cert.Adam.τ).loc Cert.Adam.main_arg9) = m ((c.tc : Thread Cert.Adam.nD Cert.Adam.τ).loc Cert.Adam.main_arg9)
      ∧ r.2.mem ((c.tc : Thread Cert.Adam.nD Cert.Adam.τ).loc Cert.Adam.main_arg10) = m ((c.tc : Thread Cert.Adam.nD Cert.Adam.τ).loc Cert.Adam.main_arg10)
      ∧ r.2.mem ((c.tc : Thread Cert.Adam.nD Cert.Adam.τ).loc Cert.Adam.main_arg11) = m ((c.tc : Thread Cert.Adam.nD Cert.Adam.τ).loc Cert.Adam.main_arg11)
      ∧ r.2.mem ((c.tc : Thread Cert.Adam.nD Cert.Adam.τ).loc Cert.Adam.main_arg12) = m ((c.tc : Thread Cert.Adam.nD Cert.Adam.τ).loc Cert.Adam.main_arg12)
      ∧ r.2.mem ((c.tc : Thread Cert.Adam.nD Cert.Adam.τ).loc Cert.Adam.main_arg13) = m ((c.tc : Thread Cert.Adam.nD Cert.Adam.τ).loc Cert.Adam.main_arg13)
      ∧ r.2.mem ((c.tc : Thread Cert.Adam.nD Cert.Adam.τ).loc Cert.Adam.main_arg14) = m ((c.tc : Thread Cert.Adam.nD Cert.Adam.τ).loc Cert.Adam.main_arg14)
      ∧ r.2.mem ((c.tc : Thread Cert.Adam.nD Cert.Adam.τ).loc Cert.Adam.main_arg15) = m ((c.tc : Thread Cert.Adam.nD Cert.Adam.τ).loc Cert.Adam.main_arg15)
      ∧ r.2.mem ((c.tc : Thread Cert.Adam.nD Cert.Adam.τ).loc Cert.Adam.main_arg16) = m ((c.tc : Thread Cert.Adam.nD Cert.Adam.τ).loc Cert.Adam.main_arg16)
      ∧ r.2.mem ((c.tc : Thread Cert.Adam.nD Cert.Adam.τ).loc Cert.Adam.main_arg17) = m ((c.tc : Thread Cert.Adam.nD Cert.Adam.τ).loc Cert.Adam.main_arg17)
      ∧ r.2.mem ((c.tc : Thread Cert.Adam.nD Cert.Adam.τ).loc Cert.Adam.main_arg18) = m ((c.tc : Thread Cert.Adam.nD Cert.Adam.τ).loc Cert.Adam.main_arg18)
      ∧ r.2.mem ((c.tc : Thread Cert.Adam.nD Cert.Adam.τ).loc Cert.Adam.main_arg19) = m ((c.tc : Thread Cert.Adam.nD Cert.Adam.τ).loc Cert.Adam.main_arg19)
      ∧ r.2.mem ((c.tc : Thread Cert.Adam.nD Cert.Adam.τ).loc Cert.Adam.main_arg20) = m ((c.tc : Thread Cert.Adam.nD Cert.Adam.τ).loc Cert.Adam.main_arg20)
      ∧ r.2.mem ((c.tc : Thread Cert.Adam.nD Cert.Adam.τ).loc Cert.Adam.main_arg21) = m ((c.tc : Thread Cert.Adam.nD Cert.Adam.τ).loc Cert.Adam.main_arg21)
      ∧ r.2.mem ((c.tc : Thread Cert.Adam.nD Cert.Adam.τ).loc Cert.Adam.main_arg22) = m ((c.tc : Thread Cert.Adam.nD Cert.Adam.τ).loc Cert.Adam.main_arg22)
      ∧ r.2.mem ((c.tc : Thread Cert.Adam.nD Cert.Adam.τ).loc Cert.Adam.main_arg23) = m ((c.tc : Thread Cert.Adam.nD Cert.Adam.τ).loc Cert.Adam.main_arg23)
      ∧ r.2.mem ((c.tc : Thread Cert.Adam.nD Cert.Adam.τ).loc Cert.Adam.main_arg24) = m ((c.tc : Thread Cert.Adam.nD Cert.Adam.τ).loc Cert.Adam.main_arg24)
      ∧ r.2.mem ((c.tc : Thread Cert.Adam.nD Cert.Adam.τ).loc Cert.Adam.main_arg25) = m ((c.tc : Thread Cert.Adam.nD Cert.Adam.τ).loc Cert.Adam.main_arg25)
      ∧ r.2.mem ((c.tc : Thread Cert.Adam.nD Cert.Adam.τ).loc Cert.Adam.main_arg26) = m ((c.tc : Thread Cert.Adam.nD Cert.Adam.τ).loc Cert.Adam.main_arg26)
      ∧ r.2.mem ((c.tc : Thread Cert.Adam.nD Cert.Adam.τ).loc Cert.Adam.main_arg27) = m ((c.tc : Thread Cert.Adam.nD Cert.Adam.τ).loc Cert.Adam.main_arg27))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
      ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
      ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5)
      ∧ r.2.mem ((c.tc : Thread Cert.AdamIdeal.nD Cert.AdamIdeal.τ).loc Cert.AdamIdeal.main_arg6) = m ((c.tc : Thread Cert.AdamIdeal.nD Cert.AdamIdeal.τ).loc Cert.AdamIdeal.main_arg6)
      ∧ r.2.mem ((c.tc : Thread Cert.AdamIdeal.nD Cert.AdamIdeal.τ).loc Cert.AdamIdeal.main_arg7) = m ((c.tc : Thread Cert.AdamIdeal.nD Cert.AdamIdeal.τ).loc Cert.AdamIdeal.main_arg7)
      ∧ r.2.mem ((c.tc : Thread Cert.AdamIdeal.nD Cert.AdamIdeal.τ).loc Cert.AdamIdeal.main_arg8) = m ((c.tc : Thread Cert.AdamIdeal.nD Cert.AdamIdeal.τ).loc Cert.AdamIdeal.main_arg8)
      ∧ r.2.mem ((c.tc : Thread Cert.AdamIdeal.nD Cert.AdamIdeal.τ).loc Cert.AdamIdeal.main_arg9) = m ((c.tc : Thread Cert.AdamIdeal.nD Cert.AdamIdeal.τ).loc Cert.AdamIdeal.main_arg9)
      ∧ r.2.mem ((c.tc : Thread Cert.AdamIdeal.nD Cert.AdamIdeal.τ).loc Cert.AdamIdeal.main_arg10) = m ((c.tc : Thread Cert.AdamIdeal.nD Cert.AdamIdeal.τ).loc Cert.AdamIdeal.main_arg10)
      ∧ r.2.mem ((c.tc : Thread Cert.AdamIdeal.nD Cert.AdamIdeal.τ).loc Cert.AdamIdeal.main_arg11) = m ((c.tc : Thread Cert.AdamIdeal.nD Cert.AdamIdeal.τ).loc Cert.AdamIdeal.main_arg11)
      ∧ r.2.mem ((c.tc : Thread Cert.AdamIdeal.nD Cert.AdamIdeal.τ).loc Cert.AdamIdeal.main_arg12) = m ((c.tc : Thread Cert.AdamIdeal.nD Cert.AdamIdeal.τ).loc Cert.AdamIdeal.main_arg12)
      ∧ r.2.mem ((c.tc : Thread Cert.AdamIdeal.nD Cert.AdamIdeal.τ).loc Cert.AdamIdeal.main_arg13) = m ((c.tc : Thread Cert.AdamIdeal.nD Cert.AdamIdeal.τ).loc Cert.AdamIdeal.main_arg13)
      ∧ r.2.mem ((c.tc : Thread Cert.AdamIdeal.nD Cert.AdamIdeal.τ).loc Cert.AdamIdeal.main_arg14) = m ((c.tc : Thread Cert.AdamIdeal.nD Cert.AdamIdeal.τ).loc Cert.AdamIdeal.main_arg14)
      ∧ r.2.mem ((c.tc : Thread Cert.AdamIdeal.nD Cert.AdamIdeal.τ).loc Cert.AdamIdeal.main_arg15) = m ((c.tc : Thread Cert.AdamIdeal.nD Cert.AdamIdeal.τ).loc Cert.AdamIdeal.main_arg15)
      ∧ r.2.mem ((c.tc : Thread Cert.AdamIdeal.nD Cert.AdamIdeal.τ).loc Cert.AdamIdeal.main_arg16) = m ((c.tc : Thread Cert.AdamIdeal.nD Cert.AdamIdeal.τ).loc Cert.AdamIdeal.main_arg16)
      ∧ r.2.mem ((c.tc : Thread Cert.AdamIdeal.nD Cert.AdamIdeal.τ).loc Cert.AdamIdeal.main_arg17) = m ((c.tc : Thread Cert.AdamIdeal.nD Cert.AdamIdeal.τ).loc Cert.AdamIdeal.main_arg17)
      ∧ r.2.mem ((c.tc : Thread Cert.AdamIdeal.nD Cert.AdamIdeal.τ).loc Cert.AdamIdeal.main_arg18) = m ((c.tc : Thread Cert.AdamIdeal.nD Cert.AdamIdeal.τ).loc Cert.AdamIdeal.main_arg18)
      ∧ r.2.mem ((c.tc : Thread Cert.AdamIdeal.nD Cert.AdamIdeal.τ).loc Cert.AdamIdeal.main_arg19) = m ((c.tc : Thread Cert.AdamIdeal.nD Cert.AdamIdeal.τ).loc Cert.AdamIdeal.main_arg19)
      ∧ r.2.mem ((c.tc : Thread Cert.AdamIdeal.nD Cert.AdamIdeal.τ).loc Cert.AdamIdeal.main_arg20) = m ((c.tc : Thread Cert.AdamIdeal.nD Cert.AdamIdeal.τ).loc Cert.AdamIdeal.main_arg20)
      ∧ r.2.mem ((c.tc : Thread Cert.AdamIdeal.nD Cert.AdamIdeal.τ).loc Cert.AdamIdeal.main_arg21) = m ((c.tc : Thread Cert.AdamIdeal.nD Cert.AdamIdeal.τ).loc Cert.AdamIdeal.main_arg21)
      ∧ r.2.mem ((c.tc : Thread Cert.AdamIdeal.nD Cert.AdamIdeal.τ).loc Cert.AdamIdeal.main_arg22) = m ((c.tc : Thread Cert.AdamIdeal.nD Cert.AdamIdeal.τ).loc Cert.AdamIdeal.main_arg22)
      ∧ r.2.mem ((c.tc : Thread Cert.AdamIdeal.nD Cert.AdamIdeal.τ).loc Cert.AdamIdeal.main_arg23) = m ((c.tc : Thread Cert.AdamIdeal.nD Cert.AdamIdeal.τ).loc Cert.AdamIdeal.main_arg23)
      ∧ r.2.mem ((c.tc : Thread Cert.AdamIdeal.nD Cert.AdamIdeal.τ).loc Cert.AdamIdeal.main_arg24) = m ((c.tc : Thread Cert.AdamIdeal.nD Cert.AdamIdeal.τ).loc Cert.AdamIdeal.main_arg24)
      ∧ r.2.mem ((c.tc : Thread Cert.AdamIdeal.nD Cert.AdamIdeal.τ).loc Cert.AdamIdeal.main_arg25) = m ((c.tc : Thread Cert.AdamIdeal.nD Cert.AdamIdeal.τ).loc Cert.AdamIdeal.main_arg25)
      ∧ r.2.mem ((c.tc : Thread Cert.AdamIdeal.nD Cert.AdamIdeal.τ).loc Cert.AdamIdeal.main_arg26) = m ((c.tc : Thread Cert.AdamIdeal.nD Cert.AdamIdeal.τ).loc Cert.AdamIdeal.main_arg26)
      ∧ r.2.mem ((c.tc : Thread Cert.AdamIdeal.nD Cert.AdamIdeal.τ).loc Cert.AdamIdeal.main_arg27) = m ((c.tc : Thread Cert.AdamIdeal.nD Cert.AdamIdeal.τ).loc Cert.AdamIdeal.main_arg27))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3)
      ∧ r.2.mem ((c.tc : Thread Cert.AdamRefIdeal.nD Cert.AdamRefIdeal.τ).loc Cert.AdamRefIdeal.main_arg4) = m ((c.tc : Thread Cert.AdamRefIdeal.nD Cert.AdamRefIdeal.τ).loc Cert.AdamRefIdeal.main_arg4)
      ∧ r.2.mem ((c.tc : Thread Cert.AdamRefIdeal.nD Cert.AdamRefIdeal.τ).loc Cert.AdamRefIdeal.main_arg5) = m ((c.tc : Thread Cert.AdamRefIdeal.nD Cert.AdamRefIdeal.τ).loc Cert.AdamRefIdeal.main_arg5)
      ∧ r.2.mem ((c.tc : Thread Cert.AdamRefIdeal.nD Cert.AdamRefIdeal.τ).loc Cert.AdamRefIdeal.main_arg6) = m ((c.tc : Thread Cert.AdamRefIdeal.nD Cert.AdamRefIdeal.τ).loc Cert.AdamRefIdeal.main_arg6)
      ∧ r.2.mem ((c.tc : Thread Cert.AdamRefIdeal.nD Cert.AdamRefIdeal.τ).loc Cert.AdamRefIdeal.main_arg7) = m ((c.tc : Thread Cert.AdamRefIdeal.nD Cert.AdamRefIdeal.τ).loc Cert.AdamRefIdeal.main_arg7)
      ∧ r.2.mem ((c.tc : Thread Cert.AdamRefIdeal.nD Cert.AdamRefIdeal.τ).loc Cert.AdamRefIdeal.main_arg8) = m ((c.tc : Thread Cert.AdamRefIdeal.nD Cert.AdamRefIdeal.τ).loc Cert.AdamRefIdeal.main_arg8)
      ∧ r.2.mem ((c.tc : Thread Cert.AdamRefIdeal.nD Cert.AdamRefIdeal.τ).loc Cert.AdamRefIdeal.main_arg9) = m ((c.tc : Thread Cert.AdamRefIdeal.nD Cert.AdamRefIdeal.τ).loc Cert.AdamRefIdeal.main_arg9)
      ∧ r.2.mem ((c.tc : Thread Cert.AdamRefIdeal.nD Cert.AdamRefIdeal.τ).loc Cert.AdamRefIdeal.main_arg10) = m ((c.tc : Thread Cert.AdamRefIdeal.nD Cert.AdamRefIdeal.τ).loc Cert.AdamRefIdeal.main_arg10)
      ∧ r.2.mem ((c.tc : Thread Cert.AdamRefIdeal.nD Cert.AdamRefIdeal.τ).loc Cert.AdamRefIdeal.main_arg11) = m ((c.tc : Thread Cert.AdamRefIdeal.nD Cert.AdamRefIdeal.τ).loc Cert.AdamRefIdeal.main_arg11)
      ∧ r.2.mem ((c.tc : Thread Cert.AdamRefIdeal.nD Cert.AdamRefIdeal.τ).loc Cert.AdamRefIdeal.main_arg12) = m ((c.tc : Thread Cert.AdamRefIdeal.nD Cert.AdamRefIdeal.τ).loc Cert.AdamRefIdeal.main_arg12)
      ∧ r.2.mem ((c.tc : Thread Cert.AdamRefIdeal.nD Cert.AdamRefIdeal.τ).loc Cert.AdamRefIdeal.main_arg13) = m ((c.tc : Thread Cert.AdamRefIdeal.nD Cert.AdamRefIdeal.τ).loc Cert.AdamRefIdeal.main_arg13)
      ∧ r.2.mem ((c.tc : Thread Cert.AdamRefIdeal.nD Cert.AdamRefIdeal.τ).loc Cert.AdamRefIdeal.main_arg14) = m ((c.tc : Thread Cert.AdamRefIdeal.nD Cert.AdamRefIdeal.τ).loc Cert.AdamRefIdeal.main_arg14)
      ∧ r.2.mem ((c.tc : Thread Cert.AdamRefIdeal.nD Cert.AdamRefIdeal.τ).loc Cert.AdamRefIdeal.main_arg15) = m ((c.tc : Thread Cert.AdamRefIdeal.nD Cert.AdamRefIdeal.τ).loc Cert.AdamRefIdeal.main_arg15)
      ∧ r.2.mem ((c.tc : Thread Cert.AdamRefIdeal.nD Cert.AdamRefIdeal.τ).loc Cert.AdamRefIdeal.main_arg16) = m ((c.tc : Thread Cert.AdamRefIdeal.nD Cert.AdamRefIdeal.τ).loc Cert.AdamRefIdeal.main_arg16)
      ∧ r.2.mem ((c.tc : Thread Cert.AdamRefIdeal.nD Cert.AdamRefIdeal.τ).loc Cert.AdamRefIdeal.main_arg17) = m ((c.tc : Thread Cert.AdamRefIdeal.nD Cert.AdamRefIdeal.τ).loc Cert.AdamRefIdeal.main_arg17)
      ∧ r.2.mem ((c.tc : Thread Cert.AdamRefIdeal.nD Cert.AdamRefIdeal.τ).loc Cert.AdamRefIdeal.main_arg18) = m ((c.tc : Thread Cert.AdamRefIdeal.nD Cert.AdamRefIdeal.τ).loc Cert.AdamRefIdeal.main_arg18)
      ∧ r.2.mem ((c.tc : Thread Cert.AdamRefIdeal.nD Cert.AdamRefIdeal.τ).loc Cert.AdamRefIdeal.main_arg19) = m ((c.tc : Thread Cert.AdamRefIdeal.nD Cert.AdamRefIdeal.τ).loc Cert.AdamRefIdeal.main_arg19)
      ∧ r.2.mem ((c.tc : Thread Cert.AdamRefIdeal.nD Cert.AdamRefIdeal.τ).loc Cert.AdamRefIdeal.main_arg20) = m ((c.tc : Thread Cert.AdamRefIdeal.nD Cert.AdamRefIdeal.τ).loc Cert.AdamRefIdeal.main_arg20)
      ∧ r.2.mem ((c.tc : Thread Cert.AdamRefIdeal.nD Cert.AdamRefIdeal.τ).loc Cert.AdamRefIdeal.main_arg21) = m ((c.tc : Thread Cert.AdamRefIdeal.nD Cert.AdamRefIdeal.τ).loc Cert.AdamRefIdeal.main_arg21)
      ∧ r.2.mem ((c.tc : Thread Cert.AdamRefIdeal.nD Cert.AdamRefIdeal.τ).loc Cert.AdamRefIdeal.main_arg22) = m ((c.tc : Thread Cert.AdamRefIdeal.nD Cert.AdamRefIdeal.τ).loc Cert.AdamRefIdeal.main_arg22)
      ∧ r.2.mem ((c.tc : Thread Cert.AdamRefIdeal.nD Cert.AdamRefIdeal.τ).loc Cert.AdamRefIdeal.main_arg23) = m ((c.tc : Thread Cert.AdamRefIdeal.nD Cert.AdamRefIdeal.τ).loc Cert.AdamRefIdeal.main_arg23)
      ∧ r.2.mem ((c.tc : Thread Cert.AdamRefIdeal.nD Cert.AdamRefIdeal.τ).loc Cert.AdamRefIdeal.main_arg24) = m ((c.tc : Thread Cert.AdamRefIdeal.nD Cert.AdamRefIdeal.τ).loc Cert.AdamRefIdeal.main_arg24)
      ∧ r.2.mem ((c.tc : Thread Cert.AdamRefIdeal.nD Cert.AdamRefIdeal.τ).loc Cert.AdamRefIdeal.main_arg25) = m ((c.tc : Thread Cert.AdamRefIdeal.nD Cert.AdamRefIdeal.τ).loc Cert.AdamRefIdeal.main_arg25)
      ∧ r.2.mem ((c.tc : Thread Cert.AdamRefIdeal.nD Cert.AdamRefIdeal.τ).loc Cert.AdamRefIdeal.main_arg26) = m ((c.tc : Thread Cert.AdamRefIdeal.nD Cert.AdamRefIdeal.τ).loc Cert.AdamRefIdeal.main_arg26)
      ∧ r.2.mem ((c.tc : Thread Cert.AdamRefIdeal.nD Cert.AdamRefIdeal.τ).loc Cert.AdamRefIdeal.main_arg27) = m ((c.tc : Thread Cert.AdamRefIdeal.nD Cert.AdamRefIdeal.τ).loc Cert.AdamRefIdeal.main_arg27))
      ∧ r.2.sem = fun _ => 0)

def preserves_NormBwd_NormBwdIdeal : Prop :=
  True

def algebraic_NormBwdIdeal_NormBwdRefIdeal_pre_finite_norm [hNormBwdIdeal : Cert.NormBwdIdeal.Facts] [hNormBwdRefIdeal : Cert.NormBwdRefIdeal.Facts] [hPre_finite_norm : Cert.Pre_finite_norm.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal_finite_norm m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v1_0)) (v1 : (c : Dev Cert.NormBwdIdeal.nD) → Buf (Elt Ideal) ((c.tc : Thread Cert.NormBwdIdeal.nD Cert.NormBwdIdeal.τ).loc Cert.NormBwdIdeal.main_v1_1)) (v2 : (c : Dev Cert.NormBwdIdeal.nD) → Buf (Elt Ideal) ((c.tc : Thread Cert.NormBwdIdeal.nD Cert.NormBwdIdeal.τ).loc Cert.NormBwdIdeal.main_v1_2)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v1_0) = v0 c
          ∧ r.2.mem ((c.tc : Thread Cert.NormBwdIdeal.nD Cert.NormBwdIdeal.τ).loc Cert.NormBwdIdeal.main_v1_1) = v1 c
          ∧ r.2.mem ((c.tc : Thread Cert.NormBwdIdeal.nD Cert.NormBwdIdeal.τ).loc Cert.NormBwdIdeal.main_v1_2) = v2 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v36) = v0 c
          ∧ r.2.mem ((c.tc : Thread Cert.NormBwdRefIdeal.nD Cert.NormBwdRefIdeal.τ).loc Cert.NormBwdRefIdeal.main_v37) = v1 c
          ∧ r.2.mem ((c.tc : Thread Cert.NormBwdRefIdeal.nD Cert.NormBwdRefIdeal.τ).loc Cert.NormBwdRefIdeal.main_v38) = v2 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v5_0)) (v1 : (c : Dev Cert.LossIdeal.nD) → Buf (Elt Ideal) ((c.tc : Thread Cert.LossIdeal.nD Cert.LossIdeal.τ).loc Cert.LossIdeal.main_v5_1)) (v2 : (c : Dev Cert.LossIdeal.nD) → Buf (Elt Ideal) ((c.tc : Thread Cert.LossIdeal.nD Cert.LossIdeal.τ).loc Cert.LossIdeal.main_v5_2)) (v3 : (c : Dev Cert.LossIdeal.nD) → Buf (Elt Ideal) ((c.tc : Thread Cert.LossIdeal.nD Cert.LossIdeal.τ).loc Cert.LossIdeal.main_v5_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v5_0) = v0 c
          ∧ r.2.mem ((c.tc : Thread Cert.LossIdeal.nD Cert.LossIdeal.τ).loc Cert.LossIdeal.main_v5_1) = v1 c
          ∧ r.2.mem ((c.tc : Thread Cert.LossIdeal.nD Cert.LossIdeal.τ).loc Cert.LossIdeal.main_v5_2) = v2 c
          ∧ r.2.mem ((c.tc : Thread Cert.LossIdeal.nD Cert.LossIdeal.τ).loc Cert.LossIdeal.main_v5_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v55) = v0 c
          ∧ r.2.mem ((c.tc : Thread Cert.LossRefIdeal.nD Cert.LossRefIdeal.τ).loc Cert.LossRefIdeal.main_v56) = v1 c
          ∧ r.2.mem ((c.tc : Thread Cert.LossRefIdeal.nD Cert.LossRefIdeal.τ).loc Cert.LossRefIdeal.main_v57) = v2 c
          ∧ r.2.mem ((c.tc : Thread Cert.LossRefIdeal.nD Cert.LossRefIdeal.τ).loc Cert.LossRefIdeal.main_v58) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_ConvBwd_ConvBwdIdeal : Prop :=
  True

def algebraic_ConvBwdIdeal_ConvBwdRefIdeal [hConvBwdIdeal : Cert.ConvBwdIdeal.Facts] [hConvBwdRefIdeal : Cert.ConvBwdRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)
      ∧ m' ((c.tc : Thread Cert.ConvBwdRefIdeal.nD Cert.ConvBwdRefIdeal.τ).loc Cert.ConvBwdRefIdeal.main_arg3) = m ((c.tc : Thread Cert.ConvBwdIdeal.nD Cert.ConvBwdIdeal.τ).loc Cert.ConvBwdIdeal.main_arg3)
      ∧ m' ((c.tc : Thread Cert.ConvBwdRefIdeal.nD Cert.ConvBwdRefIdeal.τ).loc Cert.ConvBwdRefIdeal.main_arg4) = m ((c.tc : Thread Cert.ConvBwdIdeal.nD Cert.ConvBwdIdeal.τ).loc Cert.ConvBwdIdeal.main_arg4)) →
    ∃ (v0 : (c : Dev Cert.ConvBwdIdeal.nD) → Buf (Elt Ideal) ((c.tc : Thread Cert.ConvBwdIdeal.nD Cert.ConvBwdIdeal.τ).loc Cert.ConvBwdIdeal.main_v5_0)) (v1 : (c : Dev Cert.ConvBwdIdeal.nD) → Buf (Elt Ideal) ((c.tc : Thread Cert.ConvBwdIdeal.nD Cert.ConvBwdIdeal.τ).loc Cert.ConvBwdIdeal.main_v5_1)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v5_0) = v0 c
          ∧ r.2.mem ((c.tc : Thread Cert.ConvBwdIdeal.nD Cert.ConvBwdIdeal.τ).loc Cert.ConvBwdIdeal.main_v5_1) = v1 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
          ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v66) = v0 c
          ∧ r.2.mem ((c.tc : Thread Cert.ConvBwdRefIdeal.nD Cert.ConvBwdRefIdeal.τ).loc Cert.ConvBwdRefIdeal.main_v67) = v1 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2)
          ∧ r.2.mem ((c.tc : Thread Cert.ConvBwdRefIdeal.nD Cert.ConvBwdRefIdeal.τ).loc Cert.ConvBwdRefIdeal.main_arg3) = m' ((c.tc : Thread Cert.ConvBwdRefIdeal.nD Cert.ConvBwdRefIdeal.τ).loc Cert.ConvBwdRefIdeal.main_arg3)
          ∧ r.2.mem ((c.tc : Thread Cert.ConvBwdRefIdeal.nD Cert.ConvBwdRefIdeal.τ).loc Cert.ConvBwdRefIdeal.main_arg4) = m' ((c.tc : Thread Cert.ConvBwdRefIdeal.nD Cert.ConvBwdRefIdeal.τ).loc Cert.ConvBwdRefIdeal.main_arg4))

def preserves_GateBwd_GateBwdIdeal : Prop :=
  True

def algebraic_GateBwdIdeal_GateBwdRefIdeal_pre_finite_gate [hGateBwdIdeal : Cert.GateBwdIdeal.Facts] [hGateBwdRefIdeal : Cert.GateBwdRefIdeal.Facts] [hPre_finite_gate : Cert.Pre_finite_gate.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateBwdRefIdeal.nD Cert.GateBwdRefIdeal.τ Cert.GateBwdRefIdeal.sig) → Buf (Elt Ideal) ℓ) (g' : Dev Cert.GateBwdRefIdeal.nD → PrngReg), Pre_GateBwdIdeal_finite_gate m →
    (∀ c : Dev Cert.GateBwdIdeal.nD,
      m' ((c.tc : Thread Cert.GateBwdRefIdeal.nD Cert.GateBwdRefIdeal.τ).loc Cert.GateBwdRefIdeal.main_arg0) = m ((c.tc : Thread Cert.GateBwdIdeal.nD Cert.GateBwdIdeal.τ).loc Cert.GateBwdIdeal.main_arg0)
      ∧ m' ((c.tc : Thread Cert.GateBwdRefIdeal.nD Cert.GateBwdRefIdeal.τ).loc Cert.GateBwdRefIdeal.main_arg1) = m ((c.tc : Thread Cert.GateBwdIdeal.nD Cert.GateBwdIdeal.τ).loc Cert.GateBwdIdeal.main_arg1)
      ∧ m' ((c.tc : Thread Cert.GateBwdRefIdeal.nD Cert.GateBwdRefIdeal.τ).loc Cert.GateBwdRefIdeal.main_arg2) = m ((c.tc : Thread Cert.GateBwdIdeal.nD Cert.GateBwdIdeal.τ).loc Cert.GateBwdIdeal.main_arg2)
      ∧ m' ((c.tc : Thread Cert.GateBwdRefIdeal.nD Cert.GateBwdRefIdeal.τ).loc Cert.GateBwdRefIdeal.main_arg3) = m ((c.tc : Thread Cert.GateBwdIdeal.nD Cert.GateBwdIdeal.τ).loc Cert.GateBwdIdeal.main_arg3)
      ∧ m' ((c.tc : Thread Cert.GateBwdRefIdeal.nD Cert.GateBwdRefIdeal.τ).loc Cert.GateBwdRefIdeal.main_arg4) = m ((c.tc : Thread Cert.GateBwdIdeal.nD Cert.GateBwdIdeal.τ).loc Cert.GateBwdIdeal.main_arg4)) →
    ∃ (v0 : (c : Dev Cert.GateBwdIdeal.nD) → Buf (Elt Ideal) ((c.tc : Thread Cert.GateBwdIdeal.nD Cert.GateBwdIdeal.τ).loc Cert.GateBwdIdeal.main_v7_2)) (v1 : (c : Dev Cert.GateBwdIdeal.nD) → Buf (Elt Ideal) ((c.tc : Thread Cert.GateBwdIdeal.nD Cert.GateBwdIdeal.τ).loc Cert.GateBwdIdeal.main_v8_0)) (v2 : (c : Dev Cert.GateBwdIdeal.nD) → Buf (Elt Ideal) ((c.tc : Thread Cert.GateBwdIdeal.nD Cert.GateBwdIdeal.τ).loc Cert.GateBwdIdeal.main_v8_1)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v7_2) = v0 c
          ∧ r.2.mem ((c.tc : Thread Cert.GateBwdIdeal.nD Cert.GateBwdIdeal.τ).loc Cert.GateBwdIdeal.main_v8_0) = v1 c
          ∧ r.2.mem ((c.tc : Thread Cert.GateBwdIdeal.nD Cert.GateBwdIdeal.τ).loc Cert.GateBwdIdeal.main_v8_1) = v2 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
          ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
          ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4))
      ∧ θ_run (Cert.GateBwdRefIdeal.defs (F := Ideal)) (onTc (τ := Cert.GateBwdRefIdeal.τ) (Cert.GateBwdRefIdeal.main (F := Ideal))) ⟨m', fun _ => 0, g'⟩ (fun r => ∀ c : Dev Cert.GateBwdRefIdeal.nD,
          r.2.mem ((c.tc : Thread Cert.GateBwdRefIdeal.nD Cert.GateBwdRefIdeal.τ).loc Cert.GateBwdRefIdeal.main_v11) = v0 c
          ∧ r.2.mem ((c.tc : Thread Cert.GateBwdRefIdeal.nD Cert.GateBwdRefIdeal.τ).loc Cert.GateBwdRefIdeal.main_v12) = v1 c
          ∧ r.2.mem ((c.tc : Thread Cert.GateBwdRefIdeal.nD Cert.GateBwdRefIdeal.τ).loc Cert.GateBwdRefIdeal.main_v13) = v2 c
          ∧ r.2.mem ((c.tc : Thread Cert.GateBwdRefIdeal.nD Cert.GateBwdRefIdeal.τ).loc Cert.GateBwdRefIdeal.main_arg0) = m' ((c.tc : Thread Cert.GateBwdRefIdeal.nD Cert.GateBwdRefIdeal.τ).loc Cert.GateBwdRefIdeal.main_arg0)
          ∧ r.2.mem ((c.tc : Thread Cert.GateBwdRefIdeal.nD Cert.GateBwdRefIdeal.τ).loc Cert.GateBwdRefIdeal.main_arg1) = m' ((c.tc : Thread Cert.GateBwdRefIdeal.nD Cert.GateBwdRefIdeal.τ).loc Cert.GateBwdRefIdeal.main_arg1)
          ∧ r.2.mem ((c.tc : Thread Cert.GateBwdRefIdeal.nD Cert.GateBwdRefIdeal.τ).loc Cert.GateBwdRefIdeal.main_arg2) = m' ((c.tc : Thread Cert.GateBwdRefIdeal.nD Cert.GateBwdRefIdeal.τ).loc Cert.GateBwdRefIdeal.main_arg2)
          ∧ r.2.mem ((c.tc : Thread Cert.GateBwdRefIdeal.nD Cert.GateBwdRefIdeal.τ).loc Cert.GateBwdRefIdeal.main_arg3) = m' ((c.tc : Thread Cert.GateBwdRefIdeal.nD Cert.GateBwdRefIdeal.τ).loc Cert.GateBwdRefIdeal.main_arg3)
          ∧ r.2.mem ((c.tc : Thread Cert.GateBwdRefIdeal.nD Cert.GateBwdRefIdeal.τ).loc Cert.GateBwdRefIdeal.main_arg4) = m' ((c.tc : Thread Cert.GateBwdRefIdeal.nD Cert.GateBwdRefIdeal.τ).loc Cert.GateBwdRefIdeal.main_arg4))

def preserves_MlstmFwd_MlstmFwdIdeal : Prop :=
  True

def algebraic_MlstmFwdIdeal_MlstmFwdRefIdeal [hMlstmFwdIdeal : Cert.MlstmFwdIdeal.Facts] [hMlstmFwdRefIdeal : Cert.MlstmFwdRefIdeal.Facts] : Prop :=
  ∀ (m : (ℓ : Loc Cert.MlstmFwdIdeal.nD Cert.MlstmFwdIdeal.τ Cert.MlstmFwdIdeal.sig) → Buf (Elt Ideal) ℓ) (g : Dev Cert.MlstmFwdIdeal.nD → PrngReg)
    (m' : (ℓ : Loc Cert.MlstmFwdRefIdeal.nD Cert.MlstmFwdRefIdeal.τ Cert.MlstmFwdRefIdeal.sig) → Buf (Elt Ideal) ℓ) (g' : Dev Cert.MlstmFwdRefIdeal.nD → PrngReg), Pre_MlstmFwdIdeal m →
    (∀ c : Dev Cert.MlstmFwdIdeal.nD,
      m' ((c.tc : Thread Cert.MlstmFwdRefIdeal.nD Cert.MlstmFwdRefIdeal.τ).loc Cert.MlstmFwdRefIdeal.main_arg0) = m ((c.tc : Thread Cert.MlstmFwdIdeal.nD Cert.MlstmFwdIdeal.τ).loc Cert.MlstmFwdIdeal.main_arg0)
      ∧ m' ((c.tc : Thread Cert.MlstmFwdRefIdeal.nD Cert.MlstmFwdRefIdeal.τ).loc Cert.MlstmFwdRefIdeal.main_arg1) = m ((c.tc : Thread Cert.MlstmFwdIdeal.nD Cert.MlstmFwdIdeal.τ).loc Cert.MlstmFwdIdeal.main_arg1)
      ∧ m' ((c.tc : Thread Cert.MlstmFwdRefIdeal.nD Cert.MlstmFwdRefIdeal.τ).loc Cert.MlstmFwdRefIdeal.main_arg2) = m ((c.tc : Thread Cert.MlstmFwdIdeal.nD Cert.MlstmFwdIdeal.τ).loc Cert.MlstmFwdIdeal.main_arg2)) →
    ∃ (v0 : (c : Dev Cert.MlstmFwdIdeal.nD) → Buf (Elt Ideal) ((c.tc : Thread Cert.MlstmFwdIdeal.nD Cert.MlstmFwdIdeal.τ).loc Cert.MlstmFwdIdeal.main_v6)) (v1 : (c : Dev Cert.MlstmFwdIdeal.nD) → Buf (Elt Ideal) ((c.tc : Thread Cert.MlstmFwdIdeal.nD Cert.MlstmFwdIdeal.τ).loc Cert.MlstmFwdIdeal.main_v5_1)) (v2 : (c : Dev Cert.MlstmFwdIdeal.nD) → Buf (Elt Ideal) ((c.tc : Thread Cert.MlstmFwdIdeal.nD Cert.MlstmFwdIdeal.τ).loc Cert.MlstmFwdIdeal.main_v5_2)) (v3 : (c : Dev Cert.MlstmFwdIdeal.nD) → Buf (Elt Ideal) ((c.tc : Thread Cert.MlstmFwdIdeal.nD Cert.MlstmFwdIdeal.τ).loc Cert.MlstmFwdIdeal.main_v5_3)) (v4 : (c : Dev Cert.MlstmFwdIdeal.nD) → Buf (Elt Ideal) ((c.tc : Thread Cert.MlstmFwdIdeal.nD Cert.MlstmFwdIdeal.τ).loc Cert.MlstmFwdIdeal.main_v5_4)),
      θ_run (Cert.MlstmFwdIdeal.defs (F := Ideal)) (onTc (τ := Cert.MlstmFwdIdeal.τ) (Cert.MlstmFwdIdeal.main (F := Ideal))) ⟨m, fun _ => 0, g⟩ (fun r => ∀ c : Dev Cert.MlstmFwdIdeal.nD,
          r.2.mem ((c.tc : Thread Cert.MlstmFwdIdeal.nD Cert.MlstmFwdIdeal.τ).loc Cert.MlstmFwdIdeal.main_v6) = v0 c
          ∧ r.2.mem ((c.tc : Thread Cert.MlstmFwdIdeal.nD Cert.MlstmFwdIdeal.τ).loc Cert.MlstmFwdIdeal.main_v5_1) = v1 c
          ∧ r.2.mem ((c.tc : Thread Cert.MlstmFwdIdeal.nD Cert.MlstmFwdIdeal.τ).loc Cert.MlstmFwdIdeal.main_v5_2) = v2 c
          ∧ r.2.mem ((c.tc : Thread Cert.MlstmFwdIdeal.nD Cert.MlstmFwdIdeal.τ).loc Cert.MlstmFwdIdeal.main_v5_3) = v3 c
          ∧ r.2.mem ((c.tc : Thread Cert.MlstmFwdIdeal.nD Cert.MlstmFwdIdeal.τ).loc Cert.MlstmFwdIdeal.main_v5_4) = v4 c
          ∧ r.2.mem ((c.tc : Thread Cert.MlstmFwdIdeal.nD Cert.MlstmFwdIdeal.τ).loc Cert.MlstmFwdIdeal.main_arg0) = m ((c.tc : Thread Cert.MlstmFwdIdeal.nD Cert.MlstmFwdIdeal.τ).loc Cert.MlstmFwdIdeal.main_arg0)
          ∧ r.2.mem ((c.tc : Thread Cert.MlstmFwdIdeal.nD Cert.MlstmFwdIdeal.τ).loc Cert.MlstmFwdIdeal.main_arg1) = m ((c.tc : Thread Cert.MlstmFwdIdeal.nD Cert.MlstmFwdIdeal.τ).loc Cert.MlstmFwdIdeal.main_arg1)
          ∧ r.2.mem ((c.tc : Thread Cert.MlstmFwdIdeal.nD Cert.MlstmFwdIdeal.τ).loc Cert.MlstmFwdIdeal.main_arg2) = m ((c.tc : Thread Cert.MlstmFwdIdeal.nD Cert.MlstmFwdIdeal.τ).loc Cert.MlstmFwdIdeal.main_arg2))
      ∧ θ_run (Cert.MlstmFwdRefIdeal.defs (F := Ideal)) (onTc (τ := Cert.MlstmFwdRefIdeal.τ) (Cert.MlstmFwdRefIdeal.main (F := Ideal))) ⟨m', fun _ => 0, g'⟩ (fun r => ∀ c : Dev Cert.MlstmFwdRefIdeal.nD,
          r.2.mem ((c.tc : Thread Cert.MlstmFwdRefIdeal.nD Cert.MlstmFwdRefIdeal.τ).loc Cert.MlstmFwdRefIdeal.main_v86) = v0 c
          ∧ r.2.mem ((c.tc : Thread Cert.MlstmFwdRefIdeal.nD Cert.MlstmFwdRefIdeal.τ).loc Cert.MlstmFwdRefIdeal.main_v88) = v1 c
          ∧ r.2.mem ((c.tc : Thread Cert.MlstmFwdRefIdeal.nD Cert.MlstmFwdRefIdeal.τ).loc Cert.MlstmFwdRefIdeal.main_v89) = v2 c
          ∧ r.2.mem ((c.tc : Thread Cert.MlstmFwdRefIdeal.nD Cert.MlstmFwdRefIdeal.τ).loc Cert.MlstmFwdRefIdeal.main_v91) = v3 c
          ∧ r.2.mem ((c.tc : Thread Cert.MlstmFwdRefIdeal.nD Cert.MlstmFwdRefIdeal.τ).loc Cert.MlstmFwdRefIdeal.main_v93) = v4 c
          ∧ r.2.mem ((c.tc : Thread Cert.MlstmFwdRefIdeal.nD Cert.MlstmFwdRefIdeal.τ).loc Cert.MlstmFwdRefIdeal.main_arg0) = m' ((c.tc : Thread Cert.MlstmFwdRefIdeal.nD Cert.MlstmFwdRefIdeal.τ).loc Cert.MlstmFwdRefIdeal.main_arg0)
          ∧ r.2.mem ((c.tc : Thread Cert.MlstmFwdRefIdeal.nD Cert.MlstmFwdRefIdeal.τ).loc Cert.MlstmFwdRefIdeal.main_arg1) = m' ((c.tc : Thread Cert.MlstmFwdRefIdeal.nD Cert.MlstmFwdRefIdeal.τ).loc Cert.MlstmFwdRefIdeal.main_arg1)
          ∧ r.2.mem ((c.tc : Thread Cert.MlstmFwdRefIdeal.nD Cert.MlstmFwdRefIdeal.τ).loc Cert.MlstmFwdRefIdeal.main_arg2) = m' ((c.tc : Thread Cert.MlstmFwdRefIdeal.nD Cert.MlstmFwdRefIdeal.τ).loc Cert.MlstmFwdRefIdeal.main_arg2))

def preserves_NormProj_NormProjIdeal : Prop :=
  True

def algebraic_NormProjIdeal_NormProjRefIdeal [hNormProjIdeal : Cert.NormProjIdeal.Facts] [hNormProjRefIdeal : Cert.NormProjRefIdeal.Facts] : Prop :=
  ∀ (m : (ℓ : Loc Cert.NormProjIdeal.nD Cert.NormProjIdeal.τ Cert.NormProjIdeal.sig) → Buf (Elt Ideal) ℓ) (g : Dev Cert.NormProjIdeal.nD → PrngReg)
    (m' : (ℓ : Loc Cert.NormProjRefIdeal.nD Cert.NormProjRefIdeal.τ Cert.NormProjRefIdeal.sig) → Buf (Elt Ideal) ℓ) (g' : Dev Cert.NormProjRefIdeal.nD → PrngReg), Pre_NormProjIdeal m →
    (∀ c : Dev Cert.NormProjIdeal.nD,
      m' ((c.tc : Thread Cert.NormProjRefIdeal.nD Cert.NormProjRefIdeal.τ).loc Cert.NormProjRefIdeal.main_arg0) = m ((c.tc : Thread Cert.NormProjIdeal.nD Cert.NormProjIdeal.τ).loc Cert.NormProjIdeal.main_arg0)
      ∧ m' ((c.tc : Thread Cert.NormProjRefIdeal.nD Cert.NormProjRefIdeal.τ).loc Cert.NormProjRefIdeal.main_arg1) = m ((c.tc : Thread Cert.NormProjIdeal.nD Cert.NormProjIdeal.τ).loc Cert.NormProjIdeal.main_arg1)
      ∧ m' ((c.tc : Thread Cert.NormProjRefIdeal.nD Cert.NormProjRefIdeal.τ).loc Cert.NormProjRefIdeal.main_arg2) = m ((c.tc : Thread Cert.NormProjIdeal.nD Cert.NormProjIdeal.τ).loc Cert.NormProjIdeal.main_arg2)) →
    ∃ (v0 : (c : Dev Cert.NormProjIdeal.nD) → Buf (Elt Ideal) ((c.tc : Thread Cert.NormProjIdeal.nD Cert.NormProjIdeal.τ).loc Cert.NormProjIdeal.main_v3_0)) (v1 : (c : Dev Cert.NormProjIdeal.nD) → Buf (Elt Ideal) ((c.tc : Thread Cert.NormProjIdeal.nD Cert.NormProjIdeal.τ).loc Cert.NormProjIdeal.main_v3_1)),
      θ_run (Cert.NormProjIdeal.defs (F := Ideal)) (onTc (τ := Cert.NormProjIdeal.τ) (Cert.NormProjIdeal.main (F := Ideal))) ⟨m, fun _ => 0, g⟩ (fun r => ∀ c : Dev Cert.NormProjIdeal.nD,
          r.2.mem ((c.tc : Thread Cert.NormProjIdeal.nD Cert.NormProjIdeal.τ).loc Cert.NormProjIdeal.main_v3_0) = v0 c
          ∧ r.2.mem ((c.tc : Thread Cert.NormProjIdeal.nD Cert.NormProjIdeal.τ).loc Cert.NormProjIdeal.main_v3_1) = v1 c
          ∧ r.2.mem ((c.tc : Thread Cert.NormProjIdeal.nD Cert.NormProjIdeal.τ).loc Cert.NormProjIdeal.main_arg0) = m ((c.tc : Thread Cert.NormProjIdeal.nD Cert.NormProjIdeal.τ).loc Cert.NormProjIdeal.main_arg0)
          ∧ r.2.mem ((c.tc : Thread Cert.NormProjIdeal.nD Cert.NormProjIdeal.τ).loc Cert.NormProjIdeal.main_arg1) = m ((c.tc : Thread Cert.NormProjIdeal.nD Cert.NormProjIdeal.τ).loc Cert.NormProjIdeal.main_arg1)
          ∧ r.2.mem ((c.tc : Thread Cert.NormProjIdeal.nD Cert.NormProjIdeal.τ).loc Cert.NormProjIdeal.main_arg2) = m ((c.tc : Thread Cert.NormProjIdeal.nD Cert.NormProjIdeal.τ).loc Cert.NormProjIdeal.main_arg2))
      ∧ θ_run (Cert.NormProjRefIdeal.defs (F := Ideal)) (onTc (τ := Cert.NormProjRefIdeal.τ) (Cert.NormProjRefIdeal.main (F := Ideal))) ⟨m', fun _ => 0, g'⟩ (fun r => ∀ c : Dev Cert.NormProjRefIdeal.nD,
          r.2.mem ((c.tc : Thread Cert.NormProjRefIdeal.nD Cert.NormProjRefIdeal.τ).loc Cert.NormProjRefIdeal.main_v13) = v0 c
          ∧ r.2.mem ((c.tc : Thread Cert.NormProjRefIdeal.nD Cert.NormProjRefIdeal.τ).loc Cert.NormProjRefIdeal.main_v15) = v1 c
          ∧ r.2.mem ((c.tc : Thread Cert.NormProjRefIdeal.nD Cert.NormProjRefIdeal.τ).loc Cert.NormProjRefIdeal.main_arg0) = m' ((c.tc : Thread Cert.NormProjRefIdeal.nD Cert.NormProjRefIdeal.τ).loc Cert.NormProjRefIdeal.main_arg0)
          ∧ r.2.mem ((c.tc : Thread Cert.NormProjRefIdeal.nD Cert.NormProjRefIdeal.τ).loc Cert.NormProjRefIdeal.main_arg1) = m' ((c.tc : Thread Cert.NormProjRefIdeal.nD Cert.NormProjRefIdeal.τ).loc Cert.NormProjRefIdeal.main_arg1)
          ∧ r.2.mem ((c.tc : Thread Cert.NormProjRefIdeal.nD Cert.NormProjRefIdeal.τ).loc Cert.NormProjRefIdeal.main_arg2) = m' ((c.tc : Thread Cert.NormProjRefIdeal.nD Cert.NormProjRefIdeal.τ).loc Cert.NormProjRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v3_0)) (v1 : (c : Dev Cert.OutProjIdeal.nD) → Buf (Elt Ideal) ((c.tc : Thread Cert.OutProjIdeal.nD Cert.OutProjIdeal.τ).loc Cert.OutProjIdeal.main_v3_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3_0) = v0 c
          ∧ r.2.mem ((c.tc : Thread Cert.OutProjIdeal.nD Cert.OutProjIdeal.τ).loc Cert.OutProjIdeal.main_v3_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v1) = v0 c
          ∧ r.2.mem ((c.tc : Thread Cert.OutProjRefIdeal.nD Cert.OutProjRefIdeal.τ).loc Cert.OutProjRefIdeal.main_v15) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)
      ∧ m' ((c.tc : Thread Cert.ConvFwdRefIdeal.nD Cert.ConvFwdRefIdeal.τ).loc Cert.ConvFwdRefIdeal.main_arg3) = m ((c.tc : Thread Cert.ConvFwdIdeal.nD Cert.ConvFwdIdeal.τ).loc Cert.ConvFwdIdeal.main_arg3)
      ∧ m' ((c.tc : Thread Cert.ConvFwdRefIdeal.nD Cert.ConvFwdRefIdeal.τ).loc Cert.ConvFwdRefIdeal.main_arg4) = m ((c.tc : Thread Cert.ConvFwdIdeal.nD Cert.ConvFwdIdeal.τ).loc Cert.ConvFwdIdeal.main_arg4)) →
    ∃ (v0 : (c : Dev Cert.ConvFwdIdeal.nD) → Buf (Elt Ideal) ((c.tc : Thread Cert.ConvFwdIdeal.nD Cert.ConvFwdIdeal.τ).loc Cert.ConvFwdIdeal.main_v6)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v6) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
          ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
          ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v29) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2)
          ∧ r.2.mem ((c.tc : Thread Cert.ConvFwdRefIdeal.nD Cert.ConvFwdRefIdeal.τ).loc Cert.ConvFwdRefIdeal.main_arg3) = m' ((c.tc : Thread Cert.ConvFwdRefIdeal.nD Cert.ConvFwdRefIdeal.τ).loc Cert.ConvFwdRefIdeal.main_arg3)
          ∧ r.2.mem ((c.tc : Thread Cert.ConvFwdRefIdeal.nD Cert.ConvFwdRefIdeal.τ).loc Cert.ConvFwdRefIdeal.main_arg4) = m' ((c.tc : Thread Cert.ConvFwdRefIdeal.nD Cert.ConvFwdRefIdeal.τ).loc Cert.ConvFwdRefIdeal.main_arg4))

def preserves_MlstmBwd_MlstmBwdIdeal : Prop :=
  IdealRules.sign_bit.Statement Cert.MlstmBwdIdeal.S64x1 .f32

def preserves_MmNn_MmNnIdeal : Prop :=
  True

def algebraic_MmNnIdeal_MmNnRefIdeal [hMmNnIdeal : Cert.MmNnIdeal.Facts] [hMmNnRefIdeal : Cert.MmNnRefIdeal.Facts] : Prop :=
  ∀ (m : (ℓ : Loc Cert.MmNnIdeal.nD Cert.MmNnIdeal.τ Cert.MmNnIdeal.sig) → Buf (Elt Ideal) ℓ) (g : Dev Cert.MmNnIdeal.nD → PrngReg)
    (m' : (ℓ : Loc Cert.MmNnRefIdeal.nD Cert.MmNnRefIdeal.τ Cert.MmNnRefIdeal.sig) → Buf (Elt Ideal) ℓ) (g' : Dev Cert.MmNnRefIdeal.nD → PrngReg), Pre_MmNnIdeal m →
    (∀ c : Dev Cert.MmNnIdeal.nD,
      m' ((c.tc : Thread Cert.MmNnRefIdeal.nD Cert.MmNnRefIdeal.τ).loc Cert.MmNnRefIdeal.main_arg0) = m ((c.tc : Thread Cert.MmNnIdeal.nD Cert.MmNnIdeal.τ).loc Cert.MmNnIdeal.main_arg0)
      ∧ m' ((c.tc : Thread Cert.MmNnRefIdeal.nD Cert.MmNnRefIdeal.τ).loc Cert.MmNnRefIdeal.main_arg1) = m ((c.tc : Thread Cert.MmNnIdeal.nD Cert.MmNnIdeal.τ).loc Cert.MmNnIdeal.main_arg1)
      ∧ m' ((c.tc : Thread Cert.MmNnRefIdeal.nD Cert.MmNnRefIdeal.τ).loc Cert.MmNnRefIdeal.main_arg2) = m ((c.tc : Thread Cert.MmNnIdeal.nD Cert.MmNnIdeal.τ).loc Cert.MmNnIdeal.main_arg2)) →
    ∃ (v0 : (c : Dev Cert.MmNnIdeal.nD) → Buf (Elt Ideal) ((c.tc : Thread Cert.MmNnIdeal.nD Cert.MmNnIdeal.τ).loc Cert.MmNnIdeal.main_v2)),
      θ_run (Cert.MmNnIdeal.defs (F := Ideal)) (onTc (τ := Cert.MmNnIdeal.τ) (Cert.MmNnIdeal.main (F := Ideal))) ⟨m, fun _ => 0, g⟩ (fun r => ∀ c : Dev Cert.MmNnIdeal.nD,
          r.2.mem ((c.tc : Thread Cert.MmNnIdeal.nD Cert.MmNnIdeal.τ).loc Cert.MmNnIdeal.main_v2) = v0 c
          ∧ r.2.mem ((c.tc : Thread Cert.MmNnIdeal.nD Cert.MmNnIdeal.τ).loc Cert.MmNnIdeal.main_arg0) = m ((c.tc : Thread Cert.MmNnIdeal.nD Cert.MmNnIdeal.τ).loc Cert.MmNnIdeal.main_arg0)
          ∧ r.2.mem ((c.tc : Thread Cert.MmNnIdeal.nD Cert.MmNnIdeal.τ).loc Cert.MmNnIdeal.main_arg1) = m ((c.tc : Thread Cert.MmNnIdeal.nD Cert.MmNnIdeal.τ).loc Cert.MmNnIdeal.main_arg1)
          ∧ r.2.mem ((c.tc : Thread Cert.MmNnIdeal.nD Cert.MmNnIdeal.τ).loc Cert.MmNnIdeal.main_arg2) = m ((c.tc : Thread Cert.MmNnIdeal.nD Cert.MmNnIdeal.τ).loc Cert.MmNnIdeal.main_arg2))
      ∧ θ_run (Cert.MmNnRefIdeal.defs (F := Ideal)) (onTc (τ := Cert.MmNnRefIdeal.τ) (Cert.MmNnRefIdeal.main (F := Ideal))) ⟨m', fun _ => 0, g'⟩ (fun r => ∀ c : Dev Cert.MmNnRefIdeal.nD,
          r.2.mem ((c.tc : Thread Cert.MmNnRefIdeal.nD Cert.MmNnRefIdeal.τ).loc Cert.MmNnRefIdeal.main_v1) = v0 c
          ∧ r.2.mem ((c.tc : Thread Cert.MmNnRefIdeal.nD Cert.MmNnRefIdeal.τ).loc Cert.MmNnRefIdeal.main_arg0) = m' ((c.tc : Thread Cert.MmNnRefIdeal.nD Cert.MmNnRefIdeal.τ).loc Cert.MmNnRefIdeal.main_arg0)
          ∧ r.2.mem ((c.tc : Thread Cert.MmNnRefIdeal.nD Cert.MmNnRefIdeal.τ).loc Cert.MmNnRefIdeal.main_arg1) = m' ((c.tc : Thread Cert.MmNnRefIdeal.nD Cert.MmNnRefIdeal.τ).loc Cert.MmNnRefIdeal.main_arg1)
          ∧ r.2.mem ((c.tc : Thread Cert.MmNnRefIdeal.nD Cert.MmNnRefIdeal.τ).loc Cert.MmNnRefIdeal.main_arg2) = m' ((c.tc : Thread Cert.MmNnRefIdeal.nD Cert.MmNnRefIdeal.τ).loc Cert.MmNnRefIdeal.main_arg2))

def preserves_MmTwo_MmTwoIdeal : Prop :=
  True

def algebraic_MmTwoIdeal_MmTwoRefIdeal [hMmTwoIdeal : Cert.MmTwoIdeal.Facts] [hMmTwoRefIdeal : Cert.MmTwoRefIdeal.Facts] : Prop :=
  ∀ (m : (ℓ : Loc Cert.MmTwoIdeal.nD Cert.MmTwoIdeal.τ Cert.MmTwoIdeal.sig) → Buf (Elt Ideal) ℓ) (g : Dev Cert.MmTwoIdeal.nD → PrngReg)
    (m' : (ℓ : Loc Cert.MmTwoRefIdeal.nD Cert.MmTwoRefIdeal.τ Cert.MmTwoRefIdeal.sig) → Buf (Elt Ideal) ℓ) (g' : Dev Cert.MmTwoRefIdeal.nD → PrngReg), Pre_MmTwoIdeal m →
    (∀ c : Dev Cert.MmTwoIdeal.nD,
      m' ((c.tc : Thread Cert.MmTwoRefIdeal.nD Cert.MmTwoRefIdeal.τ).loc Cert.MmTwoRefIdeal.main_arg0) = m ((c.tc : Thread Cert.MmTwoIdeal.nD Cert.MmTwoIdeal.τ).loc Cert.MmTwoIdeal.main_arg0)
      ∧ m' ((c.tc : Thread Cert.MmTwoRefIdeal.nD Cert.MmTwoRefIdeal.τ).loc Cert.MmTwoRefIdeal.main_arg1) = m ((c.tc : Thread Cert.MmTwoIdeal.nD Cert.MmTwoIdeal.τ).loc Cert.MmTwoIdeal.main_arg1)) →
    ∃ (v0 : (c : Dev Cert.MmTwoIdeal.nD) → Buf (Elt Ideal) ((c.tc : Thread Cert.MmTwoIdeal.nD Cert.MmTwoIdeal.τ).loc Cert.MmTwoIdeal.main_v11)),
      θ_run (Cert.MmTwoIdeal.defs (F := Ideal)) (onTc (τ := Cert.MmTwoIdeal.τ) (Cert.MmTwoIdeal.main (F := Ideal))) ⟨m, fun _ => 0, g⟩ (fun r => ∀ c : Dev Cert.MmTwoIdeal.nD,
          r.2.mem ((c.tc : Thread Cert.MmTwoIdeal.nD Cert.MmTwoIdeal.τ).loc Cert.MmTwoIdeal.main_v11) = v0 c
          ∧ r.2.mem ((c.tc : Thread Cert.MmTwoIdeal.nD Cert.MmTwoIdeal.τ).loc Cert.MmTwoIdeal.main_arg0) = m ((c.tc : Thread Cert.MmTwoIdeal.nD Cert.MmTwoIdeal.τ).loc Cert.MmTwoIdeal.main_arg0)
          ∧ r.2.mem ((c.tc : Thread Cert.MmTwoIdeal.nD Cert.MmTwoIdeal.τ).loc Cert.MmTwoIdeal.main_arg1) = m ((c.tc : Thread Cert.MmTwoIdeal.nD Cert.MmTwoIdeal.τ).loc Cert.MmTwoIdeal.main_arg1))
      ∧ θ_run (Cert.MmTwoRefIdeal.defs (F := Ideal)) (onTc (τ := Cert.MmTwoRefIdeal.τ) (Cert.MmTwoRefIdeal.main (F := Ideal))) ⟨m', fun _ => 0, g'⟩ (fun r => ∀ c : Dev Cert.MmTwoRefIdeal.nD,
          r.2.mem ((c.tc : Thread Cert.MmTwoRefIdeal.nD Cert.MmTwoRefIdeal.τ).loc Cert.MmTwoRefIdeal.main_v1) = v0 c
          ∧ r.2.mem ((c.tc : Thread Cert.MmTwoRefIdeal.nD Cert.MmTwoRefIdeal.τ).loc Cert.MmTwoRefIdeal.main_arg0) = m' ((c.tc : Thread Cert.MmTwoRefIdeal.nD Cert.MmTwoRefIdeal.τ).loc Cert.MmTwoRefIdeal.main_arg0)
          ∧ r.2.mem ((c.tc : Thread Cert.MmTwoRefIdeal.nD Cert.MmTwoRefIdeal.τ).loc Cert.MmTwoRefIdeal.main_arg1) = m' ((c.tc : Thread Cert.MmTwoRefIdeal.nD Cert.MmTwoRefIdeal.τ).loc Cert.MmTwoRefIdeal.main_arg1))

def preserves_MmNt_MmNtIdeal : Prop :=
  True

def algebraic_MmNtIdeal_MmNtRefIdeal [hMmNtIdeal : Cert.MmNtIdeal.Facts] [hMmNtRefIdeal : Cert.MmNtRefIdeal.Facts] : Prop :=
  ∀ (m : (ℓ : Loc Cert.MmNtIdeal.nD Cert.MmNtIdeal.τ Cert.MmNtIdeal.sig) → Buf (Elt Ideal) ℓ) (g : Dev Cert.MmNtIdeal.nD → PrngReg)
    (m' : (ℓ : Loc Cert.MmNtRefIdeal.nD Cert.MmNtRefIdeal.τ Cert.MmNtRefIdeal.sig) → Buf (Elt Ideal) ℓ) (g' : Dev Cert.MmNtRefIdeal.nD → PrngReg), Pre_MmNtIdeal m →
    (∀ c : Dev Cert.MmNtIdeal.nD,
      m' ((c.tc : Thread Cert.MmNtRefIdeal.nD Cert.MmNtRefIdeal.τ).loc Cert.MmNtRefIdeal.main_arg0) = m ((c.tc : Thread Cert.MmNtIdeal.nD Cert.MmNtIdeal.τ).loc Cert.MmNtIdeal.main_arg0)
      ∧ m' ((c.tc : Thread Cert.MmNtRefIdeal.nD Cert.MmNtRefIdeal.τ).loc Cert.MmNtRefIdeal.main_arg1) = m ((c.tc : Thread Cert.MmNtIdeal.nD Cert.MmNtIdeal.τ).loc Cert.MmNtIdeal.main_arg1)) →
    ∃ (v0 : (c : Dev Cert.MmNtIdeal.nD) → Buf (Elt Ideal) ((c.tc : Thread Cert.MmNtIdeal.nD Cert.MmNtIdeal.τ).loc Cert.MmNtIdeal.main_v2)),
      θ_run (Cert.MmNtIdeal.defs (F := Ideal)) (onTc (τ := Cert.MmNtIdeal.τ) (Cert.MmNtIdeal.main (F := Ideal))) ⟨m, fun _ => 0, g⟩ (fun r => ∀ c : Dev Cert.MmNtIdeal.nD,
          r.2.mem ((c.tc : Thread Cert.MmNtIdeal.nD Cert.MmNtIdeal.τ).loc Cert.MmNtIdeal.main_v2) = v0 c
          ∧ r.2.mem ((c.tc : Thread Cert.MmNtIdeal.nD Cert.MmNtIdeal.τ).loc Cert.MmNtIdeal.main_arg0) = m ((c.tc : Thread Cert.MmNtIdeal.nD Cert.MmNtIdeal.τ).loc Cert.MmNtIdeal.main_arg0)
          ∧ r.2.mem ((c.tc : Thread Cert.MmNtIdeal.nD Cert.MmNtIdeal.τ).loc Cert.MmNtIdeal.main_arg1) = m ((c.tc : Thread Cert.MmNtIdeal.nD Cert.MmNtIdeal.τ).loc Cert.MmNtIdeal.main_arg1))
      ∧ θ_run (Cert.MmNtRefIdeal.defs (F := Ideal)) (onTc (τ := Cert.MmNtRefIdeal.τ) (Cert.MmNtRefIdeal.main (F := Ideal))) ⟨m', fun _ => 0, g'⟩ (fun r => ∀ c : Dev Cert.MmNtRefIdeal.nD,
          r.2.mem ((c.tc : Thread Cert.MmNtRefIdeal.nD Cert.MmNtRefIdeal.τ).loc Cert.MmNtRefIdeal.main_v1) = v0 c
          ∧ r.2.mem ((c.tc : Thread Cert.MmNtRefIdeal.nD Cert.MmNtRefIdeal.τ).loc Cert.MmNtRefIdeal.main_arg0) = m' ((c.tc : Thread Cert.MmNtRefIdeal.nD Cert.MmNtRefIdeal.τ).loc Cert.MmNtRefIdeal.main_arg0)
          ∧ r.2.mem ((c.tc : Thread Cert.MmNtRefIdeal.nD Cert.MmNtRefIdeal.τ).loc Cert.MmNtRefIdeal.main_arg1) = m' ((c.tc : Thread Cert.MmNtRefIdeal.nD Cert.MmNtRefIdeal.τ).loc Cert.MmNtRefIdeal.main_arg1))

def preserves_MmBcols_MmBcolsIdeal : Prop :=
  True

def algebraic_MmBcolsIdeal_MmBcolsRefIdeal [hMmBcolsIdeal : Cert.MmBcolsIdeal.Facts] [hMmBcolsRefIdeal : Cert.MmBcolsRefIdeal.Facts] : Prop :=
  ∀ (m : (ℓ : Loc Cert.MmBcolsIdeal.nD Cert.MmBcolsIdeal.τ Cert.MmBcolsIdeal.sig) → Buf (Elt Ideal) ℓ) (g : Dev Cert.MmBcolsIdeal.nD → PrngReg)
    (m' : (ℓ : Loc Cert.MmBcolsRefIdeal.nD Cert.MmBcolsRefIdeal.τ Cert.MmBcolsRefIdeal.sig) → Buf (Elt Ideal) ℓ) (g' : Dev Cert.MmBcolsRefIdeal.nD → PrngReg), Pre_MmBcolsIdeal m →
    (∀ c : Dev Cert.MmBcolsIdeal.nD,
      m' ((c.tc : Thread Cert.MmBcolsRefIdeal.nD Cert.MmBcolsRefIdeal.τ).loc Cert.MmBcolsRefIdeal.main_arg0) = m ((c.tc : Thread Cert.MmBcolsIdeal.nD Cert.MmBcolsIdeal.τ).loc Cert.MmBcolsIdeal.main_arg0)
      ∧ m' ((c.tc : Thread Cert.MmBcolsRefIdeal.nD Cert.MmBcolsRefIdeal.τ).loc Cert.MmBcolsRefIdeal.main_arg1) = m ((c.tc : Thread Cert.MmBcolsIdeal.nD Cert.MmBcolsIdeal.τ).loc Cert.MmBcolsIdeal.main_arg1)) →
    ∃ (v0 : (c : Dev Cert.MmBcolsIdeal.nD) → Buf (Elt Ideal) ((c.tc : Thread Cert.MmBcolsIdeal.nD Cert.MmBcolsIdeal.τ).loc Cert.MmBcolsIdeal.main_v5)),
      θ_run (Cert.MmBcolsIdeal.defs (F := Ideal)) (onTc (τ := Cert.MmBcolsIdeal.τ) (Cert.MmBcolsIdeal.main (F := Ideal))) ⟨m, fun _ => 0, g⟩ (fun r => ∀ c : Dev Cert.MmBcolsIdeal.nD,
          r.2.mem ((c.tc : Thread Cert.MmBcolsIdeal.nD Cert.MmBcolsIdeal.τ).loc Cert.MmBcolsIdeal.main_v5) = v0 c
          ∧ r.2.mem ((c.tc : Thread Cert.MmBcolsIdeal.nD Cert.MmBcolsIdeal.τ).loc Cert.MmBcolsIdeal.main_arg0) = m ((c.tc : Thread Cert.MmBcolsIdeal.nD Cert.MmBcolsIdeal.τ).loc Cert.MmBcolsIdeal.main_arg0)
          ∧ r.2.mem ((c.tc : Thread Cert.MmBcolsIdeal.nD Cert.MmBcolsIdeal.τ).loc Cert.MmBcolsIdeal.main_arg1) = m ((c.tc : Thread Cert.MmBcolsIdeal.nD Cert.MmBcolsIdeal.τ).loc Cert.MmBcolsIdeal.main_arg1))
      ∧ θ_run (Cert.MmBcolsRefIdeal.defs (F := Ideal)) (onTc (τ := Cert.MmBcolsRefIdeal.τ) (Cert.MmBcolsRefIdeal.main (F := Ideal))) ⟨m', fun _ => 0, g'⟩ (fun r => ∀ c : Dev Cert.MmBcolsRefIdeal.nD,
          r.2.mem ((c.tc : Thread Cert.MmBcolsRefIdeal.nD Cert.MmBcolsRefIdeal.τ).loc Cert.MmBcolsRefIdeal.main_v7) = v0 c
          ∧ r.2.mem ((c.tc : Thread Cert.MmBcolsRefIdeal.nD Cert.MmBcolsRefIdeal.τ).loc Cert.MmBcolsRefIdeal.main_arg0) = m' ((c.tc : Thread Cert.MmBcolsRefIdeal.nD Cert.MmBcolsRefIdeal.τ).loc Cert.MmBcolsRefIdeal.main_arg0)
          ∧ r.2.mem ((c.tc : Thread Cert.MmBcolsRefIdeal.nD Cert.MmBcolsRefIdeal.τ).loc Cert.MmBcolsRefIdeal.main_arg1) = m' ((c.tc : Thread Cert.MmBcolsRefIdeal.nD Cert.MmBcolsRefIdeal.τ).loc Cert.MmBcolsRefIdeal.main_arg1))

def preserves_MmTn_MmTnIdeal : Prop :=
  True

def algebraic_MmTnIdeal_MmTnRefIdeal [hMmTnIdeal : Cert.MmTnIdeal.Facts] [hMmTnRefIdeal : Cert.MmTnRefIdeal.Facts] : Prop :=
  ∀ (m : (ℓ : Loc Cert.MmTnIdeal.nD Cert.MmTnIdeal.τ Cert.MmTnIdeal.sig) → Buf (Elt Ideal) ℓ) (g : Dev Cert.MmTnIdeal.nD → PrngReg)
    (m' : (ℓ : Loc Cert.MmTnRefIdeal.nD Cert.MmTnRefIdeal.τ Cert.MmTnRefIdeal.sig) → Buf (Elt Ideal) ℓ) (g' : Dev Cert.MmTnRefIdeal.nD → PrngReg), Pre_MmTnIdeal m →
    (∀ c : Dev Cert.MmTnIdeal.nD,
      m' ((c.tc : Thread Cert.MmTnRefIdeal.nD Cert.MmTnRefIdeal.τ).loc Cert.MmTnRefIdeal.main_arg0) = m ((c.tc : Thread Cert.MmTnIdeal.nD Cert.MmTnIdeal.τ).loc Cert.MmTnIdeal.main_arg0)
      ∧ m' ((c.tc : Thread Cert.MmTnRefIdeal.nD Cert.MmTnRefIdeal.τ).loc Cert.MmTnRefIdeal.main_arg1) = m ((c.tc : Thread Cert.MmTnIdeal.nD Cert.MmTnIdeal.τ).loc Cert.MmTnIdeal.main_arg1)) →
    ∃ (v0 : (c : Dev Cert.MmTnIdeal.nD) → Buf (Elt Ideal) ((c.tc : Thread Cert.MmTnIdeal.nD Cert.MmTnIdeal.τ).loc Cert.MmTnIdeal.main_v2)),
      θ_run (Cert.MmTnIdeal.defs (F := Ideal)) (onTc (τ := Cert.MmTnIdeal.τ) (Cert.MmTnIdeal.main (F := Ideal))) ⟨m, fun _ => 0, g⟩ (fun r => ∀ c : Dev Cert.MmTnIdeal.nD,
          r.2.mem ((c.tc : Thread Cert.MmTnIdeal.nD Cert.MmTnIdeal.τ).loc Cert.MmTnIdeal.main_v2) = v0 c
          ∧ r.2.mem ((c.tc : Thread Cert.MmTnIdeal.nD Cert.MmTnIdeal.τ).loc Cert.MmTnIdeal.main_arg0) = m ((c.tc : Thread Cert.MmTnIdeal.nD Cert.MmTnIdeal.τ).loc Cert.MmTnIdeal.main_arg0)
          ∧ r.2.mem ((c.tc : Thread Cert.MmTnIdeal.nD Cert.MmTnIdeal.τ).loc Cert.MmTnIdeal.main_arg1) = m ((c.tc : Thread Cert.MmTnIdeal.nD Cert.MmTnIdeal.τ).loc Cert.MmTnIdeal.main_arg1))
      ∧ θ_run (Cert.MmTnRefIdeal.defs (F := Ideal)) (onTc (τ := Cert.MmTnRefIdeal.τ) (Cert.MmTnRefIdeal.main (F := Ideal))) ⟨m', fun _ => 0, g'⟩ (fun r => ∀ c : Dev Cert.MmTnRefIdeal.nD,
          r.2.mem ((c.tc : Thread Cert.MmTnRefIdeal.nD Cert.MmTnRefIdeal.τ).loc Cert.MmTnRefIdeal.main_v2) = v0 c
          ∧ r.2.mem ((c.tc : Thread Cert.MmTnRefIdeal.nD Cert.MmTnRefIdeal.τ).loc Cert.MmTnRefIdeal.main_arg0) = m' ((c.tc : Thread Cert.MmTnRefIdeal.nD Cert.MmTnRefIdeal.τ).loc Cert.MmTnRefIdeal.main_arg0)
          ∧ r.2.mem ((c.tc : Thread Cert.MmTnRefIdeal.nD Cert.MmTnRefIdeal.τ).loc Cert.MmTnRefIdeal.main_arg1) = m' ((c.tc : Thread Cert.MmTnRefIdeal.nD Cert.MmTnRefIdeal.τ).loc Cert.MmTnRefIdeal.main_arg1))

def preserves_MmAcols_MmAcolsIdeal : Prop :=
  True

def algebraic_MmAcolsIdeal_MmAcolsRefIdeal [hMmAcolsIdeal : Cert.MmAcolsIdeal.Facts] [hMmAcolsRefIdeal : Cert.MmAcolsRefIdeal.Facts] : Prop :=
  ∀ (m : (ℓ : Loc Cert.MmAcolsIdeal.nD Cert.MmAcolsIdeal.τ Cert.MmAcolsIdeal.sig) → Buf (Elt Ideal) ℓ) (g : Dev Cert.MmAcolsIdeal.nD → PrngReg)
    (m' : (ℓ : Loc Cert.MmAcolsRefIdeal.nD Cert.MmAcolsRefIdeal.τ Cert.MmAcolsRefIdeal.sig) → Buf (Elt Ideal) ℓ) (g' : Dev Cert.MmAcolsRefIdeal.nD → PrngReg), Pre_MmAcolsIdeal m →
    (∀ c : Dev Cert.MmAcolsIdeal.nD,
      m' ((c.tc : Thread Cert.MmAcolsRefIdeal.nD Cert.MmAcolsRefIdeal.τ).loc Cert.MmAcolsRefIdeal.main_arg0) = m ((c.tc : Thread Cert.MmAcolsIdeal.nD Cert.MmAcolsIdeal.τ).loc Cert.MmAcolsIdeal.main_arg0)
      ∧ m' ((c.tc : Thread Cert.MmAcolsRefIdeal.nD Cert.MmAcolsRefIdeal.τ).loc Cert.MmAcolsRefIdeal.main_arg1) = m ((c.tc : Thread Cert.MmAcolsIdeal.nD Cert.MmAcolsIdeal.τ).loc Cert.MmAcolsIdeal.main_arg1)
      ∧ m' ((c.tc : Thread Cert.MmAcolsRefIdeal.nD Cert.MmAcolsRefIdeal.τ).loc Cert.MmAcolsRefIdeal.main_arg2) = m ((c.tc : Thread Cert.MmAcolsIdeal.nD Cert.MmAcolsIdeal.τ).loc Cert.MmAcolsIdeal.main_arg2)
      ∧ m' ((c.tc : Thread Cert.MmAcolsRefIdeal.nD Cert.MmAcolsRefIdeal.τ).loc Cert.MmAcolsRefIdeal.main_arg3) = m ((c.tc : Thread Cert.MmAcolsIdeal.nD Cert.MmAcolsIdeal.τ).loc Cert.MmAcolsIdeal.main_arg3)) →
    ∃ (v0 : (c : Dev Cert.MmAcolsIdeal.nD) → Buf (Elt Ideal) ((c.tc : Thread Cert.MmAcolsIdeal.nD Cert.MmAcolsIdeal.τ).loc Cert.MmAcolsIdeal.main_v6)),
      θ_run (Cert.MmAcolsIdeal.defs (F := Ideal)) (onTc (τ := Cert.MmAcolsIdeal.τ) (Cert.MmAcolsIdeal.main (F := Ideal))) ⟨m, fun _ => 0, g⟩ (fun r => ∀ c : Dev Cert.MmAcolsIdeal.nD,
          r.2.mem ((c.tc : Thread Cert.MmAcolsIdeal.nD Cert.MmAcolsIdeal.τ).loc Cert.MmAcolsIdeal.main_v6) = v0 c
          ∧ r.2.mem ((c.tc : Thread Cert.MmAcolsIdeal.nD Cert.MmAcolsIdeal.τ).loc Cert.MmAcolsIdeal.main_arg0) = m ((c.tc : Thread Cert.MmAcolsIdeal.nD Cert.MmAcolsIdeal.τ).loc Cert.MmAcolsIdeal.main_arg0)
          ∧ r.2.mem ((c.tc : Thread Cert.MmAcolsIdeal.nD Cert.MmAcolsIdeal.τ).loc Cert.MmAcolsIdeal.main_arg1) = m ((c.tc : Thread Cert.MmAcolsIdeal.nD Cert.MmAcolsIdeal.τ).loc Cert.MmAcolsIdeal.main_arg1)
          ∧ r.2.mem ((c.tc : Thread Cert.MmAcolsIdeal.nD Cert.MmAcolsIdeal.τ).loc Cert.MmAcolsIdeal.main_arg2) = m ((c.tc : Thread Cert.MmAcolsIdeal.nD Cert.MmAcolsIdeal.τ).loc Cert.MmAcolsIdeal.main_arg2)
          ∧ r.2.mem ((c.tc : Thread Cert.MmAcolsIdeal.nD Cert.MmAcolsIdeal.τ).loc Cert.MmAcolsIdeal.main_arg3) = m ((c.tc : Thread Cert.MmAcolsIdeal.nD Cert.MmAcolsIdeal.τ).loc Cert.MmAcolsIdeal.main_arg3))
      ∧ θ_run (Cert.MmAcolsRefIdeal.defs (F := Ideal)) (onTc (τ := Cert.MmAcolsRefIdeal.τ) (Cert.MmAcolsRefIdeal.main (F := Ideal))) ⟨m', fun _ => 0, g'⟩ (fun r => ∀ c : Dev Cert.MmAcolsRefIdeal.nD,
          r.2.mem ((c.tc : Thread Cert.MmAcolsRefIdeal.nD Cert.MmAcolsRefIdeal.τ).loc Cert.MmAcolsRefIdeal.main_v10) = v0 c
          ∧ r.2.mem ((c.tc : Thread Cert.MmAcolsRefIdeal.nD Cert.MmAcolsRefIdeal.τ).loc Cert.MmAcolsRefIdeal.main_arg0) = m' ((c.tc : Thread Cert.MmAcolsRefIdeal.nD Cert.MmAcolsRefIdeal.τ).loc Cert.MmAcolsRefIdeal.main_arg0)
          ∧ r.2.mem ((c.tc : Thread Cert.MmAcolsRefIdeal.nD Cert.MmAcolsRefIdeal.τ).loc Cert.MmAcolsRefIdeal.main_arg1) = m' ((c.tc : Thread Cert.MmAcolsRefIdeal.nD Cert.MmAcolsRefIdeal.τ).loc Cert.MmAcolsRefIdeal.main_arg1)
          ∧ r.2.mem ((c.tc : Thread Cert.MmAcolsRefIdeal.nD Cert.MmAcolsRefIdeal.τ).loc Cert.MmAcolsRefIdeal.main_arg2) = m' ((c.tc : Thread Cert.MmAcolsRefIdeal.nD Cert.MmAcolsRefIdeal.τ).loc Cert.MmAcolsRefIdeal.main_arg2)
          ∧ r.2.mem ((c.tc : Thread Cert.MmAcolsRefIdeal.nD Cert.MmAcolsRefIdeal.τ).loc Cert.MmAcolsRefIdeal.main_arg3) = m' ((c.tc : Thread Cert.MmAcolsRefIdeal.nD Cert.MmAcolsRefIdeal.τ).loc Cert.MmAcolsRefIdeal.main_arg3))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)
      ∧ m' ((c.tc : Thread Cert.AdamRefIdeal.nD Cert.AdamRefIdeal.τ).loc Cert.AdamRefIdeal.main_arg4) = m ((c.tc : Thread Cert.AdamIdeal.nD Cert.AdamIdeal.τ).loc Cert.AdamIdeal.main_arg4)
      ∧ m' ((c.tc : Thread Cert.AdamRefIdeal.nD Cert.AdamRefIdeal.τ).loc Cert.AdamRefIdeal.main_arg5) = m ((c.tc : Thread Cert.AdamIdeal.nD Cert.AdamIdeal.τ).loc Cert.AdamIdeal.main_arg5)
      ∧ m' ((c.tc : Thread Cert.AdamRefIdeal.nD Cert.AdamRefIdeal.τ).loc Cert.AdamRefIdeal.main_arg6) = m ((c.tc : Thread Cert.AdamIdeal.nD Cert.AdamIdeal.τ).loc Cert.AdamIdeal.main_arg6)
      ∧ m' ((c.tc : Thread Cert.AdamRefIdeal.nD Cert.AdamRefIdeal.τ).loc Cert.AdamRefIdeal.main_arg7) = m ((c.tc : Thread Cert.AdamIdeal.nD Cert.AdamIdeal.τ).loc Cert.AdamIdeal.main_arg7)
      ∧ m' ((c.tc : Thread Cert.AdamRefIdeal.nD Cert.AdamRefIdeal.τ).loc Cert.AdamRefIdeal.main_arg8) = m ((c.tc : Thread Cert.AdamIdeal.nD Cert.AdamIdeal.τ).loc Cert.AdamIdeal.main_arg8)
      ∧ m' ((c.tc : Thread Cert.AdamRefIdeal.nD Cert.AdamRefIdeal.τ).loc Cert.AdamRefIdeal.main_arg9) = m ((c.tc : Thread Cert.AdamIdeal.nD Cert.AdamIdeal.τ).loc Cert.AdamIdeal.main_arg9)
      ∧ m' ((c.tc : Thread Cert.AdamRefIdeal.nD Cert.AdamRefIdeal.τ).loc Cert.AdamRefIdeal.main_arg10) = m ((c.tc : Thread Cert.AdamIdeal.nD Cert.AdamIdeal.τ).loc Cert.AdamIdeal.main_arg10)
      ∧ m' ((c.tc : Thread Cert.AdamRefIdeal.nD Cert.AdamRefIdeal.τ).loc Cert.AdamRefIdeal.main_arg11) = m ((c.tc : Thread Cert.AdamIdeal.nD Cert.AdamIdeal.τ).loc Cert.AdamIdeal.main_arg11)
      ∧ m' ((c.tc : Thread Cert.AdamRefIdeal.nD Cert.AdamRefIdeal.τ).loc Cert.AdamRefIdeal.main_arg12) = m ((c.tc : Thread Cert.AdamIdeal.nD Cert.AdamIdeal.τ).loc Cert.AdamIdeal.main_arg12)
      ∧ m' ((c.tc : Thread Cert.AdamRefIdeal.nD Cert.AdamRefIdeal.τ).loc Cert.AdamRefIdeal.main_arg13) = m ((c.tc : Thread Cert.AdamIdeal.nD Cert.AdamIdeal.τ).loc Cert.AdamIdeal.main_arg13)
      ∧ m' ((c.tc : Thread Cert.AdamRefIdeal.nD Cert.AdamRefIdeal.τ).loc Cert.AdamRefIdeal.main_arg14) = m ((c.tc : Thread Cert.AdamIdeal.nD Cert.AdamIdeal.τ).loc Cert.AdamIdeal.main_arg14)
      ∧ m' ((c.tc : Thread Cert.AdamRefIdeal.nD Cert.AdamRefIdeal.τ).loc Cert.AdamRefIdeal.main_arg15) = m ((c.tc : Thread Cert.AdamIdeal.nD Cert.AdamIdeal.τ).loc Cert.AdamIdeal.main_arg15)
      ∧ m' ((c.tc : Thread Cert.AdamRefIdeal.nD Cert.AdamRefIdeal.τ).loc Cert.AdamRefIdeal.main_arg16) = m ((c.tc : Thread Cert.AdamIdeal.nD Cert.AdamIdeal.τ).loc Cert.AdamIdeal.main_arg16)
      ∧ m' ((c.tc : Thread Cert.AdamRefIdeal.nD Cert.AdamRefIdeal.τ).loc Cert.AdamRefIdeal.main_arg17) = m ((c.tc : Thread Cert.AdamIdeal.nD Cert.AdamIdeal.τ).loc Cert.AdamIdeal.main_arg17)
      ∧ m' ((c.tc : Thread Cert.AdamRefIdeal.nD Cert.AdamRefIdeal.τ).loc Cert.AdamRefIdeal.main_arg18) = m ((c.tc : Thread Cert.AdamIdeal.nD Cert.AdamIdeal.τ).loc Cert.AdamIdeal.main_arg18)
      ∧ m' ((c.tc : Thread Cert.AdamRefIdeal.nD Cert.AdamRefIdeal.τ).loc Cert.AdamRefIdeal.main_arg19) = m ((c.tc : Thread Cert.AdamIdeal.nD Cert.AdamIdeal.τ).loc Cert.AdamIdeal.main_arg19)
      ∧ m' ((c.tc : Thread Cert.AdamRefIdeal.nD Cert.AdamRefIdeal.τ).loc Cert.AdamRefIdeal.main_arg20) = m ((c.tc : Thread Cert.AdamIdeal.nD Cert.AdamIdeal.τ).loc Cert.AdamIdeal.main_arg20)
      ∧ m' ((c.tc : Thread Cert.AdamRefIdeal.nD Cert.AdamRefIdeal.τ).loc Cert.AdamRefIdeal.main_arg21) = m ((c.tc : Thread Cert.AdamIdeal.nD Cert.AdamIdeal.τ).loc Cert.AdamIdeal.main_arg21)
      ∧ m' ((c.tc : Thread Cert.AdamRefIdeal.nD Cert.AdamRefIdeal.τ).loc Cert.AdamRefIdeal.main_arg22) = m ((c.tc : Thread Cert.AdamIdeal.nD Cert.AdamIdeal.τ).loc Cert.AdamIdeal.main_arg22)
      ∧ m' ((c.tc : Thread Cert.AdamRefIdeal.nD Cert.AdamRefIdeal.τ).loc Cert.AdamRefIdeal.main_arg23) = m ((c.tc : Thread Cert.AdamIdeal.nD Cert.AdamIdeal.τ).loc Cert.AdamIdeal.main_arg23)
      ∧ m' ((c.tc : Thread Cert.AdamRefIdeal.nD Cert.AdamRefIdeal.τ).loc Cert.AdamRefIdeal.main_arg24) = m ((c.tc : Thread Cert.AdamIdeal.nD Cert.AdamIdeal.τ).loc Cert.AdamIdeal.main_arg24)
      ∧ m' ((c.tc : Thread Cert.AdamRefIdeal.nD Cert.AdamRefIdeal.τ).loc Cert.AdamRefIdeal.main_arg25) = m ((c.tc : Thread Cert.AdamIdeal.nD Cert.AdamIdeal.τ).loc Cert.AdamIdeal.main_arg25)
      ∧ m' ((c.tc : Thread Cert.AdamRefIdeal.nD Cert.AdamRefIdeal.τ).loc Cert.AdamRefIdeal.main_arg26) = m ((c.tc : Thread Cert.AdamIdeal.nD Cert.AdamIdeal.τ).loc Cert.AdamIdeal.main_arg26)
      ∧ m' ((c.tc : Thread Cert.AdamRefIdeal.nD Cert.AdamRefIdeal.τ).loc Cert.AdamRefIdeal.main_arg27) = m ((c.tc : Thread Cert.AdamIdeal.nD Cert.AdamIdeal.τ).loc Cert.AdamIdeal.main_arg27)) →
    ∃ (v0 : (c : Dev Cert.AdamIdeal.nD) → Buf (Elt Ideal) ((c.tc : Thread Cert.AdamIdeal.nD Cert.AdamIdeal.τ).loc Cert.AdamIdeal.main_v39)) (v1 : (c : Dev Cert.AdamIdeal.nD) → Buf (Elt Ideal) ((c.tc : Thread Cert.AdamIdeal.nD Cert.AdamIdeal.τ).loc Cert.AdamIdeal.main_v41)) (v2 : (c : Dev Cert.AdamIdeal.nD) → Buf (Elt Ideal) ((c.tc : Thread Cert.AdamIdeal.nD Cert.AdamIdeal.τ).loc Cert.AdamIdeal.main_v43)) (v3 : (c : Dev Cert.AdamIdeal.nD) → Buf (Elt Ideal) ((c.tc : Thread Cert.AdamIdeal.nD Cert.AdamIdeal.τ).loc Cert.AdamIdeal.main_v45)) (v4 : (c : Dev Cert.AdamIdeal.nD) → Buf (Elt Ideal) ((c.tc : Thread Cert.AdamIdeal.nD Cert.AdamIdeal.τ).loc Cert.AdamIdeal.main_v47)) (v5 : (c : Dev Cert.AdamIdeal.nD) → Buf (Elt Ideal) ((c.tc : Thread Cert.AdamIdeal.nD Cert.AdamIdeal.τ).loc Cert.AdamIdeal.main_v49)) (v6 : (c : Dev Cert.AdamIdeal.nD) → Buf (Elt Ideal) ((c.tc : Thread Cert.AdamIdeal.nD Cert.AdamIdeal.τ).loc Cert.AdamIdeal.main_v50)) (v7 : (c : Dev Cert.AdamIdeal.nD) → Buf (Elt Ideal) ((c.tc : Thread Cert.AdamIdeal.nD Cert.AdamIdeal.τ).loc Cert.AdamIdeal.main_v53)) (v8 : (c : Dev Cert.AdamIdeal.nD) → Buf (Elt Ideal) ((c.tc : Thread Cert.AdamIdeal.nD Cert.AdamIdeal.τ).loc Cert.AdamIdeal.main_v55)) (v9 : (c : Dev Cert.AdamIdeal.nD) → Buf (Elt Ideal) ((c.tc : Thread Cert.AdamIdeal.nD Cert.AdamIdeal.τ).loc Cert.AdamIdeal.main_v57)) (v10 : (c : Dev Cert.AdamIdeal.nD) → Buf (Elt Ideal) ((c.tc : Thread Cert.AdamIdeal.nD Cert.AdamIdeal.τ).loc Cert.AdamIdeal.main_v59)) (v11 : (c : Dev Cert.AdamIdeal.nD) → Buf (Elt Ideal) ((c.tc : Thread Cert.AdamIdeal.nD Cert.AdamIdeal.τ).loc Cert.AdamIdeal.main_v61)) (v12 : (c : Dev Cert.AdamIdeal.nD) → Buf (Elt Ideal) ((c.tc : Thread Cert.AdamIdeal.nD Cert.AdamIdeal.τ).loc Cert.AdamIdeal.main_v63)) (v13 : (c : Dev Cert.AdamIdeal.nD) → Buf (Elt Ideal) ((c.tc : Thread Cert.AdamIdeal.nD Cert.AdamIdeal.τ).loc Cert.AdamIdeal.main_v64)) (v14 : (c : Dev Cert.AdamIdeal.nD) → Buf (Elt Ideal) ((c.tc : Thread Cert.AdamIdeal.nD Cert.AdamIdeal.τ).loc Cert.AdamIdeal.main_v67)) (v15 : (c : Dev Cert.AdamIdeal.nD) → Buf (Elt Ideal) ((c.tc : Thread Cert.AdamIdeal.nD Cert.AdamIdeal.τ).loc Cert.AdamIdeal.main_v69)) (v16 : (c : Dev Cert.AdamIdeal.nD) → Buf (Elt Ideal) ((c.tc : Thread Cert.AdamIdeal.nD Cert.AdamIdeal.τ).loc Cert.AdamIdeal.main_v71)) (v17 : (c : Dev Cert.AdamIdeal.nD) → Buf (Elt Ideal) ((c.tc : Thread Cert.AdamIdeal.nD Cert.AdamIdeal.τ).loc Cert.AdamIdeal.main_v73)) (v18 : (c : Dev Cert.AdamIdeal.nD) → Buf (Elt Ideal) ((c.tc : Thread Cert.AdamIdeal.nD Cert.AdamIdeal.τ).loc Cert.AdamIdeal.main_v75)) (v19 : (c : Dev Cert.AdamIdeal.nD) → Buf (Elt Ideal) ((c.tc : Thread Cert.AdamIdeal.nD Cert.AdamIdeal.τ).loc Cert.AdamIdeal.main_v77)) (v20 : (c : Dev Cert.AdamIdeal.nD) → Buf (Elt Ideal) ((c.tc : Thread Cert.AdamIdeal.nD Cert.AdamIdeal.τ).loc Cert.AdamIdeal.main_v78)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v39) = v0 c
          ∧ r.2.mem ((c.tc : Thread Cert.AdamIdeal.nD Cert.AdamIdeal.τ).loc Cert.AdamIdeal.main_v41) = v1 c
          ∧ r.2.mem ((c.tc : Thread Cert.AdamIdeal.nD Cert.AdamIdeal.τ).loc Cert.AdamIdeal.main_v43) = v2 c
          ∧ r.2.mem ((c.tc : Thread Cert.AdamIdeal.nD Cert.AdamIdeal.τ).loc Cert.AdamIdeal.main_v45) = v3 c
          ∧ r.2.mem ((c.tc : Thread Cert.AdamIdeal.nD Cert.AdamIdeal.τ).loc Cert.AdamIdeal.main_v47) = v4 c
          ∧ r.2.mem ((c.tc : Thread Cert.AdamIdeal.nD Cert.AdamIdeal.τ).loc Cert.AdamIdeal.main_v49) = v5 c
          ∧ r.2.mem ((c.tc : Thread Cert.AdamIdeal.nD Cert.AdamIdeal.τ).loc Cert.AdamIdeal.main_v50) = v6 c
          ∧ r.2.mem ((c.tc : Thread Cert.AdamIdeal.nD Cert.AdamIdeal.τ).loc Cert.AdamIdeal.main_v53) = v7 c
          ∧ r.2.mem ((c.tc : Thread Cert.AdamIdeal.nD Cert.AdamIdeal.τ).loc Cert.AdamIdeal.main_v55) = v8 c
          ∧ r.2.mem ((c.tc : Thread Cert.AdamIdeal.nD Cert.AdamIdeal.τ).loc Cert.AdamIdeal.main_v57) = v9 c
          ∧ r.2.mem ((c.tc : Thread Cert.AdamIdeal.nD Cert.AdamIdeal.τ).loc Cert.AdamIdeal.main_v59) = v10 c
          ∧ r.2.mem ((c.tc : Thread Cert.AdamIdeal.nD Cert.AdamIdeal.τ).loc Cert.AdamIdeal.main_v61) = v11 c
          ∧ r.2.mem ((c.tc : Thread Cert.AdamIdeal.nD Cert.AdamIdeal.τ).loc Cert.AdamIdeal.main_v63) = v12 c
          ∧ r.2.mem ((c.tc : Thread Cert.AdamIdeal.nD Cert.AdamIdeal.τ).loc Cert.AdamIdeal.main_v64) = v13 c
          ∧ r.2.mem ((c.tc : Thread Cert.AdamIdeal.nD Cert.AdamIdeal.τ).loc Cert.AdamIdeal.main_v67) = v14 c
          ∧ r.2.mem ((c.tc : Thread Cert.AdamIdeal.nD Cert.AdamIdeal.τ).loc Cert.AdamIdeal.main_v69) = v15 c
          ∧ r.2.mem ((c.tc : Thread Cert.AdamIdeal.nD Cert.AdamIdeal.τ).loc Cert.AdamIdeal.main_v71) = v16 c
          ∧ r.2.mem ((c.tc : Thread Cert.AdamIdeal.nD Cert.AdamIdeal.τ).loc Cert.AdamIdeal.main_v73) = v17 c
          ∧ r.2.mem ((c.tc : Thread Cert.AdamIdeal.nD Cert.AdamIdeal.τ).loc Cert.AdamIdeal.main_v75) = v18 c
          ∧ r.2.mem ((c.tc : Thread Cert.AdamIdeal.nD Cert.AdamIdeal.τ).loc Cert.AdamIdeal.main_v77) = v19 c
          ∧ r.2.mem ((c.tc : Thread Cert.AdamIdeal.nD Cert.AdamIdeal.τ).loc Cert.AdamIdeal.main_v78) = v20 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
          ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
          ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5)
          ∧ r.2.mem ((c.tc : Thread Cert.AdamIdeal.nD Cert.AdamIdeal.τ).loc Cert.AdamIdeal.main_arg6) = m ((c.tc : Thread Cert.AdamIdeal.nD Cert.AdamIdeal.τ).loc Cert.AdamIdeal.main_arg6)
          ∧ r.2.mem ((c.tc : Thread Cert.AdamIdeal.nD Cert.AdamIdeal.τ).loc Cert.AdamIdeal.main_arg7) = m ((c.tc : Thread Cert.AdamIdeal.nD Cert.AdamIdeal.τ).loc Cert.AdamIdeal.main_arg7)
          ∧ r.2.mem ((c.tc : Thread Cert.AdamIdeal.nD Cert.AdamIdeal.τ).loc Cert.AdamIdeal.main_arg8) = m ((c.tc : Thread Cert.AdamIdeal.nD Cert.AdamIdeal.τ).loc Cert.AdamIdeal.main_arg8)
          ∧ r.2.mem ((c.tc : Thread Cert.AdamIdeal.nD Cert.AdamIdeal.τ).loc Cert.AdamIdeal.main_arg9) = m ((c.tc : Thread Cert.AdamIdeal.nD Cert.AdamIdeal.τ).loc Cert.AdamIdeal.main_arg9)
          ∧ r.2.mem ((c.tc : Thread Cert.AdamIdeal.nD Cert.AdamIdeal.τ).loc Cert.AdamIdeal.main_arg10) = m ((c.tc : Thread Cert.AdamIdeal.nD Cert.AdamIdeal.τ).loc Cert.AdamIdeal.main_arg10)
          ∧ r.2.mem ((c.tc : Thread Cert.AdamIdeal.nD Cert.AdamIdeal.τ).loc Cert.AdamIdeal.main_arg11) = m ((c.tc : Thread Cert.AdamIdeal.nD Cert.AdamIdeal.τ).loc Cert.AdamIdeal.main_arg11)
          ∧ r.2.mem ((c.tc : Thread Cert.AdamIdeal.nD Cert.AdamIdeal.τ).loc Cert.AdamIdeal.main_arg12) = m ((c.tc : Thread Cert.AdamIdeal.nD Cert.AdamIdeal.τ).loc Cert.AdamIdeal.main_arg12)
          ∧ r.2.mem ((c.tc : Thread Cert.AdamIdeal.nD Cert.AdamIdeal.τ).loc Cert.AdamIdeal.main_arg13) = m ((c.tc : Thread Cert.AdamIdeal.nD Cert.AdamIdeal.τ).loc Cert.AdamIdeal.main_arg13)
          ∧ r.2.mem ((c.tc : Thread Cert.AdamIdeal.nD Cert.AdamIdeal.τ).loc Cert.AdamIdeal.main_arg14) = m ((c.tc : Thread Cert.AdamIdeal.nD Cert.AdamIdeal.τ).loc Cert.AdamIdeal.main_arg14)
          ∧ r.2.mem ((c.tc : Thread Cert.AdamIdeal.nD Cert.AdamIdeal.τ).loc Cert.AdamIdeal.main_arg15) = m ((c.tc : Thread Cert.AdamIdeal.nD Cert.AdamIdeal.τ).loc Cert.AdamIdeal.main_arg15)
          ∧ r.2.mem ((c.tc : Thread Cert.AdamIdeal.nD Cert.AdamIdeal.τ).loc Cert.AdamIdeal.main_arg16) = m ((c.tc : Thread Cert.AdamIdeal.nD Cert.AdamIdeal.τ).loc Cert.AdamIdeal.main_arg16)
          ∧ r.2.mem ((c.tc : Thread Cert.AdamIdeal.nD Cert.AdamIdeal.τ).loc Cert.AdamIdeal.main_arg17) = m ((c.tc : Thread Cert.AdamIdeal.nD Cert.AdamIdeal.τ).loc Cert.AdamIdeal.main_arg17)
          ∧ r.2.mem ((c.tc : Thread Cert.AdamIdeal.nD Cert.AdamIdeal.τ).loc Cert.AdamIdeal.main_arg18) = m ((c.tc : Thread Cert.AdamIdeal.nD Cert.AdamIdeal.τ).loc Cert.AdamIdeal.main_arg18)
          ∧ r.2.mem ((c.tc : Thread Cert.AdamIdeal.nD Cert.AdamIdeal.τ).loc Cert.AdamIdeal.main_arg19) = m ((c.tc : Thread Cert.AdamIdeal.nD Cert.AdamIdeal.τ).loc Cert.AdamIdeal.main_arg19)
          ∧ r.2.mem ((c.tc : Thread Cert.AdamIdeal.nD Cert.AdamIdeal.τ).loc Cert.AdamIdeal.main_arg20) = m ((c.tc : Thread Cert.AdamIdeal.nD Cert.AdamIdeal.τ).loc Cert.AdamIdeal.main_arg20)
          ∧ r.2.mem ((c.tc : Thread Cert.AdamIdeal.nD Cert.AdamIdeal.τ).loc Cert.AdamIdeal.main_arg21) = m ((c.tc : Thread Cert.AdamIdeal.nD Cert.AdamIdeal.τ).loc Cert.AdamIdeal.main_arg21)
          ∧ r.2.mem ((c.tc : Thread Cert.AdamIdeal.nD Cert.AdamIdeal.τ).loc Cert.AdamIdeal.main_arg22) = m ((c.tc : Thread Cert.AdamIdeal.nD Cert.AdamIdeal.τ).loc Cert.AdamIdeal.main_arg22)
          ∧ r.2.mem ((c.tc : Thread Cert.AdamIdeal.nD Cert.AdamIdeal.τ).loc Cert.AdamIdeal.main_arg23) = m ((c.tc : Thread Cert.AdamIdeal.nD Cert.AdamIdeal.τ).loc Cert.AdamIdeal.main_arg23)
          ∧ r.2.mem ((c.tc : Thread Cert.AdamIdeal.nD Cert.AdamIdeal.τ).loc Cert.AdamIdeal.main_arg24) = m ((c.tc : Thread Cert.AdamIdeal.nD Cert.AdamIdeal.τ).loc Cert.AdamIdeal.main_arg24)
          ∧ r.2.mem ((c.tc : Thread Cert.AdamIdeal.nD Cert.AdamIdeal.τ).loc Cert.AdamIdeal.main_arg25) = m ((c.tc : Thread Cert.AdamIdeal.nD Cert.AdamIdeal.τ).loc Cert.AdamIdeal.main_arg25)
          ∧ r.2.mem ((c.tc : Thread Cert.AdamIdeal.nD Cert.AdamIdeal.τ).loc Cert.AdamIdeal.main_arg26) = m ((c.tc : Thread Cert.AdamIdeal.nD Cert.AdamIdeal.τ).loc Cert.AdamIdeal.main_arg26)
          ∧ r.2.mem ((c.tc : Thread Cert.AdamIdeal.nD Cert.AdamIdeal.τ).loc Cert.AdamIdeal.main_arg27) = m ((c.tc : Thread Cert.AdamIdeal.nD Cert.AdamIdeal.τ).loc Cert.AdamIdeal.main_arg27))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v23) = v0 c
          ∧ r.2.mem ((c.tc : Thread Cert.AdamRefIdeal.nD Cert.AdamRefIdeal.τ).loc Cert.AdamRefIdeal.main_v47) = v1 c
          ∧ r.2.mem ((c.tc : Thread Cert.AdamRefIdeal.nD Cert.AdamRefIdeal.τ).loc Cert.AdamRefIdeal.main_v71) = v2 c
          ∧ r.2.mem ((c.tc : Thread Cert.AdamRefIdeal.nD Cert.AdamRefIdeal.τ).loc Cert.AdamRefIdeal.main_v95) = v3 c
          ∧ r.2.mem ((c.tc : Thread Cert.AdamRefIdeal.nD Cert.AdamRefIdeal.τ).loc Cert.AdamRefIdeal.main_v119) = v4 c
          ∧ r.2.mem ((c.tc : Thread Cert.AdamRefIdeal.nD Cert.AdamRefIdeal.τ).loc Cert.AdamRefIdeal.main_v143) = v5 c
          ∧ r.2.mem ((c.tc : Thread Cert.AdamRefIdeal.nD Cert.AdamRefIdeal.τ).loc Cert.AdamRefIdeal.main_v167) = v6 c
          ∧ r.2.mem ((c.tc : Thread Cert.AdamRefIdeal.nD Cert.AdamRefIdeal.τ).loc Cert.AdamRefIdeal.main_v4) = v7 c
          ∧ r.2.mem ((c.tc : Thread Cert.AdamRefIdeal.nD Cert.AdamRefIdeal.τ).loc Cert.AdamRefIdeal.main_v28) = v8 c
          ∧ r.2.mem ((c.tc : Thread Cert.AdamRefIdeal.nD Cert.AdamRefIdeal.τ).loc Cert.AdamRefIdeal.main_v52) = v9 c
          ∧ r.2.mem ((c.tc : Thread Cert.AdamRefIdeal.nD Cert.AdamRefIdeal.τ).loc Cert.AdamRefIdeal.main_v76) = v10 c
          ∧ r.2.mem ((c.tc : Thread Cert.AdamRefIdeal.nD Cert.AdamRefIdeal.τ).loc Cert.AdamRefIdeal.main_v100) = v11 c
          ∧ r.2.mem ((c.tc : Thread Cert.AdamRefIdeal.nD Cert.AdamRefIdeal.τ).loc Cert.AdamRefIdeal.main_v124) = v12 c
          ∧ r.2.mem ((c.tc : Thread Cert.AdamRefIdeal.nD Cert.AdamRefIdeal.τ).loc Cert.AdamRefIdeal.main_v148) = v13 c
          ∧ r.2.mem ((c.tc : Thread Cert.AdamRefIdeal.nD Cert.AdamRefIdeal.τ).loc Cert.AdamRefIdeal.main_v10) = v14 c
          ∧ r.2.mem ((c.tc : Thread Cert.AdamRefIdeal.nD Cert.AdamRefIdeal.τ).loc Cert.AdamRefIdeal.main_v34) = v15 c
          ∧ r.2.mem ((c.tc : Thread Cert.AdamRefIdeal.nD Cert.AdamRefIdeal.τ).loc Cert.AdamRefIdeal.main_v58) = v16 c
          ∧ r.2.mem ((c.tc : Thread Cert.AdamRefIdeal.nD Cert.AdamRefIdeal.τ).loc Cert.AdamRefIdeal.main_v82) = v17 c
          ∧ r.2.mem ((c.tc : Thread Cert.AdamRefIdeal.nD Cert.AdamRefIdeal.τ).loc Cert.AdamRefIdeal.main_v106) = v18 c
          ∧ r.2.mem ((c.tc : Thread Cert.AdamRefIdeal.nD Cert.AdamRefIdeal.τ).loc Cert.AdamRefIdeal.main_v130) = v19 c
          ∧ r.2.mem ((c.tc : Thread Cert.AdamRefIdeal.nD Cert.AdamRefIdeal.τ).loc Cert.AdamRefIdeal.main_v154) = v20 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3)
          ∧ r.2.mem ((c.tc : Thread Cert.AdamRefIdeal.nD Cert.AdamRefIdeal.τ).loc Cert.AdamRefIdeal.main_arg4) = m' ((c.tc : Thread Cert.AdamRefIdeal.nD Cert.AdamRefIdeal.τ).loc Cert.AdamRefIdeal.main_arg4)
          ∧ r.2.mem ((c.tc : Thread Cert.AdamRefIdeal.nD Cert.AdamRefIdeal.τ).loc Cert.AdamRefIdeal.main_arg5) = m' ((c.tc : Thread Cert.AdamRefIdeal.nD Cert.AdamRefIdeal.τ).loc Cert.AdamRefIdeal.main_arg5)
          ∧ r.2.mem ((c.tc : Thread Cert.AdamRefIdeal.nD Cert.AdamRefIdeal.τ).loc Cert.AdamRefIdeal.main_arg6) = m' ((c.tc : Thread Cert.AdamRefIdeal.nD Cert.AdamRefIdeal.τ).loc Cert.AdamRefIdeal.main_arg6)
          ∧ r.2.mem ((c.tc : Thread Cert.AdamRefIdeal.nD Cert.AdamRefIdeal.τ).loc Cert.AdamRefIdeal.main_arg7) = m' ((c.tc : Thread Cert.AdamRefIdeal.nD Cert.AdamRefIdeal.τ).loc Cert.AdamRefIdeal.main_arg7)
          ∧ r.2.mem ((c.tc : Thread Cert.AdamRefIdeal.nD Cert.AdamRefIdeal.τ).loc Cert.AdamRefIdeal.main_arg8) = m' ((c.tc : Thread Cert.AdamRefIdeal.nD Cert.AdamRefIdeal.τ).loc Cert.AdamRefIdeal.main_arg8)
          ∧ r.2.mem ((c.tc : Thread Cert.AdamRefIdeal.nD Cert.AdamRefIdeal.τ).loc Cert.AdamRefIdeal.main_arg9) = m' ((c.tc : Thread Cert.AdamRefIdeal.nD Cert.AdamRefIdeal.τ).loc Cert.AdamRefIdeal.main_arg9)
          ∧ r.2.mem ((c.tc : Thread Cert.AdamRefIdeal.nD Cert.AdamRefIdeal.τ).loc Cert.AdamRefIdeal.main_arg10) = m' ((c.tc : Thread Cert.AdamRefIdeal.nD Cert.AdamRefIdeal.τ).loc Cert.AdamRefIdeal.main_arg10)
          ∧ r.2.mem ((c.tc : Thread Cert.AdamRefIdeal.nD Cert.AdamRefIdeal.τ).loc Cert.AdamRefIdeal.main_arg11) = m' ((c.tc : Thread Cert.AdamRefIdeal.nD Cert.AdamRefIdeal.τ).loc Cert.AdamRefIdeal.main_arg11)
          ∧ r.2.mem ((c.tc : Thread Cert.AdamRefIdeal.nD Cert.AdamRefIdeal.τ).loc Cert.AdamRefIdeal.main_arg12) = m' ((c.tc : Thread Cert.AdamRefIdeal.nD Cert.AdamRefIdeal.τ).loc Cert.AdamRefIdeal.main_arg12)
          ∧ r.2.mem ((c.tc : Thread Cert.AdamRefIdeal.nD Cert.AdamRefIdeal.τ).loc Cert.AdamRefIdeal.main_arg13) = m' ((c.tc : Thread Cert.AdamRefIdeal.nD Cert.AdamRefIdeal.τ).loc Cert.AdamRefIdeal.main_arg13)
          ∧ r.2.mem ((c.tc : Thread Cert.AdamRefIdeal.nD Cert.AdamRefIdeal.τ).loc Cert.AdamRefIdeal.main_arg14) = m' ((c.tc : Thread Cert.AdamRefIdeal.nD Cert.AdamRefIdeal.τ).loc Cert.AdamRefIdeal.main_arg14)
          ∧ r.2.mem ((c.tc : Thread Cert.AdamRefIdeal.nD Cert.AdamRefIdeal.τ).loc Cert.AdamRefIdeal.main_arg15) = m' ((c.tc : Thread Cert.AdamRefIdeal.nD Cert.AdamRefIdeal.τ).loc Cert.AdamRefIdeal.main_arg15)
          ∧ r.2.mem ((c.tc : Thread Cert.AdamRefIdeal.nD Cert.AdamRefIdeal.τ).loc Cert.AdamRefIdeal.main_arg16) = m' ((c.tc : Thread Cert.AdamRefIdeal.nD Cert.AdamRefIdeal.τ).loc Cert.AdamRefIdeal.main_arg16)
          ∧ r.2.mem ((c.tc : Thread Cert.AdamRefIdeal.nD Cert.AdamRefIdeal.τ).loc Cert.AdamRefIdeal.main_arg17) = m' ((c.tc : Thread Cert.AdamRefIdeal.nD Cert.AdamRefIdeal.τ).loc Cert.AdamRefIdeal.main_arg17)
          ∧ r.2.mem ((c.tc : Thread Cert.AdamRefIdeal.nD Cert.AdamRefIdeal.τ).loc Cert.AdamRefIdeal.main_arg18) = m' ((c.tc : Thread Cert.AdamRefIdeal.nD Cert.AdamRefIdeal.τ).loc Cert.AdamRefIdeal.main_arg18)
          ∧ r.2.mem ((c.tc : Thread Cert.AdamRefIdeal.nD Cert.AdamRefIdeal.τ).loc Cert.AdamRefIdeal.main_arg19) = m' ((c.tc : Thread Cert.AdamRefIdeal.nD Cert.AdamRefIdeal.τ).loc Cert.AdamRefIdeal.main_arg19)
          ∧ r.2.mem ((c.tc : Thread Cert.AdamRefIdeal.nD Cert.AdamRefIdeal.τ).loc Cert.AdamRefIdeal.main_arg20) = m' ((c.tc : Thread Cert.AdamRefIdeal.nD Cert.AdamRefIdeal.τ).loc Cert.AdamRefIdeal.main_arg20)
          ∧ r.2.mem ((c.tc : Thread Cert.AdamRefIdeal.nD Cert.AdamRefIdeal.τ).loc Cert.AdamRefIdeal.main_arg21) = m' ((c.tc : Thread Cert.AdamRefIdeal.nD Cert.AdamRefIdeal.τ).loc Cert.AdamRefIdeal.main_arg21)
          ∧ r.2.mem ((c.tc : Thread Cert.AdamRefIdeal.nD Cert.AdamRefIdeal.τ).loc Cert.AdamRefIdeal.main_arg22) = m' ((c.tc : Thread Cert.AdamRefIdeal.nD Cert.AdamRefIdeal.τ).loc Cert.AdamRefIdeal.main_arg22)
          ∧ r.2.mem ((c.tc : Thread Cert.AdamRefIdeal.nD Cert.AdamRefIdeal.τ).loc Cert.AdamRefIdeal.main_arg23) = m' ((c.tc : Thread Cert.AdamRefIdeal.nD Cert.AdamRefIdeal.τ).loc Cert.AdamRefIdeal.main_arg23)
          ∧ r.2.mem ((c.tc : Thread Cert.AdamRefIdeal.nD Cert.AdamRefIdeal.τ).loc Cert.AdamRefIdeal.main_arg24) = m' ((c.tc : Thread Cert.AdamRefIdeal.nD Cert.AdamRefIdeal.τ).loc Cert.AdamRefIdeal.main_arg24)
          ∧ r.2.mem ((c.tc : Thread Cert.AdamRefIdeal.nD Cert.AdamRefIdeal.τ).loc Cert.AdamRefIdeal.main_arg25) = m' ((c.tc : Thread Cert.AdamRefIdeal.nD Cert.AdamRefIdeal.τ).loc Cert.AdamRefIdeal.main_arg25)
          ∧ r.2.mem ((c.tc : Thread Cert.AdamRefIdeal.nD Cert.AdamRefIdeal.τ).loc Cert.AdamRefIdeal.main_arg26) = m' ((c.tc : Thread Cert.AdamRefIdeal.nD Cert.AdamRefIdeal.τ).loc Cert.AdamRefIdeal.main_arg26)
          ∧ r.2.mem ((c.tc : Thread Cert.AdamRefIdeal.nD Cert.AdamRefIdeal.τ).loc Cert.AdamRefIdeal.main_arg27) = m' ((c.tc : Thread Cert.AdamRefIdeal.nD Cert.AdamRefIdeal.τ).loc Cert.AdamRefIdeal.main_arg27))

def Claim : Prop :=
  ∃ (hNormBwd : Cert.NormBwd.Facts) (hNormBwdIdeal : Cert.NormBwdIdeal.Facts) (hNormBwdRefIdeal : Cert.NormBwdRefIdeal.Facts) (hLoss : Cert.Loss.Facts) (hLossIdeal : Cert.LossIdeal.Facts) (hLossRefIdeal : Cert.LossRefIdeal.Facts) (hConvBwd : Cert.ConvBwd.Facts) (hConvBwdIdeal : Cert.ConvBwdIdeal.Facts) (hConvBwdRefIdeal : Cert.ConvBwdRefIdeal.Facts) (hGateBwd : Cert.GateBwd.Facts) (hGateBwdIdeal : Cert.GateBwdIdeal.Facts) (hGateBwdRefIdeal : Cert.GateBwdRefIdeal.Facts) (hMlstmFwd : Cert.MlstmFwd.Facts) (hMlstmFwdIdeal : Cert.MlstmFwdIdeal.Facts) (hMlstmFwdRefIdeal : Cert.MlstmFwdRefIdeal.Facts) (hNormProj : Cert.NormProj.Facts) (hNormProjIdeal : Cert.NormProjIdeal.Facts) (hNormProjRefIdeal : Cert.NormProjRefIdeal.Facts) (hOutProj : Cert.OutProj.Facts) (hOutProjIdeal : Cert.OutProjIdeal.Facts) (hOutProjRefIdeal : Cert.OutProjRefIdeal.Facts) (hConvFwd : Cert.ConvFwd.Facts) (hConvFwdIdeal : Cert.ConvFwdIdeal.Facts) (hConvFwdRefIdeal : Cert.ConvFwdRefIdeal.Facts) (hMlstmBwd : Cert.MlstmBwd.Facts) (hMlstmBwdIdeal : Cert.MlstmBwdIdeal.Facts) (hMmNn : Cert.MmNn.Facts) (hMmNnIdeal : Cert.MmNnIdeal.Facts) (hMmNnRefIdeal : Cert.MmNnRefIdeal.Facts) (hMmTwo : Cert.MmTwo.Facts) (hMmTwoIdeal : Cert.MmTwoIdeal.Facts) (hMmTwoRefIdeal : Cert.MmTwoRefIdeal.Facts) (hMmNt : Cert.MmNt.Facts) (hMmNtIdeal : Cert.MmNtIdeal.Facts) (hMmNtRefIdeal : Cert.MmNtRefIdeal.Facts) (hMmBcols : Cert.MmBcols.Facts) (hMmBcolsIdeal : Cert.MmBcolsIdeal.Facts) (hMmBcolsRefIdeal : Cert.MmBcolsRefIdeal.Facts) (hMmTn : Cert.MmTn.Facts) (hMmTnIdeal : Cert.MmTnIdeal.Facts) (hMmTnRefIdeal : Cert.MmTnRefIdeal.Facts) (hMmAcols : Cert.MmAcols.Facts) (hMmAcolsIdeal : Cert.MmAcolsIdeal.Facts) (hMmAcolsRefIdeal : Cert.MmAcolsRefIdeal.Facts) (hAdam : Cert.Adam.Facts) (hAdamIdeal : Cert.AdamIdeal.Facts) (hAdamRefIdeal : Cert.AdamRefIdeal.Facts) (hPre_finite_norm : Cert.Pre_finite_norm.Facts) (hPre_finite_loss : Cert.Pre_finite_loss.Facts) (hPre_finite_gate : Cert.Pre_finite_gate.Facts),
    quiescent_NormBwd (hNormBwd := hNormBwd)
    ∧ quiescent_NormBwdIdeal (hNormBwdIdeal := hNormBwdIdeal)
    ∧ quiescent_NormBwdIdeal_pre_finite_norm (hNormBwdIdeal := hNormBwdIdeal) (hPre_finite_norm := hPre_finite_norm)
    ∧ quiescent_NormBwdRefIdeal (hNormBwdRefIdeal := hNormBwdRefIdeal)
    ∧ quiescent_NormBwdRefIdeal_pre_finite_norm (hNormBwdRefIdeal := hNormBwdRefIdeal) (hPre_finite_norm := hPre_finite_norm)
    ∧ quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ quiescent_ConvBwd (hConvBwd := hConvBwd)
    ∧ quiescent_ConvBwdIdeal (hConvBwdIdeal := hConvBwdIdeal)
    ∧ quiescent_ConvBwdRefIdeal (hConvBwdRefIdeal := hConvBwdRefIdeal)
    ∧ quiescent_GateBwd (hGateBwd := hGateBwd)
    ∧ quiescent_GateBwdIdeal (hGateBwdIdeal := hGateBwdIdeal)
    ∧ quiescent_GateBwdIdeal_pre_finite_gate (hGateBwdIdeal := hGateBwdIdeal) (hPre_finite_gate := hPre_finite_gate)
    ∧ quiescent_GateBwdRefIdeal (hGateBwdRefIdeal := hGateBwdRefIdeal)
    ∧ quiescent_GateBwdRefIdeal_pre_finite_gate (hGateBwdRefIdeal := hGateBwdRefIdeal) (hPre_finite_gate := hPre_finite_gate)
    ∧ quiescent_MlstmFwd (hMlstmFwd := hMlstmFwd)
    ∧ quiescent_MlstmFwdIdeal (hMlstmFwdIdeal := hMlstmFwdIdeal)
    ∧ quiescent_MlstmFwdRefIdeal (hMlstmFwdRefIdeal := hMlstmFwdRefIdeal)
    ∧ quiescent_NormProj (hNormProj := hNormProj)
    ∧ quiescent_NormProjIdeal (hNormProjIdeal := hNormProjIdeal)
    ∧ quiescent_NormProjRefIdeal (hNormProjRefIdeal := hNormProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_MlstmBwd (hMlstmBwd := hMlstmBwd)
    ∧ quiescent_MlstmBwdIdeal (hMlstmBwdIdeal := hMlstmBwdIdeal)
    ∧ quiescent_MmNn (hMmNn := hMmNn)
    ∧ quiescent_MmNnIdeal (hMmNnIdeal := hMmNnIdeal)
    ∧ quiescent_MmNnRefIdeal (hMmNnRefIdeal := hMmNnRefIdeal)
    ∧ quiescent_MmTwo (hMmTwo := hMmTwo)
    ∧ quiescent_MmTwoIdeal (hMmTwoIdeal := hMmTwoIdeal)
    ∧ quiescent_MmTwoRefIdeal (hMmTwoRefIdeal := hMmTwoRefIdeal)
    ∧ quiescent_MmNt (hMmNt := hMmNt)
    ∧ quiescent_MmNtIdeal (hMmNtIdeal := hMmNtIdeal)
    ∧ quiescent_MmNtRefIdeal (hMmNtRefIdeal := hMmNtRefIdeal)
    ∧ quiescent_MmBcols (hMmBcols := hMmBcols)
    ∧ quiescent_MmBcolsIdeal (hMmBcolsIdeal := hMmBcolsIdeal)
    ∧ quiescent_MmBcolsRefIdeal (hMmBcolsRefIdeal := hMmBcolsRefIdeal)
    ∧ quiescent_MmTn (hMmTn := hMmTn)
    ∧ quiescent_MmTnIdeal (hMmTnIdeal := hMmTnIdeal)
    ∧ quiescent_MmTnRefIdeal (hMmTnRefIdeal := hMmTnRefIdeal)
    ∧ quiescent_MmAcols (hMmAcols := hMmAcols)
    ∧ quiescent_MmAcolsIdeal (hMmAcolsIdeal := hMmAcolsIdeal)
    ∧ quiescent_MmAcolsRefIdeal (hMmAcolsRefIdeal := hMmAcolsRefIdeal)
    ∧ quiescent_Adam (hAdam := hAdam)
    ∧ quiescent_AdamIdeal (hAdamIdeal := hAdamIdeal)
    ∧ quiescent_AdamRefIdeal (hAdamRefIdeal := hAdamRefIdeal)
    ∧ preserves_NormBwd_NormBwdIdeal
    ∧ algebraic_NormBwdIdeal_NormBwdRefIdeal_pre_finite_norm (hNormBwdIdeal := hNormBwdIdeal) (hNormBwdRefIdeal := hNormBwdRefIdeal) (hPre_finite_norm := hPre_finite_norm)
    ∧ preserves_Loss_LossIdeal
    ∧ algebraic_LossIdeal_LossRefIdeal_pre_finite_loss (hLossIdeal := hLossIdeal) (hLossRefIdeal := hLossRefIdeal) (hPre_finite_loss := hPre_finite_loss)
    ∧ preserves_ConvBwd_ConvBwdIdeal
    ∧ algebraic_ConvBwdIdeal_ConvBwdRefIdeal (hConvBwdIdeal := hConvBwdIdeal) (hConvBwdRefIdeal := hConvBwdRefIdeal)
    ∧ preserves_GateBwd_GateBwdIdeal
    ∧ algebraic_GateBwdIdeal_GateBwdRefIdeal_pre_finite_gate (hGateBwdIdeal := hGateBwdIdeal) (hGateBwdRefIdeal := hGateBwdRefIdeal) (hPre_finite_gate := hPre_finite_gate)
    ∧ preserves_MlstmFwd_MlstmFwdIdeal
    ∧ algebraic_MlstmFwdIdeal_MlstmFwdRefIdeal (hMlstmFwdIdeal := hMlstmFwdIdeal) (hMlstmFwdRefIdeal := hMlstmFwdRefIdeal)
    ∧ preserves_NormProj_NormProjIdeal
    ∧ algebraic_NormProjIdeal_NormProjRefIdeal (hNormProjIdeal := hNormProjIdeal) (hNormProjRefIdeal := hNormProjRefIdeal)
    ∧ preserves_OutProj_OutProjIdeal
    ∧ algebraic_OutProjIdeal_OutProjRefIdeal (hOutProjIdeal := hOutProjIdeal) (hOutProjRefIdeal := hOutProjRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_MlstmBwd_MlstmBwdIdeal
    ∧ preserves_MmNn_MmNnIdeal
    ∧ algebraic_MmNnIdeal_MmNnRefIdeal (hMmNnIdeal := hMmNnIdeal) (hMmNnRefIdeal := hMmNnRefIdeal)
    ∧ preserves_MmTwo_MmTwoIdeal
    ∧ algebraic_MmTwoIdeal_MmTwoRefIdeal (hMmTwoIdeal := hMmTwoIdeal) (hMmTwoRefIdeal := hMmTwoRefIdeal)
    ∧ preserves_MmNt_MmNtIdeal
    ∧ algebraic_MmNtIdeal_MmNtRefIdeal (hMmNtIdeal := hMmNtIdeal) (hMmNtRefIdeal := hMmNtRefIdeal)
    ∧ preserves_MmBcols_MmBcolsIdeal
    ∧ algebraic_MmBcolsIdeal_MmBcolsRefIdeal (hMmBcolsIdeal := hMmBcolsIdeal) (hMmBcolsRefIdeal := hMmBcolsRefIdeal)
    ∧ preserves_MmTn_MmTnIdeal
    ∧ algebraic_MmTnIdeal_MmTnRefIdeal (hMmTnIdeal := hMmTnIdeal) (hMmTnRefIdeal := hMmTnRefIdeal)
    ∧ preserves_MmAcols_MmAcolsIdeal
    ∧ algebraic_MmAcolsIdeal_MmAcolsRefIdeal (hMmAcolsIdeal := hMmAcolsIdeal) (hMmAcolsRefIdeal := hMmAcolsRefIdeal)
    ∧ preserves_Adam_AdamIdeal
    ∧ algebraic_AdamIdeal_AdamRefIdeal (hAdamIdeal := hAdamIdeal) (hAdamRefIdeal := hAdamRefIdeal)
-- ==== Pre_finite_gate.lean ====
abbrev S2112x2048 : Shape := ⟨2, ![2112, 2048]⟩
abbrev S2048x5632 : Shape := ⟨2, ![2048, 5632]⟩
abbrev S5632x2048 : Shape := ⟨2, ![5632, 2048]⟩
abbrev S_ : Shape := ⟨0, ![]⟩

class Facts : Prop where
  bcast_S_S2112x2048 : S_.BroadcastsInDim S2112x2048 (![] : Fin 0 → Fin S2112x2048.rank)
  bcast_S_S2048x5632 : S_.BroadcastsInDim S2048x5632 (![] : Fin 0 → Fin S2048x5632.rank)
  bcast_S_S5632x2048 : S_.BroadcastsInDim S5632x2048 (![] : Fin 0 → Fin S5632x2048.rank)

variable [Facts]

def fn {F : FTy → Type} [FloatOps F] (main_arg0 : FVec F S2112x2048 .f32) (main_arg1 : FVec F S2048x5632 .f32) (main_arg2 : FVec F S2048x5632 .f32) (main_arg3 : FVec F S5632x2048 .f32) (main_arg4 : FVec F S2112x2048 .f32) : IVec S2112x2048 1 × IVec S2048x5632 1 × IVec S2048x5632 1 × IVec S5632x2048 1 × IVec S2112x2048 1 :=
  let main_v0 : FVec F S2112x2048 .f32 := Host.absf main_arg0
  let main_cst : FVec F S_ .f32 := constant S_ .f32 0x7F800000#32
  let main_v1 : FVec F S2112x2048 .f32 := broadcastInDim S2112x2048 ![] bcast_S_S2112x2048 main_cst
  let main_v2 : IVec S2112x2048 1 := cmpf .olt main_v0 main_v1
  let main_v3 : FVec F S2048x5632 .f32 := Host.absf main_arg1
  let main_cst_0 : FVec F S_ .f32 := constant S_ .f32 0x7F800000#32
  let main_v4 : FVec F S2048x5632 .f32 := broadcastInDim S2048x5632 ![] bcast_S_S2048x5632 main_cst_0
  let main_v5 : IVec S2048x5632 1 := cmpf .olt main_v3 main_v4
  let main_v6 : FVec F S2048x5632 .f32 := Host.absf main_arg2
  let main_cst_1 : FVec F S_ .f32 := constant S_ .f32 0x7F800000#32
  let main_v7 : FVec F S2048x5632 .f32 := broadcastInDim S2048x5632 ![] bcast_S_S2048x5632 main_cst_1
  let main_v8 : IVec S2048x5632 1 := cmpf .olt main_v6 main_v7
  let main_v9 : FVec F S5632x2048 .f32 := Host.absf main_arg3
  let main_cst_2 : FVec F S_ .f32 := constant S_ .f32 0x7F800000#32
  let main_v10 : FVec F S5632x2048 .f32 := broadcastInDim S5632x2048 ![] bcast_S_S5632x2048 main_cst_2
  let main_v11 : IVec S5632x2048 1 := cmpf .olt main_v9 main_v10
  let main_v12 : FVec F S2112x2048 .f32 := Host.absf main_arg4
  let main_cst_3 : FVec F S_ .f32 := constant S_ .f32 0x7F800000#32
  let main_v13 : FVec F S2112x2048 .f32 := broadcastInDim S2112x2048 ![] bcast_S_S2112x2048 main_cst_3
  let main_v14 : IVec S2112x2048 1 := cmpf .olt main_v12 main_v13
  (main_v2, main_v5, main_v8, main_v11, main_v14)
-- ==== Pre_finite_loss.lean ====
abbrev S1x2064x2048 : Shape := ⟨3, ![1, 2064, 2048]⟩
abbrev S2048 : Shape := ⟨1, ![2048]⟩
abbrev S1x2048x2048 : Shape := ⟨3, ![1, 2048, 2048]⟩
abbrev S_ : Shape := ⟨0, ![]⟩

class Facts : Prop where
  bcast_S_S1x2064x2048 : S_.BroadcastsInDim S1x2064x2048 (![] : Fin 0 → Fin S1x2064x2048.rank)
  bcast_S_S2048 : S_.BroadcastsInDim S2048 (![] : Fin 0 → Fin S2048.rank)
  bcast_S_S1x2048x2048 : S_.BroadcastsInDim S1x2048x2048 (![] : Fin 0 → Fin S1x2048x2048.rank)

variable [Facts]

def fn {F : FTy → Type} [FloatOps F] (main_arg0 : FVec F S1x2064x2048 .f32) (main_arg1 : FVec F S2048 .f32) (main_arg2 : FVec F S1x2048x2048 .f32) : IVec S1x2064x2048 1 × IVec S2048 1 × IVec S1x2048x2048 1 :=
  let main_v0 : FVec F S1x2064x2048 .f32 := Host.absf main_arg0
  let main_cst : FVec F S_ .f32 := constant S_ .f32 0x7F800000#32
  let main_v1 : FVec F S1x2064x2048 .f32 := broadcastInDim S1x2064x2048 ![] bcast_S_S1x2064x2048 main_cst
  let main_v2 : IVec S1x2064x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S1x2048x2048 .f32 := Host.absf main_arg2
  let main_cst_1 : FVec F S_ .f32 := constant S_ .f32 0x7F800000#32
  let main_v7 : FVec F S1x2048x2048 .f32 := broadcastInDim S1x2048x2048 ![] bcast_S_S1x2048x2048 main_cst_1
  let main_v8 : IVec S1x2048x2048 1 := cmpf .olt main_v6 main_v7
  (main_v2, main_v5, main_v8)
-- ==== Pre_finite_norm.lean ====
abbrev S2112x2048 : Shape := ⟨2, ![2112, 2048]⟩
abbrev S2048 : Shape := ⟨1, ![2048]⟩
abbrev S_ : Shape := ⟨0, ![]⟩

class Facts : Prop where
  bcast_S_S2112x2048 : S_.BroadcastsInDim S2112x2048 (![] : Fin 0 → Fin S2112x2048.rank)
  bcast_S_S2048 : S_.BroadcastsInDim S2048 (![] : Fin 0 → Fin S2048.rank)

variable [Facts]

def fn {F : FTy → Type} [FloatOps F] (main_arg0 : FVec F S2112x2048 .f32) (main_arg1 : FVec F S2048 .f32) (main_arg2 : FVec F S2112x2048 .f32) (main_arg3 : FVec F S2112x2048 .f32) : IVec S2112x2048 1 × IVec S2048 1 × IVec S2112x2048 1 :=
  let main_v0 : FVec F S2112x2048 .f32 := Host.absf main_arg0
  let main_cst : FVec F S_ .f32 := constant S_ .f32 0x7F800000#32
  let main_v1 : FVec F S2112x2048 .f32 := broadcastInDim S2112x2048 ![] bcast_S_S2112x2048 main_cst
  let main_v2 : IVec S2112x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S2112x2048 .f32 := Host.absf main_arg2
  let main_cst_1 : FVec F S_ .f32 := constant S_ .f32 0x7F800000#32
  let main_v7 : FVec F S2112x2048 .f32 := broadcastInDim S2112x2048 ![] bcast_S_S2112x2048 main_cst_1
  let main_v8 : IVec S2112x2048 1 := cmpf .olt main_v6 main_v7
  (main_v2, main_v5, main_v8)
-- ==== NormBwd.lean ====
abbrev S2112x2048 : Shape := ⟨2, ![2112, 2048]⟩
abbrev S2048 : Shape := ⟨1, ![2048]⟩
abbrev S1x2048 : Shape := ⟨2, ![1, 2048]⟩
abbrev S264x2048 : Shape := ⟨2, ![264, 2048]⟩
abbrev S264 : Shape := ⟨1, ![264]⟩
abbrev S264x1 : Shape := ⟨2, ![264, 1]⟩

abbrev nBuf : Space → Nat
  | .hbm => 8
  | .vmem => 12
  | .smem => 0
  | _ => 0

abbrev bufTy : (tb : Table) → Fin (tcTables nBuf tb) → BufTy
  | .hbm, ⟨0, _⟩ => ⟨S2112x2048, .f32⟩
  | .hbm, ⟨1, _⟩ => ⟨S2048, .f32⟩
  | .hbm, ⟨2, _⟩ => ⟨S2112x2048, .f32⟩
  | .hbm, ⟨3, _⟩ => ⟨S2112x2048, .f32⟩
  | .hbm, ⟨4, _⟩ => ⟨S1x2048, .f32⟩
  | .hbm, ⟨5, _⟩ => ⟨S2112x2048, .f32⟩
  | .hbm, ⟨6, _⟩ => ⟨S2112x2048, .bf16⟩
  | .hbm, ⟨7, _⟩ => ⟨S1x2048, .f32⟩
  | .local _ .vmem, ⟨0, _⟩ => ⟨S264x2048, .f32⟩
  | .local _ .vmem, ⟨1, _⟩ => ⟨S264x2048, .f32⟩
  | .local _ .vmem, ⟨2, _⟩ => ⟨S1x2048, .f32⟩
  | .local _ .vmem, ⟨3, _⟩ => ⟨S264x2048, .f32⟩
  | .local _ .vmem, ⟨4, _⟩ => ⟨S264x2048, .f32⟩
  | .local _ .vmem, ⟨5, _⟩ => ⟨S264x2048, .f32⟩
  | .local _ .vmem, ⟨6, _⟩ => ⟨S264x2048, .f32⟩
  | .local _ .vmem, ⟨7, _⟩ => ⟨S264x2048, .f32⟩
  | .local _ .vmem, ⟨8, _⟩ => ⟨S264x2048, .f32⟩
  | .local _ .vmem, ⟨9, _⟩ => ⟨S264x2048, .bf16⟩
  | .local _ .vmem, ⟨10, _⟩ => ⟨S264x2048, .bf16⟩
  | .local _ .vmem, ⟨11, _⟩ => ⟨S1x2048, .f32⟩
  | _, _ => ⟨S2112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v38 : BitVec 1 := Scalar.cmpi .eq arg0 c0_i32
  let v39 : BitVec 32 := Scalar.extui v38
  let c0_i32_16 : BitVec 32 := 0#32
  let v40 : BitVec 1 := Scalar.cmpi .ne v39 c0_i32_16
  v40

def k0_cond2 (i : grid0.Coords) : BitVec 1 :=
  let arg0 : BitVec 32 := BitVec.ofNat 32 (i 0).val
  let c0_i32_17 : BitVec 32 := 0#32
  let v41 : BitVec 1 := Scalar.cmpi .sgt arg0 c0_i32_17
  let v42 : BitVec 32 := Scalar.extui v41
  let c0_i32_18 : BitVec 32 := 0#32
  let v43 : BitVec 1 := Scalar.cmpi .ne v42 c0_i32_18
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S264x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S264x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S264x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S264x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S264x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormBwdRefIdeal.lean ====
abbrev S2112x2048 : Shape := ⟨2, ![2112, 2048]⟩
abbrev S2048 : Shape := ⟨1, ![2048]⟩
abbrev S_ : Shape := ⟨0, ![]⟩
abbrev S2112 : Shape := ⟨1, ![2112]⟩
abbrev S2112x1 : Shape := ⟨2, ![2112, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S2112x2048, .f32⟩
  | .hbm, ⟨1, _⟩ => ⟨S2048, .f32⟩
  | .hbm, ⟨2, _⟩ => ⟨S2112x2048, .f32⟩
  | .hbm, ⟨3, _⟩ => ⟨S2112x2048, .f32⟩
  | .hbm, ⟨4, _⟩ => ⟨S2112x2048, .f32⟩
  | .hbm, ⟨5, _⟩ => ⟨S_, .f32⟩
  | .hbm, ⟨6, _⟩ => ⟨S2112, .f32⟩
  | .hbm, ⟨7, _⟩ => ⟨S2112x1, .f32⟩
  | .hbm, ⟨8, _⟩ => ⟨S_, .f32⟩
  | .hbm, ⟨9, _⟩ => ⟨S2112x1, .f32⟩
  | .hbm, ⟨10, _⟩ => ⟨S2112x1, .f32⟩
  | .hbm, ⟨11, _⟩ => ⟨S_, .f32⟩
  | .hbm, ⟨12, _⟩ => ⟨S2112x1, .f32⟩
  | .hbm, ⟨13, _⟩ => ⟨S2112x1, .f32⟩
  | .hbm, ⟨14, _⟩ => ⟨S2112x1, .f32⟩
  | .hbm, ⟨15, _⟩ => ⟨S2112x1, .f32⟩
  | .hbm, ⟨16, _⟩ => ⟨S_, .f32⟩
  | .hbm, ⟨17, _⟩ => ⟨S2112x1, .f32⟩
  | .hbm, ⟨18, _⟩ => ⟨S2112x1, .f32⟩
  | .hbm, ⟨19, _⟩ => ⟨S2112x2048, .f32⟩
  | .hbm, ⟨20, _⟩ => ⟨S2112x2048, .f32⟩
  | .hbm, ⟨21, _⟩ => ⟨S1x2048, .f32⟩
  | .hbm, ⟨22, _⟩ => ⟨S2112x2048, .f32⟩
  | .hbm, ⟨23, _⟩ => ⟨S2112x2048, .f32⟩
  | .hbm, ⟨24, _⟩ => ⟨S2112x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S2112x2048, .f32⟩
  | .hbm, ⟨29, _⟩ => ⟨S2112x2048, .f32⟩
  | .hbm, ⟨30, _⟩ => ⟨S_, .f32⟩
  | .hbm, ⟨31, _⟩ => ⟨S2048, .f32⟩
  | .hbm, ⟨32, _⟩ => ⟨S2112x2048, .f32⟩
  | .hbm, ⟨33, _⟩ => ⟨S_, .f32⟩
  | .hbm, ⟨34, _⟩ => ⟨S2112, .f32⟩
  | .hbm, ⟨35, _⟩ => ⟨S2112x1, .f32⟩
  | .hbm, ⟨36, _⟩ => ⟨S2112x2048, .f32⟩
  | .hbm, ⟨37, _⟩ => ⟨S2112x2048, .f32⟩
  | .hbm, ⟨38, _⟩ => ⟨S2112x2048, .f32⟩
  | .hbm, ⟨39, _⟩ => ⟨S2112x1, .f32⟩
  | .hbm, ⟨40, _⟩ => ⟨S_, .f32⟩
  | .hbm, ⟨41, _⟩ => ⟨S2112x1, .f32⟩
  | .hbm, ⟨42, _⟩ => ⟨S2112x1, .f32⟩
  | .hbm, ⟨43, _⟩ => ⟨S_, .f32⟩
  | .hbm, ⟨44, _⟩ => ⟨S2112, .f32⟩
  | .hbm, ⟨45, _⟩ => ⟨S2112x2048, .f32⟩
  | .hbm, ⟨46, _⟩ => ⟨S2112x2048, .f32⟩
  | .hbm, ⟨47, _⟩ => ⟨S2112x2048, .f32⟩
  | .hbm, ⟨48, _⟩ => ⟨S2112x2048, .f32⟩
  | .hbm, ⟨49, _⟩ => ⟨S2112x2048, .f32⟩
  | .hbm, ⟨50, _⟩ => ⟨S2112x2048, .bf16⟩
  | .hbm, ⟨51, _⟩ => ⟨S1x2048, .f32⟩
  | _, _ => ⟨S2112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Loss.lean ====
abbrev S1x2064x2048 : Shape := ⟨3, ![1, 2064, 2048]⟩
abbrev S2048 : Shape := ⟨1, ![2048]⟩
abbrev S1x2048x2048 : Shape := ⟨3, ![1, 2048, 2048]⟩
abbrev S_ : Shape := ⟨0, ![]⟩
abbrev S48x2048 : Shape := ⟨2, ![48, 2048]⟩
abbrev S2064x2048 : Shape := ⟨2, ![2064, 2048]⟩
abbrev S2112x2048 : Shape := ⟨2, ![2112, 2048]⟩
abbrev S1x2048 : Shape := ⟨2, ![1, 2048]⟩
abbrev S2048x2048 : Shape := ⟨2, ![2048, 2048]⟩
abbrev S1x128 : Shape := ⟨2, ![1, 128]⟩
abbrev S64x2048 : Shape := ⟨2, ![64, 2048]⟩
abbrev S64 : Shape := ⟨1, ![64]⟩
abbrev S64x1 : Shape := ⟨2, ![64, 1]⟩
abbrev S1 : Shape := ⟨1, ![1]⟩
abbrev S1x1 : Shape := ⟨2, ![1, 1]⟩

abbrev nBuf : Space → Nat
  | .hbm => 13
  | .vmem => 11
  | .smem => 0
  | _ => 0

abbrev bufTy : (tb : Table) → Fin (tcTables nBuf tb) → BufTy
  | .hbm, ⟨0, _⟩ => ⟨S1x2064x2048, .f32⟩
  | .hbm, ⟨1, _⟩ => ⟨S2048, .f32⟩
  | .hbm, ⟨2, _⟩ => ⟨S1x2048x2048, .f32⟩
  | .hbm, ⟨3, _⟩ => ⟨S_, .f32⟩
  | .hbm, ⟨4, _⟩ => ⟨S48x2048, .f32⟩
  | .hbm, ⟨5, _⟩ => ⟨S2064x2048, .f32⟩
  | .hbm, ⟨6, _⟩ => ⟨S2112x2048, .f32⟩
  | .hbm, ⟨7, _⟩ => ⟨S1x2048, .f32⟩
  | .hbm, ⟨8, _⟩ => ⟨S2048x2048, .f32⟩
  | .hbm, ⟨9, _⟩ => ⟨S2112x2048, .f32⟩
  | .hbm, ⟨10, _⟩ => ⟨S2112x2048, .bf16⟩
  | .hbm, ⟨11, _⟩ => ⟨S1x2048, .f32⟩
  | .hbm, ⟨12, _⟩ => ⟨S1x128, .f32⟩
  | .local _ .vmem, ⟨0, _⟩ => ⟨S64x2048, .f32⟩
  | .local _ .vmem, ⟨1, _⟩ => ⟨S64x2048, .f32⟩
  | .local _ .vmem, ⟨2, _⟩ => ⟨S1x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .bf16⟩
  | .local _ .vmem, ⟨8, _⟩ => ⟨S64x2048, .bf16⟩
  | .local _ .vmem, ⟨9, _⟩ => ⟨S1x2048, .f32⟩
  | .local _ .vmem, ⟨10, _⟩ => ⟨S1x128, .f32⟩
  | _, _ => ⟨S1x2064x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S1x2064x2048 : Shape := ⟨3, ![1, 2064, 2048]⟩
abbrev S2048 : Shape := ⟨1, ![2048]⟩
abbrev S1x2048x2048 : Shape := ⟨3, ![1, 2048, 2048]⟩
abbrev S_ : Shape := ⟨0, ![]⟩
abbrev S1x2064 : Shape := ⟨2, ![1, 2064]⟩
abbrev S1x2064x1 : Shape := ⟨3, ![1, 2064, 1]⟩
abbrev S1x1x2048 : Shape := ⟨3, ![1, 1, 2048]⟩
abbrev S1x2048 : Shape := ⟨2, ![1, 2048]⟩
abbrev S2064 : Shape := ⟨1, ![2064]⟩
abbrev S2064x2048 : Shape := ⟨2, ![2064, 2048]⟩
abbrev S2112x2048 : Shape := ⟨2, ![2112, 2048]⟩
abbrev S1x128 : Shape := ⟨2, ![1, 128]⟩

abbrev nBuf : Space → Nat
  | .hbm => 82
  | .vmem => 0
  | .smem => 0
  | _ => 0

abbrev bufTy : (tb : Table) → Fin (tcTables nBuf tb) → BufTy
  | .hbm, ⟨0, _⟩ => ⟨S1x2064x2048, .f32⟩
  | .hbm, ⟨1, _⟩ => ⟨S2048, .f32⟩
  | .hbm, ⟨2, _⟩ => ⟨S1x2048x2048, .f32⟩
  | .hbm, ⟨3, _⟩ => ⟨S1x2064x2048, .f32⟩
  | .hbm, ⟨4, _⟩ => ⟨S_, .f32⟩
  | .hbm, ⟨5, _⟩ => ⟨S1x2064, .f32⟩
  | .hbm, ⟨6, _⟩ => ⟨S1x2064x1, .f32⟩
  | .hbm, ⟨7, _⟩ => ⟨S_, .f32⟩
  | .hbm, ⟨8, _⟩ => ⟨S1x2064x1, .f32⟩
  | .hbm, ⟨9, _⟩ => ⟨S1x2064x1, .f32⟩
  | .hbm, ⟨10, _⟩ => ⟨S_, .f32⟩
  | .hbm, ⟨11, _⟩ => ⟨S1x2064x1, .f32⟩
  | .hbm, ⟨12, _⟩ => ⟨S1x2064x1, .f32⟩
  | .hbm, ⟨13, _⟩ => ⟨S1x2064x1, .f32⟩
  | .hbm, ⟨14, _⟩ => ⟨S1x2064x1, .f32⟩
  | .hbm, ⟨15, _⟩ => ⟨S_, .f32⟩
  | .hbm, ⟨16, _⟩ => ⟨S1x2064x1, .f32⟩
  | .hbm, ⟨17, _⟩ => ⟨S1x2064x1, .f32⟩
  | .hbm, ⟨18, _⟩ => ⟨S1x2064x2048, .f32⟩
  | .hbm, ⟨19, _⟩ => ⟨S1x2064x2048, .f32⟩
  | .hbm, ⟨20, _⟩ => ⟨S1x1x2048, .f32⟩
  | .hbm, ⟨21, _⟩ => ⟨S1x2064x2048, .f32⟩
  | .hbm, ⟨22, _⟩ => ⟨S1x2064x2048, .f32⟩
  | .hbm, ⟨23, _⟩ => ⟨S1x2048x2048, .f32⟩
  | .hbm, ⟨24, _⟩ => ⟨S1x2048x2048, .f32⟩
  | .hbm, ⟨25, _⟩ => ⟨S1x2048x2048, .f32⟩
  | .hbm, ⟨26, _⟩ => ⟨S_, .f32⟩
  | .hbm, ⟨27, _⟩ => ⟨S1x2048x2048, .f32⟩
  | .hbm, ⟨28, _⟩ => ⟨S1x2048x2048, .f32⟩
  | .hbm, ⟨29, _⟩ => ⟨S_, .f32⟩
  | .hbm, ⟨30, _⟩ => ⟨S1x2048, .f32⟩
  | .hbm, ⟨31, _⟩ => ⟨S_, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S1x2048, .f32⟩
  | .hbm, ⟨42, _⟩ => ⟨S_, .f32⟩
  | .hbm, ⟨43, _⟩ => ⟨S1x2048, .f32⟩
  | .hbm, ⟨44, _⟩ => ⟨S1x2048, .f32⟩
  | .hbm, ⟨45, _⟩ => ⟨S1x2048x2048, .f32⟩
  | .hbm, ⟨46, _⟩ => ⟨S1x2048x2048, .f32⟩
  | .hbm, ⟨47, _⟩ => ⟨S_, .f32⟩
  | .hbm, ⟨48, _⟩ => ⟨S1x2064x2048, .f32⟩
  | .hbm, ⟨49, _⟩ => ⟨S1x2064x2048, .f32⟩
  | .hbm, ⟨50, _⟩ => ⟨S_, .f32⟩
  | .hbm, ⟨51, _⟩ => ⟨S1x2048, .f32⟩
  | .hbm, ⟨52, _⟩ => ⟨S1x1x2048, .f32⟩
  | .hbm, ⟨53, _⟩ => ⟨S1x2064x2048, .f32⟩
  | .hbm, ⟨54, _⟩ => ⟨S1x2064x2048, .f32⟩
  | .hbm, ⟨55, _⟩ => ⟨S_, .f32⟩
  | .hbm, ⟨56, _⟩ => ⟨S2048, .f32⟩
  | .hbm, ⟨57, _⟩ => ⟨S1x2064x2048, .f32⟩
  | .hbm, ⟨58, _⟩ => ⟨S_, .f32⟩
  | .hbm, ⟨59, _⟩ => ⟨S1x2064, .f32⟩
  | .hbm, ⟨60, _⟩ => ⟨S1x2064x1, .f32⟩
  | .hbm, ⟨61, _⟩ => ⟨S1x2064x2048, .f32⟩
  | .hbm, ⟨62, _⟩ => ⟨S1x2064x2048, .f32⟩
  | .hbm, ⟨63, _⟩ => ⟨S1x2064x1, .f32⟩
  | .hbm, ⟨64, _⟩ => ⟨S_, .f32⟩
  | .hbm, ⟨65, _⟩ => ⟨S1x2064x1, .f32⟩
  | .hbm, ⟨66, _⟩ => ⟨S1x2064x1, .f32⟩
  | .hbm, ⟨67, _⟩ => ⟨S_, .f32⟩
  | .hbm, ⟨68, _⟩ => ⟨S2064, .f32⟩
  | .hbm, ⟨69, _⟩ => ⟨S1x2064, .f32⟩
  | .hbm, ⟨70, _⟩ => ⟨S1x2064x2048, .f32⟩
  | .hbm, ⟨71, _⟩ => ⟨S1x2064x2048, .f32⟩
  | .hbm, ⟨72, _⟩ => ⟨S1x2064x2048, .f32⟩
  | .hbm, ⟨73, _⟩ => ⟨S1x2064x2048, .f32⟩
  | .hbm, ⟨74, _⟩ => ⟨S1x2064x2048, .f32⟩
  | .hbm, ⟨75, _⟩ => ⟨S2064x2048, .f32⟩
  | .hbm, ⟨76, _⟩ => ⟨S_, .i32⟩
  | .hbm, ⟨77, _⟩ => ⟨S_, .f32⟩
  | .hbm, ⟨78, _⟩ => ⟨S2112x2048, .f32⟩
  | .hbm, ⟨79, _⟩ => ⟨S2112x2048, .bf16⟩
  | .hbm, ⟨80, _⟩ => ⟨S1x2048, .f32⟩
  | .hbm, ⟨81, _⟩ => ⟨S1x128, .f32⟩
  | _, _ => ⟨S1x2064x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_cst_12 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_cst_14 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_cst_16 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c : Ref sig .tc := ⟨.hbm, 76, rfl⟩
abbrev main_call0_v0 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩

abbrev nD : Nat := 1
abbrev τ : Topo := Topo.v7x

variable {F : FTy → Type} [FloatOps F]
-- ==== ConvBwd.lean ====
abbrev S1x2064x1024 : Shape := ⟨3, ![1, 2064, 1024]⟩
abbrev S3x1024 : Shape := ⟨2, ![3, 1024]⟩
abbrev S3x2064x1024 : Shape := ⟨3, ![3, 2064, 1024]⟩
abbrev S_ : Shape := ⟨0, ![]⟩
abbrev S3x2112x1024 : Shape := ⟨3, ![3, 2112, 1024]⟩
abbrev S2064x1024 : Shape := ⟨2, ![2064, 1024]⟩
abbrev S2112x2048 : Shape := ⟨2, ![2112, 2048]⟩
abbrev S8x1024 : Shape := ⟨2, ![8, 1024]⟩
abbrev S2112x128 : Shape := ⟨2, ![2112, 128]⟩
abbrev S3x2112x128 : Shape := ⟨3, ![3, 2112, 128]⟩
abbrev S8x128 : Shape := ⟨2, ![8, 128]⟩
abbrev S1x2112x128 : Shape := ⟨3, ![1, 2112, 128]⟩
abbrev S1x128 : Shape := ⟨2, ![1, 128]⟩
abbrev S128 : Shape := ⟨1, ![128]⟩

abbrev nBuf : Space → Nat
  | .hbm => 18
  | .vmem => 10
  | .smem => 0
  | _ => 0

abbrev bufTy : (tb : Table) → Fin (tcTables nBuf tb) → BufTy
  | .hbm, ⟨0, _⟩ => ⟨S1x2064x1024, .f32⟩
  | .hbm, ⟨1, _⟩ => ⟨S1x2064x1024, .f32⟩
  | .hbm, ⟨2, _⟩ => ⟨S1x2064x1024, .f32⟩
  | .hbm, ⟨3, _⟩ => ⟨S3x1024, .f32⟩
  | .hbm, ⟨4, _⟩ => ⟨S1x2064x1024, .f32⟩
  | .hbm, ⟨5, _⟩ => ⟨S3x2064x1024, .f32⟩
  | .hbm, ⟨6, _⟩ => ⟨S_, .i32⟩
  | .hbm, ⟨7, _⟩ => ⟨S_, .f32⟩
  | .hbm, ⟨8, _⟩ => ⟨S3x2112x1024, .f32⟩
  | .hbm, ⟨9, _⟩ => ⟨S2064x1024, .f32⟩
  | .hbm, ⟨10, _⟩ => ⟨S_, .i32⟩
  | .hbm, ⟨11, _⟩ => ⟨S_, .f32⟩
  | .hbm, ⟨12, _⟩ => ⟨S2112x2048, .f32⟩
  | .hbm, ⟨13, _⟩ => ⟨S_, .i32⟩
  | .hbm, ⟨14, _⟩ => ⟨S_, .f32⟩
  | .hbm, ⟨15, _⟩ => ⟨S8x1024, .f32⟩
  | .hbm, ⟨16, _⟩ => ⟨S3x2112x1024, .bf16⟩
  | .hbm, ⟨17, _⟩ => ⟨S8x1024, .f32⟩
  | .local _ .vmem, ⟨0, _⟩ => ⟨S2112x128, .f32⟩
  | .local _ .vmem, ⟨1, _⟩ => ⟨S2112x128, .f32⟩
  | .local _ .vmem, ⟨2, _⟩ => ⟨S3x2112x128, .f32⟩
  | .local _ .vmem, ⟨3, _⟩ => ⟨S3x2112x128, .f32⟩
  | .local _ .vmem, ⟨4, _⟩ => ⟨S8x128, .f32⟩
  | .local _ .vmem, ⟨5, _⟩ => ⟨S8x128, .f32⟩
  | .local _ .vmem, ⟨6, _⟩ => ⟨S3x2112x128, .bf16⟩
  | .local _ .vmem, ⟨7, _⟩ => ⟨S3x2112x128, .bf16⟩
  | .local _ .vmem, ⟨8, _⟩ => ⟨S8x128, .f32⟩
  | .local _ .vmem, ⟨9, _⟩ => ⟨S8x128, .f32⟩
  | _, _ => ⟨S1x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_c_1 : Ref sig .tc := ⟨.hbm, 13, rfl⟩
abbrev main_call2_v0 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2112x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x2112x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x2112x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvBwdRefIdeal.lean ====
abbrev S1x2064x1024 : Shape := ⟨3, ![1, 2064, 1024]⟩
abbrev S3x1024 : Shape := ⟨2, ![3, 1024]⟩
abbrev S_ : Shape := ⟨0, ![]⟩
abbrev S1x2x1024 : Shape := ⟨3, ![1, 2, 1024]⟩
abbrev S1x2066x1024 : Shape := ⟨3, ![1, 2066, 1024]⟩
abbrev S1x1024 : Shape := ⟨2, ![1, 1024]⟩
abbrev S1024 : Shape := ⟨1, ![1024]⟩
abbrev S1x1x1024 : Shape := ⟨3, ![1, 1, 1024]⟩
abbrev S3x2064x1024 : Shape := ⟨3, ![3, 2064, 1024]⟩
abbrev S3x2112x1024 : Shape := ⟨3, ![3, 2112, 1024]⟩
abbrev S8x1024 : Shape := ⟨2, ![8, 1024]⟩

abbrev nBuf : Space → Nat
  | .hbm => 92
  | .vmem => 0
  | .smem => 0
  | _ => 0

abbrev bufTy : (tb : Table) → Fin (tcTables nBuf tb) → BufTy
  | .hbm, ⟨0, _⟩ => ⟨S1x2064x1024, .f32⟩
  | .hbm, ⟨1, _⟩ => ⟨S1x2064x1024, .f32⟩
  | .hbm, ⟨2, _⟩ => ⟨S1x2064x1024, .f32⟩
  | .hbm, ⟨3, _⟩ => ⟨S3x1024, .f32⟩
  | .hbm, ⟨4, _⟩ => ⟨S1x2064x1024, .f32⟩
  | .hbm, ⟨5, _⟩ => ⟨S1x2064x1024, .f32⟩
  | .hbm, ⟨6, _⟩ => ⟨S_, .f32⟩
  | .hbm, ⟨7, _⟩ => ⟨S1x2x1024, .f32⟩
  | .hbm, ⟨8, _⟩ => ⟨S1x2066x1024, .f32⟩
  | .hbm, ⟨9, _⟩ => ⟨S_, .f32⟩
  | .hbm, ⟨10, _⟩ => ⟨S1x2x1024, .f32⟩
  | .hbm, ⟨11, _⟩ => ⟨S1x2064x1024, .f32⟩
  | .hbm, ⟨12, _⟩ => ⟨S1x1024, .f32⟩
  | .hbm, ⟨13, _⟩ => ⟨S1024, .f32⟩
  | .hbm, ⟨14, _⟩ => ⟨S1x1x1024, .f32⟩
  | .hbm, ⟨15, _⟩ => ⟨S1x2064x1024, .f32⟩
  | .hbm, ⟨16, _⟩ => ⟨S1x2064x1024, .f32⟩
  | .hbm, ⟨17, _⟩ => ⟨S_, .f32⟩
  | .hbm, ⟨18, _⟩ => ⟨S1x2064x1024, .f32⟩
  | .hbm, ⟨19, _⟩ => ⟨S1x2064x1024, .f32⟩
  | .hbm, ⟨20, _⟩ => ⟨S1x2064x1024, .f32⟩
  | .hbm, ⟨21, _⟩ => ⟨S1x1024, .f32⟩
  | .hbm, ⟨22, _⟩ => ⟨S1024, .f32⟩
  | .hbm, ⟨23, _⟩ => ⟨S1x1x1024, .f32⟩
  | .hbm, ⟨24, _⟩ => ⟨S1x2064x1024, .f32⟩
  | .hbm, ⟨25, _⟩ => ⟨S1x2064x1024, .f32⟩
  | .hbm, ⟨26, _⟩ => ⟨S1x2064x1024, .f32⟩
  | .hbm, ⟨27, _⟩ => ⟨S1x2064x1024, .f32⟩
  | .hbm, ⟨28, _⟩ => ⟨S1x1024, .f32⟩
  | .hbm, ⟨29, _⟩ => ⟨S1024, .f32⟩
  | .hbm, ⟨30, _⟩ => ⟨S1x1x1024, .f32⟩
  | .hbm, ⟨31, _⟩ => ⟨S1x2064x1024, .f32⟩
  | .hbm, ⟨32, _⟩ => ⟨S1x2064x1024, .f32⟩
  | .hbm, ⟨33, _⟩ => ⟨S1x2064x1024, .f32⟩
  | .hbm, ⟨34, _⟩ => ⟨S1x2064x1024, .f32⟩
  | .hbm, ⟨35, _⟩ => ⟨S1x2064x1024, .f32⟩
  | .hbm, ⟨36, _⟩ => ⟨S1x2064x1024, .f32⟩
  | .hbm, ⟨37, _⟩ => ⟨S1x2064x1024, .f32⟩
  | .hbm, ⟨38, _⟩ => ⟨S_, .f32⟩
  | .hbm, ⟨39, _⟩ => ⟨S1x1024, .f32⟩
  | .hbm, ⟨40, _⟩ => ⟨S1x1x1024, .f32⟩
  | .hbm, ⟨41, _⟩ => ⟨S1x2064x1024, .f32⟩
  | .hbm, ⟨42, _⟩ => ⟨S1x2064x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S_, .f32⟩
  | .hbm, ⟨47, _⟩ => ⟨S3x1024, .f32⟩
  | .hbm, ⟨48, _⟩ => ⟨S_, .f32⟩
  | .hbm, ⟨49, _⟩ => ⟨S1x2066x1024, .f32⟩
  | .hbm, ⟨50, _⟩ => ⟨S1x2064x1024, .f32⟩
  | .hbm, ⟨51, _⟩ => ⟨S_, .f32⟩
  | .hbm, ⟨52, _⟩ => ⟨S1x1024, .f32⟩
  | .hbm, ⟨53, _⟩ => ⟨S1x1x1024, .f32⟩
  | .hbm, ⟨54, _⟩ => ⟨S1x2064x1024, .f32⟩
  | .hbm, ⟨55, _⟩ => ⟨S1x2064x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S_, .f32⟩
  | .hbm, ⟨60, _⟩ => ⟨S3x1024, .f32⟩
  | .hbm, ⟨61, _⟩ => ⟨S3x1024, .f32⟩
  | .hbm, ⟨62, _⟩ => ⟨S_, .f32⟩
  | .hbm, ⟨63, _⟩ => ⟨S1x2066x1024, .f32⟩
  | .hbm, ⟨64, _⟩ => ⟨S1x2066x1024, .f32⟩
  | .hbm, ⟨65, _⟩ => ⟨S1x2064x1024, .f32⟩
  | .hbm, ⟨66, _⟩ => ⟨S_, .f32⟩
  | .hbm, ⟨67, _⟩ => ⟨S1x1024, .f32⟩
  | .hbm, ⟨68, _⟩ => ⟨S1x1x1024, .f32⟩
  | .hbm, ⟨69, _⟩ => ⟨S1x2064x1024, .f32⟩
  | .hbm, ⟨70, _⟩ => ⟨S1x2064x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S_, .f32⟩
  | .hbm, ⟨75, _⟩ => ⟨S3x1024, .f32⟩
  | .hbm, ⟨76, _⟩ => ⟨S3x1024, .f32⟩
  | .hbm, ⟨77, _⟩ => ⟨S_, .f32⟩
  | .hbm, ⟨78, _⟩ => ⟨S1x2066x1024, .f32⟩
  | .hbm, ⟨79, _⟩ => ⟨S1x2066x1024, .f32⟩
  | .hbm, ⟨80, _⟩ => ⟨S1x2x1024, .f32⟩
  | .hbm, ⟨81, _⟩ => ⟨S1x2064x1024, .f32⟩
  | .hbm, ⟨82, _⟩ => ⟨S1x2064x1024, .f32⟩
  | .hbm, ⟨83, _⟩ => ⟨S1x2064x1024, .f32⟩
  | .hbm, ⟨84, _⟩ => ⟨S3x2064x1024, .f32⟩
  | .hbm, ⟨85, _⟩ => ⟨S_, .i32⟩
  | .hbm, ⟨86, _⟩ => ⟨S_, .f32⟩
  | .hbm, ⟨87, _⟩ => ⟨S3x2112x1024, .f32⟩
  | .hbm, ⟨88, _⟩ => ⟨S3x2112x1024, .bf16⟩
  | .hbm, ⟨89, _⟩ => ⟨S_, .i32⟩
  | .hbm, ⟨90, _⟩ => ⟨S_, .f32⟩
  | .hbm, ⟨91, _⟩ => ⟨S8x1024, .f32⟩
  | _, _ => ⟨S1x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_cst_9 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_10 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_11 : Ref sig .tc := ⟨.hbm, 71, rfl⟩
abbrev main_v54 : Ref sig .tc := ⟨.hbm, 72, rfl⟩
abbrev main_v55 : Ref sig .tc := ⟨.hbm, 73, rfl⟩
abbrev main_cst_12 : Ref sig .tc := ⟨.hbm, 74, rfl⟩
abbrev main_v56 : Ref sig .tc := ⟨.hbm, 75, rfl⟩
abbrev main_v57 : Ref sig .tc := ⟨.hbm, 76, rfl⟩
abbrev main_cst_13 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_c : Ref sig .tc := ⟨.hbm, 85, rfl⟩
abbrev main_call0_v0 : Ref sig .tc := ⟨.hbm, 86, rfl⟩
abbrev main_v65 : Ref sig .tc := ⟨.hbm, 87, rfl⟩
abbrev main_v66 : Ref sig .tc := ⟨.hbm, 88, rfl⟩
abbrev main_c_14 : Ref sig .tc := ⟨.hbm, 89, rfl⟩
abbrev main_call1_v0 : Ref sig .tc := ⟨.hbm, 90, rfl⟩
abbrev main_v67 : Ref sig .tc := ⟨.hbm, 91, rfl⟩

abbrev nD : Nat := 1
abbrev τ : Topo := Topo.v7x

variable {F : FTy → Type} [FloatOps F]
-- ==== GateBwd.lean ====
abbrev S2112x2048 : Shape := ⟨2, ![2112, 2048]⟩
abbrev S2048x5632 : Shape := ⟨2, ![2048, 5632]⟩
abbrev S5632x2048 : Shape := ⟨2, ![5632, 2048]⟩
abbrev S2112x5632 : Shape := ⟨2, ![2112, 5632]⟩
abbrev S1056x2048 : Shape := ⟨2, ![1056, 2048]⟩
abbrev S512x2048 : Shape := ⟨2, ![512, 2048]⟩
abbrev S1056x512 : Shape := ⟨2, ![1056, 512]⟩
abbrev S264x2048 : Shape := ⟨2, ![264, 2048]⟩
abbrev S256x2048 : Shape := ⟨2, ![256, 2048]⟩
abbrev S264x256 : Shape := ⟨2, ![264, 256]⟩

abbrev nBuf : Space → Nat
  | .hbm => 17
  | .vmem => 24
  | .smem => 0
  | _ => 0

abbrev bufTy : (tb : Table) → Fin (tcTables nBuf tb) → BufTy
  | .hbm, ⟨0, _⟩ => ⟨S2112x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2112x2048, .f32⟩
  | .hbm, ⟨5, _⟩ => ⟨S2112x2048, .bf16⟩
  | .hbm, ⟨6, _⟩ => ⟨S2112x2048, .bf16⟩
  | .hbm, ⟨7, _⟩ => ⟨S5632x2048, .bf16⟩
  | .hbm, ⟨8, _⟩ => ⟨S5632x2048, .f32⟩
  | .hbm, ⟨9, _⟩ => ⟨S5632x2048, .bf16⟩
  | .hbm, ⟨10, _⟩ => ⟨S5632x2048, .f32⟩
  | .hbm, ⟨11, _⟩ => ⟨S5632x2048, .bf16⟩
  | .hbm, ⟨12, _⟩ => ⟨S2112x5632, .bf16⟩
  | .hbm, ⟨13, _⟩ => ⟨S2112x5632, .bf16⟩
  | .hbm, ⟨14, _⟩ => ⟨S2112x5632, .bf16⟩
  | .hbm, ⟨15, _⟩ => ⟨S2112x5632, .bf16⟩
  | .hbm, ⟨16, _⟩ => ⟨S2112x5632, .bf16⟩
  | .local _ .vmem, ⟨0, _⟩ => ⟨S1056x2048, .bf16⟩
  | .local _ .vmem, ⟨1, _⟩ => ⟨S1056x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1056x512, .bf16⟩
  | .local _ .vmem, ⟨7, _⟩ => ⟨S1056x512, .bf16⟩
  | .local _ .vmem, ⟨8, _⟩ => ⟨S1056x512, .bf16⟩
  | .local _ .vmem, ⟨9, _⟩ => ⟨S1056x512, .bf16⟩
  | .local _ .vmem, ⟨10, _⟩ => ⟨S1056x512, .bf16⟩
  | .local _ .vmem, ⟨11, _⟩ => ⟨S1056x512, .bf16⟩
  | .local _ .vmem, ⟨12, _⟩ => ⟨S1056x2048, .bf16⟩
  | .local _ .vmem, ⟨13, _⟩ => ⟨S1056x2048, .bf16⟩
  | .local _ .vmem, ⟨14, _⟩ => ⟨S512x2048, .bf16⟩
  | .local _ .vmem, ⟨15, _⟩ => ⟨S512x2048, .bf16⟩
  | .local _ .vmem, ⟨16, _⟩ => ⟨S1056x512, .bf16⟩
  | .local _ .vmem, ⟨17, _⟩ => ⟨S1056x512, .bf16⟩
  | .local _ .vmem, ⟨18, _⟩ => ⟨S1056x512, .bf16⟩
  | .local _ .vmem, ⟨19, _⟩ => ⟨S1056x512, .bf16⟩
  | .local _ .vmem, ⟨20, _⟩ => ⟨S1056x512, .bf16⟩
  | .local _ .vmem, ⟨21, _⟩ => ⟨S1056x512, .bf16⟩
  | .local _ .vmem, ⟨22, _⟩ => ⟨S1056x512, .bf16⟩
  | .local _ .vmem, ⟨23, _⟩ => ⟨S1056x512, .bf16⟩
  | _, _ => ⟨S2112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1056x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1056x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1056x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 11], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1056x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1056x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1056x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1056x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1056x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== GateBwdRefIdeal.lean ====
abbrev S2112x2048 : Shape := ⟨2, ![2112, 2048]⟩
abbrev S2048x5632 : Shape := ⟨2, ![2048, 5632]⟩
abbrev S5632x2048 : Shape := ⟨2, ![5632, 2048]⟩
abbrev S2112x5632 : Shape := ⟨2, ![2112, 5632]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S2112x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2112x2048, .f32⟩
  | .hbm, ⟨5, _⟩ => ⟨S2112x5632, .f32⟩
  | .hbm, ⟨6, _⟩ => ⟨S2112x5632, .f32⟩
  | .hbm, ⟨7, _⟩ => ⟨S2112x5632, .f32⟩
  | .hbm, ⟨8, _⟩ => ⟨S2112x5632, .f32⟩
  | .hbm, ⟨9, _⟩ => ⟨S_, .f32⟩
  | .hbm, ⟨10, _⟩ => ⟨S2112x5632, .f32⟩
  | .hbm, ⟨11, _⟩ => ⟨S2112x5632, .f32⟩
  | .hbm, ⟨12, _⟩ => ⟨S_, .f32⟩
  | .hbm, ⟨13, _⟩ => ⟨S2112x5632, .f32⟩
  | .hbm, ⟨14, _⟩ => ⟨S2112x5632, .f32⟩
  | .hbm, ⟨15, _⟩ => ⟨S2112x5632, .f32⟩
  | .hbm, ⟨16, _⟩ => ⟨S2112x5632, .f32⟩
  | .hbm, ⟨17, _⟩ => ⟨S2112x5632, .f32⟩
  | .hbm, ⟨18, _⟩ => ⟨S2112x5632, .f32⟩
  | .hbm, ⟨19, _⟩ => ⟨S_, .f32⟩
  | .hbm, ⟨20, _⟩ => ⟨S2112x5632, .f32⟩
  | .hbm, ⟨21, _⟩ => ⟨S2112x5632, .f32⟩
  | .hbm, ⟨22, _⟩ => ⟨S_, .f32⟩
  | .hbm, ⟨23, _⟩ => ⟨S2112x5632, .f32⟩
  | .hbm, ⟨24, _⟩ => ⟨S2112x5632, .f32⟩
  | .hbm, ⟨25, _⟩ => ⟨S_, .f32⟩
  | .hbm, ⟨26, _⟩ => ⟨S2112x5632, .f32⟩
  | .hbm, ⟨27, _⟩ => ⟨S2112x5632, .f32⟩
  | .hbm, ⟨28, _⟩ => ⟨S2112x5632, .f32⟩
  | .hbm, ⟨29, _⟩ => ⟨S2112x5632, .f32⟩
  | .hbm, ⟨30, _⟩ => ⟨S2112x5632, .f32⟩
  | .hbm, ⟨31, _⟩ => ⟨S2112x2048, .f32⟩
  | .hbm, ⟨32, _⟩ => ⟨S2112x5632, .f32⟩
  | .hbm, ⟨33, _⟩ => ⟨S2112x5632, .f32⟩
  | .hbm, ⟨34, _⟩ => ⟨S2112x5632, .f32⟩
  | .hbm, ⟨35, _⟩ => ⟨S2112x5632, .f32⟩
  | .hbm, ⟨36, _⟩ => ⟨S2112x5632, .f32⟩
  | .hbm, ⟨37, _⟩ => ⟨S2112x5632, .f32⟩
  | .hbm, ⟨38, _⟩ => ⟨S2112x5632, .f32⟩
  | .hbm, ⟨39, _⟩ => ⟨S2112x5632, .bf16⟩
  | .hbm, ⟨40, _⟩ => ⟨S2112x5632, .bf16⟩
  | .hbm, ⟨41, _⟩ => ⟨S2112x5632, .bf16⟩
  | _, _ => ⟨S2112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_v4_2 : Ref sig .tc := ⟨.hbm, 24, rfl⟩
abbrev main_call1_cst_1 : Ref sig .tc := ⟨.hbm, 25, rfl⟩
abbrev main_call1_v6 : Ref sig .tc := ⟨.hbm, 26, rfl⟩
abbrev main_call1_v7 : Ref sig .tc := ⟨.hbm, 27, rfl⟩
abbrev main_v4_1 : Ref sig .tc := ⟨.hbm, 28, rfl⟩
abbrev main_v4_0 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩

abbrev nD : Nat := 1
abbrev τ : Topo := Topo.v7x

variable {F : FTy → Type} [FloatOps F]
-- ==== MlstmFwd.lean ====
abbrev S1x2064x3200 : Shape := ⟨3, ![1, 2064, 3200]⟩
abbrev S8 : Shape := ⟨1, ![8]⟩
abbrev S1024 : Shape := ⟨1, ![1024]⟩
abbrev S2064x3200 : Shape := ⟨2, ![2064, 3200]⟩
abbrev S_ : Shape := ⟨0, ![]⟩
abbrev S2112x3200 : Shape := ⟨2, ![2112, 3200]⟩
abbrev S1x8 : Shape := ⟨2, ![1, 8]⟩
abbrev S1x128 : Shape := ⟨2, ![1, 128]⟩
abbrev S1x1024 : Shape := ⟨2, ![1, 1024]⟩
abbrev S2112x2048 : Shape := ⟨2, ![2112, 2048]⟩
abbrev S2112x1024 : Shape := ⟨2, ![2112, 1024]⟩
abbrev S33x4x128x256 : Shape := ⟨4, ![33, 4, 128, 256]⟩
abbrev S33x4x1x128 : Shape := ⟨4, ![33, 4, 1, 128]⟩
abbrev S33x4x1x1 : Shape := ⟨4, ![33, 4, 1, 1]⟩
abbrev S192x3200 : Shape := ⟨2, ![192, 3200]⟩
abbrev S192x1024 : Shape := ⟨2, ![192, 1024]⟩
abbrev S3x4x128x256 : Shape := ⟨4, ![3, 4, 128, 256]⟩
abbrev S3x4x1x128 : Shape := ⟨4, ![3, 4, 1, 128]⟩
abbrev S3x4x1x1 : Shape := ⟨4, ![3, 4, 1, 1]⟩
abbrev S4x128x256 : Shape := ⟨3, ![4, 128, 256]⟩
abbrev S4x1x128 : Shape := ⟨3, ![4, 1, 128]⟩
abbrev S4x1x1 : Shape := ⟨3, ![4, 1, 1]⟩
abbrev S64x64 : Shape := ⟨2, ![64, 64]⟩
abbrev S1x128x256 : Shape := ⟨3, ![1, 128, 256]⟩
abbrev S128x256 : Shape := ⟨2, ![128, 256]⟩
abbrev S1x1x128 : Shape := ⟨3, ![1, 1, 128]⟩
abbrev S1x1x1 : Shape := ⟨3, ![1, 1, 1]⟩
abbrev S1x1 : Shape := ⟨2, ![1, 1]⟩
abbrev S64x3200 : Shape := ⟨2, ![64, 3200]⟩
abbrev S64x128 : Shape := ⟨2, ![64, 128]⟩
abbrev S64x256 : Shape := ⟨2, ![64, 256]⟩
abbrev S64x1 : Shape := ⟨2, ![64, 1]⟩
abbrev S64 : Shape := ⟨1, ![64]⟩
abbrev S1x64 : Shape := ⟨2, ![1, 64]⟩
abbrev S1 : Shape := ⟨1, ![1]⟩
abbrev S128 : Shape := ⟨1, ![128]⟩
abbrev S1x1x128x256 : Shape := ⟨4, ![1, 1, 128, 256]⟩
abbrev S1x1x1x128 : Shape := ⟨4, ![1, 1, 1, 128]⟩
abbrev S1x1x1x1 : Shape := ⟨4, ![1, 1, 1, 1]⟩
abbrev S1x256 : Shape := ⟨2, ![1, 256]⟩

abbrev nBuf : Space → Nat
  | .hbm => 18
  | .vmem => 17
  | .smem => 0
  | _ => 0

abbrev bufTy : (tb : Table) → Fin (tcTables nBuf tb) → BufTy
  | .hbm, ⟨0, _⟩ => ⟨S1x2064x3200, .f32⟩
  | .hbm, ⟨1, _⟩ => ⟨S8, .f32⟩
  | .hbm, ⟨2, _⟩ => ⟨S1024, .f32⟩
  | .hbm, ⟨3, _⟩ => ⟨S2064x3200, .f32⟩
  | .hbm, ⟨4, _⟩ => ⟨S_, .i32⟩
  | .hbm, ⟨5, _⟩ => ⟨S_, .f32⟩
  | .hbm, ⟨6, _⟩ => ⟨S2112x3200, .f32⟩
  | .hbm, ⟨7, _⟩ => ⟨S1x8, .f32⟩
  | .hbm, ⟨8, _⟩ => ⟨S_, .i32⟩
  | .hbm, ⟨9, _⟩ => ⟨S_, .f32⟩
  | .hbm, ⟨10, _⟩ => ⟨S1x128, .f32⟩
  | .hbm, ⟨11, _⟩ => ⟨S1x1024, .f32⟩
  | .hbm, ⟨12, _⟩ => ⟨S2112x2048, .bf16⟩
  | .hbm, ⟨13, _⟩ => ⟨S2112x1024, .f32⟩
  | .hbm, ⟨14, _⟩ => ⟨S33x4x128x256, .f32⟩
  | .hbm, ⟨15, _⟩ => ⟨S33x4x1x128, .f32⟩
  | .hbm, ⟨16, _⟩ => ⟨S33x4x1x1, .f32⟩
  | .hbm, ⟨17, _⟩ => ⟨S2112x1024, .bf16⟩
  | .local _ .vmem, ⟨0, _⟩ => ⟨S192x3200, .f32⟩
  | .local _ .vmem, ⟨1, _⟩ => ⟨S192x3200, .f32⟩
  | .local _ .vmem, ⟨2, _⟩ => ⟨S1x128, .f32⟩
  | .local _ .vmem, ⟨3, _⟩ => ⟨S1x1024, .f32⟩
  | .local _ .vmem, ⟨4, _⟩ => ⟨S192x1024, .bf16⟩
  | .local _ .vmem, ⟨5, _⟩ => ⟨S192x1024, .bf16⟩
  | .local _ .vmem, ⟨6, _⟩ => ⟨S192x1024, .f32⟩
  | .local _ .vmem, ⟨7, _⟩ => ⟨S192x1024, .f32⟩
  | .local _ .vmem, ⟨8, _⟩ => ⟨S3x4x128x256, .f32⟩
  | .local _ .vmem, ⟨9, _⟩ => ⟨S3x4x128x256, .f32⟩
  | .local _ .vmem, ⟨10, _⟩ => ⟨S3x4x1x128, .f32⟩
  | .local _ .vmem, ⟨11, _⟩ => ⟨S3x4x1x128, .f32⟩
  | .local _ .vmem, ⟨12, _⟩ => ⟨S3x4x1x1, .f32⟩
  | .local _ .vmem, ⟨13, _⟩ => ⟨S3x4x1x1, .f32⟩
  | .local _ .vmem, ⟨14, _⟩ => ⟨S4x128x256, .f32⟩
  | .local _ .vmem, ⟨15, _⟩ => ⟨S4x1x128, .f32⟩
  | .local _ .vmem, ⟨16, _⟩ => ⟨S4x1x1, .f32⟩
  | _, _ => ⟨S1x2064x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S192x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S192x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x4x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x4x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3x4x1x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MlstmFwdRefIdeal.lean ====
abbrev S1x2064x3200 : Shape := ⟨3, ![1, 2064, 3200]⟩
abbrev S8 : Shape := ⟨1, ![8]⟩
abbrev S1024 : Shape := ⟨1, ![1024]⟩
abbrev S1x2064x512 : Shape := ⟨3, ![1, 2064, 512]⟩
abbrev S1x2064x1024 : Shape := ⟨3, ![1, 2064, 1024]⟩
abbrev S1x2064x8 : Shape := ⟨3, ![1, 2064, 8]⟩
abbrev S1x1x8 : Shape := ⟨3, ![1, 1, 8]⟩
abbrev S1x2064x4 : Shape := ⟨3, ![1, 2064, 4]⟩
abbrev S1x2064x4x128 : Shape := ⟨4, ![1, 2064, 4, 128]⟩
abbrev S1x2064x4x256 : Shape := ⟨4, ![1, 2064, 4, 256]⟩
abbrev S1x4x2064x128 : Shape := ⟨4, ![1, 4, 2064, 128]⟩
abbrev S_ : Shape := ⟨0, ![]⟩
abbrev S1x4x2064x256 : Shape := ⟨4, ![1, 4, 2064, 256]⟩
abbrev S1x4x2064 : Shape := ⟨3, ![1, 4, 2064]⟩
abbrev S1x4x2112x128 : Shape := ⟨4, ![1, 4, 2112, 128]⟩
abbrev S1x4x2112x256 : Shape := ⟨4, ![1, 4, 2112, 256]⟩
abbrev S1x4x2112 : Shape := ⟨3, ![1, 4, 2112]⟩
abbrev S64x64 : Shape := ⟨2, ![64, 64]⟩
abbrev S1x4x128x256 : Shape := ⟨4, ![1, 4, 128, 256]⟩
abbrev S1x4x128 : Shape := ⟨3, ![1, 4, 128]⟩
abbrev S1x4 : Shape := ⟨2, ![1, 4]⟩
abbrev S1x4x33x64x128 : Shape := ⟨5, ![1, 4, 33, 64, 128]⟩
abbrev S33x1x4x64x128 : Shape := ⟨5, ![33, 1, 4, 64, 128]⟩
abbrev S1x4x33x64x256 : Shape := ⟨5, ![1, 4, 33, 64, 256]⟩
abbrev S33x1x4x64x256 : Shape := ⟨5, ![33, 1, 4, 64, 256]⟩
abbrev S1x4x33x64 : Shape := ⟨4, ![1, 4, 33, 64]⟩
abbrev S33x1x4x64 : Shape := ⟨4, ![33, 1, 4, 64]⟩
abbrev S33x1x4x128x256 : Shape := ⟨5, ![33, 1, 4, 128, 256]⟩
abbrev S33x1x4x128 : Shape := ⟨4, ![33, 1, 4, 128]⟩
abbrev S33x1x4 : Shape := ⟨3, ![33, 1, 4]⟩
abbrev S1x1x4x64x128 : Shape := ⟨5, ![1, 1, 4, 64, 128]⟩
abbrev S1x4x64x128 : Shape := ⟨4, ![1, 4, 64, 128]⟩
abbrev S1x1x4x64x256 : Shape := ⟨5, ![1, 1, 4, 64, 256]⟩
abbrev S1x4x64x256 : Shape := ⟨4, ![1, 4, 64, 256]⟩
abbrev S1x1x4x64 : Shape := ⟨4, ![1, 1, 4, 64]⟩
abbrev S1x4x64 : Shape := ⟨3, ![1, 4, 64]⟩
abbrev S1x4x64x1 : Shape := ⟨4, ![1, 4, 64, 1]⟩
abbrev S1x4x1x64 : Shape := ⟨4, ![1, 4, 1, 64]⟩
abbrev S1x4x64x64 : Shape := ⟨4, ![1, 4, 64, 64]⟩
abbrev S1x4x1 : Shape := ⟨3, ![1, 4, 1]⟩
abbrev S1x4x1x1 : Shape := ⟨4, ![1, 4, 1, 1]⟩
abbrev S1x1x4x128x256 : Shape := ⟨5, ![1, 1, 4, 128, 256]⟩
abbrev S1x1x4x128 : Shape := ⟨4, ![1, 1, 4, 128]⟩
abbrev S1x1x4 : Shape := ⟨3, ![1, 1, 4]⟩
abbrev S4x1x256 : Shape := ⟨3, ![4, 1, 256]⟩
abbrev S1x4x2064x1 : Shape := ⟨4, ![1, 4, 2064, 1]⟩
abbrev S1x4x1x256 : Shape := ⟨4, ![1, 4, 1, 256]⟩
abbrev S2064x1024 : Shape := ⟨2, ![2064, 1024]⟩
abbrev S2112x1024 : Shape := ⟨2, ![2112, 1024]⟩
abbrev S1x2112x4x256 : Shape := ⟨4, ![1, 2112, 4, 256]⟩
abbrev S33x4x128x256 : Shape := ⟨4, ![33, 4, 128, 256]⟩
abbrev S33x4x128 : Shape := ⟨3, ![33, 4, 128]⟩
abbrev S33x4x1x128 : Shape := ⟨4, ![33, 4, 1, 128]⟩
abbrev S33x4 : Shape := ⟨2, ![33, 4]⟩
abbrev S33x4x1x1 : Shape := ⟨4, ![33, 4, 1, 1]⟩

abbrev nBuf : Space → Nat
  | .hbm => 292
  | .vmem => 0
  | .smem => 0
  | _ => 0

abbrev hbmTy0_0 (i : Nat) : BufTy := match i % 128 with
  | 0 => ⟨S1x2064x3200, .f32⟩
  | 1 => ⟨S8, .f32⟩
  | 2 => ⟨S1024, .f32⟩
  | 3 => ⟨S1x2064x512, .f32⟩
  | 4 => ⟨S1x2064x512, .f32⟩
  | 5 => ⟨S1x2064x1024, .f32⟩
  | 6 => ⟨S1x2064x8, .f32⟩
  | 7 => ⟨S1x1x8, .f32⟩
  | 8 => ⟨S1x2064x8, .f32⟩
  | 9 => ⟨S1x2064x8, .f32⟩
  | 10 => ⟨S1x2064x4, .f32⟩
  | 11 => ⟨S1x2064x4, .f32⟩
  | 12 => ⟨S1x2064x4x128, .f32⟩
  | 13 => ⟨S1x2064x4x128, .f32⟩
  | 14 => ⟨S1x2064x4x256, .f32⟩
  | 15 => ⟨S1x4x2064x128, .f32⟩
  | 16 => ⟨S_, .f32⟩
  | 17 => ⟨S1x4x2064x128, .f32⟩
  | 18 => ⟨S1x4x2064x128, .f32⟩
  | 19 => ⟨S1x4x2064x128, .f32⟩
  | 20 => ⟨S1x4x2064x256, .f32⟩
  | 21 => ⟨S_, .f32⟩
  | 22 => ⟨S1x2064x4, .f32⟩
  | 23 => ⟨S1x2064x4, .f32⟩
  | 24 => ⟨S1x2064x4, .f32⟩
  | 25 => ⟨S_, .f32⟩
  | 26 => ⟨S1x2064x4, .f32⟩
  | 27 => ⟨S1x2064x4, .f32⟩
  | 28 => ⟨S1x4x2064, .f32⟩
  | 29 => ⟨S_, .f32⟩
  | 30 => ⟨S1x2064x4, .f32⟩
  | 31 => ⟨S1x2064x4, .f32⟩
  | 32 => ⟨S1x2064x4, .f32⟩
  | 33 => ⟨S_, .f32⟩
  | 34 => ⟨S1x2064x4, .f32⟩
  | 35 => ⟨S1x2064x4, .f32⟩
  | 36 => ⟨S1x4x2064, .f32⟩
  | 37 => ⟨S1x4x2064, .f32⟩
  | 38 => ⟨S_, .f32⟩
  | 39 => ⟨S1x4x2064, .f32⟩
  | 40 => ⟨S1x4x2064, .f32⟩
  | 41 => ⟨S1x4x2064, .f32⟩
  | 42 => ⟨S1x4x2064, .f32⟩
  | 43 => ⟨S1x4x2064, .i1⟩
  | 44 => ⟨S1x4x2064, .f32⟩
  | 45 => ⟨S1x4x2064, .f32⟩
  | 46 => ⟨S1x4x2064, .f32⟩
  | 47 => ⟨S1x4x2064, .f32⟩
  | 48 => ⟨S1x4x2064, .f32⟩
  | 49 => ⟨S1x4x2064, .f32⟩
  | 50 => ⟨S1x4x2064, .f32⟩
  | 51 => ⟨S1x4x2064, .f32⟩
  | 52 => ⟨S1x4x2064, .f32⟩
  | 53 => ⟨S_, .i32⟩
  | 54 => ⟨S_, .f32⟩
  | 55 => ⟨S1x4x2112x128, .f32⟩
  | 56 => ⟨S_, .i32⟩
  | 57 => ⟨S_, .f32⟩
  | 58 => ⟨S1x4x2112x128, .f32⟩
  | 59 => ⟨S_, .i32⟩
  | 60 => ⟨S_, .f32⟩
  | 61 => ⟨S1x4x2112x256, .f32⟩
  | 62 => ⟨S_, .f32⟩
  | 63 => ⟨S_, .f32⟩
  | 64 => ⟨S1x4x2112, .f32⟩
  | 65 => ⟨S_, .i32⟩
  | 66 => ⟨S_, .f32⟩
  | 67 => ⟨S1x4x2112, .f32⟩
  | 68 => ⟨S_, .i1⟩
  | 69 => ⟨S64x64, .i1⟩
  | 70 => ⟨S64x64, .i32⟩
  | 71 => ⟨S_, .i32⟩
  | 72 => ⟨S64x64, .i32⟩
  | 73 => ⟨S64x64, .i32⟩
  | 74 => ⟨S64x64, .i32⟩
  | 75 => ⟨S64x64, .i1⟩
  | 76 => ⟨S_, .i1⟩
  | 77 => ⟨S64x64, .i1⟩
  | 78 => ⟨S64x64, .i1⟩
  | 79 => ⟨S_, .f32⟩
  | 80 => ⟨S1x4x128x256, .f32⟩
  | 81 => ⟨S_, .f32⟩
  | 82 => ⟨S1x4x128, .f32⟩
  | 83 => ⟨S_, .f32⟩
  | 84 => ⟨S1x4, .f32⟩
  | 85 => ⟨S1x4x33x64x128, .f32⟩
  | 86 => ⟨S33x1x4x64x128, .f32⟩
  | 87 => ⟨S1x4x33x64x128, .f32⟩
  | 88 => ⟨S33x1x4x64x128, .f32⟩
  | 89 => ⟨S1x4x33x64x256, .f32⟩
  | 90 => ⟨S33x1x4x64x256, .f32⟩
  | 91 => ⟨S1x4x33x64, .f32⟩
  | 92 => ⟨S33x1x4x64, .f32⟩
  | 93 => ⟨S1x4x33x64, .f32⟩
  | 94 => ⟨S33x1x4x64, .f32⟩
  | 95 => ⟨S_, .f32⟩
  | 96 => ⟨S33x1x4x64x256, .f32⟩
  | 97 => ⟨S_, .f32⟩
  | 98 => ⟨S33x1x4x128x256, .f32⟩
  | 99 => ⟨S_, .f32⟩
  | 100 => ⟨S33x1x4x128, .f32⟩
  | 101 => ⟨S_, .f32⟩
  | 102 => ⟨S33x1x4, .f32⟩
  | 103 => ⟨S_, .i32⟩
  | 104 => ⟨S33x1x4x64x128, .f32⟩
  | 105 => ⟨S33x1x4x64x128, .f32⟩
  | 106 => ⟨S33x1x4x64x256, .f32⟩
  | 107 => ⟨S33x1x4x64, .f32⟩
  | 108 => ⟨S33x1x4x64, .f32⟩
  | 109 => ⟨S64x64, .i1⟩
  | 110 => ⟨S_, .i32⟩
  | 111 => ⟨S1x4x128x256, .f32⟩
  | 112 => ⟨S1x4x128, .f32⟩
  | 113 => ⟨S1x4, .f32⟩
  | 114 => ⟨S33x1x4x64x256, .f32⟩
  | 115 => ⟨S33x1x4x128x256, .f32⟩
  | 116 => ⟨S33x1x4x128, .f32⟩
  | 117 => ⟨S33x1x4, .f32⟩
  | 118 => ⟨S_, .i32⟩
  | 119 => ⟨S_, .i1⟩
  | 120 => ⟨S_, .i32⟩
  | 121 => ⟨S_, .i32⟩
  | 122 => ⟨S_, .i32⟩
  | 123 => ⟨S_, .i32⟩
  | 124 => ⟨S1x1x4x64x128, .f32⟩
  | 125 => ⟨S1x4x64x128, .f32⟩
  | 126 => ⟨S_, .i32⟩
  | 127 => ⟨S_, .i32⟩
  | _ => ⟨S1x2064x3200, .f32⟩

abbrev hbmTy0_1 (i : Nat) : BufTy := match i % 128 with
  | 0 => ⟨S_, .i32⟩
  | 1 => ⟨S_, .i32⟩
  | 2 => ⟨S1x1x4x64x128, .f32⟩
  | 3 => ⟨S1x4x64x128, .f32⟩
  | 4 => ⟨S_, .i32⟩
  | 5 => ⟨S_, .i32⟩
  | 6 => ⟨S_, .i32⟩
  | 7 => ⟨S_, .i32⟩
  | 8 => ⟨S1x1x4x64x256, .f32⟩
  | 9 => ⟨S1x4x64x256, .f32⟩
  | 10 => ⟨S_, .i32⟩
  | 11 => ⟨S_, .i32⟩
  | 12 => ⟨S_, .i32⟩
  | 13 => ⟨S1x1x4x64, .f32⟩
  | 14 => ⟨S1x4x64, .f32⟩
  | 15 => ⟨S_, .i32⟩
  | 16 => ⟨S_, .i32⟩
  | 17 => ⟨S_, .i32⟩
  | 18 => ⟨S1x1x4x64, .f32⟩
  | 19 => ⟨S1x4x64, .f32⟩
  | 20 => ⟨S_, .f32⟩
  | 21 => ⟨S_, .f32⟩
  | 22 => ⟨S1x4x64, .f32⟩
  | 23 => ⟨S1x4x64x1, .f32⟩
  | 24 => ⟨S1x4x1x64, .f32⟩
  | 25 => ⟨S1x4x64x64, .f32⟩
  | 26 => ⟨S1x4x64x64, .f32⟩
  | 27 => ⟨S1x4x64x64, .f32⟩
  | 28 => ⟨S1x4x1x64, .f32⟩
  | 29 => ⟨S1x4x64x64, .f32⟩
  | 30 => ⟨S1x4x64x64, .f32⟩
  | 31 => ⟨S_, .f32⟩
  | 32 => ⟨S_, .f32⟩
  | 33 => ⟨S1x4x64x64, .i1⟩
  | 34 => ⟨S1x4x64x64, .f32⟩
  | 35 => ⟨S1x4x64x64, .f32⟩
  | 36 => ⟨S1x4x1, .f32⟩
  | 37 => ⟨S1x4x64, .f32⟩
  | 38 => ⟨S1x4x64, .f32⟩
  | 39 => ⟨S_, .f32⟩
  | 40 => ⟨S1x4x64, .f32⟩
  | 41 => ⟨S1x4x64, .f32⟩
  | 42 => ⟨S1x4x64, .f32⟩
  | 43 => ⟨S1x4x64, .f32⟩
  | 44 => ⟨S1x4x64x64, .f32⟩
  | 45 => ⟨S1x4x64x1, .f32⟩
  | 46 => ⟨S1x4x64x64, .f32⟩
  | 47 => ⟨S1x4x64x64, .f32⟩
  | 48 => ⟨S1x4x64x64, .f32⟩
  | 49 => ⟨S1x4x64x64, .f32⟩
  | 50 => ⟨S1x4x64x1, .f32⟩
  | 51 => ⟨S1x4x64x256, .f32⟩
  | 52 => ⟨S1x4x64x256, .f32⟩
  | 53 => ⟨S1x4x64x256, .f32⟩
  | 54 => ⟨S1x4x64x256, .f32⟩
  | 55 => ⟨S1x4x64x256, .f32⟩
  | 56 => ⟨S1x4x64, .f32⟩
  | 57 => ⟨S1x4x64, .f32⟩
  | 58 => ⟨S_, .f32⟩
  | 59 => ⟨S1x4x64, .f32⟩
  | 60 => ⟨S1x4x64, .f32⟩
  | 61 => ⟨S1x4x64, .f32⟩
  | 62 => ⟨S1x4x64, .f32⟩
  | 63 => ⟨S1x4x64, .f32⟩
  | 64 => ⟨S1x4x64, .f32⟩
  | 65 => ⟨S1x4x64x1, .f32⟩
  | 66 => ⟨S1x4x64x256, .f32⟩
  | 67 => ⟨S1x4x64x256, .f32⟩
  | 68 => ⟨S1x4x1, .f32⟩
  | 69 => ⟨S1x4, .f32⟩
  | 70 => ⟨S1x4x1, .f32⟩
  | 71 => ⟨S1x4x64, .f32⟩
  | 72 => ⟨S1x4x64, .f32⟩
  | 73 => ⟨S1x4x64, .f32⟩
  | 74 => ⟨S1x4, .f32⟩
  | 75 => ⟨S_, .f32⟩
  | 76 => ⟨S1x4, .f32⟩
  | 77 => ⟨S1x4, .f32⟩
  | 78 => ⟨S1x4, .f32⟩
  | 79 => ⟨S1x4, .f32⟩
  | 80 => ⟨S1x4x1, .f32⟩
  | 81 => ⟨S1x4x64, .f32⟩
  | 82 => ⟨S1x4x64, .f32⟩
  | 83 => ⟨S1x4x64, .f32⟩
  | 84 => ⟨S1x4x1x1, .f32⟩
  | 85 => ⟨S1x4x128x256, .f32⟩
  | 86 => ⟨S1x4x128x256, .f32⟩
  | 87 => ⟨S1x4x64x1, .f32⟩
  | 88 => ⟨S1x4x64x128, .f32⟩
  | 89 => ⟨S1x4x64x128, .f32⟩
  | 90 => ⟨S1x4x128x256, .f32⟩
  | 91 => ⟨S1x4x128x256, .f32⟩
  | 92 => ⟨S1x4x1, .f32⟩
  | 93 => ⟨S1x4x128, .f32⟩
  | 94 => ⟨S1x4x128, .f32⟩
  | 95 => ⟨S1x4x128, .f32⟩
  | 96 => ⟨S1x4x128, .f32⟩
  | 97 => ⟨S1x1x4x64x256, .f32⟩
  | 98 => ⟨S_, .i32⟩
  | 99 => ⟨S_, .i32⟩
  | 100 => ⟨S_, .i32⟩
  | 101 => ⟨S_, .i32⟩
  | 102 => ⟨S33x1x4x64x256, .f32⟩
  | 103 => ⟨S1x1x4x128x256, .f32⟩
  | 104 => ⟨S_, .i32⟩
  | 105 => ⟨S_, .i32⟩
  | 106 => ⟨S_, .i32⟩
  | 107 => ⟨S_, .i32⟩
  | 108 => ⟨S33x1x4x128x256, .f32⟩
  | 109 => ⟨S1x1x4x128, .f32⟩
  | 110 => ⟨S_, .i32⟩
  | 111 => ⟨S_, .i32⟩
  | 112 => ⟨S_, .i32⟩
  | 113 => ⟨S33x1x4x128, .f32⟩
  | 114 => ⟨S1x1x4, .f32⟩
  | 115 => ⟨S_, .i32⟩
  | 116 => ⟨S_, .i32⟩
  | 117 => ⟨S33x1x4, .f32⟩
  | 118 => ⟨S_, .i32⟩
  | 119 => ⟨S_, .i32⟩
  | 120 => ⟨S1x4x33x64x256, .f32⟩
  | 121 => ⟨S1x4x2112x256, .f32⟩
  | 122 => ⟨S1x4x2064x256, .f32⟩
  | 123 => ⟨S4x1x256, .f32⟩
  | 124 => ⟨S1x4x2064x256, .f32⟩
  | 125 => ⟨S_, .f32⟩
  | 126 => ⟨S1x4x2064, .f32⟩
  | 127 => ⟨S1x4x2064x1, .f32⟩
  | _ => ⟨S1x2064x3200, .f32⟩

abbrev hbmTy0_2 (i : Nat) : BufTy := match i % 128 with
  | 0 => ⟨S_, .f32⟩
  | 1 => ⟨S1x4x2064x1, .f32⟩
  | 2 => ⟨S1x4x2064x1, .f32⟩
  | 3 => ⟨S_, .f32⟩
  | 4 => ⟨S1x4x2064x1, .f32⟩
  | 5 => ⟨S1x4x2064x1, .f32⟩
  | 6 => ⟨S1x4x2064x1, .f32⟩
  | 7 => ⟨S1x4x2064x256, .f32⟩
  | 8 => ⟨S1x4x2064x256, .f32⟩
  | 9 => ⟨S1x4x1x256, .f32⟩
  | 10 => ⟨S1x4x2064x256, .f32⟩
  | 11 => ⟨S1x4x2064x256, .f32⟩
  | 12 => ⟨S1x2064x4x256, .f32⟩
  | 13 => ⟨S1x2064x1024, .f32⟩
  | 14 => ⟨S1x2064x1024, .f32⟩
  | 15 => ⟨S1x2064x1024, .f32⟩
  | 16 => ⟨S1x2064x1024, .f32⟩
  | 17 => ⟨S_, .f32⟩
  | 18 => ⟨S1x2064x1024, .f32⟩
  | 19 => ⟨S1x2064x1024, .f32⟩
  | 20 => ⟨S_, .f32⟩
  | 21 => ⟨S1x2064x1024, .f32⟩
  | 22 => ⟨S1x2064x1024, .f32⟩
  | 23 => ⟨S1x2064x1024, .f32⟩
  | 24 => ⟨S2064x1024, .f32⟩
  | 25 => ⟨S_, .i32⟩
  | 26 => ⟨S_, .f32⟩
  | 27 => ⟨S2112x1024, .f32⟩
  | 28 => ⟨S2112x1024, .bf16⟩
  | 29 => ⟨S1x2112x4x256, .f32⟩
  | 30 => ⟨S2112x1024, .f32⟩
  | 31 => ⟨S33x4x128x256, .f32⟩
  | 32 => ⟨S33x4x128, .f32⟩
  | 33 => ⟨S33x4x1x128, .f32⟩
  | 34 => ⟨S33x4, .f32⟩
  | 35 => ⟨S33x4x1x1, .f32⟩
  | _ => ⟨S1x2064x3200, .f32⟩

abbrev hbmTy (i : Nat) : BufTy := match i / 128 with
  | 0 => hbmTy0_0 i
  | 1 => hbmTy0_1 i
  | 2 => hbmTy0_2 i
  | _ => ⟨S1x2064x3200, .f32⟩

abbrev bufTy : (tb : Table) → Fin (tcTables nBuf tb) → BufTy
  | .hbm, ⟨i, _⟩ => hbmTy i
  | _, _ => ⟨S1x2064x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_call0_cst : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_v30 : Ref sig .tc := ⟨.hbm, 51, rfl⟩
abbrev main_v31 : Ref sig .tc := ⟨.hbm, 52, rfl⟩
abbrev main_c : Ref sig .tc := ⟨.hbm, 53, rfl⟩
abbrev main_call1_v0 : Ref sig .tc := ⟨.hbm, 54, rfl⟩
abbrev main_v32 : Ref sig .tc := ⟨.hbm, 55, rfl⟩
abbrev main_c_4 : Ref sig .tc := ⟨.hbm, 56, rfl⟩
abbrev main_call2_v0 : Ref sig .tc := ⟨.hbm, 57, rfl⟩
abbrev main_v33 : Ref sig .tc := ⟨.hbm, 58, rfl⟩
abbrev main_c_5 : Ref sig .tc := ⟨.hbm, 59, rfl⟩
abbrev main_call3_v0 : Ref sig .tc := ⟨.hbm, 60, rfl⟩
abbrev main_v34 : Ref sig .tc := ⟨.hbm, 61, rfl⟩
abbrev main_cst_6 : Ref sig .tc := ⟨.hbm, 62, rfl⟩
abbrev main_call4_v0 : Ref sig .tc := ⟨.hbm, 63, rfl⟩
abbrev main_v35 : Ref sig .tc := ⟨.hbm, 64, rfl⟩
abbrev main_c_7 : Ref sig .tc := ⟨.hbm, 65, rfl⟩
abbrev main_call5_v0 : Ref sig .tc := ⟨.hbm, 66, rfl⟩
abbrev main_v36 : Ref sig .tc := ⟨.hbm, 67, rfl⟩
abbrev main_c_8 : Ref sig .tc := ⟨.hbm, 68, rfl⟩
abbrev main_v37 : Ref sig .tc := ⟨.hbm, 69, rfl⟩
abbrev main_call6_v0 : Ref sig .tc := ⟨.hbm, 70, rfl⟩
abbrev main_call6_c : Ref sig .tc := ⟨.hbm, 71, rfl⟩
abbrev main_call6_v1 : Ref sig .tc := ⟨.hbm, 72, rfl⟩
abbrev main_call6_v2 : Ref sig .tc := ⟨.hbm, 73, rfl⟩
abbrev main_call6_v3 : Ref sig .tc := ⟨.hbm, 74, rfl⟩
abbrev main_call6_v4 : Ref sig .tc := ⟨.hbm, 75, rfl⟩
abbrev main_call6_c_0 : Ref sig .tc := ⟨.hbm, 76, rfl⟩
abbrev main_call6_v5 : Ref sig .tc := ⟨.hbm, 77, rfl⟩
abbrev main_v38 : Ref sig .tc := ⟨.hbm, 78, rfl⟩
abbrev main_cst_9 : Ref sig .tc := ⟨.hbm, 79, rfl⟩
abbrev main_v39 : Ref sig .tc := ⟨.hbm, 80, rfl⟩
abbrev main_cst_10 : Ref sig .tc := ⟨.hbm, 81, rfl⟩
abbrev main_v40 : Ref sig .tc := ⟨.hbm, 82, rfl⟩
abbrev main_cst_11 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_cst_12 : Ref sig .tc := ⟨.hbm, 95, rfl⟩
abbrev main_v52 : Ref sig .tc := ⟨.hbm, 96, rfl⟩
abbrev main_cst_13 : Ref sig .tc := ⟨.hbm, 97, rfl⟩
abbrev main_v53 : Ref sig .tc := ⟨.hbm, 98, rfl⟩
abbrev main_cst_14 : Ref sig .tc := ⟨.hbm, 99, rfl⟩
abbrev main_v54 : Ref sig .tc := ⟨.hbm, 100, rfl⟩
abbrev main_cst_15 : Ref sig .tc := ⟨.hbm, 101, rfl⟩
abbrev main_v55 : Ref sig .tc := ⟨.hbm, 102, rfl⟩
abbrev main_c_16 : Ref sig .tc := ⟨.hbm, 103, rfl⟩
abbrev main_v56_0 : Ref sig .tc := ⟨.hbm, 104, rfl⟩
abbrev main_v56_1 : Ref sig .tc := ⟨.hbm, 105, rfl⟩
abbrev main_v56_2 : Ref sig .tc := ⟨.hbm, 106, rfl⟩
abbrev main_v56_3 : Ref sig .tc := ⟨.hbm, 107, rfl⟩
abbrev main_v56_4 : Ref sig .tc := ⟨.hbm, 108, rfl⟩
abbrev main_v56_5 : Ref sig .tc := ⟨.hbm, 109, rfl⟩
abbrev main_v56_6 : Ref sig .tc := ⟨.hbm, 110, rfl⟩
abbrev main_v56_7 : Ref sig .tc := ⟨.hbm, 111, rfl⟩
abbrev main_v56_8 : Ref sig .tc := ⟨.hbm, 112, rfl⟩
abbrev main_v56_9 : Ref sig .tc := ⟨.hbm, 113, rfl⟩
abbrev main_v56_10 : Ref sig .tc := ⟨.hbm, 114, rfl⟩
abbrev main_v56_11 : Ref sig .tc := ⟨.hbm, 115, rfl⟩
abbrev main_v56_12 : Ref sig .tc := ⟨.hbm, 116, rfl⟩
abbrev main_v56_13 : Ref sig .tc := ⟨.hbm, 117, rfl⟩
abbrev main_while0c_c_36 : Ref sig .tc := ⟨.hbm, 118, rfl⟩
abbrev main_while0c_v94 : Ref sig .tc := ⟨.hbm, 119, rfl⟩
abbrev main_while0b_call7_c : Ref sig .tc := ⟨.hbm, 120, rfl⟩
abbrev main_while0b_call7_c_0 : Ref sig .tc := ⟨.hbm, 121, rfl⟩
abbrev main_while0b_call7_c_1 : Ref sig .tc := ⟨.hbm, 122, rfl⟩
abbrev main_while0b_call7_c_2 : Ref sig .tc := ⟨.hbm, 123, rfl⟩
abbrev main_while0b_call7_v0 : Ref sig .tc := ⟨.hbm, 124, rfl⟩
abbrev main_while0b_v94 : Ref sig .tc := ⟨.hbm, 125, rfl⟩
abbrev main_while0b_call8_c : Ref sig .tc := ⟨.hbm, 126, rfl⟩
abbrev main_while0b_call8_c_0 : Ref sig .tc := ⟨.hbm, 127, rfl⟩
abbrev main_while0b_call8_c_1 : Ref sig .tc := ⟨.hbm, 128, rfl⟩
abbrev main_while0b_call8_c_2 : Ref sig .tc := ⟨.hbm, 129, rfl⟩
abbrev main_while0b_call8_v0 : Ref sig .tc := ⟨.hbm, 130, rfl⟩
abbrev main_while0b_v95 : Ref sig .tc := ⟨.hbm, 131, rfl⟩
abbrev main_while0b_call9_c : Ref sig .tc := ⟨.hbm, 132, rfl⟩
abbrev main_while0b_call9_c_0 : Ref sig .tc := ⟨.hbm, 133, rfl⟩
abbrev main_while0b_call9_c_1 : Ref sig .tc := ⟨.hbm, 134, rfl⟩
abbrev main_while0b_call9_c_2 : Ref sig .tc := ⟨.hbm, 135, rfl⟩
abbrev main_while0b_call9_v0 : Ref sig .tc := ⟨.hbm, 136, rfl⟩
abbrev main_while0b_v96 : Ref sig .tc := ⟨.hbm, 137, rfl⟩
abbrev main_while0b_call10_c : Ref sig .tc := ⟨.hbm, 138, rfl⟩
abbrev main_while0b_call10_c_0 : Ref sig .tc := ⟨.hbm, 139, rfl⟩
abbrev main_while0b_call10_c_1 : Ref sig .tc := ⟨.hbm, 140, rfl⟩
abbrev main_while0b_call10_v0 : Ref sig .tc := ⟨.hbm, 141, rfl⟩
abbrev main_while0b_v97 : Ref sig .tc := ⟨.hbm, 142, rfl⟩
abbrev main_while0b_call11_c : Ref sig .tc := ⟨.hbm, 143, rfl⟩
abbrev main_while0b_call11_c_0 : Ref sig .tc := ⟨.hbm, 144, rfl⟩
abbrev main_while0b_call11_c_1 : Ref sig .tc := ⟨.hbm, 145, rfl⟩
abbrev main_while0b_call11_v0 : Ref sig .tc := ⟨.hbm, 146, rfl⟩
abbrev main_while0b_v98 : Ref sig .tc := ⟨.hbm, 147, rfl⟩
abbrev main_while0b_call12_call0_cst : Ref sig .tc := ⟨.hbm, 148, rfl⟩
abbrev main_while0b_call12_call0_v0 : Ref sig .tc := ⟨.hbm, 149, rfl⟩
abbrev main_while0b_v99 : Ref sig .tc := ⟨.hbm, 150, rfl⟩
abbrev main_while0b_v100 : Ref sig .tc := ⟨.hbm, 151, rfl⟩
abbrev main_while0b_v101 : Ref sig .tc := ⟨.hbm, 152, rfl⟩
abbrev main_while0b_v102 : Ref sig .tc := ⟨.hbm, 153, rfl⟩
abbrev main_while0b_v103 : Ref sig .tc := ⟨.hbm, 154, rfl⟩
abbrev main_while0b_v104 : Ref sig .tc := ⟨.hbm, 155, rfl⟩
abbrev main_while0b_v105 : Ref sig .tc := ⟨.hbm, 156, rfl⟩
abbrev main_while0b_v106 : Ref sig .tc := ⟨.hbm, 157, rfl⟩
abbrev main_while0b_v107 : Ref sig .tc := ⟨.hbm, 158, rfl⟩
abbrev main_while0b_cst_36 : Ref sig .tc := ⟨.hbm, 159, rfl⟩
abbrev main_while0b_call13_v0 : Ref sig .tc := ⟨.hbm, 160, rfl⟩
abbrev main_while0b_call13_v1 : Ref sig .tc := ⟨.hbm, 161, rfl⟩
abbrev main_while0b_call13_v2 : Ref sig .tc := ⟨.hbm, 162, rfl⟩
abbrev main_while0b_v108 : Ref sig .tc := ⟨.hbm, 163, rfl⟩
abbrev main_while0b_v109 : Ref sig .tc := ⟨.hbm, 164, rfl⟩
abbrev main_while0b_v110 : Ref sig .tc := ⟨.hbm, 165, rfl⟩
abbrev main_while0b_v111 : Ref sig .tc := ⟨.hbm, 166, rfl⟩
abbrev main_while0b_cst_37 : Ref sig .tc := ⟨.hbm, 167, rfl⟩
abbrev main_while0b_v112 : Ref sig .tc := ⟨.hbm, 168, rfl⟩
abbrev main_while0b_v113 : Ref sig .tc := ⟨.hbm, 169, rfl⟩
abbrev main_while0b_v114 : Ref sig .tc := ⟨.hbm, 170, rfl⟩
abbrev main_while0b_v115 : Ref sig .tc := ⟨.hbm, 171, rfl⟩
abbrev main_while0b_v116 : Ref sig .tc := ⟨.hbm, 172, rfl⟩
abbrev main_while0b_v117 : Ref sig .tc := ⟨.hbm, 173, rfl⟩
abbrev main_while0b_v118 : Ref sig .tc := ⟨.hbm, 174, rfl⟩
abbrev main_while0b_v119 : Ref sig .tc := ⟨.hbm, 175, rfl⟩
abbrev main_while0b_v120 : Ref sig .tc := ⟨.hbm, 176, rfl⟩
abbrev main_while0b_v121 : Ref sig .tc := ⟨.hbm, 177, rfl⟩
abbrev main_while0b_v122 : Ref sig .tc := ⟨.hbm, 178, rfl⟩
abbrev main_while0b_v123 : Ref sig .tc := ⟨.hbm, 179, rfl⟩
abbrev main_while0b_v124 : Ref sig .tc := ⟨.hbm, 180, rfl⟩
abbrev main_while0b_v125 : Ref sig .tc := ⟨.hbm, 181, rfl⟩
abbrev main_while0b_v126 : Ref sig .tc := ⟨.hbm, 182, rfl⟩
abbrev main_while0b_v127 : Ref sig .tc := ⟨.hbm, 183, rfl⟩
abbrev main_while0b_v128 : Ref sig .tc := ⟨.hbm, 184, rfl⟩
abbrev main_while0b_v129 : Ref sig .tc := ⟨.hbm, 185, rfl⟩
abbrev main_while0b_cst_38 : Ref sig .tc := ⟨.hbm, 186, rfl⟩
abbrev main_while0b_v130 : Ref sig .tc := ⟨.hbm, 187, rfl⟩
abbrev main_while0b_v131 : Ref sig .tc := ⟨.hbm, 188, rfl⟩
abbrev main_while0b_v132 : Ref sig .tc := ⟨.hbm, 189, rfl⟩
abbrev main_while0b_v133 : Ref sig .tc := ⟨.hbm, 190, rfl⟩
abbrev main_while0b_v134 : Ref sig .tc := ⟨.hbm, 191, rfl⟩
abbrev main_while0b_v135 : Ref sig .tc := ⟨.hbm, 192, rfl⟩
abbrev main_while0b_v136 : Ref sig .tc := ⟨.hbm, 193, rfl⟩
abbrev main_while0b_v137 : Ref sig .tc := ⟨.hbm, 194, rfl⟩
abbrev main_while0b_v138 : Ref sig .tc := ⟨.hbm, 195, rfl⟩
abbrev main_while0b_v139 : Ref sig .tc := ⟨.hbm, 196, rfl⟩
abbrev main_while0b_v140 : Ref sig .tc := ⟨.hbm, 197, rfl⟩
abbrev main_while0b_v141 : Ref sig .tc := ⟨.hbm, 198, rfl⟩
abbrev main_while0b_v142 : Ref sig .tc := ⟨.hbm, 199, rfl⟩
abbrev main_while0b_v143 : Ref sig .tc := ⟨.hbm, 200, rfl⟩
abbrev main_while0b_v144 : Ref sig .tc := ⟨.hbm, 201, rfl⟩
abbrev main_while0b_v145 : Ref sig .tc := ⟨.hbm, 202, rfl⟩
abbrev main_while0b_cst_39 : Ref sig .tc := ⟨.hbm, 203, rfl⟩
abbrev main_while0b_v146 : Ref sig .tc := ⟨.hbm, 204, rfl⟩
abbrev main_while0b_v147 : Ref sig .tc := ⟨.hbm, 205, rfl⟩
abbrev main_while0b_v148 : Ref sig .tc := ⟨.hbm, 206, rfl⟩
abbrev main_while0b_v149 : Ref sig .tc := ⟨.hbm, 207, rfl⟩
abbrev main_while0b_v150 : Ref sig .tc := ⟨.hbm, 208, rfl⟩
abbrev main_while0b_v151 : Ref sig .tc := ⟨.hbm, 209, rfl⟩
abbrev main_while0b_v152 : Ref sig .tc := ⟨.hbm, 210, rfl⟩
abbrev main_while0b_v153 : Ref sig .tc := ⟨.hbm, 211, rfl⟩
abbrev main_while0b_v154 : Ref sig .tc := ⟨.hbm, 212, rfl⟩
abbrev main_while0b_v155 : Ref sig .tc := ⟨.hbm, 213, rfl⟩
abbrev main_while0b_v156 : Ref sig .tc := ⟨.hbm, 214, rfl⟩
abbrev main_while0b_v157 : Ref sig .tc := ⟨.hbm, 215, rfl⟩
abbrev main_while0b_v158 : Ref sig .tc := ⟨.hbm, 216, rfl⟩
abbrev main_while0b_v159 : Ref sig .tc := ⟨.hbm, 217, rfl⟩
abbrev main_while0b_v160 : Ref sig .tc := ⟨.hbm, 218, rfl⟩
abbrev main_while0b_v161 : Ref sig .tc := ⟨.hbm, 219, rfl⟩
abbrev main_while0b_v162 : Ref sig .tc := ⟨.hbm, 220, rfl⟩
abbrev main_while0b_v163 : Ref sig .tc := ⟨.hbm, 221, rfl⟩
abbrev main_while0b_v164 : Ref sig .tc := ⟨.hbm, 222, rfl⟩
abbrev main_while0b_v165 : Ref sig .tc := ⟨.hbm, 223, rfl⟩
abbrev main_while0b_v166 : Ref sig .tc := ⟨.hbm, 224, rfl⟩
abbrev main_while0b_call14_v0 : Ref sig .tc := ⟨.hbm, 225, rfl⟩
abbrev main_while0b_call14_c : Ref sig .tc := ⟨.hbm, 226, rfl⟩
abbrev main_while0b_call14_c_0 : Ref sig .tc := ⟨.hbm, 227, rfl⟩
abbrev main_while0b_call14_c_1 : Ref sig .tc := ⟨.hbm, 228, rfl⟩
abbrev main_while0b_call14_c_2 : Ref sig .tc := ⟨.hbm, 229, rfl⟩
abbrev main_while0b_v167 : Ref sig .tc := ⟨.hbm, 230, rfl⟩
abbrev main_while0b_call15_v0 : Ref sig .tc := ⟨.hbm, 231, rfl⟩
abbrev main_while0b_call15_c : Ref sig .tc := ⟨.hbm, 232, rfl⟩
abbrev main_while0b_call15_c_0 : Ref sig .tc := ⟨.hbm, 233, rfl⟩
abbrev main_while0b_call15_c_1 : Ref sig .tc := ⟨.hbm, 234, rfl⟩
abbrev main_while0b_call15_c_2 : Ref sig .tc := ⟨.hbm, 235, rfl⟩
abbrev main_while0b_v168 : Ref sig .tc := ⟨.hbm, 236, rfl⟩
abbrev main_while0b_call16_v0 : Ref sig .tc := ⟨.hbm, 237, rfl⟩
abbrev main_while0b_call16_c : Ref sig .tc := ⟨.hbm, 238, rfl⟩
abbrev main_while0b_call16_c_0 : Ref sig .tc := ⟨.hbm, 239, rfl⟩
abbrev main_while0b_call16_c_1 : Ref sig .tc := ⟨.hbm, 240, rfl⟩
abbrev main_while0b_v169 : Ref sig .tc := ⟨.hbm, 241, rfl⟩
abbrev main_while0b_call17_v0 : Ref sig .tc := ⟨.hbm, 242, rfl⟩
abbrev main_while0b_call17_c : Ref sig .tc := ⟨.hbm, 243, rfl⟩
abbrev main_while0b_call17_c_0 : Ref sig .tc := ⟨.hbm, 244, rfl⟩
abbrev main_while0b_v170 : Ref sig .tc := ⟨.hbm, 245, rfl⟩
abbrev main_while0b_c_40 : Ref sig .tc := ⟨.hbm, 246, rfl⟩
abbrev main_while0b_v171 : Ref sig .tc := ⟨.hbm, 247, rfl⟩
abbrev main_v57 : Ref sig .tc := ⟨.hbm, 248, rfl⟩
abbrev main_v58 : Ref sig .tc := ⟨.hbm, 249, rfl⟩
abbrev main_v59 : Ref sig .tc := ⟨.hbm, 250, rfl⟩
abbrev main_v60 : Ref sig .tc := ⟨.hbm, 251, rfl⟩
abbrev main_v61 : Ref sig .tc := ⟨.hbm, 252, rfl⟩
abbrev main_cst_17 : Ref sig .tc := ⟨.hbm, 253, rfl⟩
abbrev main_v62 : Ref sig .tc := ⟨.hbm, 254, rfl⟩
abbrev main_v63 : Ref sig .tc := ⟨.hbm, 255, rfl⟩
abbrev main_cst_18 : Ref sig .tc := ⟨.hbm, 256, rfl⟩
abbrev main_v64 : Ref sig .tc := ⟨.hbm, 257, rfl⟩
abbrev main_v65 : Ref sig .tc := ⟨.hbm, 258, rfl⟩
abbrev main_cst_19 : Ref sig .tc := ⟨.hbm, 259, rfl⟩
abbrev main_v66 : Ref sig .tc := ⟨.hbm, 260, rfl⟩
abbrev main_v67 : Ref sig .tc := ⟨.hbm, 261, rfl⟩
abbrev main_v68 : Ref sig .tc := ⟨.hbm, 262, rfl⟩
abbrev main_v69 : Ref sig .tc := ⟨.hbm, 263, rfl⟩
abbrev main_v70 : Ref sig .tc := ⟨.hbm, 264, rfl⟩
abbrev main_v71 : Ref sig .tc := ⟨.hbm, 265, rfl⟩
abbrev main_v72 : Ref sig .tc := ⟨.hbm, 266, rfl⟩
abbrev main_v73 : Ref sig .tc := ⟨.hbm, 267, rfl⟩
abbrev main_v74 : Ref sig .tc := ⟨.hbm, 268, rfl⟩
abbrev main_v75 : Ref sig .tc := ⟨.hbm, 269, rfl⟩
abbrev main_v76 : Ref sig .tc := ⟨.hbm, 270, rfl⟩
abbrev main_v77 : Ref sig .tc := ⟨.hbm, 271, rfl⟩
abbrev main_v78 : Ref sig .tc := ⟨.hbm, 272, rfl⟩
abbrev main_cst_20 : Ref sig .tc := ⟨.hbm, 273, rfl⟩
abbrev main_v79 : Ref sig .tc := ⟨.hbm, 274, rfl⟩
abbrev main_v80 : Ref sig .tc := ⟨.hbm, 275, rfl⟩
abbrev main_cst_21 : Ref sig .tc := ⟨.hbm, 276, rfl⟩
abbrev main_v81 : Ref sig .tc := ⟨.hbm, 277, rfl⟩
abbrev main_v82 : Ref sig .tc := ⟨.hbm, 278, rfl⟩
abbrev main_v83 : Ref sig .tc := ⟨.hbm, 279, rfl⟩
abbrev main_v84 : Ref sig .tc := ⟨.hbm, 280, rfl⟩
abbrev main_c_22 : Ref sig .tc := ⟨.hbm, 281, rfl⟩
abbrev main_call18_v0 : Ref sig .tc := ⟨.hbm, 282, rfl⟩
abbrev main_v85 : Ref sig .tc := ⟨.hbm, 283, rfl⟩
abbrev main_v86 : Ref sig .tc := ⟨.hbm, 284, rfl⟩
abbrev main_v87 : Ref sig .tc := ⟨.hbm, 285, rfl⟩
abbrev main_v88 : Ref sig .tc := ⟨.hbm, 286, rfl⟩
abbrev main_v89 : Ref sig .tc := ⟨.hbm, 287, rfl⟩
abbrev main_v90 : Ref sig .tc := ⟨.hbm, 288, rfl⟩
abbrev main_v91 : Ref sig .tc := ⟨.hbm, 289, rfl⟩
abbrev main_v92 : Ref sig .tc := ⟨.hbm, 290, rfl⟩
abbrev main_v93 : Ref sig .tc := ⟨.hbm, 291, rfl⟩

abbrev nD : Nat := 1
abbrev τ : Topo := Topo.v7x

variable {F : FTy → Type} [FloatOps F]

abbrev main_while0_count : Scf.Loop 32 := ⟨0#32, 33#32, 1#32⟩
-- ==== NormProj.lean ====
abbrev S2112x2048 : Shape := ⟨2, ![2112, 2048]⟩
abbrev S2048 : Shape := ⟨1, ![2048]⟩
abbrev S2048x6152 : Shape := ⟨2, ![2048, 6152]⟩
abbrev S1x2048 : Shape := ⟨2, ![1, 2048]⟩
abbrev S6152x2048 : Shape := ⟨2, ![6152, 2048]⟩
abbrev S2112x3200 : Shape := ⟨2, ![2112, 3200]⟩
abbrev S1056x2048 : Shape := ⟨2, ![1056, 2048]⟩
abbrev S640x2048 : Shape := ⟨2, ![640, 2048]⟩
abbrev S1056x640 : Shape := ⟨2, ![1056, 640]⟩
abbrev S1056 : Shape := ⟨1, ![1056]⟩
abbrev S1056x1 : Shape := ⟨2, ![1056, 1]⟩

abbrev nBuf : Space → Nat
  | .hbm => 8
  | .vmem => 9
  | .smem => 0
  | _ => 0

abbrev bufTy : (tb : Table) → Fin (tcTables nBuf tb) → BufTy
  | .hbm, ⟨0, _⟩ => ⟨S2112x2048, .f32⟩
  | .hbm, ⟨1, _⟩ => ⟨S2048, .f32⟩
  | .hbm, ⟨2, _⟩ => ⟨S2048x6152, .f32⟩
  | .hbm, ⟨3, _⟩ => ⟨S1x2048, .f32⟩
  | .hbm, ⟨4, _⟩ => ⟨S6152x2048, .f32⟩
  | .hbm, ⟨5, _⟩ => ⟨S6152x2048, .bf16⟩
  | .hbm, ⟨6, _⟩ => ⟨S2112x2048, .bf16⟩
  | .hbm, ⟨7, _⟩ => ⟨S2112x3200, .f32⟩
  | .local _ .vmem, ⟨0, _⟩ => ⟨S1056x2048, .f32⟩
  | .local _ .vmem, ⟨1, _⟩ => ⟨S1056x2048, .f32⟩
  | .local _ .vmem, ⟨2, _⟩ => ⟨S1x2048, .f32⟩
  | .local _ .vmem, ⟨3, _⟩ => ⟨S640x2048, .bf16⟩
  | .local _ .vmem, ⟨4, _⟩ => ⟨S640x2048, .bf16⟩
  | .local _ .vmem, ⟨5, _⟩ => ⟨S1056x2048, .bf16⟩
  | .local _ .vmem, ⟨6, _⟩ => ⟨S1056x2048, .bf16⟩
  | .local _ .vmem, ⟨7, _⟩ => ⟨S1056x640, .f32⟩
  | .local _ .vmem, ⟨8, _⟩ => ⟨S1056x640, .f32⟩
  | _, _ => ⟨S2112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1056x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S640x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1056x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1056x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== NormProjRefIdeal.lean ====
abbrev S2112x2048 : Shape := ⟨2, ![2112, 2048]⟩
abbrev S2048 : Shape := ⟨1, ![2048]⟩
abbrev S2048x6152 : Shape := ⟨2, ![2048, 6152]⟩
abbrev S_ : Shape := ⟨0, ![]⟩
abbrev S2112 : Shape := ⟨1, ![2112]⟩
abbrev S2112x1 : Shape := ⟨2, ![2112, 1]⟩
abbrev S1x2048 : Shape := ⟨2, ![1, 2048]⟩
abbrev S2048x3200 : Shape := ⟨2, ![2048, 3200]⟩
abbrev S2112x3200 : Shape := ⟨2, ![2112, 3200]⟩

abbrev nBuf : Space → Nat
  | .hbm => 22
  | .vmem => 0
  | .smem => 0
  | _ => 0

abbrev bufTy : (tb : Table) → Fin (tcTables nBuf tb) → BufTy
  | .hbm, ⟨0, _⟩ => ⟨S2112x2048, .f32⟩
  | .hbm, ⟨1, _⟩ => ⟨S2048, .f32⟩
  | .hbm, ⟨2, _⟩ => ⟨S2048x6152, .f32⟩
  | .hbm, ⟨3, _⟩ => ⟨S2112x2048, .f32⟩
  | .hbm, ⟨4, _⟩ => ⟨S_, .f32⟩
  | .hbm, ⟨5, _⟩ => ⟨S2112, .f32⟩
  | .hbm, ⟨6, _⟩ => ⟨S2112x1, .f32⟩
  | .hbm, ⟨7, _⟩ => ⟨S_, .f32⟩
  | .hbm, ⟨8, _⟩ => ⟨S2112x1, .f32⟩
  | .hbm, ⟨9, _⟩ => ⟨S2112x1, .f32⟩
  | .hbm, ⟨10, _⟩ => ⟨S_, .f32⟩
  | .hbm, ⟨11, _⟩ => ⟨S2112x1, .f32⟩
  | .hbm, ⟨12, _⟩ => ⟨S2112x1, .f32⟩
  | .hbm, ⟨13, _⟩ => ⟨S2112x1, .f32⟩
  | .hbm, ⟨14, _⟩ => ⟨S2112x2048, .f32⟩
  | .hbm, ⟨15, _⟩ => ⟨S2112x2048, .f32⟩
  | .hbm, ⟨16, _⟩ => ⟨S1x2048, .f32⟩
  | .hbm, ⟨17, _⟩ => ⟨S2112x2048, .f32⟩
  | .hbm, ⟨18, _⟩ => ⟨S2112x2048, .f32⟩
  | .hbm, ⟨19, _⟩ => ⟨S2112x2048, .bf16⟩
  | .hbm, ⟨20, _⟩ => ⟨S2048x3200, .f32⟩
  | .hbm, ⟨21, _⟩ => ⟨S2112x3200, .f32⟩
  | _, _ => ⟨S2112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== OutProj.lean ====
abbrev S2112x2048 : Shape := ⟨2, ![2112, 2048]⟩
abbrev S2048x2048 : Shape := ⟨2, ![2048, 2048]⟩
abbrev S2048 : Shape := ⟨1, ![2048]⟩
abbrev S1x2048 : Shape := ⟨2, ![1, 2048]⟩
abbrev S528x2048 : Shape := ⟨2, ![528, 2048]⟩
abbrev S528 : Shape := ⟨1, ![528]⟩
abbrev S528x1 : Shape := ⟨2, ![528, 1]⟩

abbrev nBuf : Space → Nat
  | .hbm => 9
  | .vmem => 10
  | .smem => 0
  | _ => 0

abbrev bufTy : (tb : Table) → Fin (tcTables nBuf tb) → BufTy
  | .hbm, ⟨0, _⟩ => ⟨S2112x2048, .f32⟩
  | .hbm, ⟨1, _⟩ => ⟨S2048x2048, .f32⟩
  | .hbm, ⟨2, _⟩ => ⟨S2112x2048, .f32⟩
  | .hbm, ⟨3, _⟩ => ⟨S2048, .f32⟩
  | .hbm, ⟨4, _⟩ => ⟨S2112x2048, .bf16⟩
  | .hbm, ⟨5, _⟩ => ⟨S2048x2048, .bf16⟩
  | .hbm, ⟨6, _⟩ => ⟨S1x2048, .f32⟩
  | .hbm, ⟨7, _⟩ => ⟨S2112x2048, .f32⟩
  | .hbm, ⟨8, _⟩ => ⟨S2112x2048, .bf16⟩
  | .local _ .vmem, ⟨0, _⟩ => ⟨S528x2048, .bf16⟩
  | .local _ .vmem, ⟨1, _⟩ => ⟨S528x2048, .bf16⟩
  | .local _ .vmem, ⟨2, _⟩ => ⟨S2048x2048, .bf16⟩
  | .local _ .vmem, ⟨3, _⟩ => ⟨S528x2048, .f32⟩
  | .local _ .vmem, ⟨4, _⟩ => ⟨S528x2048, .f32⟩
  | .local _ .vmem, ⟨5, _⟩ => ⟨S1x2048, .f32⟩
  | .local _ .vmem, ⟨6, _⟩ => ⟨S528x2048, .f32⟩
  | .local _ .vmem, ⟨7, _⟩ => ⟨S528x2048, .f32⟩
  | .local _ .vmem, ⟨8, _⟩ => ⟨S528x2048, .bf16⟩
  | .local _ .vmem, ⟨9, _⟩ => ⟨S528x2048, .bf16⟩
  | _, _ => ⟨S2112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S528x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S528x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S528x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S528x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutProjRefIdeal.lean ====
abbrev S2112x2048 : Shape := ⟨2, ![2112, 2048]⟩
abbrev S2048x2048 : Shape := ⟨2, ![2048, 2048]⟩
abbrev S2048 : Shape := ⟨1, ![2048]⟩
abbrev S_ : Shape := ⟨0, ![]⟩
abbrev S2112 : Shape := ⟨1, ![2112]⟩
abbrev S2112x1 : Shape := ⟨2, ![2112, 1]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S2112x2048, .f32⟩
  | .hbm, ⟨1, _⟩ => ⟨S2048x2048, .f32⟩
  | .hbm, ⟨2, _⟩ => ⟨S2112x2048, .f32⟩
  | .hbm, ⟨3, _⟩ => ⟨S2048, .f32⟩
  | .hbm, ⟨4, _⟩ => ⟨S2112x2048, .f32⟩
  | .hbm, ⟨5, _⟩ => ⟨S2112x2048, .f32⟩
  | .hbm, ⟨6, _⟩ => ⟨S2112x2048, .f32⟩
  | .hbm, ⟨7, _⟩ => ⟨S_, .f32⟩
  | .hbm, ⟨8, _⟩ => ⟨S2112, .f32⟩
  | .hbm, ⟨9, _⟩ => ⟨S2112x1, .f32⟩
  | .hbm, ⟨10, _⟩ => ⟨S_, .f32⟩
  | .hbm, ⟨11, _⟩ => ⟨S2112x1, .f32⟩
  | .hbm, ⟨12, _⟩ => ⟨S2112x1, .f32⟩
  | .hbm, ⟨13, _⟩ => ⟨S_, .f32⟩
  | .hbm, ⟨14, _⟩ => ⟨S2112x1, .f32⟩
  | .hbm, ⟨15, _⟩ => ⟨S2112x1, .f32⟩
  | .hbm, ⟨16, _⟩ => ⟨S2112x1, .f32⟩
  | .hbm, ⟨17, _⟩ => ⟨S2112x2048, .f32⟩
  | .hbm, ⟨18, _⟩ => ⟨S2112x2048, .f32⟩
  | .hbm, ⟨19, _⟩ => ⟨S1x2048, .f32⟩
  | .hbm, ⟨20, _⟩ => ⟨S2112x2048, .f32⟩
  | .hbm, ⟨21, _⟩ => ⟨S2112x2048, .f32⟩
  | .hbm, ⟨22, _⟩ => ⟨S2112x2048, .bf16⟩
  | _, _ => ⟨S2112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== ConvFwd.lean ====
abbrev S1x2064x1024 : Shape := ⟨3, ![1, 2064, 1024]⟩
abbrev S3x1024 : Shape := ⟨2, ![3, 1024]⟩
abbrev S3x2064x1024 : Shape := ⟨3, ![3, 2064, 1024]⟩
abbrev S_ : Shape := ⟨0, ![]⟩
abbrev S3x2112x1024 : Shape := ⟨3, ![3, 2112, 1024]⟩
abbrev S2064x1024 : Shape := ⟨2, ![2064, 1024]⟩
abbrev S2112x2048 : Shape := ⟨2, ![2112, 2048]⟩
abbrev S8x1024 : Shape := ⟨2, ![8, 1024]⟩
abbrev S3x2112x128 : Shape := ⟨3, ![3, 2112, 128]⟩
abbrev S8x128 : Shape := ⟨2, ![8, 128]⟩
abbrev S2112x128 : Shape := ⟨2, ![2112, 128]⟩
abbrev S1x2112x128 : Shape := ⟨3, ![1, 2112, 128]⟩
abbrev S1x128 : Shape := ⟨2, ![1, 128]⟩

abbrev nBuf : Space → Nat
  | .hbm => 18
  | .vmem => 6
  | .smem => 0
  | _ => 0

abbrev bufTy : (tb : Table) → Fin (tcTables nBuf tb) → BufTy
  | .hbm, ⟨0, _⟩ => ⟨S1x2064x1024, .f32⟩
  | .hbm, ⟨1, _⟩ => ⟨S1x2064x1024, .f32⟩
  | .hbm, ⟨2, _⟩ => ⟨S1x2064x1024, .f32⟩
  | .hbm, ⟨3, _⟩ => ⟨S3x1024, .f32⟩
  | .hbm, ⟨4, _⟩ => ⟨S1x2064x1024, .f32⟩
  | .hbm, ⟨5, _⟩ => ⟨S3x2064x1024, .f32⟩
  | .hbm, ⟨6, _⟩ => ⟨S_, .i32⟩
  | .hbm, ⟨7, _⟩ => ⟨S_, .f32⟩
  | .hbm, ⟨8, _⟩ => ⟨S3x2112x1024, .f32⟩
  | .hbm, ⟨9, _⟩ => ⟨S2064x1024, .f32⟩
  | .hbm, ⟨10, _⟩ => ⟨S_, .i32⟩
  | .hbm, ⟨11, _⟩ => ⟨S_, .f32⟩
  | .hbm, ⟨12, _⟩ => ⟨S2112x2048, .f32⟩
  | .hbm, ⟨13, _⟩ => ⟨S2112x2048, .bf16⟩
  | .hbm, ⟨14, _⟩ => ⟨S_, .i32⟩
  | .hbm, ⟨15, _⟩ => ⟨S_, .f32⟩
  | .hbm, ⟨16, _⟩ => ⟨S8x1024, .f32⟩
  | .hbm, ⟨17, _⟩ => ⟨S2112x2048, .bf16⟩
  | .local _ .vmem, ⟨0, _⟩ => ⟨S3x2112x128, .f32⟩
  | .local _ .vmem, ⟨1, _⟩ => ⟨S3x2112x128, .f32⟩
  | .local _ .vmem, ⟨2, _⟩ => ⟨S8x128, .f32⟩
  | .local _ .vmem, ⟨3, _⟩ => ⟨S8x128, .f32⟩
  | .local _ .vmem, ⟨4, _⟩ => ⟨S2112x128, .bf16⟩
  | .local _ .vmem, ⟨5, _⟩ => ⟨S2112x128, .bf16⟩
  | _, _ => ⟨S1x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_call2_v0 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

abbrev stage0_0 : Fin 2 → Memref sig .tc .vmem S3x2112x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2112x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ConvFwdRefIdeal.lean ====
abbrev S1x2064x1024 : Shape := ⟨3, ![1, 2064, 1024]⟩
abbrev S3x1024 : Shape := ⟨2, ![3, 1024]⟩
abbrev S_ : Shape := ⟨0, ![]⟩
abbrev S1x2x1024 : Shape := ⟨3, ![1, 2, 1024]⟩
abbrev S1x2066x1024 : Shape := ⟨3, ![1, 2066, 1024]⟩
abbrev S1x1024 : Shape := ⟨2, ![1, 1024]⟩
abbrev S1024 : Shape := ⟨1, ![1024]⟩
abbrev S1x1x1024 : Shape := ⟨3, ![1, 1, 1024]⟩
abbrev S1x2064x2048 : Shape := ⟨3, ![1, 2064, 2048]⟩
abbrev S2064x2048 : Shape := ⟨2, ![2064, 2048]⟩
abbrev S2112x2048 : Shape := ⟨2, ![2112, 2048]⟩

abbrev nBuf : Space → Nat
  | .hbm => 39
  | .vmem => 0
  | .smem => 0
  | _ => 0

abbrev bufTy : (tb : Table) → Fin (tcTables nBuf tb) → BufTy
  | .hbm, ⟨0, _⟩ => ⟨S1x2064x1024, .f32⟩
  | .hbm, ⟨1, _⟩ => ⟨S1x2064x1024, .f32⟩
  | .hbm, ⟨2, _⟩ => ⟨S1x2064x1024, .f32⟩
  | .hbm, ⟨3, _⟩ => ⟨S3x1024, .f32⟩
  | .hbm, ⟨4, _⟩ => ⟨S1x2064x1024, .f32⟩
  | .hbm, ⟨5, _⟩ => ⟨S1x2064x1024, .f32⟩
  | .hbm, ⟨6, _⟩ => ⟨S_, .f32⟩
  | .hbm, ⟨7, _⟩ => ⟨S1x2x1024, .f32⟩
  | .hbm, ⟨8, _⟩ => ⟨S1x2066x1024, .f32⟩
  | .hbm, ⟨9, _⟩ => ⟨S1x2064x1024, .f32⟩
  | .hbm, ⟨10, _⟩ => ⟨S1x1024, .f32⟩
  | .hbm, ⟨11, _⟩ => ⟨S1024, .f32⟩
  | .hbm, ⟨12, _⟩ => ⟨S1x1x1024, .f32⟩
  | .hbm, ⟨13, _⟩ => ⟨S1x2064x1024, .f32⟩
  | .hbm, ⟨14, _⟩ => ⟨S1x2064x1024, .f32⟩
  | .hbm, ⟨15, _⟩ => ⟨S_, .f32⟩
  | .hbm, ⟨16, _⟩ => ⟨S1x2064x1024, .f32⟩
  | .hbm, ⟨17, _⟩ => ⟨S1x2064x1024, .f32⟩
  | .hbm, ⟨18, _⟩ => ⟨S1x2064x1024, .f32⟩
  | .hbm, ⟨19, _⟩ => ⟨S1x1024, .f32⟩
  | .hbm, ⟨20, _⟩ => ⟨S1024, .f32⟩
  | .hbm, ⟨21, _⟩ => ⟨S1x1x1024, .f32⟩
  | .hbm, ⟨22, _⟩ => ⟨S1x2064x1024, .f32⟩
  | .hbm, ⟨23, _⟩ => ⟨S1x2064x1024, .f32⟩
  | .hbm, ⟨24, _⟩ => ⟨S1x2064x1024, .f32⟩
  | .hbm, ⟨25, _⟩ => ⟨S1x2064x1024, .f32⟩
  | .hbm, ⟨26, _⟩ => ⟨S1x1024, .f32⟩
  | .hbm, ⟨27, _⟩ => ⟨S1024, .f32⟩
  | .hbm, ⟨28, _⟩ => ⟨S1x1x1024, .f32⟩
  | .hbm, ⟨29, _⟩ => ⟨S1x2064x1024, .f32⟩
  | .hbm, ⟨30, _⟩ => ⟨S1x2064x1024, .f32⟩
  | .hbm, ⟨31, _⟩ => ⟨S1x2064x1024, .f32⟩
  | .hbm, ⟨32, _⟩ => ⟨S1x2064x1024, .f32⟩
  | .hbm, ⟨33, _⟩ => ⟨S1x2064x2048, .f32⟩
  | .hbm, ⟨34, _⟩ => ⟨S2064x2048, .f32⟩
  | .hbm, ⟨35, _⟩ => ⟨S_, .i32⟩
  | .hbm, ⟨36, _⟩ => ⟨S_, .f32⟩
  | .hbm, ⟨37, _⟩ => ⟨S2112x2048, .f32⟩
  | .hbm, ⟨38, _⟩ => ⟨S2112x2048, .bf16⟩
  | _, _ => ⟨S1x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c : Ref sig .tc := ⟨.hbm, 35, rfl⟩
abbrev main_call0_v0 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== MlstmBwd.lean ====
abbrev S2112x2048 : Shape := ⟨2, ![2112, 2048]⟩
abbrev S2112x3200 : Shape := ⟨2, ![2112, 3200]⟩
abbrev S2112x1024 : Shape := ⟨2, ![2112, 1024]⟩
abbrev S33x4x128x256 : Shape := ⟨4, ![33, 4, 128, 256]⟩
abbrev S33x4x1x128 : Shape := ⟨4, ![33, 4, 1, 128]⟩
abbrev S33x4x1x1 : Shape := ⟨4, ![33, 4, 1, 1]⟩
abbrev S1x128 : Shape := ⟨2, ![1, 128]⟩
abbrev S1x1024 : Shape := ⟨2, ![1, 1024]⟩
abbrev S64x1024 : Shape := ⟨2, ![64, 1024]⟩
abbrev S64x3200 : Shape := ⟨2, ![64, 3200]⟩
abbrev S1x4x128x256 : Shape := ⟨4, ![1, 4, 128, 256]⟩
abbrev S1x4x1x128 : Shape := ⟨4, ![1, 4, 1, 128]⟩
abbrev S1x4x1x1 : Shape := ⟨4, ![1, 4, 1, 1]⟩
abbrev S4x128x256 : Shape := ⟨3, ![4, 128, 256]⟩
abbrev S4x1x128 : Shape := ⟨3, ![4, 1, 128]⟩
abbrev S64x64 : Shape := ⟨2, ![64, 64]⟩
abbrev S64x128 : Shape := ⟨2, ![64, 128]⟩
abbrev S64x1 : Shape := ⟨2, ![64, 1]⟩
abbrev S1x128x256 : Shape := ⟨3, ![1, 128, 256]⟩
abbrev S128x256 : Shape := ⟨2, ![128, 256]⟩
abbrev S1x1x128 : Shape := ⟨3, ![1, 1, 128]⟩
abbrev S1x256 : Shape := ⟨2, ![1, 256]⟩
abbrev S64x256 : Shape := ⟨2, ![64, 256]⟩
abbrev S1x1x128x256 : Shape := ⟨4, ![1, 1, 128, 256]⟩
abbrev S1x1x1x128 : Shape := ⟨4, ![1, 1, 1, 128]⟩
abbrev S1x1x1x1 : Shape := ⟨4, ![1, 1, 1, 1]⟩
abbrev S1x1 : Shape := ⟨2, ![1, 1]⟩
abbrev S64 : Shape := ⟨1, ![64]⟩
abbrev S1x64 : Shape := ⟨2, ![1, 64]⟩
abbrev S1 : Shape := ⟨1, ![1]⟩
abbrev S256 : Shape := ⟨1, ![256]⟩
abbrev S128 : Shape := ⟨1, ![128]⟩
abbrev S128x1 : Shape := ⟨2, ![128, 1]⟩

abbrev nBuf : Space → Nat
  | .hbm => 11
  | .vmem => 20
  | .smem => 0
  | _ => 0

abbrev bufTy : (tb : Table) → Fin (tcTables nBuf tb) → BufTy
  | .hbm, ⟨0, _⟩ => ⟨S2112x2048, .f32⟩
  | .hbm, ⟨1, _⟩ => ⟨S2112x3200, .f32⟩
  | .hbm, ⟨2, _⟩ => ⟨S2112x1024, .f32⟩
  | .hbm, ⟨3, _⟩ => ⟨S33x4x128x256, .f32⟩
  | .hbm, ⟨4, _⟩ => ⟨S33x4x1x128, .f32⟩
  | .hbm, ⟨5, _⟩ => ⟨S33x4x1x1, .f32⟩
  | .hbm, ⟨6, _⟩ => ⟨S1x128, .f32⟩
  | .hbm, ⟨7, _⟩ => ⟨S1x1024, .f32⟩
  | .hbm, ⟨8, _⟩ => ⟨S2112x3200, .bf16⟩
  | .hbm, ⟨9, _⟩ => ⟨S1x1024, .f32⟩
  | .hbm, ⟨10, _⟩ => ⟨S1x128, .f32⟩
  | .local _ .vmem, ⟨0, _⟩ => ⟨S64x1024, .f32⟩
  | .local _ .vmem, ⟨1, _⟩ => ⟨S64x1024, .f32⟩
  | .local _ .vmem, ⟨2, _⟩ => ⟨S64x3200, .f32⟩
  | .local _ .vmem, ⟨3, _⟩ => ⟨S64x3200, .f32⟩
  | .local _ .vmem, ⟨4, _⟩ => ⟨S64x1024, .f32⟩
  | .local _ .vmem, ⟨5, _⟩ => ⟨S64x1024, .f32⟩
  | .local _ .vmem, ⟨6, _⟩ => ⟨S1x4x128x256, .f32⟩
  | .local _ .vmem, ⟨7, _⟩ => ⟨S1x4x128x256, .f32⟩
  | .local _ .vmem, ⟨8, _⟩ => ⟨S1x4x1x128, .f32⟩
  | .local _ .vmem, ⟨9, _⟩ => ⟨S1x4x1x128, .f32⟩
  | .local _ .vmem, ⟨10, _⟩ => ⟨S1x4x1x1, .f32⟩
  | .local _ .vmem, ⟨11, _⟩ => ⟨S1x4x1x1, .f32⟩
  | .local _ .vmem, ⟨12, _⟩ => ⟨S1x128, .f32⟩
  | .local _ .vmem, ⟨13, _⟩ => ⟨S1x1024, .f32⟩
  | .local _ .vmem, ⟨14, _⟩ => ⟨S64x3200, .bf16⟩
  | .local _ .vmem, ⟨15, _⟩ => ⟨S64x3200, .bf16⟩
  | .local _ .vmem, ⟨16, _⟩ => ⟨S1x1024, .f32⟩
  | .local _ .vmem, ⟨17, _⟩ => ⟨S1x128, .f32⟩
  | .local _ .vmem, ⟨18, _⟩ => ⟨S4x128x256, .f32⟩
  | .local _ .vmem, ⟨19, _⟩ => ⟨S4x1x128, .f32⟩
  | _, _ => ⟨S2112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [BitOps F]

abbrev grid0 : Pipeline.Grid := ⟨1, ![33], ![false]⟩

def cc0_transform_0 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_3 (i : grid0.Coords) : Fin 4 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_4 (i : grid0.Coords) : Fin 4 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_5 (i : grid0.Coords) : Fin 4 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x3200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S64x3200 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MlstmBwdIdeal.lean ====
variable {F : FTy → Type} [FloatOps F]
-- ==== MmNn.lean ====
abbrev S2112x5632 : Shape := ⟨2, ![2112, 5632]⟩
abbrev S5632x2048 : Shape := ⟨2, ![5632, 2048]⟩
abbrev S2112x2048 : Shape := ⟨2, ![2112, 2048]⟩
abbrev S1056x5632 : Shape := ⟨2, ![1056, 5632]⟩
abbrev S5632x512 : Shape := ⟨2, ![5632, 512]⟩
abbrev S1056x512 : Shape := ⟨2, ![1056, 512]⟩

abbrev nBuf : Space → Nat
  | .hbm => 6
  | .vmem => 8
  | .smem => 0
  | _ => 0

abbrev bufTy : (tb : Table) → Fin (tcTables nBuf tb) → BufTy
  | .hbm, ⟨0, _⟩ => ⟨S2112x5632, .f32⟩
  | .hbm, ⟨1, _⟩ => ⟨S5632x2048, .f32⟩
  | .hbm, ⟨2, _⟩ => ⟨S2112x2048, .f32⟩
  | .hbm, ⟨3, _⟩ => ⟨S2112x5632, .bf16⟩
  | .hbm, ⟨4, _⟩ => ⟨S5632x2048, .bf16⟩
  | .hbm, ⟨5, _⟩ => ⟨S2112x2048, .f32⟩
  | .local _ .vmem, ⟨0, _⟩ => ⟨S1056x5632, .bf16⟩
  | .local _ .vmem, ⟨1, _⟩ => ⟨S1056x5632, .bf16⟩
  | .local _ .vmem, ⟨2, _⟩ => ⟨S5632x512, .bf16⟩
  | .local _ .vmem, ⟨3, _⟩ => ⟨S5632x512, .bf16⟩
  | .local _ .vmem, ⟨4, _⟩ => ⟨S1056x512, .f32⟩
  | .local _ .vmem, ⟨5, _⟩ => ⟨S1056x512, .f32⟩
  | .local _ .vmem, ⟨6, _⟩ => ⟨S1056x512, .f32⟩
  | .local _ .vmem, ⟨7, _⟩ => ⟨S1056x512, .f32⟩
  | _, _ => ⟨S2112x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1056x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MmNnRefIdeal.lean ====
abbrev S2112x5632 : Shape := ⟨2, ![2112, 5632]⟩
abbrev S5632x2048 : Shape := ⟨2, ![5632, 2048]⟩
abbrev S2112x2048 : Shape := ⟨2, ![2112, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2112x5632, .f32⟩
  | .hbm, ⟨1, _⟩ => ⟨S5632x2048, .f32⟩
  | .hbm, ⟨2, _⟩ => ⟨S2112x2048, .f32⟩
  | .hbm, ⟨3, _⟩ => ⟨S2112x2048, .f32⟩
  | .hbm, ⟨4, _⟩ => ⟨S2112x2048, .f32⟩
  | _, _ => ⟨S2112x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== MmTwo.lean ====
abbrev S2112x6152 : Shape := ⟨2, ![2112, 6152]⟩
abbrev S2048x6152 : Shape := ⟨2, ![2048, 6152]⟩
abbrev S6152x2048 : Shape := ⟨2, ![6152, 2048]⟩
abbrev S2112x3080 : Shape := ⟨2, ![2112, 3080]⟩
abbrev S_ : Shape := ⟨0, ![]⟩
abbrev S2112x3200 : Shape := ⟨2, ![2112, 3200]⟩
abbrev S2112x3072 : Shape := ⟨2, ![2112, 3072]⟩
abbrev S2112x3x1024 : Shape := ⟨3, ![2112, 3, 1024]⟩
abbrev S3x2112x1024 : Shape := ⟨3, ![3, 2112, 1024]⟩
abbrev S3072x2048 : Shape := ⟨2, ![3072, 2048]⟩
abbrev S3x1024x2048 : Shape := ⟨3, ![3, 1024, 2048]⟩
abbrev S2112x2048 : Shape := ⟨2, ![2112, 2048]⟩
abbrev S1056x3200 : Shape := ⟨2, ![1056, 3200]⟩
abbrev S3200x512 : Shape := ⟨2, ![3200, 512]⟩
abbrev S3x1056x1024 : Shape := ⟨3, ![3, 1056, 1024]⟩
abbrev S3x1024x512 : Shape := ⟨3, ![3, 1024, 512]⟩
abbrev S1056x512 : Shape := ⟨2, ![1056, 512]⟩
abbrev S1x1056x1024 : Shape := ⟨3, ![1, 1056, 1024]⟩
abbrev S1056x1024 : Shape := ⟨2, ![1056, 1024]⟩
abbrev S1x1024x512 : Shape := ⟨3, ![1, 1024, 512]⟩
abbrev S1024x512 : Shape := ⟨2, ![1024, 512]⟩

abbrev nBuf : Space → Nat
  | .hbm => 16
  | .vmem => 10
  | .smem => 0
  | _ => 0

abbrev bufTy : (tb : Table) → Fin (tcTables nBuf tb) → BufTy
  | .hbm, ⟨0, _⟩ => ⟨S2112x6152, .f32⟩
  | .hbm, ⟨1, _⟩ => ⟨S2048x6152, .f32⟩
  | .hbm, ⟨2, _⟩ => ⟨S6152x2048, .f32⟩
  | .hbm, ⟨3, _⟩ => ⟨S6152x2048, .bf16⟩
  | .hbm, ⟨4, _⟩ => ⟨S2112x3080, .f32⟩
  | .hbm, ⟨5, _⟩ => ⟨S_, .i32⟩
  | .hbm, ⟨6, _⟩ => ⟨S_, .f32⟩
  | .hbm, ⟨7, _⟩ => ⟨S2112x3200, .f32⟩
  | .hbm, ⟨8, _⟩ => ⟨S2112x3200, .bf16⟩
  | .hbm, ⟨9, _⟩ => ⟨S2112x3072, .f32⟩
  | .hbm, ⟨10, _⟩ => ⟨S2112x3x1024, .f32⟩
  | .hbm, ⟨11, _⟩ => ⟨S3x2112x1024, .f32⟩
  | .hbm, ⟨12, _⟩ => ⟨S3x2112x1024, .bf16⟩
  | .hbm, ⟨13, _⟩ => ⟨S3072x2048, .bf16⟩
  | .hbm, ⟨14, _⟩ => ⟨S3x1024x2048, .bf16⟩
  | .hbm, ⟨15, _⟩ => ⟨S2112x2048, .f32⟩
  | .local _ .vmem, ⟨0, _⟩ => ⟨S1056x3200, .bf16⟩
  | .local _ .vmem, ⟨1, _⟩ => ⟨S1056x3200, .bf16⟩
  | .local _ .vmem, ⟨2, _⟩ => ⟨S3200x512, .bf16⟩
  | .local _ .vmem, ⟨3, _⟩ => ⟨S3200x512, .bf16⟩
  | .local _ .vmem, ⟨4, _⟩ => ⟨S3x1056x1024, .bf16⟩
  | .local _ .vmem, ⟨5, _⟩ => ⟨S3x1056x1024, .bf16⟩
  | .local _ .vmem, ⟨6, _⟩ => ⟨S3x1024x512, .bf16⟩
  | .local _ .vmem, ⟨7, _⟩ => ⟨S3x1024x512, .bf16⟩
  | .local _ .vmem, ⟨8, _⟩ => ⟨S1056x512, .f32⟩
  | .local _ .vmem, ⟨9, _⟩ => ⟨S1056x512, .f32⟩
  | _, _ => ⟨S2112x6152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1056x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3200x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3x1056x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1056x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MmTwoRefIdeal.lean ====
abbrev S2112x6152 : Shape := ⟨2, ![2112, 6152]⟩
abbrev S2048x6152 : Shape := ⟨2, ![2048, 6152]⟩
abbrev S6152x2048 : Shape := ⟨2, ![6152, 2048]⟩
abbrev S2112x2048 : Shape := ⟨2, ![2112, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2112x6152, .f32⟩
  | .hbm, ⟨1, _⟩ => ⟨S2048x6152, .f32⟩
  | .hbm, ⟨2, _⟩ => ⟨S6152x2048, .f32⟩
  | .hbm, ⟨3, _⟩ => ⟨S2112x2048, .f32⟩
  | _, _ => ⟨S2112x6152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MmNt.lean ====
abbrev S2112x2048 : Shape := ⟨2, ![2112, 2048]⟩
abbrev S2048x2048 : Shape := ⟨2, ![2048, 2048]⟩
abbrev S1056x2048 : Shape := ⟨2, ![1056, 2048]⟩
abbrev S512x2048 : Shape := ⟨2, ![512, 2048]⟩
abbrev S1056x512 : Shape := ⟨2, ![1056, 512]⟩

abbrev nBuf : Space → Nat
  | .hbm => 5
  | .vmem => 6
  | .smem => 0
  | _ => 0

abbrev bufTy : (tb : Table) → Fin (tcTables nBuf tb) → BufTy
  | .hbm, ⟨0, _⟩ => ⟨S2112x2048, .f32⟩
  | .hbm, ⟨1, _⟩ => ⟨S2048x2048, .f32⟩
  | .hbm, ⟨2, _⟩ => ⟨S2112x2048, .bf16⟩
  | .hbm, ⟨3, _⟩ => ⟨S2048x2048, .bf16⟩
  | .hbm, ⟨4, _⟩ => ⟨S2112x2048, .f32⟩
  | .local _ .vmem, ⟨0, _⟩ => ⟨S1056x2048, .bf16⟩
  | .local _ .vmem, ⟨1, _⟩ => ⟨S1056x2048, .bf16⟩
  | .local _ .vmem, ⟨2, _⟩ => ⟨S512x2048, .bf16⟩
  | .local _ .vmem, ⟨3, _⟩ => ⟨S512x2048, .bf16⟩
  | .local _ .vmem, ⟨4, _⟩ => ⟨S1056x512, .f32⟩
  | .local _ .vmem, ⟨5, _⟩ => ⟨S1056x512, .f32⟩
  | _, _ => ⟨S2112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmNtRefIdeal.lean ====
abbrev S2112x2048 : Shape := ⟨2, ![2112, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2112x2048, .f32⟩
  | .hbm, ⟨1, _⟩ => ⟨S2048x2048, .f32⟩
  | .hbm, ⟨2, _⟩ => ⟨S2048x2048, .f32⟩
  | .hbm, ⟨3, _⟩ => ⟨S2112x2048, .f32⟩
  | _, _ => ⟨S2112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MmBcols.lean ====
abbrev S2112x2048 : Shape := ⟨2, ![2112, 2048]⟩
abbrev S2048x6152 : Shape := ⟨2, ![2048, 6152]⟩
abbrev S6152x2048 : Shape := ⟨2, ![6152, 2048]⟩
abbrev S3072x2048 : Shape := ⟨2, ![3072, 2048]⟩
abbrev S3x1024x2048 : Shape := ⟨3, ![3, 1024, 2048]⟩
abbrev S3x2112x1024 : Shape := ⟨3, ![3, 2112, 1024]⟩
abbrev S1056x2048 : Shape := ⟨2, ![1056, 2048]⟩
abbrev S1x1024x2048 : Shape := ⟨3, ![1, 1024, 2048]⟩
abbrev S1x1056x1024 : Shape := ⟨3, ![1, 1056, 1024]⟩
abbrev S1024x2048 : Shape := ⟨2, ![1024, 2048]⟩
abbrev S1056x1024 : Shape := ⟨2, ![1056, 1024]⟩

abbrev nBuf : Space → Nat
  | .hbm => 8
  | .vmem => 6
  | .smem => 0
  | _ => 0

abbrev bufTy : (tb : Table) → Fin (tcTables nBuf tb) → BufTy
  | .hbm, ⟨0, _⟩ => ⟨S2112x2048, .f32⟩
  | .hbm, ⟨1, _⟩ => ⟨S2048x6152, .f32⟩
  | .hbm, ⟨2, _⟩ => ⟨S2112x2048, .bf16⟩
  | .hbm, ⟨3, _⟩ => ⟨S6152x2048, .f32⟩
  | .hbm, ⟨4, _⟩ => ⟨S6152x2048, .bf16⟩
  | .hbm, ⟨5, _⟩ => ⟨S3072x2048, .bf16⟩
  | .hbm, ⟨6, _⟩ => ⟨S3x1024x2048, .bf16⟩
  | .hbm, ⟨7, _⟩ => ⟨S3x2112x1024, .f32⟩
  | .local _ .vmem, ⟨0, _⟩ => ⟨S1056x2048, .bf16⟩
  | .local _ .vmem, ⟨1, _⟩ => ⟨S1056x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1056x1024, .f32⟩
  | .local _ .vmem, ⟨5, _⟩ => ⟨S1x1056x1024, .f32⟩
  | _, _ => ⟨S2112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmBcolsRefIdeal.lean ====
abbrev S2112x2048 : Shape := ⟨2, ![2112, 2048]⟩
abbrev S2048x6152 : Shape := ⟨2, ![2048, 6152]⟩
abbrev S2112x6152 : Shape := ⟨2, ![2112, 6152]⟩
abbrev S2112x1024 : Shape := ⟨2, ![2112, 1024]⟩
abbrev S1x2112x1024 : Shape := ⟨3, ![1, 2112, 1024]⟩
abbrev S3x2112x1024 : Shape := ⟨3, ![3, 2112, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2112x2048, .f32⟩
  | .hbm, ⟨1, _⟩ => ⟨S2048x6152, .f32⟩
  | .hbm, ⟨2, _⟩ => ⟨S2112x6152, .f32⟩
  | .hbm, ⟨3, _⟩ => ⟨S2112x1024, .f32⟩
  | .hbm, ⟨4, _⟩ => ⟨S2112x1024, .f32⟩
  | .hbm, ⟨5, _⟩ => ⟨S2112x1024, .f32⟩
  | .hbm, ⟨6, _⟩ => ⟨S1x2112x1024, .f32⟩
  | .hbm, ⟨7, _⟩ => ⟨S1x2112x1024, .f32⟩
  | .hbm, ⟨8, _⟩ => ⟨S1x2112x1024, .f32⟩
  | .hbm, ⟨9, _⟩ => ⟨S3x2112x1024, .f32⟩
  | _, _ => ⟨S2112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== MmTn.lean ====
abbrev S2112x5632 : Shape := ⟨2, ![2112, 5632]⟩
abbrev S2112x2048 : Shape := ⟨2, ![2112, 2048]⟩
abbrev S5632x2048 : Shape := ⟨2, ![5632, 2048]⟩
abbrev S2112x1408 : Shape := ⟨2, ![2112, 1408]⟩
abbrev S2112x1024 : Shape := ⟨2, ![2112, 1024]⟩
abbrev S1408x1024 : Shape := ⟨2, ![1408, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2112x5632, .f32⟩
  | .hbm, ⟨1, _⟩ => ⟨S2112x2048, .f32⟩
  | .hbm, ⟨2, _⟩ => ⟨S2112x5632, .bf16⟩
  | .hbm, ⟨3, _⟩ => ⟨S2112x2048, .bf16⟩
  | .hbm, ⟨4, _⟩ => ⟨S5632x2048, .bf16⟩
  | .local _ .vmem, ⟨0, _⟩ => ⟨S2112x1408, .bf16⟩
  | .local _ .vmem, ⟨1, _⟩ => ⟨S2112x1408, .bf16⟩
  | .local _ .vmem, ⟨2, _⟩ => ⟨S2112x1024, .bf16⟩
  | .local _ .vmem, ⟨3, _⟩ => ⟨S2112x1024, .bf16⟩
  | .local _ .vmem, ⟨4, _⟩ => ⟨S1408x1024, .bf16⟩
  | .local _ .vmem, ⟨5, _⟩ => ⟨S1408x1024, .bf16⟩
  | _, _ => ⟨S2112x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2112x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2112x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmTnRefIdeal.lean ====
abbrev S2112x5632 : Shape := ⟨2, ![2112, 5632]⟩
abbrev S2112x2048 : Shape := ⟨2, ![2112, 2048]⟩
abbrev S5632x2112 : Shape := ⟨2, ![5632, 2112]⟩
abbrev S5632x2048 : Shape := ⟨2, ![5632, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2112x5632, .f32⟩
  | .hbm, ⟨1, _⟩ => ⟨S2112x2048, .f32⟩
  | .hbm, ⟨2, _⟩ => ⟨S5632x2112, .f32⟩
  | .hbm, ⟨3, _⟩ => ⟨S5632x2048, .f32⟩
  | .hbm, ⟨4, _⟩ => ⟨S5632x2048, .bf16⟩
  | _, _ => ⟨S2112x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MmAcols.lean ====
abbrev S2112x1024 : Shape := ⟨2, ![2112, 1024]⟩
abbrev S2112x2048 : Shape := ⟨2, ![2112, 2048]⟩
abbrev S1x2112x1024 : Shape := ⟨3, ![1, 2112, 1024]⟩
abbrev S3x2112x1024 : Shape := ⟨3, ![3, 2112, 1024]⟩
abbrev S3x1024x2048 : Shape := ⟨3, ![3, 1024, 2048]⟩
abbrev S1x1024x1024 : Shape := ⟨3, ![1, 1024, 1024]⟩
abbrev S1024x1024 : Shape := ⟨2, ![1024, 1024]⟩

abbrev nBuf : Space → Nat
  | .hbm => 11
  | .vmem => 6
  | .smem => 0
  | _ => 0

abbrev bufTy : (tb : Table) → Fin (tcTables nBuf tb) → BufTy
  | .hbm, ⟨0, _⟩ => ⟨S2112x1024, .f32⟩
  | .hbm, ⟨1, _⟩ => ⟨S2112x1024, .f32⟩
  | .hbm, ⟨2, _⟩ => ⟨S2112x1024, .f32⟩
  | .hbm, ⟨3, _⟩ => ⟨S2112x2048, .f32⟩
  | .hbm, ⟨4, _⟩ => ⟨S1x2112x1024, .f32⟩
  | .hbm, ⟨5, _⟩ => ⟨S1x2112x1024, .f32⟩
  | .hbm, ⟨6, _⟩ => ⟨S1x2112x1024, .f32⟩
  | .hbm, ⟨7, _⟩ => ⟨S3x2112x1024, .f32⟩
  | .hbm, ⟨8, _⟩ => ⟨S3x2112x1024, .bf16⟩
  | .hbm, ⟨9, _⟩ => ⟨S2112x2048, .bf16⟩
  | .hbm, ⟨10, _⟩ => ⟨S3x1024x2048, .bf16⟩
  | .local _ .vmem, ⟨0, _⟩ => ⟨S1x2112x1024, .bf16⟩
  | .local _ .vmem, ⟨1, _⟩ => ⟨S1x2112x1024, .bf16⟩
  | .local _ .vmem, ⟨2, _⟩ => ⟨S2112x1024, .bf16⟩
  | .local _ .vmem, ⟨3, _⟩ => ⟨S2112x1024, .bf16⟩
  | .local _ .vmem, ⟨4, _⟩ => ⟨S1x1024x1024, .bf16⟩
  | .local _ .vmem, ⟨5, _⟩ => ⟨S1x1024x1024, .bf16⟩
  | _, _ => ⟨S2112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

abbrev stage0_0 : Fin 2 → Memref sig .tc .vmem S1x2112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S2112x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmAcolsRefIdeal.lean ====
abbrev S2112x1024 : Shape := ⟨2, ![2112, 1024]⟩
abbrev S2112x2048 : Shape := ⟨2, ![2112, 2048]⟩
abbrev S1024x2112 : Shape := ⟨2, ![1024, 2112]⟩
abbrev S1024x2048 : Shape := ⟨2, ![1024, 2048]⟩
abbrev S1x1024x2048 : Shape := ⟨3, ![1, 1024, 2048]⟩
abbrev S3x1024x2048 : Shape := ⟨3, ![3, 1024, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2112x1024, .f32⟩
  | .hbm, ⟨1, _⟩ => ⟨S2112x1024, .f32⟩
  | .hbm, ⟨2, _⟩ => ⟨S2112x1024, .f32⟩
  | .hbm, ⟨3, _⟩ => ⟨S2112x2048, .f32⟩
  | .hbm, ⟨4, _⟩ => ⟨S1024x2112, .f32⟩
  | .hbm, ⟨5, _⟩ => ⟨S1024x2048, .f32⟩
  | .hbm, ⟨6, _⟩ => ⟨S1024x2112, .f32⟩
  | .hbm, ⟨7, _⟩ => ⟨S1024x2048, .f32⟩
  | .hbm, ⟨8, _⟩ => ⟨S1024x2112, .f32⟩
  | .hbm, ⟨9, _⟩ => ⟨S1024x2048, .f32⟩
  | .hbm, ⟨10, _⟩ => ⟨S1x1024x2048, .f32⟩
  | .hbm, ⟨11, _⟩ => ⟨S1x1024x2048, .f32⟩
  | .hbm, ⟨12, _⟩ => ⟨S1x1024x2048, .f32⟩
  | .hbm, ⟨13, _⟩ => ⟨S3x1024x2048, .f32⟩
  | .hbm, ⟨14, _⟩ => ⟨S3x1024x2048, .bf16⟩
  | _, _ => ⟨S2112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Adam.lean ====
abbrev S16x256 : Shape := ⟨2, ![16, 256]⟩
abbrev S2x2048 : Shape := ⟨2, ![2, 2048]⟩
abbrev S2x8 : Shape := ⟨2, ![2, 8]⟩
abbrev S2x3x128 : Shape := ⟨3, ![2, 3, 128]⟩
abbrev S2x1024 : Shape := ⟨2, ![2, 1024]⟩
abbrev S2048 : Shape := ⟨1, ![2048]⟩
abbrev S4096 : Shape := ⟨1, ![4096]⟩
abbrev S16 : Shape := ⟨1, ![16]⟩
abbrev S768 : Shape := ⟨1, ![768]⟩
abbrev S17168 : Shape := ⟨1, ![17168]⟩
abbrev S_ : Shape := ⟨0, ![]⟩
abbrev S17408 : Shape := ⟨1, ![17408]⟩
abbrev S136x128 : Shape := ⟨2, ![136, 128]⟩

abbrev nBuf : Space → Nat
  | .hbm => 117
  | .vmem => 7
  | .smem => 0
  | _ => 0

abbrev bufTy : (tb : Table) → Fin (tcTables nBuf tb) → BufTy
  | .hbm, ⟨0, _⟩ => ⟨S16x256, .f32⟩
  | .hbm, ⟨1, _⟩ => ⟨S2x2048, .f32⟩
  | .hbm, ⟨2, _⟩ => ⟨S2x8, .f32⟩
  | .hbm, ⟨3, _⟩ => ⟨S2x3x128, .f32⟩
  | .hbm, ⟨4, _⟩ => ⟨S2x1024, .f32⟩
  | .hbm, ⟨5, _⟩ => ⟨S2x2048, .f32⟩
  | .hbm, ⟨6, _⟩ => ⟨S2048, .f32⟩
  | .hbm, ⟨7, _⟩ => ⟨S16x256, .f32⟩
  | .hbm, ⟨8, _⟩ => ⟨S2x2048, .f32⟩
  | .hbm, ⟨9, _⟩ => ⟨S2x8, .f32⟩
  | .hbm, ⟨10, _⟩ => ⟨S2x3x128, .f32⟩
  | .hbm, ⟨11, _⟩ => ⟨S2x1024, .f32⟩
  | .hbm, ⟨12, _⟩ => ⟨S2x2048, .f32⟩
  | .hbm, ⟨13, _⟩ => ⟨S2048, .f32⟩
  | .hbm, ⟨14, _⟩ => ⟨S16x256, .f32⟩
  | .hbm, ⟨15, _⟩ => ⟨S2x2048, .f32⟩
  | .hbm, ⟨16, _⟩ => ⟨S2x8, .f32⟩
  | .hbm, ⟨17, _⟩ => ⟨S2x3x128, .f32⟩
  | .hbm, ⟨18, _⟩ => ⟨S2x1024, .f32⟩
  | .hbm, ⟨19, _⟩ => ⟨S2x2048, .f32⟩
  | .hbm, ⟨20, _⟩ => ⟨S2048, .f32⟩
  | .hbm, ⟨21, _⟩ => ⟨S16x256, .f32⟩
  | .hbm, ⟨22, _⟩ => ⟨S2x2048, .f32⟩
  | .hbm, ⟨23, _⟩ => ⟨S2x8, .f32⟩
  | .hbm, ⟨24, _⟩ => ⟨S2x3x128, .f32⟩
  | .hbm, ⟨25, _⟩ => ⟨S2x1024, .f32⟩
  | .hbm, ⟨26, _⟩ => ⟨S2x2048, .f32⟩
  | .hbm, ⟨27, _⟩ => ⟨S2048, .f32⟩
  | .hbm, ⟨28, _⟩ => ⟨S4096, .f32⟩
  | .hbm, ⟨29, _⟩ => ⟨S4096, .f32⟩
  | .hbm, ⟨30, _⟩ => ⟨S16, .f32⟩
  | .hbm, ⟨31, _⟩ => ⟨S768, .f32⟩
  | .hbm, ⟨32, _⟩ => ⟨S2048, .f32⟩
  | .hbm, ⟨33, _⟩ => ⟨S4096, .f32⟩
  | .hbm, ⟨34, _⟩ => ⟨S17168, .f32⟩
  | .hbm, ⟨35, _⟩ => ⟨S_, .i32⟩
  | .hbm, ⟨36, _⟩ => ⟨S_, .f32⟩
  | .hbm, ⟨37, _⟩ => ⟨S17408, .f32⟩
  | .hbm, ⟨38, _⟩ => ⟨S136x128, .f32⟩
  | .hbm, ⟨39, _⟩ => ⟨S4096, .f32⟩
  | .hbm, ⟨40, _⟩ => ⟨S4096, .f32⟩
  | .hbm, ⟨41, _⟩ => ⟨S16, .f32⟩
  | .hbm, ⟨42, _⟩ => ⟨S768, .f32⟩
  | .hbm, ⟨43, _⟩ => ⟨S2048, .f32⟩
  | .hbm, ⟨44, _⟩ => ⟨S4096, .f32⟩
  | .hbm, ⟨45, _⟩ => ⟨S17168, .f32⟩
  | .hbm, ⟨46, _⟩ => ⟨S_, .i32⟩
  | .hbm, ⟨47, _⟩ => ⟨S_, .f32⟩
  | .hbm, ⟨48, _⟩ => ⟨S17408, .f32⟩
  | .hbm, ⟨49, _⟩ => ⟨S136x128, .f32⟩
  | .hbm, ⟨50, _⟩ => ⟨S4096, .f32⟩
  | .hbm, ⟨51, _⟩ => ⟨S4096, .f32⟩
  | .hbm, ⟨52, _⟩ => ⟨S16, .f32⟩
  | .hbm, ⟨53, _⟩ => ⟨S768, .f32⟩
  | .hbm, ⟨54, _⟩ => ⟨S2048, .f32⟩
  | .hbm, ⟨55, _⟩ => ⟨S4096, .f32⟩
  | .hbm, ⟨56, _⟩ => ⟨S17168, .f32⟩
  | .hbm, ⟨57, _⟩ => ⟨S_, .i32⟩
  | .hbm, ⟨58, _⟩ => ⟨S_, .f32⟩
  | .hbm, ⟨59, _⟩ => ⟨S17408, .f32⟩
  | .hbm, ⟨60, _⟩ => ⟨S136x128, .f32⟩
  | .hbm, ⟨61, _⟩ => ⟨S4096, .f32⟩
  | .hbm, ⟨62, _⟩ => ⟨S4096, .f32⟩
  | .hbm, ⟨63, _⟩ => ⟨S16, .f32⟩
  | .hbm, ⟨64, _⟩ => ⟨S768, .f32⟩
  | .hbm, ⟨65, _⟩ => ⟨S2048, .f32⟩
  | .hbm, ⟨66, _⟩ => ⟨S4096, .f32⟩
  | .hbm, ⟨67, _⟩ => ⟨S17168, .f32⟩
  | .hbm, ⟨68, _⟩ => ⟨S_, .i32⟩
  | .hbm, ⟨69, _⟩ => ⟨S_, .f32⟩
  | .hbm, ⟨70, _⟩ => ⟨S17408, .f32⟩
  | .hbm, ⟨71, _⟩ => ⟨S136x128, .f32⟩
  | .hbm, ⟨72, _⟩ => ⟨S136x128, .f32⟩
  | .hbm, ⟨73, _⟩ => ⟨S136x128, .f32⟩
  | .hbm, ⟨74, _⟩ => ⟨S136x128, .f32⟩
  | .hbm, ⟨75, _⟩ => ⟨S17408, .f32⟩
  | .hbm, ⟨76, _⟩ => ⟨S4096, .f32⟩
  | .hbm, ⟨77, _⟩ => ⟨S16x256, .f32⟩
  | .hbm, ⟨78, _⟩ => ⟨S4096, .f32⟩
  | .hbm, ⟨79, _⟩ => ⟨S2x2048, .f32⟩
  | .hbm, ⟨80, _⟩ => ⟨S16, .f32⟩
  | .hbm, ⟨81, _⟩ => ⟨S2x8, .f32⟩
  | .hbm, ⟨82, _⟩ => ⟨S768, .f32⟩
  | .hbm, ⟨83, _⟩ => ⟨S2x3x128, .f32⟩
  | .hbm, ⟨84, _⟩ => ⟨S2048, .f32⟩
  | .hbm, ⟨85, _⟩ => ⟨S2x1024, .f32⟩
  | .hbm, ⟨86, _⟩ => ⟨S4096, .f32⟩
  | .hbm, ⟨87, _⟩ => ⟨S2x2048, .f32⟩
  | .hbm, ⟨88, _⟩ => ⟨S2048, .f32⟩
  | .hbm, ⟨89, _⟩ => ⟨S17408, .f32⟩
  | .hbm, ⟨90, _⟩ => ⟨S4096, .f32⟩
  | .hbm, ⟨91, _⟩ => ⟨S16x256, .f32⟩
  | .hbm, ⟨92, _⟩ => ⟨S4096, .f32⟩
  | .hbm, ⟨93, _⟩ => ⟨S2x2048, .f32⟩
  | .hbm, ⟨94, _⟩ => ⟨S16, .f32⟩
  | .hbm, ⟨95, _⟩ => ⟨S2x8, .f32⟩
  | .hbm, ⟨96, _⟩ => ⟨S768, .f32⟩
  | .hbm, ⟨97, _⟩ => ⟨S2x3x128, .f32⟩
  | .hbm, ⟨98, _⟩ => ⟨S2048, .f32⟩
  | .hbm, ⟨99, _⟩ => ⟨S2x1024, .f32⟩
  | .hbm, ⟨100, _⟩ => ⟨S4096, .f32⟩
  | .hbm, ⟨101, _⟩ => ⟨S2x2048, .f32⟩
  | .hbm, ⟨102, _⟩ => ⟨S2048, .f32⟩
  | .hbm, ⟨103, _⟩ => ⟨S17408, .f32⟩
  | .hbm, ⟨104, _⟩ => ⟨S4096, .f32⟩
  | .hbm, ⟨105, _⟩ => ⟨S16x256, .f32⟩
  | .hbm, ⟨106, _⟩ => ⟨S4096, .f32⟩
  | .hbm, ⟨107, _⟩ => ⟨S2x2048, .f32⟩
  | .hbm, ⟨108, _⟩ => ⟨S16, .f32⟩
  | .hbm, ⟨109, _⟩ => ⟨S2x8, .f32⟩
  | .hbm, ⟨110, _⟩ => ⟨S768, .f32⟩
  | .hbm, ⟨111, _⟩ => ⟨S2x3x128, .f32⟩
  | .hbm, ⟨112, _⟩ => ⟨S2048, .f32⟩
  | .hbm, ⟨113, _⟩ => ⟨S2x1024, .f32⟩
  | .hbm, ⟨114, _⟩ => ⟨S4096, .f32⟩
  | .hbm, ⟨115, _⟩ => ⟨S2x2048, .f32⟩
  | .hbm, ⟨116, _⟩ => ⟨S2048, .f32⟩
  | .local _ .vmem, ⟨0, _⟩ => ⟨S136x128, .f32⟩
  | .local _ .vmem, ⟨1, _⟩ => ⟨S136x128, .f32⟩
  | .local _ .vmem, ⟨2, _⟩ => ⟨S136x128, .f32⟩
  | .local _ .vmem, ⟨3, _⟩ => ⟨S136x128, .f32⟩
  | .local _ .vmem, ⟨4, _⟩ => ⟨S136x128, .f32⟩
  | .local _ .vmem, ⟨5, _⟩ => ⟨S136x128, .f32⟩
  | .local _ .vmem, ⟨6, _⟩ => ⟨S136x128, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_c : Ref sig .tc := ⟨.hbm, 35, rfl⟩
abbrev main_call0_v0 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_c_0 : Ref sig .tc := ⟨.hbm, 46, rfl⟩
abbrev main_call1_v0 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_c_1 : Ref sig .tc := ⟨.hbm, 57, rfl⟩
abbrev main_call2_v0 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_c_2 : Ref sig .tc := ⟨.hbm, 68, rfl⟩
abbrev main_call3_v0 : Ref sig .tc := ⟨.hbm, 69, rfl⟩
abbrev main_v34 : Ref sig .tc := ⟨.hbm, 70, rfl⟩
abbrev main_v35 : Ref sig .tc := ⟨.hbm, 71, rfl⟩
abbrev main_v36_0 : Ref sig .tc := ⟨.hbm, 72, rfl⟩
abbrev main_v36_1 : Ref sig .tc := ⟨.hbm, 73, rfl⟩
abbrev main_v36_2 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S136x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S136x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S136x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S136x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S136x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S136x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S136x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamRefIdeal.lean ====
abbrev S16x256 : Shape := ⟨2, ![16, 256]⟩
abbrev S2x2048 : Shape := ⟨2, ![2, 2048]⟩
abbrev S2x8 : Shape := ⟨2, ![2, 8]⟩
abbrev S2x3x128 : Shape := ⟨3, ![2, 3, 128]⟩
abbrev S2x1024 : Shape := ⟨2, ![2, 1024]⟩
abbrev S2048 : Shape := ⟨1, ![2048]⟩
abbrev S_ : Shape := ⟨0, ![]⟩

abbrev nBuf : Space → Nat
  | .hbm => 259
  | .vmem => 0
  | .smem => 0
  | _ => 0

abbrev hbmTy0_0 (i : Nat) : BufTy := match i % 128 with
  | 0 => ⟨S16x256, .f32⟩
  | 1 => ⟨S2x2048, .f32⟩
  | 2 => ⟨S2x8, .f32⟩
  | 3 => ⟨S2x3x128, .f32⟩
  | 4 => ⟨S2x1024, .f32⟩
  | 5 => ⟨S2x2048, .f32⟩
  | 6 => ⟨S2048, .f32⟩
  | 7 => ⟨S16x256, .f32⟩
  | 8 => ⟨S2x2048, .f32⟩
  | 9 => ⟨S2x8, .f32⟩
  | 10 => ⟨S2x3x128, .f32⟩
  | 11 => ⟨S2x1024, .f32⟩
  | 12 => ⟨S2x2048, .f32⟩
  | 13 => ⟨S2048, .f32⟩
  | 14 => ⟨S16x256, .f32⟩
  | 15 => ⟨S2x2048, .f32⟩
  | 16 => ⟨S2x8, .f32⟩
  | 17 => ⟨S2x3x128, .f32⟩
  | 18 => ⟨S2x1024, .f32⟩
  | 19 => ⟨S2x2048, .f32⟩
  | 20 => ⟨S2048, .f32⟩
  | 21 => ⟨S16x256, .f32⟩
  | 22 => ⟨S2x2048, .f32⟩
  | 23 => ⟨S2x8, .f32⟩
  | 24 => ⟨S2x3x128, .f32⟩
  | 25 => ⟨S2x1024, .f32⟩
  | 26 => ⟨S2x2048, .f32⟩
  | 27 => ⟨S2048, .f32⟩
  | 28 => ⟨S_, .f32⟩
  | 29 => ⟨S16x256, .f32⟩
  | 30 => ⟨S16x256, .f32⟩
  | 31 => ⟨S_, .f32⟩
  | 32 => ⟨S16x256, .f32⟩
  | 33 => ⟨S16x256, .f32⟩
  | 34 => ⟨S16x256, .f32⟩
  | 35 => ⟨S_, .f32⟩
  | 36 => ⟨S16x256, .f32⟩
  | 37 => ⟨S16x256, .f32⟩
  | 38 => ⟨S16x256, .f32⟩
  | 39 => ⟨S_, .f32⟩
  | 40 => ⟨S16x256, .f32⟩
  | 41 => ⟨S16x256, .f32⟩
  | 42 => ⟨S16x256, .f32⟩
  | 43 => ⟨S_, .f32⟩
  | 44 => ⟨S16x256, .f32⟩
  | 45 => ⟨S16x256, .f32⟩
  | 46 => ⟨S_, .f32⟩
  | 47 => ⟨S16x256, .f32⟩
  | 48 => ⟨S16x256, .f32⟩
  | 49 => ⟨S16x256, .f32⟩
  | 50 => ⟨S_, .f32⟩
  | 51 => ⟨S16x256, .f32⟩
  | 52 => ⟨S16x256, .f32⟩
  | 53 => ⟨S16x256, .f32⟩
  | 54 => ⟨S_, .f32⟩
  | 55 => ⟨S16x256, .f32⟩
  | 56 => ⟨S16x256, .f32⟩
  | 57 => ⟨S16x256, .f32⟩
  | 58 => ⟨S_, .f32⟩
  | 59 => ⟨S16x256, .f32⟩
  | 60 => ⟨S16x256, .f32⟩
  | 61 => ⟨S_, .f32⟩
  | 62 => ⟨S2x2048, .f32⟩
  | 63 => ⟨S2x2048, .f32⟩
  | 64 => ⟨S_, .f32⟩
  | 65 => ⟨S2x2048, .f32⟩
  | 66 => ⟨S2x2048, .f32⟩
  | 67 => ⟨S2x2048, .f32⟩
  | 68 => ⟨S_, .f32⟩
  | 69 => ⟨S2x2048, .f32⟩
  | 70 => ⟨S2x2048, .f32⟩
  | 71 => ⟨S2x2048, .f32⟩
  | 72 => ⟨S_, .f32⟩
  | 73 => ⟨S2x2048, .f32⟩
  | 74 => ⟨S2x2048, .f32⟩
  | 75 => ⟨S2x2048, .f32⟩
  | 76 => ⟨S_, .f32⟩
  | 77 => ⟨S2x2048, .f32⟩
  | 78 => ⟨S2x2048, .f32⟩
  | 79 => ⟨S_, .f32⟩
  | 80 => ⟨S2x2048, .f32⟩
  | 81 => ⟨S2x2048, .f32⟩
  | 82 => ⟨S2x2048, .f32⟩
  | 83 => ⟨S_, .f32⟩
  | 84 => ⟨S2x2048, .f32⟩
  | 85 => ⟨S2x2048, .f32⟩
  | 86 => ⟨S2x2048, .f32⟩
  | 87 => ⟨S_, .f32⟩
  | 88 => ⟨S2x2048, .f32⟩
  | 89 => ⟨S2x2048, .f32⟩
  | 90 => ⟨S2x2048, .f32⟩
  | 91 => ⟨S_, .f32⟩
  | 92 => ⟨S2x2048, .f32⟩
  | 93 => ⟨S2x2048, .f32⟩
  | 94 => ⟨S_, .f32⟩
  | 95 => ⟨S2x8, .f32⟩
  | 96 => ⟨S2x8, .f32⟩
  | 97 => ⟨S_, .f32⟩
  | 98 => ⟨S2x8, .f32⟩
  | 99 => ⟨S2x8, .f32⟩
  | 100 => ⟨S2x8, .f32⟩
  | 101 => ⟨S_, .f32⟩
  | 102 => ⟨S2x8, .f32⟩
  | 103 => ⟨S2x8, .f32⟩
  | 104 => ⟨S2x8, .f32⟩
  | 105 => ⟨S_, .f32⟩
  | 106 => ⟨S2x8, .f32⟩
  | 107 => ⟨S2x8, .f32⟩
  | 108 => ⟨S2x8, .f32⟩
  | 109 => ⟨S_, .f32⟩
  | 110 => ⟨S2x8, .f32⟩
  | 111 => ⟨S2x8, .f32⟩
  | 112 => ⟨S_, .f32⟩
  | 113 => ⟨S2x8, .f32⟩
  | 114 => ⟨S2x8, .f32⟩
  | 115 => ⟨S2x8, .f32⟩
  | 116 => ⟨S_, .f32⟩
  | 117 => ⟨S2x8, .f32⟩
  | 118 => ⟨S2x8, .f32⟩
  | 119 => ⟨S2x8, .f32⟩
  | 120 => ⟨S_, .f32⟩
  | 121 => ⟨S2x8, .f32⟩
  | 122 => ⟨S2x8, .f32⟩
  | 123 => ⟨S2x8, .f32⟩
  | 124 => ⟨S_, .f32⟩
  | 125 => ⟨S2x8, .f32⟩
  | 126 => ⟨S2x8, .f32⟩
  | 127 => ⟨S_, .f32⟩
  | _ => ⟨S16x256, .f32⟩

abbrev hbmTy0_1 (i : Nat) : BufTy := match i % 128 with
  | 0 => ⟨S2x3x128, .f32⟩
  | 1 => ⟨S2x3x128, .f32⟩
  | 2 => ⟨S_, .f32⟩
  | 3 => ⟨S2x3x128, .f32⟩
  | 4 => ⟨S2x3x128, .f32⟩
  | 5 => ⟨S2x3x128, .f32⟩
  | 6 => ⟨S_, .f32⟩
  | 7 => ⟨S2x3x128, .f32⟩
  | 8 => ⟨S2x3x128, .f32⟩
  | 9 => ⟨S2x3x128, .f32⟩
  | 10 => ⟨S_, .f32⟩
  | 11 => ⟨S2x3x128, .f32⟩
  | 12 => ⟨S2x3x128, .f32⟩
  | 13 => ⟨S2x3x128, .f32⟩
  | 14 => ⟨S_, .f32⟩
  | 15 => ⟨S2x3x128, .f32⟩
  | 16 => ⟨S2x3x128, .f32⟩
  | 17 => ⟨S_, .f32⟩
  | 18 => ⟨S2x3x128, .f32⟩
  | 19 => ⟨S2x3x128, .f32⟩
  | 20 => ⟨S2x3x128, .f32⟩
  | 21 => ⟨S_, .f32⟩
  | 22 => ⟨S2x3x128, .f32⟩
  | 23 => ⟨S2x3x128, .f32⟩
  | 24 => ⟨S2x3x128, .f32⟩
  | 25 => ⟨S_, .f32⟩
  | 26 => ⟨S2x3x128, .f32⟩
  | 27 => ⟨S2x3x128, .f32⟩
  | 28 => ⟨S2x3x128, .f32⟩
  | 29 => ⟨S_, .f32⟩
  | 30 => ⟨S2x3x128, .f32⟩
  | 31 => ⟨S2x3x128, .f32⟩
  | 32 => ⟨S_, .f32⟩
  | 33 => ⟨S2x1024, .f32⟩
  | 34 => ⟨S2x1024, .f32⟩
  | 35 => ⟨S_, .f32⟩
  | 36 => ⟨S2x1024, .f32⟩
  | 37 => ⟨S2x1024, .f32⟩
  | 38 => ⟨S2x1024, .f32⟩
  | 39 => ⟨S_, .f32⟩
  | 40 => ⟨S2x1024, .f32⟩
  | 41 => ⟨S2x1024, .f32⟩
  | 42 => ⟨S2x1024, .f32⟩
  | 43 => ⟨S_, .f32⟩
  | 44 => ⟨S2x1024, .f32⟩
  | 45 => ⟨S2x1024, .f32⟩
  | 46 => ⟨S2x1024, .f32⟩
  | 47 => ⟨S_, .f32⟩
  | 48 => ⟨S2x1024, .f32⟩
  | 49 => ⟨S2x1024, .f32⟩
  | 50 => ⟨S_, .f32⟩
  | 51 => ⟨S2x1024, .f32⟩
  | 52 => ⟨S2x1024, .f32⟩
  | 53 => ⟨S2x1024, .f32⟩
  | 54 => ⟨S_, .f32⟩
  | 55 => ⟨S2x1024, .f32⟩
  | 56 => ⟨S2x1024, .f32⟩
  | 57 => ⟨S2x1024, .f32⟩
  | 58 => ⟨S_, .f32⟩
  | 59 => ⟨S2x1024, .f32⟩
  | 60 => ⟨S2x1024, .f32⟩
  | 61 => ⟨S2x1024, .f32⟩
  | 62 => ⟨S_, .f32⟩
  | 63 => ⟨S2x1024, .f32⟩
  | 64 => ⟨S2x1024, .f32⟩
  | 65 => ⟨S_, .f32⟩
  | 66 => ⟨S2x2048, .f32⟩
  | 67 => ⟨S2x2048, .f32⟩
  | 68 => ⟨S_, .f32⟩
  | 69 => ⟨S2x2048, .f32⟩
  | 70 => ⟨S2x2048, .f32⟩
  | 71 => ⟨S2x2048, .f32⟩
  | 72 => ⟨S_, .f32⟩
  | 73 => ⟨S2x2048, .f32⟩
  | 74 => ⟨S2x2048, .f32⟩
  | 75 => ⟨S2x2048, .f32⟩
  | 76 => ⟨S_, .f32⟩
  | 77 => ⟨S2x2048, .f32⟩
  | 78 => ⟨S2x2048, .f32⟩
  | 79 => ⟨S2x2048, .f32⟩
  | 80 => ⟨S_, .f32⟩
  | 81 => ⟨S2x2048, .f32⟩
  | 82 => ⟨S2x2048, .f32⟩
  | 83 => ⟨S_, .f32⟩
  | 84 => ⟨S2x2048, .f32⟩
  | 85 => ⟨S2x2048, .f32⟩
  | 86 => ⟨S2x2048, .f32⟩
  | 87 => ⟨S_, .f32⟩
  | 88 => ⟨S2x2048, .f32⟩
  | 89 => ⟨S2x2048, .f32⟩
  | 90 => ⟨S2x2048, .f32⟩
  | 91 => ⟨S_, .f32⟩
  | 92 => ⟨S2x2048, .f32⟩
  | 93 => ⟨S2x2048, .f32⟩
  | 94 => ⟨S2x2048, .f32⟩
  | 95 => ⟨S_, .f32⟩
  | 96 => ⟨S2x2048, .f32⟩
  | 97 => ⟨S2x2048, .f32⟩
  | 98 => ⟨S_, .f32⟩
  | 99 => ⟨S2048, .f32⟩
  | 100 => ⟨S2048, .f32⟩
  | 101 => ⟨S_, .f32⟩
  | 102 => ⟨S2048, .f32⟩
  | 103 => ⟨S2048, .f32⟩
  | 104 => ⟨S2048, .f32⟩
  | 105 => ⟨S_, .f32⟩
  | 106 => ⟨S2048, .f32⟩
  | 107 => ⟨S2048, .f32⟩
  | 108 => ⟨S2048, .f32⟩
  | 109 => ⟨S_, .f32⟩
  | 110 => ⟨S2048, .f32⟩
  | 111 => ⟨S2048, .f32⟩
  | 112 => ⟨S2048, .f32⟩
  | 113 => ⟨S_, .f32⟩
  | 114 => ⟨S2048, .f32⟩
  | 115 => ⟨S2048, .f32⟩
  | 116 => ⟨S_, .f32⟩
  | 117 => ⟨S2048, .f32⟩
  | 118 => ⟨S2048, .f32⟩
  | 119 => ⟨S2048, .f32⟩
  | 120 => ⟨S_, .f32⟩
  | 121 => ⟨S2048, .f32⟩
  | 122 => ⟨S2048, .f32⟩
  | 123 => ⟨S2048, .f32⟩
  | 124 => ⟨S_, .f32⟩
  | 125 => ⟨S2048, .f32⟩
  | 126 => ⟨S2048, .f32⟩
  | 127 => ⟨S2048, .f32⟩
  | _ => ⟨S16x256, .f32⟩

abbrev hbmTy0_2 (i : Nat) : BufTy := match i % 128 with
  | 0 => ⟨S_, .f32⟩
  | 1 => ⟨S2048, .f32⟩
  | 2 => ⟨S2048, .f32⟩
  | _ => ⟨S16x256, .f32⟩

abbrev hbmTy (i : Nat) : BufTy := match i / 128 with
  | 0 => hbmTy0_0 i
  | 1 => hbmTy0_1 i
  | 2 => hbmTy0_2 i
  | _ => ⟨S16x256, .f32⟩

abbrev bufTy : (tb : Table) → Fin (tcTables nBuf tb) → BufTy
  | .hbm, ⟨i, _⟩ => hbmTy i
  | _, _ => ⟨S16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_v1 : Ref sig .tc := ⟨.hbm, 30, rfl⟩
abbrev main_cst_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_cst_1 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_2 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_3 : Ref sig .tc := ⟨.hbm, 43, rfl⟩
abbrev main_v11 : Ref sig .tc := ⟨.hbm, 44, rfl⟩
abbrev main_v12 : Ref sig .tc := ⟨.hbm, 45, rfl⟩
abbrev main_cst_4 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_cst_5 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_cst_6 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_7 : Ref sig .tc := ⟨.hbm, 58, rfl⟩
abbrev main_v22 : Ref sig .tc := ⟨.hbm, 59, rfl⟩
abbrev main_v23 : Ref sig .tc := ⟨.hbm, 60, rfl⟩
abbrev main_cst_8 : Ref sig .tc := ⟨.hbm, 61, rfl⟩
abbrev main_v24 : Ref sig .tc := ⟨.hbm, 62, rfl⟩
abbrev main_v25 : Ref sig .tc := ⟨.hbm, 63, rfl⟩
abbrev main_cst_9 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_10 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_11 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_12 : Ref sig .tc := ⟨.hbm, 76, rfl⟩
abbrev main_v35 : Ref sig .tc := ⟨.hbm, 77, rfl⟩
abbrev main_v36 : Ref sig .tc := ⟨.hbm, 78, rfl⟩
abbrev main_cst_13 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_cst_14 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_15 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_cst_16 : Ref sig .tc := ⟨.hbm, 91, rfl⟩
abbrev main_v46 : Ref sig .tc := ⟨.hbm, 92, rfl⟩
abbrev main_v47 : Ref sig .tc := ⟨.hbm, 93, rfl⟩
abbrev main_cst_17 : Ref sig .tc := ⟨.hbm, 94, rfl⟩
abbrev main_v48 : Ref sig .tc := ⟨.hbm, 95, rfl⟩
abbrev main_v49 : Ref sig .tc := ⟨.hbm, 96, rfl⟩
abbrev main_cst_18 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_cst_19 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_cst_20 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_cst_21 : Ref sig .tc := ⟨.hbm, 109, rfl⟩
abbrev main_v59 : Ref sig .tc := ⟨.hbm, 110, rfl⟩
abbrev main_v60 : Ref sig .tc := ⟨.hbm, 111, rfl⟩
abbrev main_cst_22 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_23 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_cst_24 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_cst_25 : Ref sig .tc := ⟨.hbm, 124, rfl⟩
abbrev main_v70 : Ref sig .tc := ⟨.hbm, 125, rfl⟩
abbrev main_v71 : Ref sig .tc := ⟨.hbm, 126, rfl⟩
abbrev main_cst_26 : Ref sig .tc := ⟨.hbm, 127, rfl⟩
abbrev main_v72 : Ref sig .tc := ⟨.hbm, 128, rfl⟩
abbrev main_v73 : Ref sig .tc := ⟨.hbm, 129, rfl⟩
abbrev main_cst_27 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_cst_28 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_cst_29 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_cst_30 : Ref sig .tc := ⟨.hbm, 142, rfl⟩
abbrev main_v83 : Ref sig .tc := ⟨.hbm, 143, rfl⟩
abbrev main_v84 : Ref sig .tc := ⟨.hbm, 144, rfl⟩
abbrev main_cst_31 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_cst_32 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_cst_33 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_cst_34 : Ref sig .tc := ⟨.hbm, 157, rfl⟩
abbrev main_v94 : Ref sig .tc := ⟨.hbm, 158, rfl⟩
abbrev main_v95 : Ref sig .tc := ⟨.hbm, 159, rfl⟩
abbrev main_cst_35 : Ref sig .tc := ⟨.hbm, 160, rfl⟩
abbrev main_v96 : Ref sig .tc := ⟨.hbm, 161, rfl⟩
abbrev main_v97 : Ref sig .tc := ⟨.hbm, 162, rfl⟩
abbrev main_cst_36 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_cst_37 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_cst_38 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_cst_39 : Ref sig .tc := ⟨.hbm, 175, rfl⟩
abbrev main_v107 : Ref sig .tc := ⟨.hbm, 176, rfl⟩
abbrev main_v108 : Ref sig .tc := ⟨.hbm, 177, rfl⟩
abbrev main_cst_40 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_cst_41 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_cst_42 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_cst_43 : Ref sig .tc := ⟨.hbm, 190, rfl⟩
abbrev main_v118 : Ref sig .tc := ⟨.hbm, 191, rfl⟩
abbrev main_v119 : Ref sig .tc := ⟨.hbm, 192, rfl⟩
abbrev main_cst_44 : Ref sig .tc := ⟨.hbm, 193, rfl⟩
abbrev main_v120 : Ref sig .tc := ⟨.hbm, 194, rfl⟩
abbrev main_v121 : Ref sig .tc := ⟨.hbm, 195, rfl⟩
abbrev main_cst_45 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_cst_46 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_cst_47 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_cst_48 : Ref sig .tc := ⟨.hbm, 208, rfl⟩
abbrev main_v131 : Ref sig .tc := ⟨.hbm, 209, rfl⟩
abbrev main_v132 : Ref sig .tc := ⟨.hbm, 210, rfl⟩
abbrev main_cst_49 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_cst_50 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_cst_51 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_cst_52 : Ref sig .tc := ⟨.hbm, 223, rfl⟩
abbrev main_v142 : Ref sig .tc := ⟨.hbm, 224, rfl⟩
abbrev main_v143 : Ref sig .tc := ⟨.hbm, 225, rfl⟩
abbrev main_cst_53 : Ref sig .tc := ⟨.hbm, 226, rfl⟩
abbrev main_v144 : Ref sig .tc := ⟨.hbm, 227, rfl⟩
abbrev main_v145 : Ref sig .tc := ⟨.hbm, 228, rfl⟩
abbrev main_cst_54 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_cst_55 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_cst_56 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_cst_57 : Ref sig .tc := ⟨.hbm, 241, rfl⟩
abbrev main_v155 : Ref sig .tc := ⟨.hbm, 242, rfl⟩
abbrev main_v156 : Ref sig .tc := ⟨.hbm, 243, rfl⟩
abbrev main_cst_58 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_cst_59 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_cst_60 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_cst_61 : Ref sig .tc := ⟨.hbm, 256, rfl⟩
abbrev main_v166 : Ref sig .tc := ⟨.hbm, 257, rfl⟩
abbrev main_v167 : Ref sig .tc := ⟨.hbm, 258, rfl⟩

abbrev nD : Nat := 1
abbrev τ : Topo := Topo.v7x

variable {F : FTy → Type} [FloatOps F]
-- ==== Proof.AdamPack.lean ====
/- Seven arrays packed one after the other into rows of 128, and read back: every entry of an array sits at one place of
   the packed rows, for all contents. -/
module

public import proofs.«01_k».proof.Defs
public import proofs.«01_k».proof.Proof.Gen.AdamIdeal
public import proofs.«01_k».proof.Proof.Gen.AdamIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamIdeal.Value

open Cert.AdamIdeal Cert.AdamIdeal.Gen

variable (a0 : FVec Ideal S16x256 .f32) (a1 : FVec Ideal S2x2048 .f32) (a2 : FVec Ideal S2x8 .f32) (a3 : FVec Ideal S2x3x128 .f32)
  (a4 : FVec Ideal S2x1024 .f32) (a5 : FVec Ideal S2x2048 .f32) (a6 : FVec Ideal S2048 .f32)

/-- The seven arrays laid flat, one after the other. -/
def flat : FVec Ideal S17168 .f32 :=
  concatenate S17168 0 [⟨S4096, shapeCast S4096 a0 shapeCasts_S16x256_S4096⟩, ⟨S4096, shapeCast S4096 a1 shapeCasts_S2x2048_S4096⟩,
    ⟨S16, shapeCast S16 a2 shapeCasts_S2x8_S16⟩, ⟨S768, shapeCast S768 a3 shapeCasts_S2x3x128_S768⟩,
    ⟨S2048, shapeCast S2048 a4 shapeCasts_S2x1024_S2048⟩, ⟨S4096, shapeCast S4096 a5 shapeCasts_S2x2048_S4096⟩, ⟨S2048, a6⟩]
    concatenates_S4096_S4096_S16_S768_S2048_S4096_S2048_S17168_d0

/-- The flat array filled up with zeros and cut into rows. -/
def pack : FVec Ideal S136x128 .f32 :=
  shapeCast S136x128 (pad S17408 ![0] ![240] ![0] (flat a0 a1 a2 a3 a4 a5 a6) (sitofp .f32 (constantI S_ 32 0#32)) pads_S17168_S17408_02400 h_S_)
    shapeCasts_S17408_S136x128

/-- Where the flat array's entry `p` sits in the rows. -/
def place (p : Nat) (h : p < 17168) : S136x128.Idx := ix2 (⟨p / 128, by omega⟩ : Fin 136) (⟨p % 128, by omega⟩ : Fin 128)

theorem pack_at (p : Nat) (h : p < 17168) :
    pack a0 a1 a2 a3 a4 a5 a6 (place p h) = flat a0 a1 a2 a3 a4 a5 a6 (ix1 (⟨p, h⟩ : Fin 17168)) := by
  unfold pack place
  generalize flat a0 a1 a2 a3 a4 a5 a6 = f
  pointwise
  rw [dif_pos (by omega)]
  refine congrArg f (congrArg ix1 (Fin.ext ?_))
  simp only
  omega

/-! Each array's entry in the flat array. -/

theorem flat0 (i : Fin 16) (j : Fin 256) :
    flat a0 a1 a2 a3 a4 a5 a6 (ix1 (⟨i.val * 256 + j.val, by omega⟩ : Fin 17168)) = a0 (ix2 i j) := by
  unfold flat
  pointwise
  exact dif_pos (by omega)

theorem flat1 (i : Fin 2) (j : Fin 2048) :
    flat a0 a1 a2 a3 a4 a5 a6 (ix1 (⟨4096 + (i.val * 2048 + j.val), by omega⟩ : Fin 17168)) = a1 (ix2 i j) := by
  unfold flat
  pointwise
  exact dif_pos (by omega)

theorem flat2 (i : Fin 2) (j : Fin 8) :
    flat a0 a1 a2 a3 a4 a5 a6 (ix1 (⟨8192 + (i.val * 8 + j.val), by omega⟩ : Fin 17168)) = a2 (ix2 i j) := by
  unfold flat
  pointwise
  rw [dif_neg (by omega), dif_neg (by omega), dif_pos (by omega)]
  exact congrArg a2 (congrArg₂ ix2 (Fin.ext (by simp only; omega)) (Fin.ext (by simp only; omega)))

theorem flat3 (i : Fin 2) (j : Fin 3) (k : Fin 128) :
    flat a0 a1 a2 a3 a4 a5 a6 (ix1 (⟨8208 + (i.val * 384 + j.val * 128 + k.val), by omega⟩ : Fin 17168)) = a3 (ix3 i j k) := by
  unfold flat
  pointwise
  rw [dif_neg (by omega), dif_neg (by omega), dif_neg (by omega), dif_pos (by omega)]
  have e : ∀ {x x' : Fin 2} {y y' : Fin 3} {z z' : Fin 128}, x = x' → y = y' → z = z' → a3 (ix3 x y z) = a3 (ix3 x' y' z') := by
    rintro _ _ _ _ _ _ rfl rfl rfl
    rfl
  exact e (Fin.ext (by simp only; omega)) (Fin.ext (by simp only; omega)) (Fin.ext (by simp only; omega))

theorem flat4 (i : Fin 2) (j : Fin 1024) :
    flat a0 a1 a2 a3 a4 a5 a6 (ix1 (⟨8976 + (i.val * 1024 + j.val), by omega⟩ : Fin 17168)) = a4 (ix2 i j) := by
  unfold flat
  pointwise
  rw [dif_neg (by omega), dif_neg (by omega), dif_neg (by omega), dif_neg (by omega), dif_pos (by omega)]
  exact congrArg a4 (congrArg₂ ix2 (Fin.ext (by simp only; omega)) (Fin.ext (by simp only; omega)))

theorem flat5 (i : Fin 2) (j : Fin 2048) :
    flat a0 a1 a2 a3 a4 a5 a6 (ix1 (⟨11024 + (i.val * 2048 + j.val), by omega⟩ : Fin 17168)) = a5 (ix2 i j) := by
  unfold flat
  pointwise
  rw [dif_neg (by omega), dif_neg (by omega), dif_neg (by omega), dif_neg (by omega), dif_neg (by omega), dif_pos (by omega)]
  exact congrArg a5 (congrArg₂ ix2 (Fin.ext (by simp only; omega)) (Fin.ext (by simp only; omega)))

theorem flat6 (i : Fin 2048) :
    flat a0 a1 a2 a3 a4 a5 a6 (ix1 (⟨15120 + i.val, by omega⟩ : Fin 17168)) = a6 (ix1 i) := by
  unfold flat
  pointwise
  rw [dif_neg (by omega), dif_neg (by omega), dif_neg (by omega), dif_neg (by omega), dif_neg (by omega), dif_neg (by omega)]
  exact congrArg a6 (congrArg ix1 (Fin.ext (by simp only; omega)))

/-! Each array's slice of the rows, in the array's own shape. -/

variable (r : FVec Ideal S136x128 .f32)

/-- The rows laid flat. -/
abbrev long : FVec Ideal S17408 .f32 := shapeCast S17408 r shapeCasts_S136x128_S17408

abbrev cut0 : FVec Ideal S16x256 .f32 := shapeCast S16x256 (extractStridedSlice S4096 ![0] (long r) slices_S17408_S4096_0) shapeCasts_S4096_S16x256
abbrev cut1 : FVec Ideal S2x2048 .f32 := shapeCast S2x2048 (extractStridedSlice S4096 ![4096] (long r) slices_S17408_S4096_4096) shapeCasts_S4096_S2x2048
abbrev cut2 : FVec Ideal S2x8 .f32 := shapeCast S2x8 (extractStridedSlice S16 ![8192] (long r) slices_S17408_S16_8192) shapeCasts_S16_S2x8
abbrev cut3 : FVec Ideal S2x3x128 .f32 := shapeCast S2x3x128 (extractStridedSlice S768 ![8208] (long r) slices_S17408_S768_8208) shapeCasts_S768_S2x3x128
abbrev cut4 : FVec Ideal S2x1024 .f32 := shapeCast S2x1024 (extractStridedSlice S2048 ![8976] (long r) slices_S17408_S2048_8976) shapeCasts_S2048_S2x1024
abbrev cut5 : FVec Ideal S2x2048 .f32 := shapeCast S2x2048 (extractStridedSlice S4096 ![11024] (long r) slices_S17408_S4096_11024) shapeCasts_S4096_S2x2048
abbrev cut6 : FVec Ideal S2048 .f32 := extractStridedSlice S2048 ![15120] (long r) slices_S17408_S2048_15120

theorem cut0_at (i : Fin 16) (j : Fin 256) : cut0 r (ix2 i j) = r (place (i.val * 256 + j.val) (by omega)) := by
  unfold place
  pointwise
theorem cut1_at (i : Fin 2) (j : Fin 2048) : cut1 r (ix2 i j) = r (place (4096 + (i.val * 2048 + j.val)) (by omega)) := by
  unfold place
  pointwise
theorem cut2_at (i : Fin 2) (j : Fin 8) : cut2 r (ix2 i j) = r (place (8192 + (i.val * 8 + j.val)) (by omega)) := by
  unfold place
  pointwise
theorem cut3_at (i : Fin 2) (j : Fin 3) (k : Fin 128) :
    cut3 r (ix3 i j k) = r (place (8208 + (i.val * 384 + j.val * 128 + k.val)) (by omega)) := by
  unfold place
  pointwise
theorem cut4_at (i : Fin 2) (j : Fin 1024) : cut4 r (ix2 i j) = r (place (8976 + (i.val * 1024 + j.val)) (by omega)) := by
  unfold place
  pointwise
theorem cut5_at (i : Fin 2) (j : Fin 2048) : cut5 r (ix2 i j) = r (place (11024 + (i.val * 2048 + j.val)) (by omega)) := by
  unfold place
  pointwise
theorem cut6_at (i : Fin 2048) : cut6 r (ix1 i) = r (place (15120 + i.val) (by omega)) := by
  unfold place
  pointwise

/-- Seven arrays of the parameters' shapes: the parameters themselves, their gradients or one of their moments. -/
structure Seven where
  a0 : FVec Ideal S16x256 .f32
  a1 : FVec Ideal S2x2048 .f32
  a2 : FVec Ideal S2x8 .f32
  a3 : FVec Ideal S2x3x128 .f32
  a4 : FVec Ideal S2x1024 .f32
  a5 : FVec Ideal S2x2048 .f32
  a6 : FVec Ideal S2048 .f32

def Seven.packed (a : Seven) : FVec Ideal S136x128 .f32 := pack a.a0 a.a1 a.a2 a.a3 a.a4 a.a5 a.a6

/-- `cut` reads back from the rows the array that `pick` names: each entry at one place, whatever the contents. -/
def Reads {s : Shape} (cut : FVec Ideal S136x128 .f32 → FVec Ideal s .f32) (pick : Seven → FVec Ideal s .f32) : Prop :=
  ∀ y : s.Idx, ∃ j, (∀ r, cut r y = r j) ∧ ∀ a : Seven, a.packed j = pick a y

theorem reads0 : Reads cut0 Seven.a0 := fun y => by
  idx_vars y
  exact ⟨_, fun r => cut0_at r y0 y1, fun a => (pack_at _ _ _ _ _ _ _ _ _).trans (flat0 _ _ _ _ _ _ _ y0 y1)⟩
theorem reads1 : Reads cut1 Seven.a1 := fun y => by
  idx_vars y
  exact ⟨_, fun r => cut1_at r y0 y1, fun a => (pack_at _ _ _ _ _ _ _ _ _).trans (flat1 _ _ _ _ _ _ _ y0 y1)⟩
theorem reads2 : Reads cut2 Seven.a2 := fun y => by
  idx_vars y
  exact ⟨_, fun r => cut2_at r y0 y1, fun a => (pack_at _ _ _ _ _ _ _ _ _).trans (flat2 _ _ _ _ _ _ _ y0 y1)⟩
theorem reads3 : Reads cut3 Seven.a3 := fun y => by
  idx_vars y
  exact ⟨_, fun r => cut3_at r y0 y1 y2, fun a => (pack_at _ _ _ _ _ _ _ _ _).trans (flat3 _ _ _ _ _ _ _ y0 y1 y2)⟩
theorem reads4 : Reads cut4 Seven.a4 := fun y => by
  idx_vars y
  exact ⟨_, fun r => cut4_at r y0 y1, fun a => (pack_at _ _ _ _ _ _ _ _ _).trans (flat4 _ _ _ _ _ _ _ y0 y1)⟩
theorem reads5 : Reads cut5 Seven.a5 := fun y => by
  idx_vars y
  exact ⟨_, fun r => cut5_at r y0 y1, fun a => (pack_at _ _ _ _ _ _ _ _ _).trans (flat5 _ _ _ _ _ _ _ y0 y1)⟩
theorem reads6 : Reads cut6 Seven.a6 := fun y => by
  idx_vars y
  exact ⟨_, fun r => cut6_at r y0, fun a => (pack_at _ _ _ _ _ _ _ _ _).trans (flat6 _ _ _ _ _ _ _ y0)⟩

/-- An array computed entry by entry is what is cut from the rows computed entry by entry. -/
theorem Reads.eq {s : Shape} {cut : FVec Ideal S136x128 .f32 → FVec Ideal s .f32} {pick : Seven → FVec Ideal s .f32} (H : Reads cut pick)
    (f : EReal → EReal → EReal → EReal → EReal) (a b d e : Seven) (x w g p q : FVec Ideal s .f32)
    (hw : w = pick a) (hg : g = pick b) (hp : p = pick d) (hq : q = pick e) (h : ∀ y, x y = f (w y) (g y) (p y) (q y)) :
    x = cut fun y => f (a.packed y) (b.packed y) (d.packed y) (e.packed y) := by
  subst hw hg hp hq
  funext y
  obtain ⟨j, hc, hs⟩ := H y
  rw [h, hc, hs, hs, hs, hs]

end Cert.AdamIdeal.Value
-- ==== Proof.AdamValue.lean ====
/- The optimiser's step on the small parameters. -/
module

public import proofs.«01_k».proof.Defs
public import proofs.«01_k».proof.Proof.Gen.Adam
public import proofs.«01_k».proof.Proof.Gen.Adam.Frame
public import proofs.«01_k».proof.Proof.Gen.AdamIdeal
public import proofs.«01_k».proof.Proof.Gen.AdamIdeal.Frame
public import proofs.«01_k».proof.Proof.Gen.AdamRefIdeal
public import proofs.«01_k».proof.Proof.Gen.AdamRefIdeal.Run
public import proofs.«01_k».proof.Proof.AdamPack
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Idealize.ShloMosaic.Tactic
open Idealize.ShloMosaic.Pipeline (Dat)

namespace Cert.AdamIdeal.Value

open Cert.AdamIdeal Cert.AdamIdeal.Gen

/-- One entry's new first moment. -/
def firstE (g m : Ideal .f32) : Ideal .f32 :=
  FloatOps.addf (FloatOps.mulf (Scalar.ofBits .f32 0x3F666666#32) m) (FloatOps.mulf (Scalar.ofBits .f32 0x3DCCCCCD#32) g)
/-- One entry's new second moment. -/
def secondE (g v : Ideal .f32) : Ideal .f32 :=
  FloatOps.addf (FloatOps.mulf (Scalar.ofBits .f32 0x3F7FBE77#32) v) (FloatOps.mulf (Scalar.ofBits .f32 0x3A83126F#32) (FloatOps.mulf g g))
/-- One entry's change. -/
def changeE (w g m v : Ideal .f32) : Ideal .f32 :=
  FloatOps.mulf (Scalar.ofBits .f32 0xBA83126F#32) (FloatOps.addf
    (FloatOps.divf (FloatOps.divf (firstE g m) (Scalar.ofBits .f32 0x3F26BD02#32))
      (FloatOps.addf (FloatOps.sqrt (FloatOps.divf (secondE g v) (Scalar.ofBits .f32 0x3C231ACC#32))) (Scalar.ofBits .f32 0x322BCC77#32)))
    (FloatOps.mulf (Scalar.ofBits .f32 0x3C23D70A#32) w))

variable (m : (ℓ : Loc nD τ sig) → Buf (Elt Ideal) ℓ) (c : Dev nD)

theorem out4 (w mm v g : Vec Ideal S136x128 .f32) (i : Fin 136) (j : Fin 128) :
    out0_4 (F := Ideal) w mm v g (ix2 i j) = changeE (w (ix2 i j)) (g (ix2 i j)) (mm (ix2 i j)) (v (ix2 i j)) := by
  unfold out0_4
  frame_out
  open_payloads
  pointwise
  rfl
theorem out5 (w mm v g : Vec Ideal S136x128 .f32) (i : Fin 136) (j : Fin 128) :
    out0_5 (F := Ideal) w mm v g (ix2 i j) = firstE (g (ix2 i j)) (mm (ix2 i j)) := by
  unfold out0_5
  frame_out
  open_payloads
  pointwise
  rfl
theorem out6 (w mm v g : Vec Ideal S136x128 .f32) (i : Fin 136) (j : Fin 128) :
    out0_6 (F := Ideal) w mm v g (ix2 i j) = secondE (g (ix2 i j)) (v (ix2 i j)) := by
  unfold out0_6
  frame_out
  open_payloads
  pointwise
  rfl

/-- The parameters, their gradients and their two moments; and each packed. -/
def ws : Seven := ⟨m ((c : Thread nD τ).loc main_arg0), m ((c : Thread nD τ).loc main_arg1), m ((c : Thread nD τ).loc main_arg2),
  m ((c : Thread nD τ).loc main_arg3), m ((c : Thread nD τ).loc main_arg4), m ((c : Thread nD τ).loc main_arg5), m ((c : Thread nD τ).loc main_arg6)⟩
def gs : Seven := ⟨m ((c : Thread nD τ).loc main_arg7), m ((c : Thread nD τ).loc main_arg8), m ((c : Thread nD τ).loc main_arg9),
  m ((c : Thread nD τ).loc main_arg10), m ((c : Thread nD τ).loc main_arg11), m ((c : Thread nD τ).loc main_arg12), m ((c : Thread nD τ).loc main_arg13)⟩
def ms : Seven := ⟨m ((c : Thread nD τ).loc main_arg14), m ((c : Thread nD τ).loc main_arg15), m ((c : Thread nD τ).loc main_arg16),
  m ((c : Thread nD τ).loc main_arg17), m ((c : Thread nD τ).loc main_arg18), m ((c : Thread nD τ).loc main_arg19), m ((c : Thread nD τ).loc main_arg20)⟩
def us : Seven := ⟨m ((c : Thread nD τ).loc main_arg21), m ((c : Thread nD τ).loc main_arg22), m ((c : Thread nD τ).loc main_arg23),
  m ((c : Thread nD τ).loc main_arg24), m ((c : Thread nD τ).loc main_arg25), m ((c : Thread nD τ).loc main_arg26), m ((c : Thread nD τ).loc main_arg27)⟩

abbrev W : FVec Ideal S136x128 .f32 := (ws m c).packed
abbrev G : FVec Ideal S136x128 .f32 := (gs m c).packed
abbrev M : FVec Ideal S136x128 .f32 := (ms m c).packed
abbrev U : FVec Ideal S136x128 .f32 := (us m c).packed

/-- The change and the two new moments, packed. -/
def D : FVec Ideal S136x128 .f32 := fun y => changeE (W m c y) (G m c y) (M m c y) (U m c y)
def M' : FVec Ideal S136x128 .f32 := fun y => firstE (G m c y) (M m c y)
def U' : FVec Ideal S136x128 .f32 := fun y => secondE (G m c y) (U m c y)

theorem packed : V m c main_v8 = W m c ∧ V m c main_v17 = M m c ∧ V m c main_v26 = U m c ∧ V m c main_v35 = G m c := by
  unfold W M U G Seven.packed pack flat ws gs ms us
  simp only [V, V0, hostOps0, hostOps0_1, hostOps0_2, hostOps0_3, hostOps0_4, hostOps0_5, hostOps0_6, hostOps0_7, hostOps0_8,
    List.flatten_cons, List.flatten_nil, List.append_nil, List.cons_append, List.nil_append]
  refine ⟨?_, ?_, ?_, ?_⟩ <;> (after_results_simp; rfl)

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

theorem blk0 (t : Fin cfg0.N) (i : Fin 136) (j : Fin 128) : iblk m c 0 t (ix2 i j) = W m c (ix2 i j) := by
  have e : ((cfg0.win 0).blk t).view.emb (ix2 i j) = ix2 i j := by blk_ext [idx t]
  show V m c main_v8 (((cfg0.win 0).blk t).view.emb (ix2 i j)) = _
  rw [e, (packed m c).1]
theorem blk1 (t : Fin cfg0.N) (i : Fin 136) (j : Fin 128) : iblk m c 1 t (ix2 i j) = M m c (ix2 i j) := by
  have e : ((cfg0.win 1).blk t).view.emb (ix2 i j) = ix2 i j := by blk_ext [idx t]
  show V m c main_v17 (((cfg0.win 1).blk t).view.emb (ix2 i j)) = _
  rw [e, (packed m c).2.1]
theorem blk2 (t : Fin cfg0.N) (i : Fin 136) (j : Fin 128) : iblk m c 2 t (ix2 i j) = U m c (ix2 i j) := by
  have e : ((cfg0.win 2).blk t).view.emb (ix2 i j) = ix2 i j := by blk_ext [idx t]
  show V m c main_v26 (((cfg0.win 2).blk t).view.emb (ix2 i j)) = _
  rw [e, (packed m c).2.2.1]
theorem blk3 (t : Fin cfg0.N) (i : Fin 136) (j : Fin 128) : iblk m c 3 t (ix2 i j) = G m c (ix2 i j) := by
  have e : ((cfg0.win 3).blk t).view.emb (ix2 i j) = ix2 i j := by blk_ext [idx t]
  show V m c main_v35 (((cfg0.win 3).blk t).view.emb (ix2 i j)) = _
  rw [e, (packed m c).2.2.2]

theorem final4 : (dats m 0 c).arrAt 4 cfg0.N = D m c := by
  refine (dats m 0 c).arrAt_eq_of_covers 4 _ (by decide +kernel) fun t _ y => ?_
  idx_vars y
  have e : ((cfg0.win 4).blk t).view.emb (ix2 y0 y1) = ix2 y0 y1 := by blk_ext [idx t]
  rw [e]
  blk_simp
  rw [after0_4]
  refine (out4 _ _ _ _ y0 y1).trans ?_
  rw [blk0, blk1, blk2, blk3]
  rfl
theorem final5 : (dats m 0 c).arrAt 5 cfg0.N = M' m c := by
  refine (dats m 0 c).arrAt_eq_of_covers 5 _ (by decide +kernel) fun t _ y => ?_
  idx_vars y
  have e : ((cfg0.win 5).blk t).view.emb (ix2 y0 y1) = ix2 y0 y1 := by blk_ext [idx t]
  rw [e]
  blk_simp
  rw [after0_5]
  refine (out5 _ _ _ _ y0 y1).trans ?_
  rw [blk1, blk3]
  rfl
theorem final6 : (dats m 0 c).arrAt 6 cfg0.N = U' m c := by
  refine (dats m 0 c).arrAt_eq_of_covers 6 _ (by decide +kernel) fun t _ y => ?_
  idx_vars y
  have e : ((cfg0.win 6).blk t).view.emb (ix2 y0 y1) = ix2 y0 y1 := by blk_ext [idx t]
  rw [e]
  blk_simp
  rw [after0_6]
  refine (out6 _ _ _ _ y0 y1).trans ?_
  rw [blk2, blk3]
  rfl

/-- What the lines after the region find in the three arrays it leaves. -/
theorem left4 : Pipeline.withArrays spec0 c (V0 m c) (fun w => (dats m 0 c).arrAt w cfg0.N) (Proc.devRef .tc main_v36_0) = D m c :=
  (Pipeline.withArrays_arr spec0 launch0.win.arr_inj c (V0 m c) (fun w => (dats m 0 c).arrAt w cfg0.N) 4).trans (final4 m c)
theorem left5 : Pipeline.withArrays spec0 c (V0 m c) (fun w => (dats m 0 c).arrAt w cfg0.N) (Proc.devRef .tc main_v36_1) = M' m c :=
  (Pipeline.withArrays_arr spec0 launch0.win.arr_inj c (V0 m c) (fun w => (dats m 0 c).arrAt w cfg0.N) 5).trans (final5 m c)
theorem left6 : Pipeline.withArrays spec0 c (V0 m c) (fun w => (dats m 0 c).arrAt w cfg0.N) (Proc.devRef .tc main_v36_2) = U' m c :=
  (Pipeline.withArrays_arr spec0 launch0.win.arr_inj c (V0 m c) (fun w => (dats m 0 c).arrAt w cfg0.N) 6).trans (final6 m c)

/-- The run's end, as the generated frame states it. -/
abbrev End (r : PUnit × MemSt nD τ sig (Elt Ideal)) : Prop :=
  Pipeline.FramePost cfgs (dats m) 0 (Pipeline.afterTail₀ cfgs (dats m) 0 (V0 m) [hostOps1]) r

set_option maxHeartbeats 2000000 in
/-- The 21 results: the changes, the first moments, the second moments. -/
theorem results (r : PUnit × MemSt nD τ sig (Elt Ideal)) (h : End m r) :
    r.2.mem ((c : Thread nD τ).loc main_v39) = cut0 (D m c) ∧ r.2.mem ((c : Thread nD τ).loc main_v41) = cut1 (D m c)
      ∧ r.2.mem ((c : Thread nD τ).loc main_v43) = cut2 (D m c) ∧ r.2.mem ((c : Thread nD τ).loc main_v45) = cut3 (D m c)
      ∧ r.2.mem ((c : Thread nD τ).loc main_v47) = cut4 (D m c) ∧ r.2.mem ((c : Thread nD τ).loc main_v49) = cut5 (D m c)
      ∧ r.2.mem ((c : Thread nD τ).loc main_v50) = cut6 (D m c) ∧ r.2.mem ((c : Thread nD τ).loc main_v53) = cut0 (M' m c)
      ∧ r.2.mem ((c : Thread nD τ).loc main_v55) = cut1 (M' m c) ∧ r.2.mem ((c : Thread nD τ).loc main_v57) = cut2 (M' m c)
      ∧ r.2.mem ((c : Thread nD τ).loc main_v59) = cut3 (M' m c) ∧ r.2.mem ((c : Thread nD τ).loc main_v61) = cut4 (M' m c)
      ∧ r.2.mem ((c : Thread nD τ).loc main_v63) = cut5 (M' m c) ∧ r.2.mem ((c : Thread nD τ).loc main_v64) = cut6 (M' m c)
      ∧ r.2.mem ((c : Thread nD τ).loc main_v67) = cut0 (U' m c) ∧ r.2.mem ((c : Thread nD τ).loc main_v69) = cut1 (U' m c)
      ∧ r.2.mem ((c : Thread nD τ).loc main_v71) = cut2 (U' m c) ∧ r.2.mem ((c : Thread nD τ).loc main_v73) = cut3 (U' m c)
      ∧ r.2.mem ((c : Thread nD τ).loc main_v75) = cut4 (U' m c) ∧ r.2.mem ((c : Thread nD τ).loc main_v77) = cut5 (U' m c)
      ∧ r.2.mem ((c : Thread nD τ).loc main_v78) = cut6 (U' m c) := by
  have k := fun b h₁ h₂ => (h c).2 b (Pipeline.mem_restRefs_of b h₁ h₂)
  refine ⟨(k main_v39 (by decide) (by decide)).trans ?_, (k main_v41 (by decide) (by decide)).trans ?_, (k main_v43 (by decide) (by decide)).trans ?_,
    (k main_v45 (by decide) (by decide)).trans ?_, (k main_v47 (by decide) (by decide)).trans ?_, (k main_v49 (by decide) (by decide)).trans ?_,
    (k main_v50 (by decide) (by decide)).trans ?_, (k main_v53 (by decide) (by decide)).trans ?_, (k main_v55 (by decide) (by decide)).trans ?_,
    (k main_v57 (by decide) (by decide)).trans ?_, (k main_v59 (by decide) (by decide)).trans ?_, (k main_v61 (by decide) (by decide)).trans ?_,
    (k main_v63 (by decide) (by decide)).trans ?_, (k main_v64 (by decide) (by decide)).trans ?_, (k main_v67 (by decide) (by decide)).trans ?_,
    (k main_v69 (by decide) (by decide)).trans ?_, (k main_v71 (by decide) (by decide)).trans ?_, (k main_v73 (by decide) (by decide)).trans ?_,
    (k main_v75 (by decide) (by decide)).trans ?_, (k main_v77 (by decide) (by decide)).trans ?_, (k main_v78 (by decide) (by decide)).trans ?_⟩
  all_goals
    first | rw [← left4 m c] | rw [← left5 m c] | rw [← left6 m c]
    unfold Pipeline.afterTail₀
    simp only [List.flatten_cons, List.flatten_nil, List.append_nil]
    after_results_simp
    rfl

end Cert.AdamIdeal.Value

namespace Cert.Proof.Adam

theorem frame_p : Cert.quiescent_Adam := fun m ρ _ => Cert.Adam.Gen.frame m ρ
theorem frame_pi : Cert.quiescent_AdamIdeal := fun m ρ _ => Cert.AdamIdeal.Gen.frame m ρ
theorem frame_ri : Cert.quiescent_AdamRefIdeal := fun m ρ _ =>
  (θ_run Cert.AdamRefIdeal.defs _ _).mono (fun r h => ⟨fun c => by
      obtain ⟨_, _, _, _, _, _, _, _, _, _, _, _, _, _, _, _, _, _, _, _, _, k⟩ := h c
      exact k, Idealize.ShloMosaic.sem_eq_zero_of_no_sems (by decide) r.2⟩)
    (Cert.AdamRefIdeal.Value.run (F := Ideal) m ρ)

open Cert.AdamIdeal Cert.AdamIdeal.Gen Cert.AdamIdeal.Value in
theorem algebraic : Cert.algebraic_AdamIdeal_AdamRefIdeal := by
  intro m ρ m' ρ' _ hagree
  refine ⟨fun c => cut0 (D m c), fun c => cut1 (D m c), fun c => cut2 (D m c), fun c => cut3 (D m c), fun c => cut4 (D m c), fun c => cut5 (D m c), fun c => cut6 (D m c),
    fun c => cut0 (M' m c), fun c => cut1 (M' m c), fun c => cut2 (M' m c), fun c => cut3 (M' m c), fun c => cut4 (M' m c), fun c => cut5 (M' m c), fun c => cut6 (M' m c),
    fun c => cut0 (U' m c), fun c => cut1 (U' m c), fun c => cut2 (U' m c), fun c => cut3 (U' m c), fun c => cut4 (U' m c), fun c => cut5 (U' m c), fun c => cut6 (U' m c),
    (θ_run Cert.AdamIdeal.defs _ _).mono (fun r h c => ?_) (run_main m ρ),
    (θ_run Cert.AdamRefIdeal.defs _ _).mono (fun r h c => ?_) (Cert.AdamRefIdeal.Value.run (F := Ideal) m' ρ')⟩
  · have k := fun b h₁ h₂ => (h c).2 b (Pipeline.mem_restRefs_of b h₁ h₂)
    obtain ⟨d0, d1, d2, d3, d4, d5, d6, n0, n1, n2, n3, n4, n5, n6, s0, s1, s2, s3, s4, s5, s6⟩ := results m c r h
    refine ⟨d0, d1, d2, d3, d4, d5, d6, n0, n1, n2, n3, n4, n5, n6, s0, s1, s2, s3, s4, s5, s6,
      (k main_arg0 (by decide) (by decide)).trans (W_main_arg0 m (dats m) c),
      (k main_arg1 (by decide) (by decide)).trans (W_main_arg1 m (dats m) c),
      (k main_arg2 (by decide) (by decide)).trans (W_main_arg2 m (dats m) c),
      (k main_arg3 (by decide) (by decide)).trans (W_main_arg3 m (dats m) c),
      (k main_arg4 (by decide) (by decide)).trans (W_main_arg4 m (dats m) c),
      (k main_arg5 (by decide) (by decide)).trans (W_main_arg5 m (dats m) c),
      (k main_arg6 (by decide) (by decide)).trans (W_main_arg6 m (dats m) c),
      (k main_arg7 (by decide) (by decide)).trans (W_main_arg7 m (dats m) c),
      (k main_arg8 (by decide) (by decide)).trans (W_main_arg8 m (dats m) c),
      (k main_arg9 (by decide) (by decide)).trans (W_main_arg9 m (dats m) c),
      (k main_arg10 (by decide) (by decide)).trans (W_main_arg10 m (dats m) c),
      (k main_arg11 (by decide) (by decide)).trans (W_main_arg11 m (dats m) c),
      (k main_arg12 (by decide) (by decide)).trans (W_main_arg12 m (dats m) c),
      (k main_arg13 (by decide) (by decide)).trans (W_main_arg13 m (dats m) c),
      (k main_arg14 (by decide) (by decide)).trans (W_main_arg14 m (dats m) c),
      (k main_arg15 (by decide) (by decide)).trans (W_main_arg15 m (dats m) c),
      (k main_arg16 (by decide) (by decide)).trans (W_main_arg16 m (dats m) c),
      (k main_arg17 (by decide) (by decide)).trans (W_main_arg17 m (dats m) c),
      (k main_arg18 (by decide) (by decide)).trans (W_main_arg18 m (dats m) c),
      (k main_arg19 (by decide) (by decide)).trans (W_main_arg19 m (dats m) c),
      (k main_arg20 (by decide) (by decide)).trans (W_main_arg20 m (dats m) c),
      (k main_arg21 (by decide) (by decide)).trans (W_main_arg21 m (dats m) c),
      (k main_arg22 (by decide) (by decide)).trans (W_main_arg22 m (dats m) c),
      (k main_arg23 (by decide) (by decide)).trans (W_main_arg23 m (dats m) c),
      (k main_arg24 (by decide) (by decide)).trans (W_main_arg24 m (dats m) c),
      (k main_arg25 (by decide) (by decide)).trans (W_main_arg25 m (dats m) c),
      (k main_arg26 (by decide) (by decide)).trans (W_main_arg26 m (dats m) c),
      (k main_arg27 (by decide) (by decide)).trans (W_main_arg27 m (dats m) c)⟩
  · obtain ⟨e0, e1, e2, e3, e4, e5, e6, e7, e8, e9, e10, e11, e12, e13, e14, e15, e16, e17, e18, e19, e20, e21, e22, e23, e24, e25, e26, e27⟩ := hagree c
    obtain ⟨d0, d1, d2, d3, d4, d5, d6, n0, n1, n2, n3, n4, n5, n6, s0, s1, s2, s3, s4, s5, s6, kept⟩ := h c
    have step := fun {s : Shape} {cut : FVec Ideal S136x128 .f32 → FVec Ideal s .f32} {pick : Seven → FVec Ideal s .f32} (H : Reads cut pick) f =>
      H.eq f (ws m c) (gs m c) (ms m c) (us m c)
    refine ⟨d0.trans (step reads0 changeE _ _ _ _ _ e0 e7 e14 e21 fun _ => rfl),
      d1.trans (step reads1 changeE _ _ _ _ _ e1 e8 e15 e22 fun _ => rfl),
      d2.trans (step reads2 changeE _ _ _ _ _ e2 e9 e16 e23 fun _ => rfl),
      d3.trans (step reads3 changeE _ _ _ _ _ e3 e10 e17 e24 fun _ => rfl),
      d4.trans (step reads4 changeE _ _ _ _ _ e4 e11 e18 e25 fun _ => rfl),
      d5.trans (step reads5 changeE _ _ _ _ _ e5 e12 e19 e26 fun _ => rfl),
      d6.trans (step reads6 changeE _ _ _ _ _ e6 e13 e20 e27 fun _ => rfl),
      n0.trans (step reads0 (fun _ g m _ => firstE g m) _ _ _ _ _ e0 e7 e14 e21 fun _ => rfl),
      n1.trans (step reads1 (fun _ g m _ => firstE g m) _ _ _ _ _ e1 e8 e15 e22 fun _ => rfl),
      n2.trans (step reads2 (fun _ g m _ => firstE g m) _ _ _ _ _ e2 e9 e16 e23 fun _ => rfl),
      n3.trans (step reads3 (fun _ g m _ => firstE g m) _ _ _ _ _ e3 e10 e17 e24 fun _ => rfl),
      n4.trans (step reads4 (fun _ g m _ => firstE g m) _ _ _ _ _ e4 e11 e18 e25 fun _ => rfl),
      n5.trans (step reads5 (fun _ g m _ => firstE g m) _ _ _ _ _ e5 e12 e19 e26 fun _ => rfl),
      n6.trans (step reads6 (fun _ g m _ => firstE g m) _ _ _ _ _ e6 e13 e20 e27 fun _ => rfl),
      s0.trans (step reads0 (fun _ g _ u => secondE g u) _ _ _ _ _ e0 e7 e14 e21 fun _ => rfl),
      s1.trans (step reads1 (fun _ g _ u => secondE g u) _ _ _ _ _ e1 e8 e15 e22 fun _ => rfl),
      s2.trans (step reads2 (fun _ g _ u => secondE g u) _ _ _ _ _ e2 e9 e16 e23 fun _ => rfl),
      s3.trans (step reads3 (fun _ g _ u => secondE g u) _ _ _ _ _ e3 e10 e17 e24 fun _ => rfl),
      s4.trans (step reads4 (fun _ g _ u => secondE g u) _ _ _ _ _ e4 e11 e18 e25 fun _ => rfl),
      s5.trans (step reads5 (fun _ g _ u => secondE g u) _ _ _ _ _ e5 e12 e19 e26 fun _ => rfl),
      s6.trans (step reads6 (fun _ g _ u => secondE g u) _ _ _ _ _ e6 e13 e20 e27 fun _ => rfl), kept⟩

end Cert.Proof.Adam
-- ==== Proof.Reals.lean ====
/- Facts about the extended reals that all value proofs of this directory share: sums of real numbers are real,
   what the programs' constants denote, and that an argument whose every absolute value lies under infinity is an
   array of real numbers. -/
module

public import Idealize.ShloMosaic.Lib.Pointwise
public import Idealize.ShloMosaic.PureOps.Ideal

@[expose] public section

noncomputable section

namespace Cert.Reals

open Idealize.ShloMosaic

/-- A finite sum of real numbers, taken in the extended reals, is the real sum. -/
theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, EReal.coe_add, ih]

/-- An extended real whose absolute value is not infinite is a real number. -/
theorem real_of_lt {x : EReal} (h : max x (-x) < ⊤) : ∃ r : ℝ, x = r := by
  induction x using EReal.rec with
  | bot => simp at h
  | coe r => exact ⟨r, rfl⟩
  | top => simp at h

/-- The two ends of a comparison word. -/
theorem real_of_cmp {x : EReal} (h : Ideal.cmp .olt (max x (-x)) ⊤ = 1#1) : ∃ r : ℝ, x = r := by
  refine real_of_lt ?_
  by_contra hn
  simp [Ideal.cmp, hn] at h

theorem ofBits_inf : Ideal.ofBits .f32 0x7F800000#32 = ⊤ := by simp [Ideal.ofBits, Ideal.ieee]

/-- An array whose every element is below infinity in magnitude is real at every index. -/
theorem real_of_pre {S : Shape} {x : FVec Ideal S .f32} {T : Shape} {d : Fin T.rank → Fin S.rank} {b : T.BroadcastsInDim S d}
    (h : cmpf .olt (Host.absf x) (broadcastInDim S d b (constant (F := Ideal) T .f32 0x7F800000#32)) = fun _ => 1#1) (i : S.Idx) :
    ∃ r : ℝ, x i = r := by
  have h1 := congrFun h i
  refine real_of_cmp (x := x i) ?_
  rw [← ofBits_inf]
  exact h1

theorem ofBits_2048 : Ideal.ofBits .f32 0x45000000#32 = ((2048 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num

/-- The real number that the printed word of `1e-6` denotes. -/
def eps : ℝ := 8796093 / 2 ^ 43

theorem eps_pos : 0 < eps := by unfold eps; norm_num

theorem ofBits_eps : Ideal.ofBits .f32 0x358637BD#32 = (eps : EReal) := by
  simp [Ideal.ofBits, Ideal.ieee, -EReal.coe_mul, eps]; norm_num

/-- The reciprocal root of a positive real number is real. -/
theorem rsqrt_pos {r : ℝ} (h : 0 < r) : Ideal.rsqrt (r : EReal) = (((Real.sqrt r)⁻¹ : ℝ) : EReal) := by
  rw [Ideal.rsqrt_coe, if_neg (not_lt.2 h.le), if_neg h.ne']

/-- A quotient of real numbers with a nonzero divisor. -/
theorem div_real (x : ℝ) {y : ℝ} (h : y ≠ 0) : Ideal.div (x : EReal) (y : EReal) = ((x / y : ℝ) : EReal) := by
  rw [Ideal.div_coe h, ← EReal.coe_mul]; congr 1; ring

/-- The mean of the squares of a row of 2048 numbers, and the norm's reciprocal root `rs` of it. -/
def ms (x : Fin 2048 → ℝ) : ℝ := (∑ k, x k * x k) / 2048 + eps
def rs (x : Fin 2048 → ℝ) : ℝ := (Real.sqrt (ms x))⁻¹

theorem ms_pos (x : Fin 2048 → ℝ) : 0 < ms x :=
  add_pos_of_nonneg_of_pos (div_nonneg (Finset.sum_nonneg fun k _ => mul_self_nonneg _) (by norm_num)) eps_pos

theorem rs_sq (x : Fin 2048 → ℝ) : rs x * rs x = 1 / ms x := by
  unfold rs; rw [← mul_inv, Real.mul_self_sqrt (ms_pos x).le, one_div]

/-- What the programs write as the mean of the squares plus the constant. -/
theorem ms_eq (x : Fin 2048 → ℝ) :
    Ideal.div (∑ k, (x k : EReal) * (x k : EReal)) (Ideal.ofBits .f32 0x45000000#32) + Ideal.ofBits .f32 0x358637BD#32
      = (ms x : EReal) := by
  simp only [← EReal.coe_mul, coe_sum, ofBits_2048, ofBits_eps, div_real _ (by norm_num : (2048 : ℝ) ≠ 0), ← EReal.coe_add]
  rfl

theorem rs_eq (x : Fin 2048 → ℝ) : Ideal.rsqrt (ms x : EReal) = (rs x : EReal) := rsqrt_pos (ms_pos x)

/-- The row of a norm's input gradient: `x` the row, `v` the row of the cotangent times the weight. -/
def dx (x v : Fin 2048 → ℝ) (j : Fin 2048) : ℝ :=
  rs x * v j - x j * (rs x * rs x * rs x) * ((∑ k, x k * v k) / 2048)

end Cert.Reals
-- ==== Proof.NormValue.lean ====
/- The norm's backward call: its three result arrays are the derivative that jax computes of the norm (with the
   residual's cotangent added). Index by index both are one expression in the real numbers, over finite arguments. -/
module

public import proofs.«01_k».proof.Proof.Reals
public import proofs.«01_k».proof.Defs
public import proofs.«01_k».proof.Proof.Gen.NormBwd
public import proofs.«01_k».proof.Proof.Gen.NormBwd.Frame
public import proofs.«01_k».proof.Proof.Gen.NormBwdIdeal
public import proofs.«01_k».proof.Proof.Gen.NormBwdIdeal.Frame
public import proofs.«01_k».proof.Proof.Gen.NormBwdIdeal.Value
public import proofs.«01_k».proof.Proof.Gen.NormBwdRefIdeal
public import proofs.«01_k».proof.Proof.Gen.NormBwdRefIdeal.Run
public import proofs.«01_k».proof.Proof.Gen.NormBwdRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormBwdIdeal.Value

open Cert.NormBwdIdeal Cert.NormBwdIdeal.Gen Cert.Reals

/-! ## The two expressions at an index -/

/-- What the body stores of the input gradient, on rows of real numbers. -/
theorem pay3_at (x g dr : FVec Ideal S264x2048 .f32) (w : FVec Ideal S1x2048 .f32) (i : Fin 264) (j : Fin 2048)
    (xr vr : Fin 2048 → ℝ) (hx : ∀ k, x (ix2 i k) = xr k) (hv : ∀ k, g (ix2 i k) * w (ix2 0 k) = (vr k : EReal)) :
    k0_pay3 (F := Ideal) x g w dr (ix2 i j) = (dx xr vr j : EReal) + dr (ix2 i j) := by
  pointwise [k0_pay3, k0_pay2]
  simp only [hx, hv, ms_eq, rs_eq]
  simp only [← EReal.coe_mul, coe_sum, ofBits_2048, div_real _ (by norm_num : (2048 : ℝ) ≠ 0), ← EReal.coe_sub]
  rfl

open Cert.NormBwdRefIdeal.Read in
theorem ref36_at (x g dr : FVec Ideal S2112x2048 .f32) (w : FVec Ideal S2048 .f32) (i : Fin 2112) (j : Fin 2048)
    (xr vr : Fin 2048 → ℝ) (hx : ∀ k, x (ix2 i k) = xr k) (hv : ∀ k, g (ix2 i k) * w (ix1 k) = (vr k : EReal)) :
    val_main_v36 (F := Ideal) x w g dr (ix2 i j) = (dx xr vr j : EReal) + dr (ix2 i j) := by
  pointwise [val_main_v0, val_main_cst, val_main_v1, val_main_v2, val_main_cst_0, val_main_v3, val_main_v4, val_main_cst_1,
    val_main_v5, val_main_v6, val_main_v7, val_main_v8, val_main_cst_2, val_main_v9, val_main_v10, val_main_v11, val_main_v12,
    val_main_v13, val_main_v14, val_main_v15, val_main_v16, val_main_cst_3, val_main_v17, val_main_v18, val_main_v19,
    val_main_v20, val_main_cst_4, val_main_v21, val_main_v22, val_main_cst_5, val_main_v23, val_main_v24, val_main_v25,
    val_main_v26, val_main_v27, val_main_v28, val_main_cst_6, val_main_v29, val_main_v30, val_main_cst_7, val_main_v31,
    val_main_v32, val_main_v33, val_main_v34, val_main_v35, val_main_v36, val_main_v37, val_main_v38]
  simp only [hx, hv, ms_eq, rs_eq]
  simp only [← EReal.coe_mul, coe_sum, ofBits_2048, ofBits_neg_half, div_real _ (by norm_num : (2048 : ℝ) ≠ 0),
    div_real _ (ms_pos xr).ne', ← EReal.coe_sub]
  rw [add_assoc, add_assoc, ← EReal.coe_add, ← EReal.coe_add, add_comm]
  congr 2
  simp only [Finset.sum_const, Finset.card_univ, Fintype.card_fin, one_smul]
  have h : rs xr * rs xr * rs xr = rs xr / ms xr := by rw [rs_sq]; ring
  unfold dx
  rw [h]
  ring

/-- One point's part of the weight's gradient: the rows of the block, summed. -/
theorem pay5_at (x g : FVec Ideal S264x2048 .f32) (u : Fin 1) (j : Fin 2048) :
    k0_pay5 (F := Ideal) x g (ix2 u j) = ∑ i : Fin 264, g (ix2 i j) * x (ix2 i j)
      * Ideal.rsqrt (Ideal.div (∑ k, x (ix2 i k) * x (ix2 i k)) (Ideal.ofBits .f32 0x45000000#32) + Ideal.ofBits .f32 0x358637BD#32) := by
  pointwise [k0_pay5, k0_pay2]

open Cert.NormBwdRefIdeal.Read in
theorem ref38_at (x g : FVec Ideal S2112x2048 .f32) (u : Fin 1) (j : Fin 2048) :
    val_main_v38 (F := Ideal) x g (ix2 u j) = ∑ i : Fin 2112, x (ix2 i j)
      * Ideal.rsqrt (Ideal.div (∑ k, x (ix2 i k) * x (ix2 i k)) (Ideal.ofBits .f32 0x45000000#32) + Ideal.ofBits .f32 0x358637BD#32)
      * g (ix2 i j) := by
  pointwise [val_main_v0, val_main_cst, val_main_v1, val_main_v2, val_main_cst_0, val_main_v3, val_main_v4, val_main_cst_1,
    val_main_v5, val_main_v6, val_main_v7, val_main_v8, val_main_cst_2, val_main_v9, val_main_v10, val_main_v11, val_main_v12,
    val_main_v13, val_main_v14, val_main_v15, val_main_v16, val_main_cst_3, val_main_v17, val_main_v18, val_main_v19,
    val_main_v20, val_main_cst_4, val_main_v21, val_main_v22, val_main_cst_5, val_main_v23, val_main_v24, val_main_v25,
    val_main_v26, val_main_v27, val_main_v28, val_main_cst_6, val_main_v29, val_main_v30, val_main_cst_7, val_main_v31,
    val_main_v32, val_main_v33, val_main_v34, val_main_v35, val_main_v36, val_main_v37, val_main_v38]
  simp only [Fin.sum_univ_one]

/-! ## The blocks of the arrays -/

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0] :=
  (by decide +kernel : ∀ t : Fin grid0.N, _)

theorem row_lt (t : Fin cfg0.N) (i : Fin 264) : t.val * 264 + i.val < 2112 := by
  have := t.isLt; have : t.val < 8 := lt_of_lt_of_eq t.isLt N_0; omega

/-- The array's row that row `i` of block `t` is. -/
def row (t : Fin cfg0.N) (i : Fin 264) : Fin 2112 := ⟨t.val * 264 + i.val, row_lt t i⟩

abbrev X (c : Dev nD) : FVec Ideal S2112x2048 .f32 := m ((c : Thread nD τ).loc main_arg0)
abbrev W (c : Dev nD) : FVec Ideal S2048 .f32 := m ((c : Thread nD τ).loc main_arg1)
abbrev DY (c : Dev nD) : FVec Ideal S2112x2048 .f32 := m ((c : Thread nD τ).loc main_arg2)
abbrev DR (c : Dev nD) : FVec Ideal S2112x2048 .f32 := m ((c : Thread nD τ).loc main_arg3)

theorem blk0 (c : Dev nD) (t : Fin cfg0.N) (i : Fin 264) (k : Fin 2048) :
    iblk m c 0 t (ix2 i k) = X m c (ix2 (row t i) k) := by unfold row; blk_point [iblk, V, idx t]
theorem blk1 (c : Dev nD) (t : Fin cfg0.N) (k : Fin 2048) : iblk m c 1 t (ix2 0 k) = W m c (ix1 k) := by
  blk_simp [iblk, V, idx t]
  entry_read
  pointwise
  blk_ext [idx t]
theorem blk2 (c : Dev nD) (t : Fin cfg0.N) (i : Fin 264) (k : Fin 2048) :
    iblk m c 2 t (ix2 i k) = DY m c (ix2 (row t i) k) := by unfold row; blk_point [iblk, V, idx t]
theorem blk3 (c : Dev nD) (t : Fin cfg0.N) (i : Fin 264) (k : Fin 2048) :
    iblk m c 3 t (ix2 i k) = DR m c (ix2 (row t i) k) := by unfold row; blk_point [iblk, V, idx t]

theorem emb4 (t : Fin cfg0.N) (i : Fin 264) (k : Fin 2048) : ((cfg0.win 4).blk t).view.emb (ix2 i k) = ix2 (row t i) k := by
  unfold row; blk_ext [idx t]

theorem emb5 (t : Fin cfg0.N) (i : Fin 264) (k : Fin 2048) : ((cfg0.win 5).blk t).view.emb (ix2 i k) = ix2 (row t i) k := by
  unfold row; blk_ext [idx t]

/-! ## The result arrays -/

open Cert.NormBwdRefIdeal.Read

/-- Finite arguments, as the real rows they hold. -/
structure Finite (c : Dev nD) : Prop where
  x : ∀ i, ∃ r : ℝ, X m c i = r
  w : ∀ i, ∃ r : ℝ, W m c i = r
  dy : ∀ i, ∃ r : ℝ, DY m c i = r

theorem dx_point (c : Dev nD) (h : Finite m c) (t : Fin cfg0.N) (i : Fin 264) (j : Fin 2048) :
    k0_pay3 (F := Ideal) (iblk m c 0 t) (iblk m c 2 t) (iblk m c 1 t) (iblk m c 3 t) (ix2 i j)
      = val_main_v36 (F := Ideal) (X m c) (W m c) (DY m c) (DR m c) (ix2 (row t i) j) := by
  choose xr hx using h.x
  choose wr hw using h.w
  choose gr hg using h.dy
  rw [pay3_at _ _ _ _ i j (fun k => xr (ix2 (row t i) k)) (fun k => gr (ix2 (row t i) k) * wr (ix1 k))
      (fun k => by rw [blk0, hx]) (fun k => by rw [blk2, blk1, hg, hw, EReal.coe_mul]),
    ref36_at _ _ _ _ (row t i) j (fun k => xr (ix2 (row t i) k)) (fun k => gr (ix2 (row t i) k) * wr (ix1 k))
      (fun k => by rw [hx]) (fun k => by rw [hg, hw, EReal.coe_mul]), blk3]

theorem final4 (c : Dev nD) (h : Finite m c) : (dats m 0 c).arrAt 4 cfg0.N
    = val_main_v36 (F := Ideal) (X m c) (W m c) (DY m c) (DR m c) := by
  refine (dats m 0 c).arrAt_eq_of_covers 4 _ (by decide +kernel) fun t _ y => ?_
  idx_vars y
  rw [emb4]
  blk_simp
  rw [after0_4]
  by_cases h0 : t.val % 8 = 0
  · rw [outsAt0_A m c t h0 (by have : t.val < 8 := lt_of_lt_of_eq t.isLt N_0; omega)]
    frame_out
    exact dx_point m c h t y0 y1
  · rw [outsAt0_B m c t h0 (by omega)]
    frame_out
    exact dx_point m c h t y0 y1

theorem final5 (c : Dev nD) (h : Finite m c) : (dats m 0 c).arrAt 5 cfg0.N
    = val_main_v37 (F := Ideal) (X m c) (W m c) (DY m c) (DR m c) := by
  refine (dats m 0 c).arrAt_eq_of_covers 5 _ (by decide +kernel) fun t _ y => ?_
  idx_vars y
  rw [emb5]
  blk_simp
  rw [after0_5]
  by_cases h0 : t.val % 8 = 0
  · rw [outsAt0_A m c t h0 (by have : t.val < 8 := lt_of_lt_of_eq t.isLt N_0; omega)]
    frame_out
    exact dx_point m c h t y0 y1
  · rw [outsAt0_B m c t h0 (by omega)]
    frame_out
    exact dx_point m c h t y0 y1

theorem final6 (c : Dev nD) : (dats m 0 c).arrAt 6 cfg0.N = val_main_v38 (F := Ideal) (X m c) (DY m c) := by
  refine (dats m 0 c).arrAt_eq_of_after_last 6 t0_7 (by decide +kernel) _ fun y => ?_
  idx_vars y
  blk_simp
  rw [after0_6, Pipeline.eq_sum_fin_of_reset_step_apply_last (fun n h => (outsAt0 m c n h).2.2) 8 (fun _ => 0) _
    (fun t h j => by
      rw [outsAt0_A m c t h (by have : t.val < 8 := lt_of_lt_of_eq t.isLt N_0; omega)]; frame_out; exact (zero_add _).symm)
    (fun t h j => by rw [outsAt0_B m c t h (by omega)]; frame_out; pointwise [k0_pay1])
    (le_of_eq N_0) t0_7 rfl _, zero_add, ref38_at]
  simp only [pay5_at]
  refine Fin.sum_mul_add_congr fun t i hi => ?_
  have hr : (⟨t.val * 264 + i.val, hi⟩ : Fin 2112) = row t i := rfl
  simp only [blk0, blk2, hr]
  rw [mul_comm (DY m c _), mul_right_comm]

end Cert.NormBwdIdeal.Value

/-! ## The claims -/

namespace Cert.Proof.Norm

instance preFacts : Cert.Pre_finite_norm.Facts := ⟨by decide, by decide⟩

open Cert.NormBwdIdeal.Value in
theorem finite (m : (ℓ : Loc Cert.NormBwdIdeal.nD Cert.NormBwdIdeal.τ Cert.NormBwdIdeal.sig) → Buf (Elt Ideal) ℓ)
    (h : Cert.Pre_NormBwdIdeal_finite_norm m) (c : Dev Cert.NormBwdIdeal.nD) : Finite m c :=
  ⟨Cert.Reals.real_of_pre (h c).1, Cert.Reals.real_of_pre (h c).2.1, Cert.Reals.real_of_pre (h c).2.2⟩

theorem frame_p : Cert.quiescent_NormBwd := fun m ρ _ => Cert.NormBwd.Gen.frame m ρ
theorem frame_pi : Cert.quiescent_NormBwdIdeal := fun m ρ _ => Cert.NormBwdIdeal.Gen.frame m ρ
theorem frame_pi_pre : Cert.quiescent_NormBwdIdeal_pre_finite_norm := fun m ρ _ => Cert.NormBwdIdeal.Gen.frame m ρ
theorem frame_ri : Cert.quiescent_NormBwdRefIdeal := fun m ρ _ =>
  (θ_run Cert.NormBwdRefIdeal.defs _ _).mono (fun r h => ⟨fun c => (h c).2.2.2,
      Idealize.ShloMosaic.sem_eq_zero_of_no_sems (by decide) r.2⟩)
    (Cert.NormBwdRefIdeal.Value.run (F := Ideal) m ρ)
theorem frame_ri_pre : Cert.quiescent_NormBwdRefIdeal_pre_finite_norm := fun m ρ _ => frame_ri m ρ trivial

open Cert.NormBwdRefIdeal.Read in
theorem algebraic : Cert.algebraic_NormBwdIdeal_NormBwdRefIdeal_pre_finite_norm := by
  intro m ρ m' ρ' hp hagree
  refine ⟨_, _, _, Cert.NormBwdIdeal.Value.run_blocks (F := Ideal) m ρ, ?_⟩
  refine (θ_run Cert.NormBwdRefIdeal.defs _ _).mono
    (fun _ h c => ⟨(h c).1.trans ?_, (h c).2.1.trans ?_, (h c).2.2.1.trans ?_, (h c).2.2.2⟩)
    (Cert.NormBwdRefIdeal.Value.run (F := Ideal) m' ρ')
  · rw [(hagree c).1, (hagree c).2.1, (hagree c).2.2.1, (hagree c).2.2.2, val_main_v36_eq]
    exact (Cert.NormBwdIdeal.Value.final4 m c (finite m hp c)).symm
  · rw [(hagree c).1, (hagree c).2.1, (hagree c).2.2.1, (hagree c).2.2.2, val_main_v37_eq]
    exact (Cert.NormBwdIdeal.Value.final5 m c (finite m hp c)).symm
  · rw [(hagree c).1, (hagree c).2.2.1, val_main_v38_eq]
    exact (Cert.NormBwdIdeal.Value.final6 m c).symm

end Cert.Proof.Norm
-- ==== Proof.Reduce.lean ====
/- The host's sums over two axes of an array of three, read at an index. -/
module

public import Idealize.ShloMosaic.Lib.Pipeline.ValueKit

@[expose] public section

noncomputable section

open Idealize.ShloMosaic

namespace Cert.Reals

variable {n0 n1 n2 : Nat}

/-- A sum over the first two axes. -/
@[pointwise] theorem hostReduceAdd_01 (h : (⟨3, ![n0, n1, n2]⟩ : Shape).ReducesTo [0, 1] ⟨1, ![n2]⟩)
    (v : (⟨3, ![n0, n1, n2]⟩ : Shape).Idx → EReal) (init : EReal) (j : Fin n2) :
    Ideal.hostReduceAdd h v init (ix1 j) = init + ∑ p : Fin n0, ∑ q : Fin n1, v (ix3 p q j) := by
  refine congrArg (init + ·) ?_
  refine (Finset.sum_filter_eq_sum_of_fiber _ (fun k : Fin n0 × Fin n1 => ix3 k.1 k.2 j)
    (fun _ _ e => Prod.ext (congrFun e 0) (congrFun e 1)) (fun i => ?_) v).trans ?_
  · constructor
    · intro e
      refine ⟨(i 0, i 1), ?_⟩
      funext a; apply Fin.ext
      match a with
      | ⟨0, _⟩ => rfl
      | ⟨1, _⟩ => rfl
      | ⟨2, _⟩ => exact (congrArg Fin.val (congrFun e ⟨0, Nat.one_pos⟩)).symm
    · rintro ⟨k, rfl⟩
      funext b
      apply Fin.ext
      match b with
      | ⟨0, _⟩ => rfl
  · simp only [Fintype.sum_prod_type]

/-- A sum over the first and the last axis. -/
@[pointwise] theorem hostReduceAdd_02 (h : (⟨3, ![n0, n1, n2]⟩ : Shape).ReducesTo [0, 2] ⟨1, ![n1]⟩)
    (v : (⟨3, ![n0, n1, n2]⟩ : Shape).Idx → EReal) (init : EReal) (j : Fin n1) :
    Ideal.hostReduceAdd h v init (ix1 j) = init + ∑ p : Fin n0, ∑ q : Fin n2, v (ix3 p j q) := by
  refine congrArg (init + ·) ?_
  refine (Finset.sum_filter_eq_sum_of_fiber _ (fun k : Fin n0 × Fin n2 => ix3 k.1 j k.2)
    (fun _ _ e => Prod.ext (congrFun e 0) (congrFun e 2)) (fun i => ?_) v).trans ?_
  · constructor
    · intro e
      refine ⟨(i 0, i 2), ?_⟩
      funext a; apply Fin.ext
      match a with
      | ⟨0, _⟩ => rfl
      | ⟨1, _⟩ => exact (congrArg Fin.val (congrFun e ⟨0, Nat.one_pos⟩)).symm
      | ⟨2, _⟩ => rfl
    · rintro ⟨k, rfl⟩
      funext b
      apply Fin.ext
      match b with
      | ⟨0, _⟩ => rfl
  · simp only [Fintype.sum_prod_type]

end Cert.Reals
-- ==== Proof.LossValue.lean ====
/- The loss and its gradient: the call's four result arrays are the loss, and the derivatives that jax computes of it, for
   finite arguments. The rows of the sequence's first block are padding and the learned tokens, whose gradient is zero. -/
module

public import proofs.«01_k».proof.Proof.Reals
public import proofs.«01_k».proof.Proof.Reduce
public import proofs.«01_k».proof.Defs
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LossIdeal.Value

open Cert.LossIdeal Cert.LossIdeal.Gen Cert.Reals

/-! ## The expressions at an index -/

/-- The error of a row at a feature: the normed and weighted row less its target. -/
def err (x w t : Fin 2048 → ℝ) (k : Fin 2048) : ℝ := x k * rs x * w k - t k

theorem ofBits_inv : Ideal.ofBits .f32 0x3A000000#32 = ((1 / 2048 : ℝ) : EReal) := by
  simp [Ideal.ofBits, Ideal.ieee, -EReal.coe_mul]; norm_num
theorem ofBits_half_inv : Ideal.ofBits .f32 0x39800000#32 = ((0.5 / 2048 : ℝ) : EReal) := by
  simp [Ideal.ofBits, Ideal.ieee, -EReal.coe_mul]; norm_num
theorem ofBits_half : Ideal.ofBits .f32 0x3F000000#32 = ((0.5 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]
  exact_mod_cast (by norm_num : (8388608 : ℝ) * (2 ^ 22)⁻¹ = 2)

section Kernel

variable (x t : FVec Ideal S64x2048 .f32) (w : FVec Ideal S1x2048 .f32) (xr tr : Fin 64 → Fin 2048 → ℝ) (wr : Fin 2048 → ℝ)
  (hx : ∀ i k, x (ix2 i k) = xr i k) (ht : ∀ i k, t (ix2 i k) = tr i k) (hw : ∀ k, w (ix2 0 k) = wr k)

include hx ht hw

theorem pay5_at (i : Fin 64) (j : Fin 2048) :
    k0_pay5 (F := Ideal) (k0_pay8 x) (k0_pay14 x w t) (k0_pay15 x w t) (k0_pay16 x) (ix2 i j)
      = ((dx (xr i) (fun k => err (xr i) wr (tr i) k * (1 / 2048) * wr k) j : ℝ) : EReal) := by
  pointwise [k0_pay5, k0_pay8, k0_pay9, k0_pay10, k0_pay11, k0_pay13, k0_pay14, k0_pay15, k0_pay16]
  simp only [hx, ht, hw, ms_eq, rs_eq]
  simp only [ofBits_inv, ← EReal.coe_mul, ← EReal.coe_sub, coe_sum, ofBits_2048, div_real _ (by norm_num : (2048 : ℝ) ≠ 0)]
  rfl

theorem pay7_at (acc : FVec Ideal S1x2048 .f32) (u : Fin 1) (j : Fin 2048) :
    k0_pay7 (F := Ideal) (k0_pay8 x) (k0_pay10 x) (k0_pay13 x w t) acc (ix2 u j)
      = acc (ix2 u j) + ((∑ i : Fin 64, err (xr i) wr (tr i) j * (1 / 2048) * xr i j * rs (xr i) : ℝ) : EReal) := by
  pointwise [k0_pay7, k0_pay8, k0_pay9, k0_pay10, k0_pay11, k0_pay13]
  simp only [hx, ht, hw, ms_eq, rs_eq]
  simp only [ofBits_inv, ← EReal.coe_mul, ← EReal.coe_sub, coe_sum]
  rfl

theorem pay12_at (acc : FVec Ideal S1x128 .f32) (u : Fin 1) (j : Fin 128) :
    k0_pay12 (F := Ideal) x w t acc (ix2 u j)
      = acc (ix2 u j) + (((∑ i : Fin 64, ∑ k, err (xr i) wr (tr i) k * err (xr i) wr (tr i) k) * (0.5 / 2048) : ℝ) : EReal) := by
  pointwise [k0_pay12, k0_pay8, k0_pay9, k0_pay10, k0_pay11]
  simp only [hx, ht, hw, ms_eq, rs_eq]
  simp only [ofBits_half_inv, ← EReal.coe_mul, ← EReal.coe_sub, coe_sum]
  rfl

end Kernel

/-- The sequence's row that holds token `p`. -/
def tok (p : Fin 2048) : Fin 2064 := ⟨16 + p.val, by omega⟩
/-- The padded array's row that holds token `p`. -/
def out (p : Fin 2048) : Fin 2112 := ⟨64 + p.val, by omega⟩

/-- A sum over the sequence of terms that vanish at the learned tokens. -/
theorem sum_tok {M : Type*} [AddCommMonoid M] (f : Fin 2064 → M) (h : ∀ i, i.val < 16 → f i = 0) :
    ∑ i, f i = ∑ p : Fin 2048, f (tok p) := by
  rw [Fin.sum_univ_add (a := 16) (b := 2048) f, Finset.sum_eq_zero fun i _ => h _ i.isLt, zero_add]
  rfl

section Reference

open Cert.LossRefIdeal.Read

variable (x : FVec Ideal Cert.LossRefIdeal.S1x2064x2048 .f32) (t : FVec Ideal Cert.LossRefIdeal.S1x2048x2048 .f32)
  (w : FVec Ideal Cert.LossRefIdeal.S2048 .f32) (xr : Fin 2064 → Fin 2048 → ℝ) (tr : Fin 2048 → Fin 2048 → ℝ) (wr : Fin 2048 → ℝ)
  (hx : ∀ i k, x (ix3 0 i k) = xr i k) (ht : ∀ i k, t (ix3 0 i k) = tr i k) (hw : ∀ k, w (ix1 k) = wr k)

include hx ht hw

theorem ref55_at (p : Fin 2048) (j : Fin 2048) : val_main_v55 (F := Ideal) x w t (ix2 (out p) j)
      = ((dx (xr (tok p)) (fun k => err (xr (tok p)) wr (tr p) k * (1 / 2048) * wr k) j : ℝ) : EReal) := by
  pointwise [val_main_v0, val_main_cst, val_main_v1, val_main_v2, val_main_cst_0, val_main_v3, val_main_v4, val_main_cst_1,
    val_main_v5, val_main_v6, val_main_v7, val_main_v8, val_main_cst_2, val_main_v9, val_main_v10, val_main_v11, val_main_v12,
    val_main_v13, val_main_v14, val_main_v15, val_main_v16, val_main_v17, val_main_v18, val_main_cst_3, val_main_v19,
    val_main_v20, val_main_cst_4, val_main_v21, val_main_cst_5, val_main_v22, val_main_v23, val_main_cst_6, val_main_v24,
    val_main_cst_7, val_main_v25, val_main_cst_8, val_main_cst_9, val_main_v26, val_main_v27, val_main_cst_10, val_main_v28,
    val_main_v29, val_main_v30, val_main_v31, val_main_cst_11, val_main_v32, val_main_v33, val_main_cst_12, val_main_v34,
    val_main_v35, val_main_v36, val_main_v37, val_main_cst_13, val_main_v38, val_main_v39, val_main_cst_14, val_main_v40,
    val_main_v41, val_main_v42, val_main_v43, val_main_v44, val_main_cst_15, val_main_v45, val_main_v46, val_main_cst_16,
    val_main_v47, val_main_v48, val_main_v49, val_main_v50, val_main_v51, val_main_v52, val_main_v53, val_main_v54,
    val_main_c, val_main_call0_v0, val_main_v55, val_main_v56, val_main_v57, val_main_v58]
  have e1 : ∀ h, (⟨(out p).val - 48, h⟩ : Fin 2064) = tok p := fun h => Fin.ext (by simp only [out, tok]; omega)
  have e2 : ∀ h, (⟨16 + ((out p).val - 48 - 16), h⟩ : Fin 2064) = tok p := fun h => Fin.ext (by simp only [out, tok]; omega)
  have e3 : ∀ h, (⟨(out p).val - 48 - 16, h⟩ : Fin 2048) = p := fun h => Fin.ext (by simp only [out]; omega)
  have c1 : 48 ≤ (out p).val ∧ (out p).val - 48 < 2064 := by simp only [out]; omega
  have c2 : 16 ≤ (out p).val - 48 ∧ (out p).val - 48 - 16 < 2048 := by simp only [out]; omega
  rw [dif_pos c1]
  simp only [dif_pos c2, e1, e2, e3, hx, ht, hw, ms_eq, rs_eq]
  simp only [← EReal.coe_mul, coe_sum, ofBits_2048, ofBits_half, ofBits_two, ofBits_neg_half,
    div_real _ (by norm_num : (2048 : ℝ) ≠ 0), div_real _ (ms_pos (xr (tok p))).ne', ← EReal.coe_sub]
  simp only [← EReal.coe_mul, coe_sum, ← EReal.coe_add, div_real _ (by norm_num : (2048 : ℝ) ≠ 0)]
  congr 1
  simp only [Finset.sum_const, Finset.card_univ, Fintype.card_fin, one_smul]
  have h : rs (xr (tok p)) * rs (xr (tok p)) * rs (xr (tok p)) = rs (xr (tok p)) / ms (xr (tok p)) := by rw [rs_sq]; ring
  have hv : ∀ k, 0.5 / 2048 * (2 * (xr (tok p) k * rs (xr (tok p)) * wr k - tr p k)) * wr k
      = err (xr (tok p)) wr (tr p) k * (1 / 2048) * wr k := fun k => by unfold err; ring
  simp only [hv]
  unfold dx
  rw [h]
  ring

theorem ref55_zero (i : Fin 2112) (j : Fin 2048) (hi : i.val < 64) : val_main_v55 (F := Ideal) x w t (ix2 i j) = 0 := by
  pointwise [val_main_v0, val_main_cst, val_main_v1, val_main_v2, val_main_cst_0, val_main_v3, val_main_v4, val_main_cst_1,
    val_main_v5, val_main_v6, val_main_v7, val_main_v8, val_main_cst_2, val_main_v9, val_main_v10, val_main_v11, val_main_v12,
    val_main_v13, val_main_v14, val_main_v15, val_main_v16, val_main_v17, val_main_v18, val_main_cst_3, val_main_v19,
    val_main_v20, val_main_cst_4, val_main_v21, val_main_cst_5, val_main_v22, val_main_v23, val_main_cst_6, val_main_v24,
    val_main_cst_7, val_main_v25, val_main_cst_8, val_main_cst_9, val_main_v26, val_main_v27, val_main_cst_10, val_main_v28,
    val_main_v29, val_main_v30, val_main_v31, val_main_cst_11, val_main_v32, val_main_v33, val_main_cst_12, val_main_v34,
    val_main_v35, val_main_v36, val_main_v37, val_main_cst_13, val_main_v38, val_main_v39, val_main_cst_14, val_main_v40,
    val_main_v41, val_main_v42, val_main_v43, val_main_v44, val_main_cst_15, val_main_v45, val_main_v46, val_main_cst_16,
    val_main_v47, val_main_v48, val_main_v49, val_main_v50, val_main_v51, val_main_v52, val_main_v53, val_main_v54,
    val_main_c, val_main_call0_v0, val_main_v55, val_main_v56, val_main_v57, val_main_v58]
  have c2 : ¬ (16 ≤ i.val - 48 ∧ i.val - 48 - 16 < 2048) := by omega
  split
  · simp only [dif_neg c2, hx, ht, hw, ms_eq, rs_eq]
    simp only [zero_mul, mul_zero, Finset.sum_const_zero, ofBits_2048, ← EReal.coe_zero, ← EReal.coe_mul,
      div_real _ (by norm_num : (2048 : ℝ) ≠ 0), ofBits_neg_half, div_real _ (ms_pos (xr _)).ne', coe_sum, ← EReal.coe_add]
    simp
  · simp [FloatOps.sitofp]

theorem ref57_at (u : Fin 1) (j : Fin 2048) : val_main_v57 (F := Ideal) x w t (ix2 u j)
      = ((∑ p : Fin 2048, err (xr (tok p)) wr (tr p) j * (1 / 2048) * xr (tok p) j * rs (xr (tok p)) : ℝ) : EReal) := by
  pointwise [val_main_v0, val_main_cst, val_main_v1, val_main_v2, val_main_cst_0, val_main_v3, val_main_v4, val_main_cst_1,
    val_main_v5, val_main_v6, val_main_v7, val_main_v8, val_main_cst_2, val_main_v9, val_main_v10, val_main_v11, val_main_v12,
    val_main_v13, val_main_v14, val_main_v15, val_main_v16, val_main_v17, val_main_v18, val_main_cst_3, val_main_v19,
    val_main_v20, val_main_cst_4, val_main_v21, val_main_cst_5, val_main_v22, val_main_v23, val_main_cst_6, val_main_v24,
    val_main_cst_7, val_main_v25, val_main_cst_8, val_main_cst_9, val_main_v26, val_main_v27, val_main_cst_10, val_main_v28,
    val_main_v29, val_main_v30, val_main_v31, val_main_cst_11, val_main_v32, val_main_v33, val_main_cst_12, val_main_v34,
    val_main_v35, val_main_v36, val_main_v37, val_main_cst_13, val_main_v38, val_main_v39, val_main_cst_14, val_main_v40,
    val_main_v41, val_main_v42, val_main_v43, val_main_v44, val_main_cst_15, val_main_v45, val_main_v46, val_main_cst_16,
    val_main_v47, val_main_v48, val_main_v49, val_main_v50, val_main_v51, val_main_v52, val_main_v53, val_main_v54,
    val_main_c, val_main_call0_v0, val_main_v55, val_main_v56, val_main_v57, val_main_v58]
  simp only [Fin.sum_univ_one, hx, ht, hw, ms_eq, rs_eq]
  rw [sum_tok _ fun i hi => by rw [dif_neg (by omega), mul_zero]]
  have c2 : ∀ p : Fin 2048, 16 ≤ (tok p).val ∧ (tok p).val - 16 < 2048 := fun p => by simp only [tok]; omega
  have e1 : ∀ (p : Fin 2048) h, (⟨16 + ((tok p).val - 16), h⟩ : Fin 2064) = tok p := fun p h => Fin.ext (by simp only [tok]; omega)
  have e2 : ∀ (p : Fin 2048) h, (⟨(tok p).val - 16, h⟩ : Fin 2048) = p := fun p h => Fin.ext (by simp only [tok]; omega)
  simp only [dif_pos (c2 _), e1, e2, hx, ht, hw, ms_eq, rs_eq]
  simp only [← EReal.coe_mul, ofBits_2048, ofBits_half, ofBits_two, div_real _ (by norm_num : (2048 : ℝ) ≠ 0), ← EReal.coe_sub]
  simp only [← EReal.coe_mul, coe_sum]
  congr 1
  refine Finset.sum_congr rfl fun p _ => ?_
  unfold err
  ring

theorem ref58_at (u : Fin 1) (j : Fin 128) : val_main_v58 (F := Ideal) x w t (ix2 u j)
      = (((∑ p : Fin 2048, ∑ k, err (xr (tok p)) wr (tr p) k * err (xr (tok p)) wr (tr p) k) * (0.5 / 2048) : ℝ) : EReal) := by
  pointwise [val_main_v0, val_main_cst, val_main_v1, val_main_v2, val_main_cst_0, val_main_v3, val_main_v4, val_main_cst_1,
    val_main_v5, val_main_v6, val_main_v7, val_main_v8, val_main_cst_2, val_main_v9, val_main_v10, val_main_v11, val_main_v12,
    val_main_v13, val_main_v14, val_main_v15, val_main_v16, val_main_v17, val_main_v18, val_main_cst_3, val_main_v19,
    val_main_v20, val_main_cst_4, val_main_v21, val_main_cst_5, val_main_v22, val_main_v23, val_main_cst_6, val_main_v24,
    val_main_cst_7, val_main_v25, val_main_cst_8, val_main_cst_9, val_main_v26, val_main_v27, val_main_cst_10, val_main_v28,
    val_main_v29, val_main_v30, val_main_v31, val_main_cst_11, val_main_v32, val_main_v33, val_main_cst_12, val_main_v34,
    val_main_v35, val_main_v36, val_main_v37, val_main_cst_13, val_main_v38, val_main_v39, val_main_cst_14, val_main_v40,
    val_main_v41, val_main_v42, val_main_v43, val_main_v44, val_main_cst_15, val_main_v45, val_main_v46, val_main_cst_16,
    val_main_v47, val_main_v48, val_main_v49, val_main_v50, val_main_v51, val_main_v52, val_main_v53, val_main_v54,
    val_main_c, val_main_call0_v0, val_main_v55, val_main_v56, val_main_v57, val_main_v58]
  have e2 : ∀ (p : Fin 2048) h, (⟨16 + p.val, h⟩ : Fin 2064) = tok p := fun p h => rfl
  simp only [e2, hx, ht, hw, ms_eq, rs_eq]
  simp only [← EReal.coe_mul, coe_sum, ofBits_2048, ofBits_half, div_real _ (by norm_num : (2048 : ℝ) ≠ 0), ← EReal.coe_sub]
  congr 1
  simp only [Finset.sum_const, Finset.card_univ, Fintype.card_fin, one_smul, ← Finset.sum_div]
  unfold err
  ring

end Reference

/-! ## The blocks of the arrays -/

variable (m : (ℓ : Loc nD τ sig) → Buf (Elt Ideal) ℓ)

theorem idx : ∀ t : Fin cfg0.N, win0_0.index t = ![t.val, 0] ∧ win0_1.index t = ![0, 0] ∧ win0_2.index t = ![t.val - 1, 0]
    ∧ win0_3.index t = ![t.val, 0] ∧ win0_4.index t = ![t.val, 0] ∧ win0_5.index t = ![0, 0] ∧ win0_6.index t = ![0, 0] :=
  (by decide +kernel : ∀ t : Fin grid0.N, _)

theorem lt_N (t : Fin cfg0.N) : t.val < 33 := lt_of_lt_of_eq t.isLt N_0

/-- The token that row `i` of block `t` holds, for a block after the first. -/
def pos (t : Fin cfg0.N) (i : Fin 64) : Fin 2048 := ⟨(t.val - 1) * 64 + i.val, by have := lt_N t; omega⟩

abbrev X (c : Dev nD) : FVec Ideal S1x2064x2048 .f32 := m ((c : Thread nD τ).loc main_arg0)
abbrev W (c : Dev nD) : FVec Ideal S2048 .f32 := m ((c : Thread nD τ).loc main_arg1)
abbrev T (c : Dev nD) : FVec Ideal S1x2048x2048 .f32 := m ((c : Thread nD τ).loc main_arg2)

theorem blk0 (c : Dev nD) (t : Fin cfg0.N) (ht : 1 ≤ t.val) (i : Fin 64) (k : Fin 2048) :
    iblk m c 0 t (ix2 i k) = X m c (ix3 0 (tok (pos t i)) k) := by
  have hr := lt_N t
  have e : ((cfg0.win 0).blk t).view.emb (ix2 i k) = ix2 (⟨t.val * 64 + i.val, by omega⟩ : Fin 2112) k := by blk_ext [idx t]
  show V m c main_v2 (((cfg0.win 0).blk t).view.emb (ix2 i k)) = _
  rw [e]
  simp only [V]
  entry_read
  pointwise
  rw [dif_neg (by omega)]
  show X m c _ = _
  congr 1
  refine congrArg (fun q => ix3 0 q k) (Fin.ext ?_)
  simp only [tok, pos]
  omega
theorem blk1 (c : Dev nD) (t : Fin cfg0.N) (k : Fin 2048) : iblk m c 1 t (ix2 0 k) = W m c (ix1 k) := by
  blk_simp [iblk, V, idx t]
  entry_read
  pointwise
  blk_ext [idx t]
theorem blk2 (c : Dev nD) (t : Fin cfg0.N) (i : Fin 64) (k : Fin 2048) :
    iblk m c 2 t (ix2 i k) = T m c (ix3 0 (pos t i) k) := by
  unfold pos
  blk_simp [iblk, V, idx t]
  entry_read
  pointwise
  blk_ext [idx t]

theorem emb3 (t : Fin cfg0.N) (ht : 1 ≤ t.val) (i : Fin 64) (k : Fin 2048) :
    ((cfg0.win 3).blk t).view.emb (ix2 i k) = ix2 (out (pos t i)) k := by
  have := lt_N t
  unfold out pos; blk_ext [idx t]
theorem emb4 (t : Fin cfg0.N) (ht : 1 ≤ t.val) (i : Fin 64) (k : Fin 2048) :
    ((cfg0.win 4).blk t).view.emb (ix2 i k) = ix2 (out (pos t i)) k := by
  have := lt_N t
  unfold out pos; blk_ext [idx t]
theorem emb3_zero (t : Fin cfg0.N) (ht : t.val = 0) (i : Fin 64) (k : Fin 2048) :
    ((cfg0.win 3).blk t).view.emb (ix2 i k) = ix2 (⟨i.val, by omega⟩ : Fin 2112) k := by
  blk_ext [idx t]
theorem emb4_zero (t : Fin cfg0.N) (ht : t.val = 0) (i : Fin 64) (k : Fin 2048) :
    ((cfg0.win 4).blk t).view.emb (ix2 i k) = ix2 (⟨i.val, by omega⟩ : Fin 2112) k := by
  blk_ext [idx t]

/-! ## The result arrays -/

open Cert.LossRefIdeal.Read

/-- The sum over the points of the blocks' sums, the first point's being zero, is the sum over the tokens. -/
theorem sum_points (f : Fin 2048 → ℝ) :
    ∑ t : Fin cfg0.N, (if t.val = 0 then (0 : EReal) else ((∑ i : Fin 64, f (pos t i) : ℝ) : EReal))
      = ((∑ p : Fin 2048, f p : ℝ) : EReal) := by
  have h33 : ∀ g : Fin 33 → EReal, ∑ t : Fin cfg0.N, g (Fin.cast N_0 t) = ∑ t, g t := fun g =>
    Fintype.sum_equiv (finCongr N_0) _ _ fun t => rfl
  refine (h33 fun t => if t.val = 0 then (0 : EReal)
    else ((∑ i : Fin 64, f ⟨(t.val - 1) * 64 + i.val, by omega⟩ : ℝ) : EReal)).trans ?_
  rw [Fin.sum_univ_succ, if_pos (by rfl), zero_add]
  simp only [Fin.val_succ, Nat.succ_ne_zero, if_false, coe_sum]
  congr 1
  exact Fin.sum_mul_add_congr fun t i hi => rfl

/-- The last point. -/
def last : Fin grid0.N := ⟨32, by rw [N_0]; decide⟩
theorem last_succ : last.val + 1 = cfg0.N := N_0.symm

section Finals

variable (c : Dev nD) (xr : Fin 2064 → Fin 2048 → ℝ) (tr : Fin 2048 → Fin 2048 → ℝ) (wr : Fin 2048 → ℝ)
  (hx : ∀ i k, X m c (ix3 0 i k) = xr i k) (ht : ∀ i k, T m c (ix3 0 i k) = tr i k) (hw : ∀ k, W m c (ix1 k) = wr k)

include hx ht hw

theorem final3 : (dats m 0 c).arrAt 3 cfg0.N = val_main_v55 (F := Ideal) (X m c) (W m c) (T m c) := by
  refine (dats m 0 c).arrAt_eq_of_covers 3 _ (by decide +kernel) fun t _ y => ?_
  have hN := lt_N t
  idx_vars y
  by_cases h0 : t.val % 33 = 0
  · rw [emb3_zero t (by omega), ref55_zero _ _ _ xr tr wr hx ht hw _ _ (by simp only; omega)]
    blk_simp
    rw [after0_3, outsAt0_A m c t h0 (by omega)]
    frame_out
    pointwise [k0_pay1]
  · rw [emb3 t (by omega), ref55_at _ _ _ xr tr wr hx ht hw]
    blk_simp
    rw [after0_3, outsAt0_B m c t h0 (by omega)]
    frame_out
    exact pay5_at _ _ _ (fun i => xr (tok (pos t i))) (fun i => tr (pos t i)) wr (fun i k => by rw [blk0 m c t (by omega), hx])
      (fun i k => by rw [blk2, ht]) (fun k => by rw [blk1, hw]) y0 y1

theorem final4 : (dats m 0 c).arrAt 4 cfg0.N = val_main_v56 (F := Ideal) (X m c) (W m c) (T m c) := by
  refine (dats m 0 c).arrAt_eq_of_covers 4 _ (by decide +kernel) fun t _ y => ?_
  have hN := lt_N t
  idx_vars y
  show _ = val_main_v55 (F := Ideal) (X m c) (W m c) (T m c) _
  by_cases h0 : t.val % 33 = 0
  · rw [emb4_zero t (by omega), ref55_zero _ _ _ xr tr wr hx ht hw _ _ (by simp only; omega)]
    blk_simp
    rw [after0_4, outsAt0_A m c t h0 (by omega)]
    frame_out
    pointwise [k0_pay2]
  · rw [emb4 t (by omega), ref55_at _ _ _ xr tr wr hx ht hw]
    blk_simp
    rw [after0_4, outsAt0_B m c t h0 (by omega)]
    frame_out
    exact pay5_at _ _ _ (fun i => xr (tok (pos t i))) (fun i => tr (pos t i)) wr (fun i k => by rw [blk0 m c t (by omega), hx])
      (fun i k => by rw [blk2, ht]) (fun k => by rw [blk1, hw]) y0 y1

theorem final5 : (dats m 0 c).arrAt 5 cfg0.N = val_main_v57 (F := Ideal) (X m c) (W m c) (T m c) := by
  refine (dats m 0 c).arrAt_eq_of_after_last 5 last (by decide +kernel) _ fun y => ?_
  idx_vars y
  blk_simp
  rw [after0_5, Pipeline.eq_sum_fin_of_reset_step_apply_last (fun n h => (outsAt0 m c n h).2.2.1) 33 (fun _ => 0)
    (fun t y => if t.val = 0 then (0 : EReal) else ((∑ i : Fin 64, err (xr (tok (pos t i))) wr (tr (pos t i)) (y 1)
      * (1 / 2048) * xr (tok (pos t i)) (y 1) * rs (xr (tok (pos t i))) : ℝ) : EReal))
    (fun t h y => by
      have hN := lt_N t
      rw [outsAt0_A m c t h (by omega), if_pos (by omega)]
      idx_vars y
      frame_out
      pointwise [k0_pay3])
    (fun t h y => by
      have hN := lt_N t
      rw [outsAt0_B m c t h (by omega), if_neg (by omega)]
      idx_vars y
      frame_out
      exact pay7_at _ _ _ (fun i => xr (tok (pos t i))) (fun i => tr (pos t i)) wr (fun i k => by rw [blk0 m c t (by omega), hx])
        (fun i k => by rw [blk2, ht]) (fun k => by rw [blk1, hw]) _ y0 y1)
    (le_of_eq N_0) last last_succ _, zero_add, ref57_at _ _ _ xr tr wr hx ht hw]
  exact sum_points (fun p => err (xr (tok p)) wr (tr p) y1 * (1 / 2048) * xr (tok p) y1 * rs (xr (tok p)))

theorem final6 : (dats m 0 c).arrAt 6 cfg0.N = val_main_v58 (F := Ideal) (X m c) (W m c) (T m c) := by
  refine (dats m 0 c).arrAt_eq_of_after_last 6 last (by decide +kernel) _ fun y => ?_
  idx_vars y
  blk_simp
  rw [after0_6, Pipeline.eq_sum_fin_of_reset_step_apply_last (fun n h => (outsAt0 m c n h).2.2.2) 33 (fun _ => 0)
    (fun t y => if t.val = 0 then (0 : EReal) else ((∑ i : Fin 64, (∑ k, err (xr (tok (pos t i))) wr (tr (pos t i)) k
      * err (xr (tok (pos t i))) wr (tr (pos t i)) k) * (0.5 / 2048) : ℝ) : EReal))
    (fun t h y => by
      have hN := lt_N t
      rw [outsAt0_A m c t h (by omega), if_pos (by omega)]
      idx_vars y
      frame_out
      pointwise [k0_pay4])
    (fun t h y => by
      have hN := lt_N t
      rw [outsAt0_B m c t h (by omega), if_neg (by omega), ← Finset.sum_mul]
      idx_vars y
      frame_out
      exact pay12_at _ _ _ (fun i => xr (tok (pos t i))) (fun i => tr (pos t i)) wr (fun i k => by rw [blk0 m c t (by omega), hx])
        (fun i k => by rw [blk2, ht]) (fun k => by rw [blk1, hw]) _ y0 y1)
    (le_of_eq N_0) last last_succ _, zero_add, ref58_at _ _ _ xr tr wr hx ht hw, Finset.sum_mul]
  exact sum_points (fun p => (∑ k, err (xr (tok p)) wr (tr p) k * err (xr (tok p)) wr (tr p) k) * (0.5 / 2048))

end Finals

end Cert.LossIdeal.Value

/-! ## The claims -/

namespace Cert.Proof.Loss

instance preFacts : Cert.Pre_finite_loss.Facts := ⟨by decide, by decide, by decide⟩

theorem frame_p : Cert.quiescent_Loss := fun m ρ _ => Cert.Loss.Gen.frame m ρ
theorem frame_pi : Cert.quiescent_LossIdeal := fun m ρ _ => Cert.LossIdeal.Gen.frame m ρ
theorem frame_pi_pre : Cert.quiescent_LossIdeal_pre_finite_loss := fun m ρ _ => Cert.LossIdeal.Gen.frame m ρ
theorem frame_ri : Cert.quiescent_LossRefIdeal := fun m ρ _ =>
  (θ_run Cert.LossRefIdeal.defs _ _).mono (fun r h => ⟨fun c => (h c).2.2.2.2,
      Idealize.ShloMosaic.sem_eq_zero_of_no_sems (by decide) r.2⟩)
    (Cert.LossRefIdeal.Value.run (F := Ideal) m ρ)
theorem frame_ri_pre : Cert.quiescent_LossRefIdeal_pre_finite_loss := fun m ρ _ => frame_ri m ρ trivial

open Cert.LossRefIdeal.Read in
theorem algebraic : Cert.algebraic_LossIdeal_LossRefIdeal_pre_finite_loss := by
  intro m ρ m' ρ' hp hagree
  choose xr hx using fun c => Cert.Reals.real_of_pre (hp c).1
  choose wr hw using fun c => Cert.Reals.real_of_pre (hp c).2.1
  choose tr ht using fun c => Cert.Reals.real_of_pre (hp c).2.2
  refine ⟨_, _, _, _, Cert.LossIdeal.Value.run_blocks (F := Ideal) m ρ, ?_⟩
  refine (θ_run Cert.LossRefIdeal.defs _ _).mono
    (fun _ h c => ⟨(h c).1.trans ?_, (h c).2.1.trans ?_, (h c).2.2.1.trans ?_, (h c).2.2.2.1.trans ?_, (h c).2.2.2.2⟩)
    (Cert.LossRefIdeal.Value.run (F := Ideal) m' ρ')
  · rw [val_main_v55_eq, (hagree c).1, (hagree c).2.1, (hagree c).2.2]
    exact (Cert.LossIdeal.Value.final3 m c _ _ _ (fun i k => hx c (ix3 0 i k)) (fun i k => ht c (ix3 0 i k)) (fun k => hw c (ix1 k))).symm
  · rw [val_main_v56_eq, (hagree c).1, (hagree c).2.1, (hagree c).2.2]
    exact (Cert.LossIdeal.Value.final4 m c _ _ _ (fun i k => hx c (ix3 0 i k)) (fun i k => ht c (ix3 0 i k)) (fun k => hw c (ix1 k))).symm
  · rw [(hagree c).1, (hagree c).2.1, (hagree c).2.2, val_main_v57_eq]
    exact (Cert.LossIdeal.Value.final5 m c _ _ _ (fun i k => hx c (ix3 0 i k)) (fun i k => ht c (ix3 0 i k)) (fun k => hw c (ix1 k))).symm
  · rw [(hagree c).1, (hagree c).2.1, (hagree c).2.2, val_main_v58_eq]
    exact (Cert.LossIdeal.Value.final6 m c _ _ _ (fun i k => hx c (ix3 0 i k)) (fun i k => ht c (ix3 0 i k)) (fun k => hw c (ix1 k))).symm

end Cert.Proof.Loss
-- ==== Proof.Select.lean ====
/- A choice between two values by a comparison of small words, as a choice by the numbers compared. -/
module

public import Idealize.ShloMosaic.Lib.Pipeline.ValueKit
public import Idealize.ShloMosaic.Lib.WordCmp

@[expose] public section

noncomputable section

open Idealize.ShloMosaic Idealize.ShloMosaic.WordCmp

namespace Cert.Reals

theorem select_ofBool {α : Type} (p : Prop) [Decidable p] (x y : α) :
    Scalar.select (BitVec.ofBool (decide p)) x y = if p then x else y := by
  by_cases h : p <;> simp [Scalar.select, h]

variable {α : Type} {a b : Nat} (x y : α)

theorem select_slt (ha : a < 2147483648) (hb : b < 2147483648) :
    Scalar.select (IntOp.cmpi .slt (BitVec.ofNat 32 a) (BitVec.ofNat 32 b)) x y = if a < b then x else y := by
  rw [cmpi_slt_ofNat (lt_of_lt_of_eq ha (by norm_num)) (lt_of_lt_of_eq hb (by norm_num)), select_ofBool]
theorem select_sge (ha : a < 2147483648) (hb : b < 2147483648) :
    Scalar.select (IntOp.cmpi .sge (BitVec.ofNat 32 a) (BitVec.ofNat 32 b)) x y = if b ≤ a then x else y := by
  rw [cmpi_sge_ofNat (lt_of_lt_of_eq ha (by norm_num)) (lt_of_lt_of_eq hb (by norm_num)), select_ofBool]
theorem select_sle (ha : a < 2147483648) (hb : b < 2147483648) :
    Scalar.select (IntOp.cmpi .sle (BitVec.ofNat 32 a) (BitVec.ofNat 32 b)) x y = if a ≤ b then x else y := by
  rw [cmpi_sle_ofNat (lt_of_lt_of_eq ha (by norm_num)) (lt_of_lt_of_eq hb (by norm_num)), select_ofBool]
theorem select_eq (ha : a < 2147483648) (hb : b < 2147483648) :
    Scalar.select (IntOp.cmpi .eq (BitVec.ofNat 32 a) (BitVec.ofNat 32 b)) x y = if a = b then x else y := by
  rw [cmpi_eq_ofNat (lt_trans ha (by norm_num)) (lt_trans hb (by norm_num)), select_ofBool]

end Cert.Reals
-- ==== Proof.ConvValue.lean ====
/- The gated convolution's gradient: the call's two result arrays are the derivatives that jax computes, for all arguments.
   The sequence stands in the arrays after 48 rows of zeros, so that the kernel's shifted rows need no case of their own. -/
module

public import proofs.«01_k».proof.Proof.Reals
public import proofs.«01_k».proof.Proof.Reduce
public import proofs.«01_k».proof.Proof.Select
public import proofs.«01_k».proof.Defs
public import proofs.«01_k».proof.Proof.Gen.ConvBwd
public import proofs.«01_k».proof.Proof.Gen.ConvBwd.Frame
public import proofs.«01_k».proof.Proof.Gen.ConvBwdIdeal
public import proofs.«01_k».proof.Proof.Gen.ConvBwdIdeal.Frame
public import proofs.«01_k».proof.Proof.Gen.ConvBwdIdeal.Value
public import proofs.«01_k».proof.Proof.Gen.ConvBwdRefIdeal
public import proofs.«01_k».proof.Proof.Gen.ConvBwdRefIdeal.Run
public import proofs.«01_k».proof.Proof.Gen.ConvBwdRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ConvBwdIdeal.Value

open Cert.ConvBwdIdeal Cert.ConvBwdIdeal.Gen Cert.Reals

/-! ## The gradients of one feature -/

/-- A column of the sequence as it stands in the padded array, zero outside. -/
def col (a : FVec Ideal S1x2064x1024 .f32) (j : Fin 1024) (i : ℕ) : EReal :=
  if h : 48 ≤ i ∧ i < 2112 then a (ix3 0 ⟨i - 48, by omega⟩ j) else 0

theorem col_zero (a : FVec Ideal S1x2064x1024 .f32) (j : Fin 1024) {i : ℕ} (h : i < 48 ∨ 2112 ≤ i) : col a j i = 0 :=
  dif_neg (by omega)
theorem col_at (a : FVec Ideal S1x2064x1024 .f32) (j : Fin 1024) (q : Fin 2064) : col a j (48 + q.val) = a (ix3 0 q j) := by
  unfold col
  rw [dif_pos (by omega)]
  exact congrArg (fun r => a (ix3 0 r j)) (Fin.ext (by simp only; omega))

/-- The transposed convolution of a column with a filter of three taps. -/
def convT (f : ℕ → EReal) (w : Fin 3 → EReal) (i : ℕ) : EReal := f i * w 2 + f (i + 1) * w 1 + f (i + 2) * w 0
/-- The convolution of a column with a filter of three taps, at two rows further down. -/
def conv (f : ℕ → EReal) (w : Fin 3 → EReal) (i : ℕ) : EReal := f i * w 0 + f (i + 1) * w 1 + f (i + 2) * w 2

/-- An entry of the sequence is an entry of its column. -/
theorem col_of (a : FVec Ideal S1x2064x1024 .f32) (r : Fin 1) (n : ℕ) (h : n < 2064) (j : Fin 1024) :
    a (ix3 r ⟨n, h⟩ j) = col a j (48 + n) := by
  rw [Subsingleton.elim r 0]
  exact (col_at a j ⟨n, h⟩).symm

/-- A choice whose second value is zero, where the first vanishes unless the condition holds. -/
theorem ite_zero_of {P : Prop} [Decidable P] {a b : EReal} (h1 : P → a = b) (h2 : ¬ P → b = 0) : (if P then a else 0) = b := by
  by_cases h : P
  · rw [if_pos h, h1 h]
  · rw [if_neg h, h2 h]
/-- The same, with the zero first. -/
theorem zero_ite_of {P : Prop} [Decidable P] {a b : EReal} (h1 : ¬ P → a = b) (h2 : P → b = 0) : (if P then 0 else a) = b := by
  by_cases h : P
  · rw [if_pos h, h2 h]
  · rw [if_neg h, h1 h]

section Kernel

variable (x : FVec Ideal S2112x128 .f32) (pc : FVec Ideal S3x2112x128 .f32) (w : FVec Ideal S8x128 .f32)
  (k : Fin 128) (d u b e : ℕ → EReal) (wc : Fin 3 → EReal)
  (hx : ∀ i, x (ix2 i k) = d i.val) (h0 : ∀ i, pc (ix3 0 i k) = u i.val) (h1 : ∀ i, pc (ix3 1 i k) = b i.val)
  (h2 : ∀ i, pc (ix3 2 i k) = e i.val) (w0 : w (ix2 0 k) = wc 0) (w1 : w (ix2 1 k) = wc 1) (w2 : w (ix2 2 k) = wc 2)
  (hd : ∀ i, i < 48 ∨ 2112 ≤ i → d i = 0)

include hx h0 h1 h2 w0 w1 w2 hd

/-- The two shifted products of the transposed convolution. -/
theorem shift_up (n : ℕ) (hn : n ≤ 2) (i : Fin 2112) (v : EReal) (h) :
    (if i.val < 2112 - n then x (ix2 ⟨(i.val + 2112 - (2112 - n)) % 2112, h⟩ k) * pc (ix3 1 ⟨(i.val + 2112 - (2112 - n)) % 2112, h⟩ k) * v
      else 0) = d (i.val + n) * b (i.val + n) * v := by
  rw [hx, h1]
  show (if i.val < 2112 - n then d ((i.val + 2112 - (2112 - n)) % 2112) * b ((i.val + 2112 - (2112 - n)) % 2112) * v else 0) = _
  exact ite_zero_of (fun _ => by rw [(by omega : (i.val + 2112 - (2112 - n)) % 2112 = i.val + n)])
    fun _ => by rw [hd _ (by omega), zero_mul, zero_mul]

theorem pay15_at (y : Fin 1) (i : Fin 2112) :
    k0_pay15 (F := Ideal) (k0_pay2 (View.ld (Val := Elt Ideal) pc r0_0)) (k0_pay19 x pc w) (k0_pay20 x pc w) (k0_pay21 x pc w)
      (k0_pay18 (F := Ideal) x pc w) 2111#32 (ix3 y i k)
      = convT (fun i => d i * b i) wc i.val * u i.val := by
  unfold k0_pay21 k0_pay20 k0_pay19 k0_pay18
  open_payloads
  pointwise
  simp (disch := omega) only [select_slt]
  have s1 := shift_up x pc w k d u b e wc hx h0 h1 h2 w0 w1 w2 hd 1 (by omega) i (wc 1) (by omega)
  have s2 := shift_up x pc w k d u b e wc hx h0 h1 h2 w0 w1 w2 hd 2 (by omega) i (wc 0) (by omega)
  rw [w0, w1, w2, s1, s2, hx, h0, h1]
  rfl
theorem pay13_at (y : Fin 1) (i : Fin 2112) :
    k0_pay13 (F := Ideal) (k0_pay3 (View.ld (Val := Elt Ideal) pc r0_2)) (k0_pay19 x pc w) (k0_pay20 x pc w) (k0_pay21 x pc w)
      (k0_pay18 (F := Ideal) x pc w) 2111#32 (ix3 y i k)
      = convT (fun i => d i * b i) wc i.val * e i.val := by
  unfold k0_pay21 k0_pay20 k0_pay19 k0_pay18
  open_payloads
  pointwise
  simp (disch := omega) only [select_slt]
  have s1 := shift_up x pc w k d u b e wc hx h0 h1 h2 w0 w1 w2 hd 1 (by omega) i (wc 1) (by omega)
  have s2 := shift_up x pc w k d u b e wc hx h0 h1 h2 w0 w1 w2 hd 2 (by omega) i (wc 0) (by omega)
  rw [w0, w1, w2, s1, s2, hx, h2, h1]
  rfl
theorem pay14_at (y : Fin 1) (i : Fin 2112) :
    k0_pay14 (k0_pay5 (View.ld (Val := Elt Ideal) x r0_4))
      (k0_pay9 (View.ld (Val := Elt Ideal) pc r0_0) (View.ld (Val := Elt Ideal) pc r0_2) (View.ld (Val := Elt Ideal) w r0_3)) (ix3 y i k)
      = d i.val * conv (fun i => e i * u i) wc (i.val - 2) := by
  open_payloads
  pointwise
  simp (disch := omega) only [select_sge]
  by_cases hi : i.val < 48
  · rw [hx, hd _ (Or.inl hi), zero_mul, zero_mul]
  · rw [if_pos (by omega), if_pos (by omega)]
    simp only [hx, h0, h2, w0, w1, w2]
    rw [(by omega : (i.val + 2112 - 2) % 2112 = i.val - 2), (by omega : (i.val + 2112 - 1) % 2112 = i.val - 2 + 1)]
    unfold conv
    rw [(by omega : i.val - 2 + 2 = i.val)]

theorem out4_at (p : Fin 8) : out0_4 (F := Ideal) x pc w (ix2 p k)
      = if p.val < 3 then ∑ i : Fin 2112, d i.val * b i.val * (e (i.val + p.val - 2) * u (i.val + p.val - 2)) else 0 := by
  unfold_out out0_4
  frame_out
  open_payloads
  pointwise
  simp (disch := omega) only [select_sge, select_eq]
  have hp : p.val = 0 ∨ p.val = 1 ∨ p.val = 2 ∨ 3 ≤ p.val := by omega
  rcases hp with hp | hp | hp | hp
  · rw [if_pos hp, if_pos (by omega)]
    refine Finset.sum_congr rfl fun i _ => ?_
    rw [hx, h1, h2, h0]
    show (if 2 ≤ i.val then d i.val * b i.val * (e ((i.val + 2112 - 2) % 2112) * u ((i.val + 2112 - 2) % 2112)) else 0) = _
    exact ite_zero_of (fun _ => by rw [(by omega : (i.val + 2112 - 2) % 2112 = i.val + p.val - 2)])
      fun _ => by rw [hd _ (by omega), zero_mul, zero_mul]
  · rw [if_neg (by omega), if_pos hp, if_pos (by omega)]
    refine Finset.sum_congr rfl fun i _ => ?_
    rw [hx, h1, h2, h0]
    show (if 1 ≤ i.val then d i.val * b i.val * (e ((i.val + 2112 - 1) % 2112) * u ((i.val + 2112 - 1) % 2112)) else 0) = _
    exact ite_zero_of (fun _ => by rw [(by omega : (i.val + 2112 - 1) % 2112 = i.val + p.val - 2)])
      fun _ => by rw [hd _ (by omega), zero_mul, zero_mul]
  · rw [if_neg (by omega), if_neg (by omega), if_pos hp, if_pos (by omega)]
    refine Finset.sum_congr rfl fun i _ => ?_
    rw [hx, h1, h2, h0, (by omega : i.val + p.val - 2 = i.val)]
  · rw [if_neg (by omega), if_neg (by omega), if_neg (by omega), if_neg (by omega)]

end Kernel

section Reference

open Cert.ConvBwdRefIdeal.Read
variable (x0 x1 x2 x4 : FVec Ideal Cert.ConvBwdRefIdeal.S1x2064x1024 .f32) (x3 : FVec Ideal Cert.ConvBwdRefIdeal.S3x1024 .f32)

theorem ref66_zero (p : Fin 3) (i : Fin 2112) (j : Fin 1024) (hi : i.val < 48) :
    val_main_v66 (F := Ideal) x0 x1 x2 x3 x4 (ix3 p i j) = 0 := by
  pointwise [val_main_v0, val_main_cst, val_main_v1, val_main_v2, val_main_cst_0, val_main_v3, val_main_v4, val_main_v5, val_main_v6,
    val_main_v7, val_main_v8, val_main_v9, val_main_cst_1, val_main_v10, val_main_v11, val_main_v12, val_main_v13,
    val_main_v14, val_main_v15, val_main_v16, val_main_v17, val_main_v18, val_main_v19, val_main_v20, val_main_v21,
    val_main_v22, val_main_v23, val_main_v24, val_main_v25, val_main_v26, val_main_v27, val_main_v28, val_main_v29,
    val_main_cst_2, val_main_v30, val_main_v31, val_main_v32, val_main_v33, val_main_cst_3, val_main_v34, val_main_v35,
    val_main_cst_4, val_main_v36, val_main_cst_5, val_main_v37, val_main_v38, val_main_cst_6, val_main_v39, val_main_v40,
    val_main_v41, val_main_v42, val_main_cst_7, val_main_v43, val_main_v44, val_main_cst_8, val_main_v45, val_main_v46,
    val_main_cst_9, val_main_v47, val_main_v48, val_main_v49, val_main_cst_10, val_main_v50, val_main_v51, val_main_v52,
    val_main_v53, val_main_cst_11, val_main_v54, val_main_v55, val_main_cst_12, val_main_v56, val_main_v57, val_main_cst_13,
    val_main_v58, val_main_v59, val_main_v60, val_main_v61, val_main_v62, val_main_v63, val_main_v64, val_main_c,
    val_main_call0_v0, val_main_v65, val_main_v66, val_main_c_14, val_main_call1_v0, val_main_v67]
  rw [dif_neg (by omega)]
  simp [FloatOps.sitofp]

/-- The row of the padded array that holds row `q` of the sequence. -/
def row (q : Fin 2064) : Fin 2112 := ⟨48 + q.val, by omega⟩

theorem ref66_at (p : Fin 3) (q : Fin 2064) (j : Fin 1024) : val_main_v66 (F := Ideal) x0 x1 x2 x3 x4 (ix3 p (row q) j)
      = if p.val = 1 then col x4 j (row q).val * conv (fun i => col x2 j i * col x0 j i) (fun q => x3 (ix2 q j)) ((row q).val - 2)
        else convT (fun i => col x4 j i * col x1 j i) (fun q => x3 (ix2 q j)) (row q).val
          * (if p.val = 0 then col x2 j (row q).val else col x0 j (row q).val) := by
  pointwise [val_main_v0, val_main_cst, val_main_v1, val_main_v2, val_main_cst_0, val_main_v3, val_main_v4, val_main_v5, val_main_v6,
    val_main_v7, val_main_v8, val_main_v9, val_main_cst_1, val_main_v10, val_main_v11, val_main_v12, val_main_v13,
    val_main_v14, val_main_v15, val_main_v16, val_main_v17, val_main_v18, val_main_v19, val_main_v20, val_main_v21,
    val_main_v22, val_main_v23, val_main_v24, val_main_v25, val_main_v26, val_main_v27, val_main_v28, val_main_v29,
    val_main_cst_2, val_main_v30, val_main_v31, val_main_v32, val_main_v33, val_main_cst_3, val_main_v34, val_main_v35,
    val_main_cst_4, val_main_v36, val_main_cst_5, val_main_v37, val_main_v38, val_main_cst_6, val_main_v39, val_main_v40,
    val_main_v41, val_main_v42, val_main_cst_7, val_main_v43, val_main_v44, val_main_cst_8, val_main_v45, val_main_v46,
    val_main_cst_9, val_main_v47, val_main_v48, val_main_v49, val_main_cst_10, val_main_v50, val_main_v51, val_main_v52,
    val_main_v53, val_main_cst_11, val_main_v54, val_main_v55, val_main_cst_12, val_main_v56, val_main_v57, val_main_cst_13,
    val_main_v58, val_main_v59, val_main_v60, val_main_v61, val_main_v62, val_main_v63, val_main_v64, val_main_c,
    val_main_call0_v0, val_main_v65, val_main_v66, val_main_c_14, val_main_call1_v0, val_main_v67]
  unfold row conv convT
  rw [dif_pos (by simp only; omega)]
  simp only [Nat.add_sub_cancel_left, col_of, dite_eq_ite]
  have hq : q.val < 2064 := q.isLt
  have t1 : ∀ P : Prop, [Decidable P] → (P ↔ q.val + 1 < 2064) →
      (if P then col x1 j (48 + (2 + q.val - 1)) * col x4 j (48 + (2 + q.val - 1)) * x3 (ix2 1 j) else 0)
        = col x4 j (48 + q.val + 1) * col x1 j (48 + q.val + 1) * x3 (ix2 1 j) := fun P _ hP =>
    ite_zero_of (fun _ => by rw [mul_comm (col x4 j _), (by omega : 48 + (2 + q.val - 1) = 48 + q.val + 1)])
      fun h => by rw [col_zero x4 j (by have := mt hP.2 h; omega), zero_mul, zero_mul]
  have t0 : ∀ P : Prop, [Decidable P] → (P ↔ q.val + 2 < 2064) →
      (if P then col x1 j (48 + (2 + q.val)) * col x4 j (48 + (2 + q.val)) * x3 (ix2 0 j) else 0)
        = col x4 j (48 + q.val + 2) * col x1 j (48 + q.val + 2) * x3 (ix2 0 j) := fun P _ hP =>
    ite_zero_of (fun _ => by rw [mul_comm (col x4 j _), (by omega : 48 + (2 + q.val) = 48 + q.val + 2)])
      fun h => by rw [col_zero x4 j (by have := mt hP.2 h; omega), zero_mul, zero_mul]
  have c0 : (if q.val < 2 then 0 else col x2 j (48 + (q.val - 2)) * col x0 j (48 + (q.val - 2)))
      = col x2 j (48 + q.val - 2) * col x0 j (48 + q.val - 2) :=
    zero_ite_of (fun _ => by rw [(by omega : 48 + (q.val - 2) = 48 + q.val - 2)])
      fun h => by rw [col_zero x2 j (by omega), zero_mul]
  have c1 : (if 1 + q.val < 2 then 0 else col x2 j (48 + (1 + q.val - 2)) * col x0 j (48 + (1 + q.val - 2)))
      = col x2 j (48 + q.val - 2 + 1) * col x0 j (48 + q.val - 2 + 1) :=
    zero_ite_of (fun _ => by rw [(by omega : 48 + (1 + q.val - 2) = 48 + q.val - 2 + 1)])
      fun h => by rw [col_zero x2 j (by omega), zero_mul]
  rw [c0, c1, (by omega : 48 + q.val - 2 + 2 = 48 + q.val)]
  have hp : p.val = 0 ∨ p.val = 1 ∨ p.val = 2 := by omega
  rcases hp with hp | hp | hp
  · rw [if_pos (by omega), t1 _ (by omega), t0 _ (by omega), if_pos (by omega), if_neg (by omega), if_pos hp,
      mul_comm (col x1 j _), mul_comm]
  · rw [if_neg (by omega), if_pos (by omega), if_pos hp]
  · rw [if_neg (by omega), if_neg (by omega), t1 _ (by omega), t0 _ (by omega), if_pos (by omega), if_neg (by omega),
      if_neg (by omega), mul_comm (col x1 j _)]

theorem ref67_at (p : Fin 8) (j : Fin 1024) : val_main_v67 (F := Ideal) x0 x1 x2 x4 (ix2 p j)
      = if p.val < 3 then ∑ q : Fin 2064, col x2 j (46 + p.val + q.val) * col x0 j (46 + p.val + q.val)
          * (x1 (ix3 0 q j) * x4 (ix3 0 q j)) else 0 := by
  pointwise [val_main_v0, val_main_cst, val_main_v1, val_main_v2, val_main_cst_0, val_main_v3, val_main_v4, val_main_v5, val_main_v6,
    val_main_v7, val_main_v8, val_main_v9, val_main_cst_1, val_main_v10, val_main_v11, val_main_v12, val_main_v13,
    val_main_v14, val_main_v15, val_main_v16, val_main_v17, val_main_v18, val_main_v19, val_main_v20, val_main_v21,
    val_main_v22, val_main_v23, val_main_v24, val_main_v25, val_main_v26, val_main_v27, val_main_v28, val_main_v29,
    val_main_cst_2, val_main_v30, val_main_v31, val_main_v32, val_main_v33, val_main_cst_3, val_main_v34, val_main_v35,
    val_main_cst_4, val_main_v36, val_main_cst_5, val_main_v37, val_main_v38, val_main_cst_6, val_main_v39, val_main_v40,
    val_main_v41, val_main_v42, val_main_cst_7, val_main_v43, val_main_v44, val_main_cst_8, val_main_v45, val_main_v46,
    val_main_cst_9, val_main_v47, val_main_v48, val_main_v49, val_main_cst_10, val_main_v50, val_main_v51, val_main_v52,
    val_main_v53, val_main_cst_11, val_main_v54, val_main_v55, val_main_cst_12, val_main_v56, val_main_v57, val_main_cst_13,
    val_main_v58, val_main_v59, val_main_v60, val_main_v61, val_main_v62, val_main_v63, val_main_v64, val_main_c,
    val_main_call0_v0, val_main_v65, val_main_v66, val_main_c_14, val_main_call1_v0, val_main_v67]
  by_cases hp : p.val < 3
  · rw [dif_pos hp, if_pos hp]
    simp only [Fin.sum_univ_one, dite_eq_ite]
    have hp : p.val = 0 ∨ p.val = 1 ∨ p.val = 2 := by omega
    rcases hp with hp | hp | hp
    · rw [if_neg (by omega), if_neg (by omega), if_pos (by omega), zero_add, zero_add, hp]
      rw [Fin.sum_univ_add (a := 2) (b := 2062) fun q => col x2 j (46 + 0 + q.val) * col x0 j (46 + 0 + q.val) * (x1 (ix3 0 q j) * x4 (ix3 0 q j))]
      refine congrArg₂ (· + ·) (Finset.sum_congr rfl fun q _ => ?_) (Finset.sum_congr rfl fun q _ => ?_)
      · rw [col_zero x2 j (by simp only [Fin.val_castAdd]; omega), zero_mul, zero_mul, zero_mul]
      · rw [Fin.val_natAdd, (by omega : 46 + 0 + (2 + q.val) = 48 + q.val), ← col_of x2 0 q.val (by omega) j,
          ← col_of x0 0 q.val (by omega) j]
        rfl
    · rw [if_neg (by omega), if_pos (by omega), if_neg (by omega), zero_add, add_zero, hp]
      refine Finset.sum_congr rfl fun q _ => ?_
      congr 1
      simp only [col_of, dite_eq_ite]
      exact zero_ite_of (fun _ => by rw [(by omega : 48 + (1 + q.val - 2) = 46 + 1 + q.val)])
        fun h => by rw [col_zero x2 j (by omega), zero_mul]
    · rw [if_pos (by omega), if_neg (by omega), if_neg (by omega), add_zero, add_zero, hp]
      simp only [← col_at]
  · rw [dif_neg hp, if_neg hp]
    simp [FloatOps.sitofp]
end Reference

/-! ## The blocks of the arrays -/

variable (m : (ℓ : Loc nD τ sig) → Buf (Elt Ideal) ℓ) (c : Dev nD)

theorem idx : ∀ t : Fin cfg0.N, win0_0.index t = ![0, 8 + t.val] ∧ win0_1.index t = ![0, 0, t.val] ∧ win0_2.index t = ![0, t.val]
    ∧ win0_3.index t = ![0, 0, t.val] ∧ win0_4.index t = ![0, t.val] :=
  (by decide +kernel : ∀ t : Fin grid0.N, _)

theorem lt_N (t : Fin cfg0.N) : t.val < 8 := lt_of_lt_of_eq t.isLt N_0

abbrev U : FVec Ideal S1x2064x1024 .f32 := m ((c : Thread nD τ).loc main_arg0)
abbrev B : FVec Ideal S1x2064x1024 .f32 := m ((c : Thread nD τ).loc main_arg1)
abbrev C : FVec Ideal S1x2064x1024 .f32 := m ((c : Thread nD τ).loc main_arg2)
abbrev W : FVec Ideal S3x1024 .f32 := m ((c : Thread nD τ).loc main_arg3)
abbrev D : FVec Ideal S1x2064x1024 .f32 := m ((c : Thread nD τ).loc main_arg4)

/-- The feature that column `k` of block `t` holds. -/
def feat (t : Fin cfg0.N) (k : Fin 128) : Fin 1024 := ⟨t.val * 128 + k.val, by have := lt_N t; omega⟩

theorem blk0 (t : Fin cfg0.N) (i : Fin 2112) (k : Fin 128) :
    iblk m c 0 t (ix2 i k) = col (D m c) (feat t k) i.val := by
  have hN := lt_N t
  have e : ((cfg0.win 0).blk t).view.emb (ix2 i k) = ix2 i (⟨1024 + t.val * 128 + k.val, by omega⟩ : Fin 2048) := by
    blk_ext [idx t]
  show V m c main_v3 (((cfg0.win 0).blk t).view.emb (ix2 i k)) = _
  rw [e]
  simp only [V, hostOps0, hostOps0_1, hostOps0_2, hostOps0_3, hostOps0_4, hostOps0_5, List.flatten_cons, List.flatten_nil,
    List.append_nil, List.cons_append, List.nil_append]
  after_results_simp
  show pad S2112x2048 ![48, 1024] ![0, 0] ![0, 0] (shapeCast S2064x1024 (D m c) shapeCasts_S1x2064x1024_S2064x1024)
    (sitofp .f32 (constantI S_ 32 0#32)) pads_S2064x1024_S2112x2048_4800_102400 h_S_ (ix2 i _) = _
  pointwise
  unfold col
  by_cases hi : 48 ≤ i.val
  · rw [dif_pos (by omega), dif_pos (by omega)]
    exact congrArg (fun r => D m c (ix3 0 (⟨i.val - 48, by omega⟩ : Fin 2064) r)) (Fin.ext (by simp only [feat]; omega))
  · rw [dif_neg (by omega), dif_neg (by omega)]
    simp [FloatOps.sitofp]
theorem blk1 (t : Fin cfg0.N) (p : Fin 3) (i : Fin 2112) (k : Fin 128) :
    iblk m c 1 t (ix3 p i k) = if p.val = 0 then col (U m c) (feat t k) i.val else if p.val = 1 then col (B m c) (feat t k) i.val
      else col (C m c) (feat t k) i.val := by
  have hN := lt_N t
  have e : ((cfg0.win 1).blk t).view.emb (ix3 p i k) = ix3 p i (feat t k) := by unfold feat; blk_ext [idx t]
  show V m c main_v1 (((cfg0.win 1).blk t).view.emb (ix3 p i k)) = _
  rw [e]
  simp only [V, hostOps0, hostOps0_1, hostOps0_2, hostOps0_3, hostOps0_4, hostOps0_5, List.flatten_cons, List.flatten_nil,
    List.append_nil, List.cons_append, List.nil_append]
  after_results_simp
  show pad S3x2112x1024 ![0, 48, 0] ![0, 0, 0] ![0, 0, 0]
    (concatenate S3x2064x1024 0 [⟨S1x2064x1024, U m c⟩, ⟨S1x2064x1024, B m c⟩, ⟨S1x2064x1024, C m c⟩]
      concatenates_S1x2064x1024_S1x2064x1024_S1x2064x1024_S3x2064x1024_d0)
    (sitofp .f32 (constantI S_ 32 0#32)) pads_S3x2064x1024_S3x2112x1024_000_4800_000 h_S_ (ix3 p i (feat t k)) = _
  pointwise
  by_cases hi : 48 ≤ i.val
  · rw [dif_pos (by omega)]
    simp only [col_of, (by omega : 48 + (i.val - 48) = i.val), dite_eq_ite]
    have hp : p.val = 0 ∨ p.val = 1 ∨ p.val = 2 := by omega
    rcases hp with hp | hp | hp
    · rw [if_pos (by omega), if_pos hp]
    · rw [if_neg (by omega), if_pos (by omega), if_neg (by omega), if_pos hp]
    · rw [if_neg (by omega), if_neg (by omega), if_neg (by omega), if_neg (by omega)]
  · rw [dif_neg (by omega)]
    simp only [col_zero _ _ (Or.inl (not_le.mp hi)), ite_self]
    simp [FloatOps.sitofp]
theorem blk2 (t : Fin cfg0.N) (p : Fin 8) (k : Fin 128) (hp : p.val < 3) :
    iblk m c 2 t (ix2 p k) = W m c (ix2 (⟨p.val, hp⟩ : Fin 3) (feat t k)) := by
  have hN := lt_N t
  have e : ((cfg0.win 2).blk t).view.emb (ix2 p k) = ix2 p (feat t k) := by unfold feat; blk_ext [idx t]
  show V m c main_v4 (((cfg0.win 2).blk t).view.emb (ix2 p k)) = _
  rw [e]
  simp only [V, hostOps0, hostOps0_1, hostOps0_2, hostOps0_3, hostOps0_4, hostOps0_5, List.flatten_cons, List.flatten_nil,
    List.append_nil, List.cons_append, List.nil_append]
  after_results_simp
  show pad S8x1024 ![0, 0] ![5, 0] ![0, 0] (W m c) (sitofp .f32 (constantI S_ 32 0#32)) pads_S3x1024_S8x1024_050_000 h_S_
    (ix2 p (feat t k)) = _
  pointwise
  rw [dif_pos (by omega)]

theorem emb3 (t : Fin cfg0.N) (p : Fin 3) (i : Fin 2112) (k : Fin 128) :
    ((cfg0.win 3).blk t).view.emb (ix3 p i k) = ix3 p i (feat t k) := by
  have := lt_N t
  unfold feat; blk_ext [idx t]
theorem emb4 (t : Fin cfg0.N) (p : Fin 8) (k : Fin 128) :
    ((cfg0.win 4).blk t).view.emb (ix2 p k) = ix2 p (feat t k) := by
  have := lt_N t
  unfold feat; blk_ext [idx t]

/-! ## The result arrays -/

open Cert.ConvBwdRefIdeal.Read

/-- The first result at a row of the sequence or of its padding, by the three parts. -/
theorem res66_at (p : Fin 3) (i : Fin 2112) (j : Fin 1024) :
    val_main_v66 (F := Ideal) (U m c) (B m c) (C m c) (W m c) (D m c) (ix3 p i j)
      = if i.val < 48 then 0 else
        if p.val = 1 then col (D m c) j i.val * conv (fun i => col (C m c) j i * col (U m c) j i) (fun q => W m c (ix2 q j)) (i.val - 2)
        else convT (fun i => col (D m c) j i * col (B m c) j i) (fun q => W m c (ix2 q j)) i.val
          * (if p.val = 0 then col (C m c) j i.val else col (U m c) j i.val) := by
  by_cases hi : i.val < 48
  · rw [if_pos hi, ref66_zero _ _ _ _ _ _ _ _ hi]
  · rw [if_neg hi]
    have h := ref66_at (U m c) (B m c) (C m c) (D m c) (W m c) p ⟨i.val - 48, by omega⟩ j
    have e : row ⟨i.val - 48, by omega⟩ = i := Fin.ext (by simp only [row]; omega)
    rwa [e] at h

theorem final3 : (dats m 0 c).arrAt 3 cfg0.N = val_main_v66 (F := Ideal) (U m c) (B m c) (C m c) (W m c) (D m c) := by
  refine (dats m 0 c).arrAt_eq_of_covers 3 _ (by decide +kernel) fun t _ y => ?_
  have hN := lt_N t
  idx_vars y
  rw [emb3 t, res66_at]
  blk_simp
  rw [after0_3]
  unfold out0_3
  canon_tiles z h
  · idx_vars z
    obtain rfl : y1 = z1 := Fin.ext h1
    obtain rfl : y2 = z2 := Fin.ext h2
    rw [pay15_at _ _ _ _ (col (D m c) (feat t y2)) (col (U m c) (feat t y2)) (col (B m c) (feat t y2)) (col (C m c) (feat t y2))
      (fun q => W m c (ix2 q (feat t y2))) (fun i => blk0 m c t i y2) (fun i => blk1 m c t 0 i y2) (fun i => blk1 m c t 1 i y2)
      (fun i => blk1 m c t 2 i y2) (blk2 m c t 0 y2 (by decide)) (blk2 m c t 1 y2 (by decide)) (blk2 m c t 2 y2 (by decide))
      (fun i h => col_zero _ _ h)]
    by_cases hi : y1.val < 48
    · rw [if_pos hi, col_zero _ _ (Or.inl hi), mul_zero]
    · rw [if_neg hi, if_neg (by omega), if_neg (by omega)]
  · idx_vars z
    obtain rfl : y1 = z1 := Fin.ext h1
    obtain rfl : y2 = z2 := Fin.ext h2
    rw [pay14_at _ _ _ _ (col (D m c) (feat t y2)) (col (U m c) (feat t y2)) (col (B m c) (feat t y2)) (col (C m c) (feat t y2))
      (fun q => W m c (ix2 q (feat t y2))) (fun i => blk0 m c t i y2) (fun i => blk1 m c t 0 i y2) (fun i => blk1 m c t 1 i y2)
      (fun i => blk1 m c t 2 i y2) (blk2 m c t 0 y2 (by decide)) (blk2 m c t 1 y2 (by decide)) (blk2 m c t 2 y2 (by decide))
      (fun i h => col_zero _ _ h)]
    by_cases hi : y1.val < 48
    · rw [if_pos hi, col_zero _ _ (Or.inl hi), zero_mul]
    · rw [if_neg hi, if_pos (by omega)]
  · idx_vars z
    obtain rfl : y1 = z1 := Fin.ext h1
    obtain rfl : y2 = z2 := Fin.ext h2
    rw [pay13_at _ _ _ _ (col (D m c) (feat t y2)) (col (U m c) (feat t y2)) (col (B m c) (feat t y2)) (col (C m c) (feat t y2))
      (fun q => W m c (ix2 q (feat t y2))) (fun i => blk0 m c t i y2) (fun i => blk1 m c t 0 i y2) (fun i => blk1 m c t 1 i y2)
      (fun i => blk1 m c t 2 i y2) (blk2 m c t 0 y2 (by decide)) (blk2 m c t 1 y2 (by decide)) (blk2 m c t 2 y2 (by decide))
      (fun i h => col_zero _ _ h)]
    by_cases hi : y1.val < 48
    · rw [if_pos hi, col_zero _ _ (Or.inl hi), mul_zero]
    · rw [if_neg hi, if_neg (by omega), if_pos (by omega)]

theorem final4 : (dats m 0 c).arrAt 4 cfg0.N = val_main_v67 (F := Ideal) (U m c) (B m c) (C m c) (D m c) := by
  refine (dats m 0 c).arrAt_eq_of_covers 4 _ (by decide +kernel) fun t _ y => ?_
  have hN := lt_N t
  idx_vars y
  rw [emb4 t, ref67_at]
  blk_simp
  rw [after0_4]
  rw [out4_at _ _ _ _ (col (D m c) (feat t y1)) (col (U m c) (feat t y1)) (col (B m c) (feat t y1)) (col (C m c) (feat t y1)) (fun q => W m c (ix2 q (feat t y1)))
    (fun i => blk0 m c t i y1) (fun i => blk1 m c t 0 i y1) (fun i => blk1 m c t 1 i y1) (fun i => blk1 m c t 2 i y1)
    (blk2 m c t 0 y1 (by decide)) (blk2 m c t 1 y1 (by decide)) (blk2 m c t 2 y1 (by decide)) (fun i h => col_zero _ _ h)]
  refine congrArg (fun s : EReal => if y0.val < 3 then s else 0) ?_
  rw [Fin.sum_univ_add (a := 48) (b := 2064) fun i : Fin 2112 => col (D m c) (feat t y1) i.val * col (B m c) (feat t y1) i.val
      * (col (C m c) (feat t y1) (i.val + y0.val - 2) * col (U m c) (feat t y1) (i.val + y0.val - 2)),
    Finset.sum_eq_zero fun i _ => by rw [Fin.val_castAdd, col_zero _ _ (Or.inl i.isLt), zero_mul, zero_mul], zero_add]
  refine Finset.sum_congr rfl fun q _ => ?_
  rw [Fin.val_natAdd, col_at, col_at, (by omega : 48 + q.val + y0.val - 2 = 46 + y0.val + q.val), mul_comm,
    mul_comm (D m c (ix3 0 q (feat t y1)))]

end Cert.ConvBwdIdeal.Value

/-! ## The claims -/

namespace Cert.Proof.Conv

theorem frame_p : Cert.quiescent_ConvBwd := fun m ρ _ => Cert.ConvBwd.Gen.frame m ρ
theorem frame_pi : Cert.quiescent_ConvBwdIdeal := fun m ρ _ => Cert.ConvBwdIdeal.Gen.frame m ρ
theorem frame_ri : Cert.quiescent_ConvBwdRefIdeal := fun m ρ _ =>
  (θ_run Cert.ConvBwdRefIdeal.defs _ _).mono (fun r h => ⟨fun c => (h c).2.2,
      Idealize.ShloMosaic.sem_eq_zero_of_no_sems (by decide) r.2⟩)
    (Cert.ConvBwdRefIdeal.Value.run (F := Ideal) m ρ)

open Cert.ConvBwdRefIdeal.Read in
theorem algebraic : Cert.algebraic_ConvBwdIdeal_ConvBwdRefIdeal := by
  intro m ρ m' ρ' _ hagree
  refine ⟨_, _, Cert.ConvBwdIdeal.Value.run_blocks (F := Ideal) m ρ, ?_⟩
  refine (θ_run Cert.ConvBwdRefIdeal.defs _ _).mono
    (fun _ h c => ⟨(h c).1.trans ?_, (h c).2.1.trans ?_, (h c).2.2⟩)
    (Cert.ConvBwdRefIdeal.Value.run (F := Ideal) m' ρ')
  · rw [val_main_v66_eq, (hagree c).1, (hagree c).2.1, (hagree c).2.2.1, (hagree c).2.2.2.1, (hagree c).2.2.2.2]
    exact (Cert.ConvBwdIdeal.Value.final3 m c).symm
  · rw [(hagree c).1, (hagree c).2.1, (hagree c).2.2.1, (hagree c).2.2.2.2, val_main_v67_eq]
    exact (Cert.ConvBwdIdeal.Value.final4 m c).symm

end Cert.Proof.Conv
-- ==== Proof.GateValue.lean ====
/- The SwiGLU gate: from the normed rows, the two gate weights, the output weight and the cotangent, the two calls'
   arrays are the gate's value and the two derivatives that jax computes, for finite arguments. The second call reads the
   products the first has left. -/
module

public import proofs.«01_k».proof.Proof.Reals
public import proofs.«01_k».proof.Defs
public import proofs.«01_k».proof.Proof.Gen.GateBwd
public import proofs.«01_k».proof.Proof.Gen.GateBwd.Frame
public import proofs.«01_k».proof.Proof.Gen.GateBwdIdeal
public import proofs.«01_k».proof.Proof.Gen.GateBwdIdeal.Frame
public import proofs.«01_k».proof.Proof.Gen.GateBwdRefIdeal
public import proofs.«01_k».proof.Proof.Gen.GateBwdRefIdeal.Run
public import proofs.«01_k».proof.Proof.Gen.GateBwdRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

namespace Cert.GateBwdIdeal.Value

open Cert.GateBwdIdeal Cert.GateBwdIdeal.Gen Cert.Reals

local notation "𝕄" => MT nD τ sig Unit (Elt Ideal) ℕ (UR sig nD τ) ℕ

/-! ## The gate in real numbers -/

/-- The logistic function. -/
def sg (x : ℝ) : ℝ := 1 / (1 + Real.exp (-x))

theorem sg_eq (x : ℝ) : Ideal.div 1 (1 + Ideal.exp (0 - (x : EReal))) = (sg x : EReal) := by
  rw [zero_sub, ← EReal.coe_neg, Ideal.exp_coe]
  exact_mod_cast div_real 1 (by positivity : (1 + Real.exp (-x)) ≠ 0)

/-- An entry of a row of 2048 numbers times a column. -/
def dot (a b : Fin 2048 → ℝ) : ℝ := ∑ k, a k * b k

/-- The gate's value, and its derivatives times the cotangent. -/
def gact (g u : ℝ) : ℝ := g * sg g * u
def gdu (g a : ℝ) : ℝ := a * sg g * g
def gdg (g u a : ℝ) : ℝ := a * sg g * u * (1 + g - g * sg g)

section Blocks

variable (x0 : Vec Ideal S1056x2048 .bf16) (x1 x2 : Vec Ideal S512x2048 .bf16) (y2 y3 : Vec Ideal S1056x512 .bf16)
  (a : Fin 1056 → Fin 2048 → ℝ) (b d : Fin 512 → Fin 2048 → ℝ) (g u : Fin 1056 → Fin 512 → ℝ)
  (h0 : ∀ i k, x0 (ix2 i k) = a i k) (h1 : ∀ j k, x1 (ix2 j k) = b j k) (h2 : ∀ j k, x2 (ix2 j k) = d j k)
  (hg : ∀ i j, y2 (ix2 i j) = g i j) (hu : ∀ i j, y3 (ix2 i j) = u i j)

include h0 h1 in
theorem out03_at (i : Fin 1056) (j : Fin 512) : out0_3 x0 x1 x2 (ix2 i j) = ((dot (a i) (b j) : ℝ) : EReal) := by
  unfold out0_3
  frame_out
  open_payloads
  pointwise
  simp only [h0, h1, ← EReal.coe_mul, coe_sum]
  rfl
include h0 h2 in
theorem out04_at (i : Fin 1056) (j : Fin 512) : out0_4 x0 x1 x2 (ix2 i j) = ((dot (a i) (d j) : ℝ) : EReal) := by
  unfold out0_4
  frame_out
  open_payloads
  pointwise
  simp only [h0, h2, ← EReal.coe_mul, coe_sum]
  rfl
include h0 h1 h2 in
theorem out05_at (i : Fin 1056) (j : Fin 512) :
    out0_5 x0 x1 x2 (ix2 i j) = ((gact (dot (a i) (b j)) (dot (a i) (d j)) : ℝ) : EReal) := by
  unfold out0_5
  frame_out
  open_payloads
  pointwise
  simp only [h0, h1, h2, ← EReal.coe_mul, coe_sum, sg_eq]
  rfl

include h0 h1 hg in
theorem out15_at (i : Fin 1056) (j : Fin 512) :
    out1_5 x0 x1 y2 y3 (ix2 i j) = ((gdu (g i j) (dot (a i) (b j)) : ℝ) : EReal) := by
  unfold_out out1_5
  canon_tiles z e <;>
  · idx_vars z
    cases i; cases j
    dsimp only at e0 e1
    subst e0 e1
    open_payloads
    pointwise
    simp only [h0, h1, hg, ← EReal.coe_mul, coe_sum, sg_eq]
    rfl
include h0 h1 hg hu in
theorem out14_at (i : Fin 1056) (j : Fin 512) :
    out1_4 x0 x1 y2 y3 (ix2 i j) = ((gdg (g i j) (u i j) (dot (a i) (b j)) : ℝ) : EReal) := by
  unfold_out out1_4
  canon_tiles z e <;>
  · idx_vars z
    cases i; cases j
    dsimp only at e0 e1
    subst e0 e1
    open_payloads
    pointwise
    simp only [h0, h1, hg, hu, ← EReal.coe_mul, coe_sum, sg_eq]
    simp only [← EReal.coe_mul, ← EReal.coe_one, ← EReal.coe_add, ← EReal.coe_sub]
    rfl

end Blocks

section Reference

open Cert.GateBwdRefIdeal.Read

variable (x0 x4 : FVec Ideal Cert.GateBwdRefIdeal.S2112x2048 .f32) (x1 x2 : FVec Ideal Cert.GateBwdRefIdeal.S2048x5632 .f32)
  (x3 : FVec Ideal Cert.GateBwdRefIdeal.S5632x2048 .f32) (a e : Fin 2112 → Fin 2048 → ℝ) (b d : Fin 2048 → Fin 5632 → ℝ)
  (w : Fin 5632 → Fin 2048 → ℝ) (h0 : ∀ i k, x0 (ix2 i k) = a i k) (h1 : ∀ k j, x1 (ix2 k j) = b k j)
  (h2 : ∀ k j, x2 (ix2 k j) = d k j) (h3 : ∀ j k, x3 (ix2 j k) = w j k) (h4 : ∀ i k, x4 (ix2 i k) = e i k)

include h0 h1 h2 h3 h4

theorem ref_at (i : Fin 2112) (j : Fin 5632) :
    val_main_v11 (F := Ideal) x0 x1 x2 (ix2 i j) = ((gact (dot (a i) (b · j)) (dot (a i) (d · j)) : ℝ) : EReal)
    ∧ val_main_v12 (F := Ideal) x0 x1 x2 x3 x4 (ix2 i j)
      = ((gdg (dot (a i) (b · j)) (dot (a i) (d · j)) (dot (e i) (w j)) : ℝ) : EReal)
    ∧ val_main_v13 (F := Ideal) x0 x1 x3 x4 (ix2 i j) = ((gdu (dot (a i) (b · j)) (dot (e i) (w j)) : ℝ) : EReal) := by
  pointwise [val_main_v0, val_main_v1, val_main_call0_v0, val_main_call0_v1, val_main_call0_cst, val_main_call0_v2, val_main_call0_v3,
    val_main_call0_cst_0, val_main_call0_v4, val_main_call0_v5, val_main_v2, val_main_v3, val_main_call1_v0,
    val_main_call1_v1, val_main_call1_cst, val_main_call1_v2, val_main_call1_v3, val_main_call1_cst_0, val_main_call1_v4,
    val_main_v4_2, val_main_call1_cst_1, val_main_call1_v6, val_main_call1_v7, val_main_v4_1, val_main_v4_0, val_main_v5,
    val_main_v6, val_main_v7, val_main_v8, val_main_v9, val_main_call2_v0, val_main_call2_v1, val_main_call2_v2, val_main_v10,
    val_main_v11, val_main_v12, val_main_v13]
  simp only [h0, h1, h2, h3, h4, ← EReal.coe_mul, coe_sum]
  have hs : ∀ x : ℝ, Ideal.div 1 (1 + Ideal.exp (-(x : EReal))) = (sg x : EReal) := fun x => by rw [← zero_sub, sg_eq]
  simp only [hs, ← EReal.coe_mul]
  simp only [← EReal.coe_one, ← EReal.coe_mul, ← EReal.coe_add, ← EReal.coe_sub]
  refine ⟨rfl, congrArg _ ?_, congrArg _ ?_⟩
  · unfold gdg dot; ring
  · unfold gdu dot; ring

end Reference

/-! ## The blocks of the arrays -/

variable (m : (ℓ : Loc nD τ sig) → Buf (Elt Ideal) ℓ) (ρ : Dev nD → PrngReg) (c : Dev nD)

theorem idx0 : ∀ t : Fin cfg0.N, win0_0.index t = ![t.val / 11, 0] ∧ win0_1.index t = ![t.val % 11, 0]
    ∧ win0_2.index t = ![t.val % 11, 0] ∧ win0_3.index t = ![t.val / 11, t.val % 11]
    ∧ win0_4.index t = ![t.val / 11, t.val % 11] ∧ win0_5.index t = ![t.val / 11, t.val % 11] :=
  (by decide +kernel : ∀ t : Fin grid0.N, _)
theorem idx1 : ∀ t : Fin cfg1.N, win1_0.index t = ![t.val / 11, 0] ∧ win1_1.index t = ![t.val % 11, 0]
    ∧ win1_2.index t = ![t.val / 11, t.val % 11] ∧ win1_3.index t = ![t.val / 11, t.val % 11]
    ∧ win1_4.index t = ![t.val / 11, t.val % 11] ∧ win1_5.index t = ![t.val / 11, t.val % 11] :=
  (by decide +kernel : ∀ t : Fin grid1.N, _)
theorem lt_N0 (t : Fin cfg0.N) : t.val < 22 := lt_of_lt_of_eq t.isLt N_0
theorem lt_N1 (t : Fin cfg1.N) : t.val < 22 := lt_of_lt_of_eq t.isLt N_1

/-- The row and the column of the whole arrays at which a tile's entry stands. -/
def row (t : ℕ) (ht : t < 22) (i : Fin 1056) : Fin 2112 := ⟨t / 11 * 1056 + i.val, by omega⟩
def feat (t : ℕ) (ht : t < 22) (j : Fin 512) : Fin 5632 := ⟨t % 11 * 512 + j.val, by omega⟩

abbrev A : FVec Ideal S2112x2048 .f32 := m ((c : Thread nD τ).loc main_arg0)
abbrev B : FVec Ideal S2048x5632 .f32 := m ((c : Thread nD τ).loc main_arg1)
abbrev D : FVec Ideal S2048x5632 .f32 := m ((c : Thread nD τ).loc main_arg2)
abbrev W : FVec Ideal S5632x2048 .f32 := m ((c : Thread nD τ).loc main_arg3)
abbrev E : FVec Ideal S2112x2048 .f32 := m ((c : Thread nD τ).loc main_arg4)

theorem blk00 (t : Fin cfg0.N) (i : Fin 1056) (k : Fin 2048) :
    iblk0 (V1 m ρ) c 0 t (ix2 i k) = A m c (ix2 (row t.val (lt_N0 t) i) k) := by
  have hN := lt_N0 t
  have e : ((cfg0.win 0).blk t).view.emb (ix2 i k) = ix2 (row t.val (lt_N0 t) i) k := by unfold row; blk_ext [idx0 t]
  show V1 m ρ c main_v0 (((cfg0.win 0).blk t).view.emb (ix2 i k)) = _
  rw [e]
  simp only [V1, W1, hostOps0]
  after_results_simp
  pointwise
theorem blk01 (t : Fin cfg0.N) (j : Fin 512) (k : Fin 2048) :
    iblk0 (V1 m ρ) c 1 t (ix2 j k) = B m c (ix2 k (feat t.val (lt_N0 t) j)) := by
  have hN := lt_N0 t
  have e : ((cfg0.win 1).blk t).view.emb (ix2 j k) = ix2 (feat t.val (lt_N0 t) j) k := by unfold feat; blk_ext [idx0 t]
  show V1 m ρ c main_v4 (((cfg0.win 1).blk t).view.emb (ix2 j k)) = _
  rw [e]
  simp only [V1, W1, hostOps0]
  after_results_simp
  pointwise
theorem blk02 (t : Fin cfg0.N) (j : Fin 512) (k : Fin 2048) :
    iblk0 (V1 m ρ) c 2 t (ix2 j k) = D m c (ix2 k (feat t.val (lt_N0 t) j)) := by
  have hN := lt_N0 t
  have e : ((cfg0.win 2).blk t).view.emb (ix2 j k) = ix2 (feat t.val (lt_N0 t) j) k := by unfold feat; blk_ext [idx0 t]
  show V1 m ρ c main_v6 (((cfg0.win 2).blk t).view.emb (ix2 j k)) = _
  rw [e]
  simp only [V1, W1, hostOps0]
  after_results_simp
  pointwise

theorem emb0 (t : Fin cfg0.N) (i : Fin 1056) (j : Fin 512) :
    ((cfg0.win 3).blk t).view.emb (ix2 i j) = ix2 (row t.val (lt_N0 t) i) (feat t.val (lt_N0 t) j)
    ∧ ((cfg0.win 4).blk t).view.emb (ix2 i j) = ix2 (row t.val (lt_N0 t) i) (feat t.val (lt_N0 t) j)
    ∧ ((cfg0.win 5).blk t).view.emb (ix2 i j) = ix2 (row t.val (lt_N0 t) i) (feat t.val (lt_N0 t) j) := by
  have hN := lt_N0 t
  unfold row feat
  refine ⟨?_, ?_, ?_⟩ <;> blk_ext [idx0 t]
theorem emb1 (t : Fin cfg1.N) (i : Fin 1056) (j : Fin 512) :
    ((cfg1.win 2).blk t).view.emb (ix2 i j) = ix2 (row t.val (lt_N1 t) i) (feat t.val (lt_N1 t) j)
    ∧ ((cfg1.win 3).blk t).view.emb (ix2 i j) = ix2 (row t.val (lt_N1 t) i) (feat t.val (lt_N1 t) j)
    ∧ ((cfg1.win 4).blk t).view.emb (ix2 i j) = ix2 (row t.val (lt_N1 t) i) (feat t.val (lt_N1 t) j)
    ∧ ((cfg1.win 5).blk t).view.emb (ix2 i j) = ix2 (row t.val (lt_N1 t) i) (feat t.val (lt_N1 t) j) := by
  have hN := lt_N1 t
  unfold row feat
  refine ⟨?_, ?_, ?_, ?_⟩ <;> blk_ext [idx1 t]

theorem blk10 (t : Fin cfg1.N) (i : Fin 1056) (k : Fin 2048) :
    iblk1 (V2 m ρ) c 0 t (ix2 i k) = E m c (ix2 (row t.val (lt_N1 t) i) k) := by
  have hN := lt_N1 t
  have e : ((cfg1.win 0).blk t).view.emb (ix2 i k) = ix2 (row t.val (lt_N1 t) i) k := by unfold row; blk_ext [idx1 t]
  show W2 m ρ c (Proc.devRef .tc main_v1) (((cfg1.win 0).blk t).view.emb (ix2 i k)) = _
  rw [e, W2_of m ρ c main_v1 (by decide)]
  simp only [W1, hostOps0]
  after_results_simp
  pointwise
theorem blk11 (t : Fin cfg1.N) (j : Fin 512) (k : Fin 2048) :
    iblk1 (V2 m ρ) c 1 t (ix2 j k) = W m c (ix2 (feat t.val (lt_N1 t) j) k) := by
  have hN := lt_N1 t
  have e : ((cfg1.win 1).blk t).view.emb (ix2 j k) = ix2 (feat t.val (lt_N1 t) j) k := by unfold feat; blk_ext [idx1 t]
  show W2 m ρ c (Proc.devRef .tc main_v2) (((cfg1.win 1).blk t).view.emb (ix2 j k)) = _
  rw [e, W2_of m ρ c main_v2 (by decide)]
  simp only [W1, hostOps0]
  after_results_simp
  pointwise

/-! ## The result arrays -/

section Finals

variable (a e : Fin 2112 → Fin 2048 → ℝ) (b d : Fin 2048 → Fin 5632 → ℝ) (w : Fin 5632 → Fin 2048 → ℝ)
  (h0 : ∀ i k, A m c (ix2 i k) = a i k) (h1 : ∀ k j, B m c (ix2 k j) = b k j) (h2 : ∀ k j, D m c (ix2 k j) = d k j)
  (h3 : ∀ j k, W m c (ix2 j k) = w j k) (h4 : ∀ i k, E m c (ix2 i k) = e i k)

include h0 h1 h2 in
theorem final03 : (dat0 (V1 m ρ) c).arrAt 3 cfg0.N = fun y : S2112x5632.Idx => ((dot (a (y 0)) (b · (y 1)) : ℝ) : EReal) := by
  refine (dat0 (V1 m ρ) c).arrAt_eq_of_covers 3 _ (by decide +kernel) fun t _ y => ?_
  idx_vars y
  rw [(emb0 t y0 y1).1]
  blk_simp
  rw [after0_3]
  exact out03_at _ _ _ (fun i => a (row t.val (lt_N0 t) i)) (fun j k => b k (feat t.val (lt_N0 t) j))
    (fun i k => by rw [blk00, h0]) (fun j k => by rw [blk01, h1]) y0 y1
include h0 h1 h2 in
theorem final04 : (dat0 (V1 m ρ) c).arrAt 4 cfg0.N = fun y : S2112x5632.Idx => ((dot (a (y 0)) (d · (y 1)) : ℝ) : EReal) := by
  refine (dat0 (V1 m ρ) c).arrAt_eq_of_covers 4 _ (by decide +kernel) fun t _ y => ?_
  idx_vars y
  rw [(emb0 t y0 y1).2.1]
  blk_simp
  rw [after0_4]
  exact out04_at _ _ _ (fun i => a (row t.val (lt_N0 t) i)) (fun j k => d k (feat t.val (lt_N0 t) j))
    (fun i k => by rw [blk00, h0]) (fun j k => by rw [blk02, h2]) y0 y1
include h0 h1 h2 in
theorem final05 : (dat0 (V1 m ρ) c).arrAt 5 cfg0.N
    = fun y : S2112x5632.Idx => ((gact (dot (a (y 0)) (b · (y 1))) (dot (a (y 0)) (d · (y 1))) : ℝ) : EReal) := by
  refine (dat0 (V1 m ρ) c).arrAt_eq_of_covers 5 _ (by decide +kernel) fun t _ y => ?_
  idx_vars y
  rw [(emb0 t y0 y1).2.2]
  blk_simp
  rw [after0_5]
  exact out05_at _ _ _ (fun i => a (row t.val (lt_N0 t) i)) (fun j k => b k (feat t.val (lt_N0 t) j))
    (fun j k => d k (feat t.val (lt_N0 t) j))
    (fun i k => by rw [blk00, h0]) (fun j k => by rw [blk01, h1]) (fun j k => by rw [blk02, h2]) y0 y1

include h0 h1 h2 in
theorem blk12 (t : Fin cfg1.N) (i : Fin 1056) (j : Fin 512) : iblk1 (V2 m ρ) c 2 t (ix2 i j)
    = ((dot (a (row t.val (lt_N1 t) i)) (b · (feat t.val (lt_N1 t) j)) : ℝ) : EReal) := by
  show W2 m ρ c (Proc.devRef .tc (Pipeline.arrRef spec0 3)) (((cfg1.win 2).blk t).view.emb (ix2 i j)) = _
  rw [(emb1 t i j).1, W2_arr]
  exact congrFun (final03 m ρ c a b d h0 h1 h2) _
include h0 h1 h2 in
theorem blk13 (t : Fin cfg1.N) (i : Fin 1056) (j : Fin 512) : iblk1 (V2 m ρ) c 3 t (ix2 i j)
    = ((dot (a (row t.val (lt_N1 t) i)) (d · (feat t.val (lt_N1 t) j)) : ℝ) : EReal) := by
  show W2 m ρ c (Proc.devRef .tc (Pipeline.arrRef spec0 4)) (((cfg1.win 3).blk t).view.emb (ix2 i j)) = _
  rw [(emb1 t i j).2.1, W2_arr]
  exact congrFun (final04 m ρ c a b d h0 h1 h2) _

include h0 h1 h2 h3 h4

open Cert.GateBwdRefIdeal.Read

theorem act_eq : W3 m ρ c (Proc.devRef .tc main_v7_2) = val_main_v11 (F := Ideal) (A m c) (B m c) (D m c) := by
  rw [W3_of m ρ c main_v7_2 (by decide)]
  refine (W2_arr m ρ c 5).trans ((final05 m ρ c a b d h0 h1 h2).trans (funext fun y => ?_))
  idx_vars y
  exact (ref_at _ _ _ _ _ a e b d w h0 h1 h2 h3 h4 y0 y1).1.symm
theorem dg_eq : W3 m ρ c (Proc.devRef .tc main_v8_0) = val_main_v12 (F := Ideal) (A m c) (B m c) (D m c) (W m c) (E m c) := by
  refine (W3_arr m ρ c 4).trans ((dat1 (V2 m ρ) c).arrAt_eq_of_covers 4 _ (by decide +kernel) fun t _ y => ?_)
  idx_vars y
  rw [(emb1 t y0 y1).2.2.1, (ref_at _ _ _ _ _ a e b d w h0 h1 h2 h3 h4 _ _).2.1]
  blk_simp
  rw [after1_4]
  exact out14_at _ _ _ _ (fun i => e (row t.val (lt_N1 t) i)) (fun j => w (feat t.val (lt_N1 t) j)) _ _
    (fun i k => by rw [blk10, h4]) (fun j k => by rw [blk11, h3]) (fun i j => blk12 m ρ c a b d h0 h1 h2 t i j)
    (fun i j => blk13 m ρ c a b d h0 h1 h2 t i j) y0 y1
theorem du_eq : W3 m ρ c (Proc.devRef .tc main_v8_1) = val_main_v13 (F := Ideal) (A m c) (B m c) (W m c) (E m c) := by
  refine (W3_arr m ρ c 5).trans ((dat1 (V2 m ρ) c).arrAt_eq_of_covers 5 _ (by decide +kernel) fun t _ y => ?_)
  idx_vars y
  rw [(emb1 t y0 y1).2.2.2, (ref_at _ _ _ _ _ a e b d w h0 h1 h2 h3 h4 _ _).2.2]
  blk_simp
  rw [after1_5]
  exact out15_at _ _ _ _ (fun i => e (row t.val (lt_N1 t) i)) (fun j => w (feat t.val (lt_N1 t) j)) _
    (fun i k => by rw [blk10, h4]) (fun j k => by rw [blk11, h3]) (fun i j => blk12 m ρ c a b d h0 h1 h2 t i j) y0 y1

end Finals

/-! ## The run -/

set_option backward.isDefEq.respectTransparency.types false in
/-- The two calls' run, read at the three arrays and at the arguments: the launch is the frame's. -/
theorem run : θ_run defs (onTc (τ := τ) (main (F := Ideal))) ⟨m, fun _ => 0, ρ⟩ fun r => ∀ c : Dev nD,
      ∀ b ∈ Pipeline.ucRefs τ sig, r.2.mem ((c : Thread nD τ).1, b) = W3 m ρ c b :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

end Cert.GateBwdIdeal.Value

/-! ## The claims -/

namespace Cert.Proof.Gate

instance preFacts : Cert.Pre_finite_gate.Facts := ⟨by decide, by decide, by decide⟩

theorem frame_p : Cert.quiescent_GateBwd := fun m ρ _ => Cert.GateBwd.Gen.frame m ρ
theorem frame_pi : Cert.quiescent_GateBwdIdeal := fun m ρ _ => Cert.GateBwdIdeal.Gen.frame m ρ
theorem frame_pi_pre : Cert.quiescent_GateBwdIdeal_pre_finite_gate := fun m ρ _ => Cert.GateBwdIdeal.Gen.frame m ρ
theorem frame_ri : Cert.quiescent_GateBwdRefIdeal := fun m ρ _ =>
  (θ_run Cert.GateBwdRefIdeal.defs _ _).mono (fun r h => ⟨fun c => (h c).2.2.2,
      Idealize.ShloMosaic.sem_eq_zero_of_no_sems (by decide) r.2⟩)
    (Cert.GateBwdRefIdeal.Value.run (F := Ideal) m ρ)
theorem frame_ri_pre : Cert.quiescent_GateBwdRefIdeal_pre_finite_gate := fun m ρ _ => frame_ri m ρ trivial

open Cert.GateBwdIdeal Cert.GateBwdIdeal.Gen Cert.GateBwdIdeal.Value Cert.GateBwdRefIdeal.Read in
theorem algebraic : Cert.algebraic_GateBwdIdeal_GateBwdRefIdeal_pre_finite_gate := by
  intro m ρ m' ρ' hp hagree
  choose a ha using fun c => Cert.Reals.real_of_pre (hp c).1
  choose b hb using fun c => Cert.Reals.real_of_pre (hp c).2.1
  choose d hd using fun c => Cert.Reals.real_of_pre (hp c).2.2.1
  choose w hw using fun c => Cert.Reals.real_of_pre (hp c).2.2.2.1
  choose e he using fun c => Cert.Reals.real_of_pre (hp c).2.2.2.2
  refine ⟨_, _, _, (θ_run Cert.GateBwdIdeal.defs _ _).mono (fun r h c =>
    ⟨(h c _ (mem_uc main_v7_2 (by decide))), (h c _ (mem_uc main_v8_0 (by decide))), (h c _ (mem_uc main_v8_1 (by decide))),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩) (Cert.GateBwdIdeal.Value.run m ρ), ?_⟩
  refine (θ_run Cert.GateBwdRefIdeal.defs _ _).mono
    (fun _ h c => ⟨(h c).1.trans ?_, (h c).2.1.trans ?_, (h c).2.2.1.trans ?_, (h c).2.2.2⟩)
    (Cert.GateBwdRefIdeal.Value.run (F := Ideal) m' ρ')
  · rw [(hagree c).1, (hagree c).2.1, (hagree c).2.2.1, val_main_v11_eq]
    exact (act_eq m ρ c _ _ _ _ _ (fun i k => ha c (ix2 i k)) (fun i k => hb c (ix2 i k)) (fun i k => hd c (ix2 i k))
      (fun i k => hw c (ix2 i k)) (fun i k => he c (ix2 i k))).symm
  · rw [(hagree c).1, (hagree c).2.1, (hagree c).2.2.1, (hagree c).2.2.2.1, (hagree c).2.2.2.2, val_main_v12_eq]
    exact (dg_eq m ρ c _ _ _ _ _ (fun i k => ha c (ix2 i k)) (fun i k => hb c (ix2 i k)) (fun i k => hd c (ix2 i k))
      (fun i k => hw c (ix2 i k)) (fun i k => he c (ix2 i k))).symm
  · rw [(hagree c).1, (hagree c).2.1, (hagree c).2.2.2.1, (hagree c).2.2.2.2, val_main_v13_eq]
    exact (du_eq m ρ c _ _ _ _ _ (fun i k => ha c (ix2 i k)) (fun i k => hb c (ix2 i k)) (fun i k => hd c (ix2 i k))
      (fun i k => hw c (ix2 i k)) (fun i k => he c (ix2 i k))).symm

end Cert.Proof.Gate
-- ==== Proof.MlstmModel.lean ====
/- One chunk of the recurrence for one head, as the forward call computes it on vectors: from the chunk's rows of the
   projection, the gates' bias and the head's carried state to the head's output and the next state. -/
module

public import proofs.«01_k».proof.Proof.Gen.MlstmFwdIdeal
public import proofs.«01_k».proof.Proof.Gen.MlstmFwdIdeal.Frame
public import proofs.«01_k».proof.Proof.Reals
public import Idealize.ShloMosaic.Lib.Pipeline.ValueKit
public import Idealize.ShloMosaic.Lib.Claim

@[expose] public section

set_option maxRecDepth 16384

noncomputable section

open Idealize.ShloMosaic Idealize.ShloMosaic.TcCoe

namespace Cert.MlstmFwdIdeal.Model

open Cert.MlstmFwdIdeal Cert.MlstmFwdIdeal.Gen

/-- A head's carried state: the matrix, the vector, and the logarithm both are scaled by. -/
structure St where
  C : FVec Ideal S128x256 .f32
  N : FVec Ideal S1x128 .f32
  M : FVec Ideal S1x1 .f32

/-! ## The gates of the chunk's 64 rows -/

/-- The rows that hold a token: those from row 48 on. -/
def real (r0 : BitVec 32) : IVec S64x128 1 :=
  cmpi .sge (addi (iota .tc S64x128 32 [0] iota_S64x128_d0_w32) (broadcast S64x128 r0)) (broadcast S64x128 48#32)

/-- The capped gate logits. -/
def gateZ (b : FVec Ideal S1x128 .f32) (x : FVec Ideal S64x3200 .f32) : FVec Ideal S64x128 .f32 :=
  mulf (broadcast S64x128 (Scalar.ofBits .f32 0x41700000#32))
    (tanh (divf (addf (extractStridedSlice S64x128 ![0, 3072] x slices_S64x3200_o0_3072_S64x128)
      (broadcastTo S64x128 b broadcasts_S1x128_S64x128)) (broadcast S64x128 (Scalar.ofBits .f32 0x41700000#32))))

/-- The logarithms of the input gates. -/
def gateI (r0 : BitVec 32) (b : FVec Ideal S1x128 .f32) (x : FVec Ideal S64x3200 .f32) : FVec Ideal S64x128 .f32 :=
  select (real r0) (gateZ b x) (broadcast S64x128 (Scalar.ofBits .f32 0xFF800000#32))

/-- The logarithms of the forget gates. -/
def gateF (r0 : BitVec 32) (b : FVec Ideal S1x128 .f32) (x : FVec Ideal S64x3200 .f32) : FVec Ideal S64x128 .f32 :=
  select (real r0)
    (subf (minimumf (gateZ b x) (broadcast S64x128 (Scalar.ofBits .f32 0x00000000#32)))
      (log (addf (broadcast S64x128 (Scalar.ofBits .f32 0x3F800000#32))
        (exp (subf (broadcast S64x128 (Scalar.ofBits .f32 0x00000000#32)) (absf (gateZ b x)))))))
    (broadcast S64x128 (Scalar.ofBits .f32 0x00000000#32))

/-! ## A head's columns -/

theorem slice_q (h : Fin 4) : S64x3200.Slices ![0, 128 * h.val] S64x128 := by revert h; decide
theorem slice_k (h : Fin 4) : S64x3200.Slices ![0, 512 + 128 * h.val] S64x128 := by revert h; decide
theorem slice_v (h : Fin 4) : S64x3200.Slices ![0, 1024 + 256 * h.val] S64x256 := by revert h; decide
theorem slice_o (h : Fin 4) : S64x3200.Slices ![0, 2048 + 256 * h.val] S64x256 := by revert h; decide
theorem slice_i (h : Fin 4) : S64x128.Slices ![0, h.val] S64x1 := by revert h; decide
theorem slice_f (h : Fin 4) : S64x128.Slices ![0, 4 + h.val] S64x1 := by revert h; decide
theorem slice_w (h : Fin 4) : S1x1024.Slices ![0, 256 * h.val] S1x256 := by revert h; decide

section Head

variable (h : Fin 4) (x : FVec Ideal S64x3200 .f32)

def hq : FVec Ideal S64x128 .bf16 :=
  truncf .bf16 (mulf (extractStridedSlice S64x128 ![0, 128 * h.val] x (slice_q h))
    (broadcast S64x128 (Scalar.ofBits .f32 0x3DB504F3#32))) bitsLt_bf16_f32
def hkr : FVec Ideal S64x128 .f32 := extractStridedSlice S64x128 ![0, 512 + 128 * h.val] x (slice_k h)
def hk : FVec Ideal S64x128 .bf16 := truncf .bf16 (hkr h x) bitsLt_bf16_f32
def hv : FVec Ideal S64x256 .bf16 :=
  truncf .bf16 (extractStridedSlice S64x256 ![0, 1024 + 256 * h.val] x (slice_v h)) bitsLt_bf16_f32
def ho : FVec Ideal S64x256 .f32 := extractStridedSlice S64x256 ![0, 2048 + 256 * h.val] x (slice_o h)
def hi (g : FVec Ideal S64x128 .f32) : FVec Ideal S64x1 .f32 := extractStridedSlice S64x1 ![0, h.val] g (slice_i h)
def hf (g : FVec Ideal S64x128 .f32) : FVec Ideal S64x1 .f32 := extractStridedSlice S64x1 ![0, 4 + h.val] g (slice_f h)
def hw (w : FVec Ideal S1x1024 .f32) : FVec Ideal S1x256 .f32 := extractStridedSlice S1x256 ![0, 256 * h.val] w (slice_w h)

end Head

/-! ## The chunk's weights -/

def tril : IVec S64x64 1 := cmpi .sle (iota .tc S64x64 32 [1] iota_S64x64_d1_w32) (iota .tc S64x64 32 [0] iota_S64x64_d0_w32)
def eye : IVec S64x64 1 := cmpi .eq (iota .tc S64x64 32 [1] iota_S64x64_d1_w32) (iota .tc S64x64 32 [0] iota_S64x64_d0_w32)

/-- A column as a row: the column's copies, all but the diagonal left out, added up. -/
def rowOf (c : FVec Ideal S64x1 .f32) : FVec Ideal S1x64 .f32 :=
  shapeCast S1x64 (multiReduction .add [0] S64
    (select eye (broadcastTo S64x64 (shapeCast S64x1 c shapeCasts_S64x1_S64x1) broadcasts_S64x1_S64x64)
      (broadcast S64x64 (Scalar.ofBits .f32 0x00000000#32))) 0x00000000#32 reduces_S64x64_S64 (.inl rfl) rfl) shapeCasts_S64_S1x64

/-- The forget gates' running sums. -/
def cum (lf : FVec Ideal S64x1 .f32) : FVec Ideal S64x1 .f32 :=
  shapeCast S64x1 (multiReduction .add [1] S64
    (select tril (broadcastTo S64x64 (shapeCast S1x64 (rowOf lf) shapeCasts_S1x64_S1x64) broadcasts_S1x64_S64x64)
      (broadcast S64x64 (Scalar.ofBits .f32 0x00000000#32))) 0x00000000#32 reduces_S64x64_S64_2 (.inl rfl) rfl) shapeCasts_S64_S64x1

section Chunk

variable (b li : FVec Ideal S64x1 .f32) (M : FVec Ideal S1x1 .f32)

def dmat : FVec Ideal S64x64 .f32 :=
  select tril (addf (subf (broadcastTo S64x64 b broadcasts_S64x1_S64x64) (broadcastTo S64x64 (rowOf b) broadcasts_S1x64_S64x64))
    (broadcastTo S64x64 (rowOf li) broadcasts_S1x64_S64x64)) (broadcast S64x64 (Scalar.ofBits .f32 0xFF800000#32))
def inter : FVec Ideal S64x1 .f32 := addf b (broadcastTo S64x1 M broadcasts_S1x1_S64x1)
def mt : FVec Ideal S64x1 .f32 :=
  maximumf (inter b M) (shapeCast S64x1
    (multiReduction .maximumf [1] S64 (dmat b li) 0xFF800000#32 reduces_S64x64_S64_2 (.inl rfl) rfl) shapeCasts_S64_S64x1)
def wInter : FVec Ideal S64x1 .f32 := exp (subf (inter b M) (mt b li M))
def pmat : FVec Ideal S64x64 .f32 := exp (subf (dmat b li) (broadcastTo S64x64 (mt b li M) broadcasts_S64x1_S64x64))
def bEnd : FVec Ideal S1x1 .f32 := extractStridedSlice S1x1 ![63, 0] b slices_S64x1_o63_0_S1x1
def decay : FVec Ideal S64x1 .f32 := addf (subf (broadcastTo S64x1 (bEnd b) broadcasts_S1x1_S64x1) b) li
def mNew : FVec Ideal S1x1 .f32 :=
  maximumf (addf (bEnd b) M) (shapeCast S1x1
    (multiReduction .maximumf [0] S1 (decay b li) 0xFF800000#32 reduces_S64x1_S1 (.inl rfl) rfl) shapeCasts_S1_S1x1)
def wOld : FVec Ideal S1x1 .f32 := exp (subf (addf (bEnd b) M) (mNew b li M))
def wIn : FVec Ideal S64x1 .f32 := exp (subf (decay b li) (broadcastTo S64x1 (mNew b li M) broadcasts_S1x1_S64x1))

end Chunk

/-! ## The chunk's output and its end state -/

section Step

variable (q k : FVec Ideal S64x128 .bf16) (kr : FVec Ideal S64x128 .f32) (v : FVec Ideal S64x256 .bf16)
  (b li : FVec Ideal S64x1 .f32) (s : St)

def smat : FVec Ideal S64x64 .f32 :=
  mulf (matmul dot_S64x128_S64x128_S64x64_1_1_0_0_n_n none q k (constant S64x64 .f32 0x00000000#32)) (pmat b li s.M)
def den : FVec Ideal S64x1 .f32 :=
  maximumf
    (absf (addf
      (mulf (wInter b li s.M) (shapeCast S64x1 (multiReduction .add [1] S64
        (mulf (extf .f32 q bitsLt_bf16_f32)
          (broadcastTo S64x128 (extf .f32 (truncf .bf16 s.N bitsLt_bf16_f32) bitsLt_bf16_f32) broadcasts_S1x128_S64x128))
        0x00000000#32 reduces_S64x128_S64 (.inl rfl) rfl) shapeCasts_S64_S64x1))
      (shapeCast S64x1 (multiReduction .add [1] S64 (smat q k b li s) 0x00000000#32 reduces_S64x64_S64_2 (.inl rfl) rfl)
        shapeCasts_S64_S64x1)))
    (exp (subf (broadcast S64x1 (Scalar.ofBits .f32 0x00000000#32)) (mt b li s.M)))
def out : FVec Ideal S64x256 .f32 :=
  divf
    (addf
      (mulf (broadcastTo S64x256 (wInter b li s.M) broadcasts_S64x1_S64x256)
        (matmul dot_S64x128_S128x256_S64x256_1_0_0_1_n_n none q (truncf .bf16 s.C bitsLt_bf16_f32) (constant S64x256 .f32 0x00000000#32)))
      (matmul dot_S64x64_S64x256_S64x256_1_0_0_1_n_n none (truncf .bf16 (smat q k b li s) bitsLt_bf16_f32) v
        (constant S64x256 .f32 0x00000000#32)))
    (broadcastTo S64x256 (den q k b li s) broadcasts_S64x1_S64x256)
def next : St where
  C := addf (mulf (broadcastTo S128x256 (wOld b li s.M) broadcasts_S1x1_S128x256) s.C)
    (matmul dot_S64x128_S64x256_S128x256_0_0_1_1_n_n none
      (truncf .bf16 (mulf (broadcastTo S64x128 (wIn b li s.M) broadcasts_S64x1_S64x128) kr) bitsLt_bf16_f32) v
      (constant S128x256 .f32 0x00000000#32))
  N := addf (mulf (broadcastTo S1x128 (wOld b li s.M) broadcasts_S1x1_S1x128) s.N)
    (shapeCast S1x128 (multiReduction .add [0] S128
      (mulf (broadcastTo S64x128 (extf .f32 (truncf .bf16 (wIn b li s.M) bitsLt_bf16_f32) bitsLt_bf16_f32) broadcasts_S64x1_S64x128)
        (extf .f32 k bitsLt_bf16_f32)) 0x00000000#32 reduces_S64x128_S128 (.inl rfl) rfl) shapeCasts_S128_S1x128)
  M := mNew b li s.M

end Step

/-- The output under the norm, its weight and the output gate. -/
def gated (og o : FVec Ideal S64x256 .f32) (w : FVec Ideal S1x256 .f32) : FVec Ideal S64x256 .bf16 :=
  truncf .bf16 (mulf
    (divf (broadcast S64x256 (Scalar.ofBits .f32 0x3F800000#32))
      (addf (broadcast S64x256 (Scalar.ofBits .f32 0x3F800000#32))
        (exp (subf (broadcast S64x256 (Scalar.ofBits .f32 0x00000000#32)) og))))
    (mulf (mulf o (broadcastTo S64x256
      (rsqrt (addf (divf (shapeCast S64x1 (multiReduction .add [1] S64 (mulf o o) 0x00000000#32 reduces_S64x256_S64 (.inl rfl) rfl)
        shapeCasts_S64_S64x1) (broadcast S64x1 (Scalar.ofBits .f32 0x43800000#32))) (broadcast S64x1 (Scalar.ofBits .f32 0x358637BD#32))))
        broadcasts_S64x1_S64x256))
      (broadcastTo S64x256 w broadcasts_S1x256_S64x256))) bitsLt_bf16_f32

/-! ## A chunk of a head, from the projection's rows -/

section Rows

variable (h : Fin 4) (r0 : BitVec 32) (bias : FVec Ideal S1x128 .f32) (w : FVec Ideal S1x1024 .f32)
  (x : FVec Ideal S64x3200 .f32) (s : St)

def outOf : FVec Ideal S64x256 .f32 :=
  out (hq h x) (hk h x) (hv h x) (cum (hf h (gateF r0 bias x))) (hi h (gateI r0 bias x)) s
def nextOf : St :=
  next (hk h x) (hkr h x) (hv h x) (cum (hf h (gateF r0 bias x))) (hi h (gateI r0 bias x)) s
def gatedOf : FVec Ideal S64x256 .bf16 := gated (ho h x) (outOf h r0 bias x s) (hw h w)

end Rows

end Cert.MlstmFwdIdeal.Model
-- ==== Proof.MlstmSpec.lean ====
/- One chunk of the recurrence for one head, entry by entry over the extended reals. -/
module

public import proofs.«01_k».proof.Proof.Reals

@[expose] public section

noncomputable section

open Idealize.ShloMosaic

namespace Cert.Mlstm

/-- A head's carried state: the matrix, the vector, and the logarithm both are scaled by. -/
structure State where
  C : Fin 128 → Fin 256 → EReal
  N : Fin 128 → EReal
  M : EReal

/-- What a chunk brings: queries, keys, values, and the logarithms of its input and forget gates. -/
structure Chunk where
  q : Fin 64 → Fin 128 → EReal
  k : Fin 64 → Fin 128 → EReal
  v : Fin 64 → Fin 256 → EReal
  li : Fin 64 → EReal
  lf : Fin 64 → EReal

section Weights

variable (b li : Fin 64 → EReal) (M : EReal)

/-- The largest of some numbers. -/
def top (f : Fin 64 → EReal) : EReal := Finset.univ.fold max ⊥ f

def dmat (t s : Fin 64) : EReal := if s ≤ t then b t - b s + li s else ⊥
def inter (t : Fin 64) : EReal := b t + M
def mt (t : Fin 64) : EReal := max (inter b M t) (top (dmat b li t))
def wInter (t : Fin 64) : EReal := Ideal.exp (inter b M t - mt b li M t)
def pmat (t s : Fin 64) : EReal := Ideal.exp (dmat b li t s - mt b li M t)
def decay (s : Fin 64) : EReal := b 63 - b s + li s
def mNew : EReal := max (b 63 + M) (top (decay b li))
def wOld : EReal := Ideal.exp (b 63 + M - mNew b li M)
def wIn (s : Fin 64) : EReal := Ideal.exp (decay b li s - mNew b li M)

end Weights

/-- The forget gates' running sums. -/
def cum (lf : Fin 64 → EReal) (t : Fin 64) : EReal := ∑ s, if s ≤ t then lf s else 0

section Step

variable (x : Chunk) (b : Fin 64 → EReal) (st : State)

def smat (t s : Fin 64) : EReal := (∑ d, x.q t d * x.k s d) * pmat b x.li st.M t s
def den (t : Fin 64) : EReal :=
  max (max (wInter b x.li st.M t * (∑ d, x.q t d * st.N d) + ∑ s, smat x b st t s)
      (-(wInter b x.li st.M t * (∑ d, x.q t d * st.N d) + ∑ s, smat x b st t s)))
    (Ideal.exp (-mt b x.li st.M t))
def outB (t : Fin 64) (e : Fin 256) : EReal :=
  Ideal.div (wInter b x.li st.M t * (∑ d, x.q t d * st.C d e) + ∑ s, smat x b st t s * x.v s e) (den x b st t)
def nextB : State where
  C d e := wOld b x.li st.M * st.C d e + ∑ s, wIn b x.li st.M s * x.k s d * x.v s e
  N d := wOld b x.li st.M * st.N d + ∑ s, wIn b x.li st.M s * x.k s d
  M := mNew b x.li st.M

/-- The chunk's output, and the state behind it. -/
def out : Fin 64 → Fin 256 → EReal := outB x (cum x.lf) st
def next : State := nextB x (cum x.lf) st

end Step

/-- A row of the output under its norm, the norm's weight and the output gate. -/
def gated (og w : EReal) (o : Fin 256 → EReal) (e : Fin 256) : EReal :=
  Ideal.div 1 (1 + Ideal.exp (-og))
    * (o e * Ideal.rsqrt (Ideal.div (∑ i, o i * o i) (Ideal.ofBits .f32 0x43800000#32) + Ideal.ofBits .f32 0x358637BD#32) * w)

/-- A gate's logit under its cap. -/
def cap (x : EReal) : EReal :=
  Ideal.ofBits .f32 0x41700000#32 * Ideal.tanh (Ideal.div x (Ideal.ofBits .f32 0x41700000#32))

def logSigmoid (z : EReal) : EReal := min z 0 - Ideal.log (1 + Ideal.exp (-max z (-z)))

/-- Row `i` behind 48 rows of `z` each. -/
def padded (f : Fin 2064 → EReal) (z : EReal) (i : ℕ) : EReal :=
  if hi : 48 ≤ i ∧ i - 48 < 2064 then f ⟨i - 48, hi.2⟩ else z

theorem padded_token (f : Fin 2064 → EReal) (z : EReal) (i : ℕ) (hp : 48 ≤ i) (hi : i - 48 < 2064) :
    padded f z i = f ⟨i - 48, hi⟩ := dif_pos ⟨hp, hi⟩
theorem padded_ahead (f : Fin 2064 → EReal) (z : EReal) (i : ℕ) (hp : ¬48 ≤ i) : padded f z i = z := dif_neg fun h => hp h.1

/-- What chunk `n` brings to head `h`, of the projection `P` and the gates' bias `B`. -/
def chunkAt (P : Fin 2064 → Fin 3200 → EReal) (B : Fin 8 → EReal) (h : Fin 4) (n : ℕ) : Chunk where
  q t d := padded (fun r => P r ⟨h.val * 128 + d.val, by omega⟩ * Ideal.ofBits .f32 0x3DB504F3#32) 0 (n * 64 + t.val)
  k t d := padded (fun r => P r ⟨512 + (h.val * 128 + d.val), by omega⟩) 0 (n * 64 + t.val)
  v t e := padded (fun r => P r ⟨1024 + (h.val * 256 + e.val), by omega⟩) 0 (n * 64 + t.val)
  li t := padded (fun r => cap (P r ⟨3072 + h.val, by omega⟩ + B ⟨h.val, by omega⟩)) ⊥ (n * 64 + t.val)
  lf t := padded (fun r => logSigmoid (cap (P r ⟨3072 + (4 + h.val), by omega⟩ + B ⟨4 + h.val, by omega⟩))) 0 (n * 64 + t.val)

/-- The state ahead of chunk `n`. -/
def stateAt (x : ℕ → Chunk) : ℕ → State
  | 0 => ⟨fun _ _ => 0, fun _ => 0, 0⟩
  | n + 1 => next (x n) (stateAt x n)

/-- Row `t` of chunk `n` of head `h`'s output `o`, normed and gated: zero ahead of the first token. -/
def gatedAt (P : Fin 2064 → Fin 3200 → EReal) (W : Fin 1024 → EReal) (h : Fin 4) (n : ℕ) (t : Fin 64) (o : Fin 256 → EReal)
    (e : Fin 256) : EReal :=
  padded (fun r => gated (P r ⟨2048 + (h.val * 256 + e.val), by omega⟩) (W ⟨h.val * 256 + e.val, by omega⟩) o e) 0 (n * 64 + t.val)

end Cert.Mlstm
-- ==== Proof.MlstmEntries.lean ====
/- The vectors of the forward call, entry by entry. -/
module

public import proofs.«01_k».proof.Proof.MlstmModel
public import proofs.«01_k».proof.Proof.MlstmSpec
public import proofs.«01_k».proof.Proof.Select

@[expose] public section

set_option maxRecDepth 16384

noncomputable section

open Idealize.ShloMosaic Idealize.ShloMosaic.TcCoe Idealize.ShloMosaic.Tactic

namespace Cert.MlstmFwdIdeal.Model

open Cert.MlstmFwdIdeal Cert.MlstmFwdIdeal.Gen Cert.Reals

theorem neg_inf : Ideal.ofBits .f32 4286578688#32 = ⊥ := by simp [Ideal.ofBits, Ideal.ieee]

theorem rowOf_at (c : FVec Ideal S64x1 .f32) (s : Fin 64) : rowOf c (ix2 0 s) = c (ix2 s 0) := by
  pointwise [rowOf, eye]
  simp (disch := omega) only [select_eq]
  rw [Finset.sum_eq_single s (fun x _ hx => if_neg fun h => hx (Fin.ext h.symm)) (fun h => absurd (Finset.mem_univ _) h), if_pos rfl]

theorem cum_at (c : FVec Ideal S64x1 .f32) (t : Fin 64) : cum c (ix2 t 0) = Mlstm.cum (fun s => c (ix2 s 0)) t := by
  pointwise [cum, tril]
  simp (disch := omega) only [select_sle, rowOf_at]
  rfl

section Chunk

variable (b li : FVec Ideal S64x1 .f32) (M : FVec Ideal S1x1 .f32) (t s : Fin 64)

theorem dmat_at : dmat b li (ix2 t s) = Mlstm.dmat (fun s => b (ix2 s 0)) (fun s => li (ix2 s 0)) t s := by
  pointwise [dmat, tril]
  simp (disch := omega) only [select_sle, rowOf_at, neg_inf]
  rfl
theorem mt_at : mt b li M (ix2 t 0) = Mlstm.mt (fun s => b (ix2 s 0)) (fun s => li (ix2 s 0)) (M (ix2 0 0)) t := by
  pointwise [mt, inter]
  simp only [dmat_at, neg_inf]
  rfl
theorem mNew_at : mNew b li M (ix2 0 0) = Mlstm.mNew (fun s => b (ix2 s 0)) (fun s => li (ix2 s 0)) (M (ix2 0 0)) := by
  pointwise [mNew, decay, bEnd]
  simp only [neg_inf]
  rfl
theorem wInter_at : wInter b li M (ix2 t 0) = Mlstm.wInter (fun s => b (ix2 s 0)) (fun s => li (ix2 s 0)) (M (ix2 0 0)) t := by
  pointwise [wInter, inter]
  simp only [mt_at]
  rfl
theorem pmat_at : pmat b li M (ix2 t s) = Mlstm.pmat (fun s => b (ix2 s 0)) (fun s => li (ix2 s 0)) (M (ix2 0 0)) t s := by
  pointwise [pmat]
  simp only [mt_at, dmat_at]
  rfl
theorem wOld_at : wOld b li M (ix2 0 0) = Mlstm.wOld (fun s => b (ix2 s 0)) (fun s => li (ix2 s 0)) (M (ix2 0 0)) := by
  pointwise [wOld, bEnd]
  simp only [mNew_at]
  rfl
theorem wIn_at : wIn b li M (ix2 s 0) = Mlstm.wIn (fun s => b (ix2 s 0)) (fun s => li (ix2 s 0)) (M (ix2 0 0)) s := by
  pointwise [wIn, decay, bEnd]
  simp only [mNew_at]
  rfl

end Chunk

/-- A state's entries. -/
def entries (s : St) : Mlstm.State where
  C d e := s.C (ix2 d e)
  N d := s.N (ix2 0 d)
  M := s.M (ix2 0 0)

/-- A chunk's entries, its forget gates left out. -/
def chunkOf (q k : FVec Ideal S64x128 .bf16) (v : FVec Ideal S64x256 .bf16) (li lf : FVec Ideal S64x1 .f32) : Mlstm.Chunk where
  q t d := q (ix2 t d)
  k t d := k (ix2 t d)
  v t e := v (ix2 t e)
  li t := li (ix2 t 0)
  lf t := lf (ix2 t 0)

section Step

variable (q k : FVec Ideal S64x128 .bf16) (kr : FVec Ideal S64x128 .f32) (v : FVec Ideal S64x256 .bf16)
  (b li lf : FVec Ideal S64x1 .f32) (s : St)

theorem smat_at (t u : Fin 64) : smat q k b li s (ix2 t u)
    = Mlstm.smat (chunkOf q k v li lf) (fun s => b (ix2 s 0)) (entries s) t u := by
  pointwise [smat]
  simp only [pmat_at]
  rfl
theorem den_at (t : Fin 64) : den q k b li s (ix2 t 0)
    = Mlstm.den (chunkOf q k v li lf) (fun s => b (ix2 s 0)) (entries s) t := by
  pointwise [den]
  simp only [wInter_at, mt_at, smat_at q k v b li lf s, zero_sub]
  rfl
theorem out_at (t : Fin 64) (e : Fin 256) : out q k v b li s (ix2 t e)
    = Mlstm.outB (chunkOf q k v li lf) (fun s => b (ix2 s 0)) (entries s) t e := by
  pointwise [out]
  simp only [wInter_at, smat_at q k v b li lf s, den_at q k v b li lf s]
  rfl
theorem next_at (hk : ∀ t d, kr (ix2 t d) = k (ix2 t d)) : entries (next k kr v b li s)
    = Mlstm.nextB (chunkOf q k v li lf) (fun s => b (ix2 s 0)) (entries s) := by
  unfold entries Mlstm.nextB
  congr 1
  · funext d e
    pointwise [next]
    simp only [wIn_at, wOld_at, hk]
    rfl
  · funext d
    pointwise [next]
    simp only [wIn_at, wOld_at]
    rfl
  · pointwise [next]
    simp only [mNew_at]
    rfl

end Step

section Rows

variable (h : Fin 4) (r0 : BitVec 32) (bias : FVec Ideal S1x128 .f32) (w : FVec Ideal S1x1024 .f32)
  (x : FVec Ideal S64x3200 .f32) (s : St)

/-- What the rows `x` bring to head `h`. -/
def chunkOfRows : Mlstm.Chunk :=
  chunkOf (hq h x) (hk h x) (hv h x) (hi h (gateI r0 bias x)) (hf h (gateF r0 bias x))

theorem cum_eq (lf : FVec Ideal S64x1 .f32) : (fun s => cum lf (ix2 s 0)) = Mlstm.cum (fun s => lf (ix2 s 0)) :=
  funext fun s => cum_at lf s

theorem outOf_at (t : Fin 64) (e : Fin 256) :
    outOf h r0 bias x s (ix2 t e) = Mlstm.out (chunkOfRows h r0 bias x) (entries s) t e := by
  unfold outOf
  rw [out_at _ _ _ _ _ (hf h (gateF r0 bias x)), cum_eq]
  rfl
theorem nextOf_at : entries (nextOf h r0 bias x s) = Mlstm.next (chunkOfRows h r0 bias x) (entries s) := by
  unfold nextOf
  have hkr : ∀ t d, hkr h x (ix2 t d) = hk h x (ix2 t d) := fun _ _ => rfl
  rw [next_at (hq h x) (hk h x) _ _ _ _ (hf h (gateF r0 bias x)) _ hkr, cum_eq]
  rfl
theorem gatedOf_at (t : Fin 64) (e : Fin 256) :
    gatedOf h r0 bias w x s (ix2 t e)
      = Mlstm.gated (ho h x (ix2 t e)) (hw h w (ix2 0 e)) (Mlstm.out (chunkOfRows h r0 bias x) (entries s) t) e := by
  pointwise [gatedOf, gated]
  simp only [outOf_at, zero_sub]
  rfl

end Rows

end Cert.MlstmFwdIdeal.Model
-- ==== Proof.MlstmPieces.lean ====
module

public import proofs.«01_k».proof.Proof.MlstmModel

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

namespace Cert.MlstmFwdIdeal.Value

open Cert.MlstmFwdIdeal Cert.MlstmFwdIdeal.Gen Cert.Reals Model

theorem inb_rows (g : Fin 3) : ∀ a, (![64 * g.val, 0] : Fin 2 → ℕ) a + S64x3200.size a ≤ S192x3200.size a := by
  revert g; decide
theorem inb_C (h : Fin 4) : ∀ a, (![h.val, 0, 0] : Fin 3 → ℕ) a + S1x128x256.size a ≤ S4x128x256.size a := by
  revert h; decide
theorem inb_N (h : Fin 4) : ∀ a, (![h.val, 0, 0] : Fin 3 → ℕ) a + S1x1x128.size a ≤ S4x1x128.size a := by
  revert h; decide
theorem inb_M (h : Fin 4) : ∀ a, (![h.val, 0, 0] : Fin 3 → ℕ) a + S1x1x1.size a ≤ S4x1x1.size a := by
  revert h; decide

variable (m : (ℓ : Loc nD τ sig) → Buf (Elt Ideal) ℓ) (c : Dev nD)

def rowsAt (t : Fin cfg0.N) (g : Fin 3) : FVec Ideal S64x3200 .f32 :=
  shapeCast S64x3200 (View.readAt (Elt Ideal) (ms0_0 t).view
    (Rect.unit (s := S192x3200) ![64 * g.val, 0] S64x3200.size (inb_rows g)).toLoadRect ((hs0_0 t).unread (iblk m c 0 t)) : Vec Ideal S64x3200 .f32) shapeCasts_S64x3200_S64x3200
def biasAt (t : Fin cfg0.N) : FVec Ideal S1x128 .f32 :=
  shapeCast S1x128 (View.readAt (Elt Ideal) (ms0_1 t).view
    (Rect.unit ![0, 0] S1x128.size inb_S1x128_S1x128_0_0).toLoadRect ((hs0_1 t).unread (iblk m c 1 t)) : Vec Ideal S1x128 .f32) shapeCasts_S1x128_S1x128
def normAt (t : Fin cfg0.N) : FVec Ideal S1x1024 .f32 :=
  shapeCast S1x1024 (View.readAt (Elt Ideal) (ms0_2 t).view
    (Rect.unit ![0, 0] S1x1024.size inb_S1x1024_S1x1024_0_0).toLoadRect ((hs0_2 t).unread (iblk m c 2 t)) : Vec Ideal S1x1024 .f32) shapeCasts_S1x1024_S1x1024
def row0 (t : Fin cfg0.N) (g : Fin 3) : BitVec 32 :=
  Scalar.muli (Scalar.addi (Scalar.muli (BitVec.ofNat 32 ((grid0.coords t) 0).val) 3#32) (BitVec.ofNat 32 g.val)) 64#32

def stB0 (t : Fin cfg0.N) (h : Fin 4) : St where
  C := shapeCast S128x256 (View.readAt (Elt Ideal) scM0_0.view (Rect.unit (s := S4x128x256) ![h.val, 0, 0] S1x128x256.size (inb_C h)).toLoadRect
    ((Memref.isWhole_whole _).unread (outsAt0 m c (t.val - 1) (Nat.lt_of_le_of_lt (Nat.sub_le _ _) t.isLt)).2.2.2.2.2.1)
    : Vec Ideal S1x128x256 .f32) shapeCasts_S1x128x256_S128x256
  N := shapeCast S1x128 (View.readAt (Elt Ideal) scM0_1.view (Rect.unit (s := S4x1x128) ![h.val, 0, 0] S1x1x128.size (inb_N h)).toLoadRect
    ((Memref.isWhole_whole _).unread (outsAt0 m c (t.val - 1) (Nat.lt_of_le_of_lt (Nat.sub_le _ _) t.isLt)).2.2.2.2.2.2.1)
    : Vec Ideal S1x1x128 .f32) shapeCasts_S1x1x128_S1x128
  M := shapeCast S1x1 (View.readAt (Elt Ideal) scM0_2.view (Rect.unit (s := S4x1x1) ![h.val, 0, 0] S1x1x1.size (inb_M h)).toLoadRect
    ((Memref.isWhole_whole _).unread (outsAt0 m c (t.val - 1) (Nat.lt_of_le_of_lt (Nat.sub_le _ _) t.isLt)).2.2.2.2.2.2.2)
    : Vec Ideal S1x1x1 .f32) shapeCasts_S1x1x1_S1x1

/-! The zero state as the first point reads it back, head by head, from the scratch it has just filled. -/

def stA0_0 : St where
  C := shapeCast S128x256 (kernelRun0_A.sl.v11 c scM0_0 : Vec Ideal S1x128x256 .f32) shapeCasts_S1x128x256_S128x256
  N := shapeCast S1x128 (kernelRun0_A.sl.v13 c scM0_1 : Vec Ideal S1x1x128 .f32) shapeCasts_S1x1x128_S1x128
  M := shapeCast S1x1 (kernelRun0_A.sl.v15 c scM0_2 : Vec Ideal S1x1x1 .f32) shapeCasts_S1x1x1_S1x1
def stA0_1 : St where
  C := shapeCast S128x256 (kernelRun0_A.sl.v17 c scM0_0 : Vec Ideal S1x128x256 .f32) shapeCasts_S1x128x256_S128x256
  N := shapeCast S1x128 (kernelRun0_A.sl.v19 c scM0_1 : Vec Ideal S1x1x128 .f32) shapeCasts_S1x1x128_S1x128
  M := shapeCast S1x1 (kernelRun0_A.sl.v21 c scM0_2 : Vec Ideal S1x1x1 .f32) shapeCasts_S1x1x1_S1x1
def stA0_2 : St where
  C := shapeCast S128x256 (kernelRun0_A.sl.v23 c scM0_0 : Vec Ideal S1x128x256 .f32) shapeCasts_S1x128x256_S128x256
  N := shapeCast S1x128 (kernelRun0_A.sl.v25 c scM0_1 : Vec Ideal S1x1x128 .f32) shapeCasts_S1x1x128_S1x128
  M := shapeCast S1x1 (kernelRun0_A.sl.v27 c scM0_2 : Vec Ideal S1x1x1 .f32) shapeCasts_S1x1x1_S1x1
def stA0_3 : St where
  C := shapeCast S128x256 (kernelRun0_A.sl.v29 c scM0_0 : Vec Ideal S1x128x256 .f32) shapeCasts_S1x128x256_S128x256
  N := shapeCast S1x128 (kernelRun0_A.sl.v31 c scM0_1 : Vec Ideal S1x1x128 .f32) shapeCasts_S1x1x128_S1x128
  M := shapeCast S1x1 (kernelRun0_A.sl.v33 c scM0_2 : Vec Ideal S1x1x1 .f32) shapeCasts_S1x1x1_S1x1

/-- The four of them. -/
def stA0 (h : Fin 4) : St := ![stA0_0 c, stA0_1 c, stA0_2 c, stA0_3 c] h
theorem stA0_at0 (hh : 0 < 4) : stA0 c ⟨0, hh⟩ = stA0_0 c := rfl
theorem stA0_at1 (hh : 1 < 4) : stA0 c ⟨1, hh⟩ = stA0_1 c := rfl
theorem stA0_at2 (hh : 2 < 4) : stA0 c ⟨2, hh⟩ = stA0_2 c := rfl
theorem stA0_at3 (hh : 3 < 4) : stA0 c ⟨3, hh⟩ = stA0_3 c := rfl

/-- The head's state ahead of chunk `g` of a point, from the state `s` the point starts from. -/
def ahead (t : Fin cfg0.N) (h : Fin 4) (s : St) : Fin 4 → St
  | 0 => s
  | 1 => nextOf h (row0 t 0) (biasAt m c t) (rowsAt m c t 0) s
  | 2 => nextOf h (row0 t 1) (biasAt m c t) (rowsAt m c t 1) (nextOf h (row0 t 0) (biasAt m c t) (rowsAt m c t 0) s)
  | 3 => nextOf h (row0 t 2) (biasAt m c t) (rowsAt m c t 2) (nextOf h (row0 t 1) (biasAt m c t) (rowsAt m c t 1)
      (nextOf h (row0 t 0) (biasAt m c t) (rowsAt m c t 0) s))

theorem ahead_at0 (t : Fin cfg0.N) (h : Fin 4) (s : St) (hg : 0 < 3) : ahead m c t h s (Fin.castSucc (n := 3) ⟨0, hg⟩) = s := rfl
theorem ahead_at1 (t : Fin cfg0.N) (h : Fin 4) (s : St) (hg : 1 < 3) : ahead m c t h s (Fin.castSucc (n := 3) ⟨1, hg⟩) =
    nextOf h (row0 t 0) (biasAt m c t) (rowsAt m c t 0) s := rfl
theorem ahead_at2 (t : Fin cfg0.N) (h : Fin 4) (s : St) (hg : 2 < 3) : ahead m c t h s (Fin.castSucc (n := 3) ⟨2, hg⟩) =
    nextOf h (row0 t 1) (biasAt m c t) (rowsAt m c t 1) (nextOf h (row0 t 0) (biasAt m c t) (rowsAt m c t 0) s) := rfl
theorem ahead_at3 (t : Fin cfg0.N) (h : Fin 4) (s : St) : ahead m c t h s 3 =
    nextOf h (row0 t 2) (biasAt m c t) (rowsAt m c t 2) (nextOf h (row0 t 1) (biasAt m c t) (rowsAt m c t 1)
      (nextOf h (row0 t 0) (biasAt m c t) (rowsAt m c t 0) s)) := rfl
theorem cast_C3 (P : FVec Ideal S128x256 .f32) (z : S1x128x256.Idx) :
    shapeCast S1x128x256 P shapeCasts_S128x256_S1x128x256 z = P (ix2 (z 1) (z 2)) := by
  idx_vars z
  pointwise
theorem cast_C4 (P : FVec Ideal S128x256 .f32) (z : S1x1x128x256.Idx) :
    shapeCast S1x1x128x256 P shapeCasts_S128x256_S1x1x128x256 z = P (ix2 (z 2) (z 3)) := by
  idx_vars z
  pointwise
theorem cast_N3 (P : FVec Ideal S1x128 .f32) (z : S1x1x128.Idx) :
    shapeCast S1x1x128 P shapeCasts_S1x128_S1x1x128 z = P (ix2 0 (z 2)) := by
  idx_vars z
  pointwise
theorem cast_N4 (P : FVec Ideal S1x128 .f32) (z : S1x1x1x128.Idx) :
    shapeCast S1x1x1x128 P shapeCasts_S1x128_S1x1x1x128 z = P (ix2 0 (z 3)) := by
  idx_vars z
  pointwise
theorem cast_M3 (P : FVec Ideal S1x1 .f32) (z : S1x1x1.Idx) :
    shapeCast S1x1x1 P shapeCasts_S1x1_S1x1x1 z = P (ix2 0 0) := by
  idx_vars z
  pointwise
theorem cast_M4 (P : FVec Ideal S1x1 .f32) (z : S1x1x1x1.Idx) :
    shapeCast S1x1x1x1 P shapeCasts_S1x1_S1x1x1x1 z = P (ix2 0 0) := by
  idx_vars z
  pointwise

/-- What a buffer holds where its first stores reach, whatever was stored before them. -/
theorem canon_first {S : Shape} {e : EltTy} (L' : List (View.Piece (Elt Ideal) S e)) :
    ∀ (L : List (View.Piece (Elt Ideal) S e)) (y : S.Idx), (∃ p ∈ L, y ∈ p.1.set) →
      View.canon (L ++ L') y = View.canon L y
  | [], _, hy => by obtain ⟨p, hp, _⟩ := hy; exact absurd hp List.not_mem_nil
  | p :: L, y, hy => by
    by_cases hm : y ∈ p.1.set
    · obtain ⟨x, rfl⟩ := p.1.exists_idx_of_mem hm
      exact (View.canon_cons_emb p.1 p.2 (L ++ L') x).trans (View.canon_cons_emb p.1 p.2 L x).symm
    · refine (View.canon_cons_of_not_mem _ _ hm).trans
        ((canon_first L' L y ?_).trans (View.canon_cons_of_not_mem _ _ hm).symm)
      obtain ⟨q, hq, hyq⟩ := hy
      rcases List.mem_cons.mp hq with rfl | hq
      · exact absurd hyq hm
      · exact ⟨q, hq, hyq⟩
theorem at_ix {ft : FTy} (P : FVec Ideal S64x256 ft) (z : S64x256.Idx) : P z = P (ix2 (z 0) (z 1)) := by
  idx_vars z

end Cert.MlstmFwdIdeal.Value
-- ==== Proof.MlstmRows.lean ====
/- What the forward call reads at a grid point, entry by entry: the chunk each row belongs to, from the arguments. -/
module

public import proofs.«01_k».proof.Proof.MlstmEntries
public import proofs.«01_k».proof.Proof.MlstmPieces

@[expose] public section

set_option maxRecDepth 16384

noncomputable section

open Idealize.ShloMosaic Idealize.ShloMosaic.TcCoe Idealize.ShloMosaic.Tactic Idealize.ShloMosaic.StableHlo

namespace Cert.MlstmFwdIdeal.Value

open Cert.MlstmFwdIdeal Cert.MlstmFwdIdeal.Gen Cert.Reals Model

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0, 0, 0]
    ∧ win0_6.index t = ![t.val, 0, 0, 0] ∧ win0_7.index t = ![t.val, 0, 0, 0] :=
  (by decide +kernel : ∀ t : Fin grid0.N, _)

theorem lt_N (t : Fin cfg0.N) : t.val < 11 := lt_of_lt_of_eq t.isLt N_0

variable (m : (ℓ : Loc nD τ sig) → Buf (Elt Ideal) ℓ) (c : Dev nD)

abbrev projM : FVec Ideal S1x2064x3200 .f32 := m ((c : Thread nD τ).loc main_arg0)
abbrev biasM : FVec Ideal S8 .f32 := m ((c : Thread nD τ).loc main_arg1)
abbrev weightM : FVec Ideal S1024 .f32 := m ((c : Thread nD τ).loc main_arg2)

/-- The projection's and the bias's entries. -/
def pr (i : Fin 2064) (j : Fin 3200) : EReal := projM m c (ix3 0 i j)
def bi (i : Fin 8) : EReal := biasM m c (ix1 i)

theorem sitofp_zero : FloatOps.sitofp (F := Ideal) .f32 (0 : BitVec 32) = (0 : EReal) := by simp [FloatOps.sitofp]

theorem blk0 (t : Fin cfg0.N) (i : Fin 192) (j : Fin 3200) :
    (iblk m c 0 t (ix2 i j) : EReal) = Mlstm.padded (fun r => pr m c r j) 0 (192 * t.val + i.val) := by
  have hN := lt_N t
  have e : ((cfg0.win 0).blk t).view.emb (ix2 i j) = ix2 (⟨192 * t.val + i.val, by omega⟩ : Fin 2112) j := by blk_ext [idx t]
  show V m c main_v1 (((cfg0.win 0).blk t).view.emb (ix2 i j)) = _
  rw [e]
  simp only [V, V0, hostOps0, hostOps0_1, hostOps0_2, hostOps0_3, hostOps0_4, List.flatten_cons, List.flatten_nil,
    List.append_nil, List.cons_append, List.nil_append]
  after_results_simp
  show pad S2112x3200 ![48, 0] ![0, 0] ![0, 0] (shapeCast S2064x3200 (projM m c) shapeCasts_S1x2064x3200_S2064x3200)
    (sitofp .f32 (constantI S_ 32 0#32)) pads_S2064x3200_S2112x3200_4800_000 h_S_ (ix2 _ j) = _
  pointwise
  by_cases hp : 48 ≤ 192 * t.val + i.val
  · rw [Mlstm.padded_token _ _ _ hp (by omega)]
    exact dif_pos (by omega)
  · rw [Mlstm.padded_ahead _ _ _ hp]
    exact (dif_neg fun h => hp (by omega)).trans sitofp_zero

theorem blk1 (t : Fin cfg0.N) (j : Fin 128) (hj : j.val < 8) : (iblk m c 1 t (ix2 0 j) : EReal) = bi m c ⟨j.val, hj⟩ := by
  have hN := lt_N t
  have e : ((cfg0.win 1).blk t).view.emb (ix2 0 j) = ix2 0 j := by blk_ext [idx t]
  show V m c main_v3 (((cfg0.win 1).blk t).view.emb (ix2 0 j)) = _
  rw [e]
  simp only [V, V0, hostOps0, hostOps0_1, hostOps0_2, hostOps0_3, hostOps0_4, List.flatten_cons, List.flatten_nil,
    List.append_nil, List.cons_append, List.nil_append]
  after_results_simp
  show pad S1x128 ![0, 0] ![0, 120] ![0, 0] (shapeCast S1x8 (biasM m c) shapeCasts_S8_S1x8)
    (sitofp .f32 (constantI S_ 32 0#32)) pads_S1x8_S1x128_000_01200 h_S_ (ix2 0 j) = _
  pointwise
  exact dif_pos (by omega)

theorem blk2 (t : Fin cfg0.N) (j : Fin 1024) : (iblk m c 2 t (ix2 0 j) : EReal) = weightM m c (ix1 j) := by
  have hN := lt_N t
  have e : ((cfg0.win 2).blk t).view.emb (ix2 0 j) = ix2 0 j := by blk_ext [idx t]
  show V m c main_v4 (((cfg0.win 2).blk t).view.emb (ix2 0 j)) = _
  rw [e]
  simp only [V, V0, hostOps0, hostOps0_1, hostOps0_2, hostOps0_3, hostOps0_4, List.flatten_cons, List.flatten_nil,
    List.append_nil, List.cons_append, List.nil_append]
  after_results_simp
  show shapeCast S1x1024 (weightM m c) shapeCasts_S1024_S1x1024 (ix2 0 j) = _
  pointwise

theorem rowsAt_at (t : Fin cfg0.N) (g : Fin 3) (i : Fin 64) (j : Fin 3200) :
    (rowsAt m c t g (ix2 i j) : EReal) = Mlstm.padded (fun r => pr m c r j) 0 ((3 * t.val + g.val) * 64 + i.val) := by
  unfold rowsAt
  pointwise
  rw [View.readAt_eq_ld, (hs0_0 t).read_unread]
  refine (View.ld_unit_apply_of _ _ _ _ _ (ix2 (⟨64 * g.val + i.val, by omega⟩ : Fin 192) j) ?_).trans ?_
  · intro a
    fin_cases a
    · rfl
    · exact (zero_add _).symm
  · rw [blk0, (by omega : 192 * t.val + (64 * g.val + i.val) = (3 * t.val + g.val) * 64 + i.val)]

theorem biasAt_at (t : Fin cfg0.N) (j : Fin 128) (hj : j.val < 8) : (biasAt m c t (ix2 0 j) : EReal) = bi m c ⟨j.val, hj⟩ := by
  unfold biasAt
  pointwise
  rw [View.readAt_eq_ld, (hs0_1 t).read_unread, View.ld_unit_lit _ _ (by decide), blk1]

theorem normAt_at (t : Fin cfg0.N) (j : Fin 1024) : (normAt m c t (ix2 0 j) : EReal) = weightM m c (ix1 j) := by
  unfold normAt
  pointwise
  rw [View.readAt_eq_ld, (hs0_2 t).read_unread, View.ld_unit_lit _ _ (by decide), blk2]

end Cert.MlstmFwdIdeal.Value
-- ==== Proof.MlstmChunks.lean ====
/- The chunks the forward call works on are the ones the arguments name. -/
module

public import proofs.«01_k».proof.Proof.MlstmRows

@[expose] public section

set_option maxRecDepth 16384

noncomputable section

open Idealize.ShloMosaic Idealize.ShloMosaic.TcCoe Idealize.ShloMosaic.Tactic Idealize.ShloMosaic.StableHlo

namespace Cert.MlstmFwdIdeal.Value

open Cert.MlstmFwdIdeal Cert.MlstmFwdIdeal.Gen Cert.Reals Model

theorem row0_eq : ∀ (t : Fin cfg0.N) (g : Fin 3), row0 t g = BitVec.ofNat 32 ((3 * t.val + g.val) * 64) :=
  (by decide +kernel : ∀ (t : Fin grid0.N) (g : Fin 3), _)

variable (m : (ℓ : Loc nD τ sig) → Buf (Elt Ideal) ℓ) (c : Dev nD)

/-- The chunks of head `h`. -/
def chunks (h : Fin 4) (n : ℕ) : Mlstm.Chunk := Mlstm.chunkAt (pr m c) (bi m c) h n

variable (t : Fin cfg0.N) (g : Fin 3)

theorem real_at (i : Fin 64) (j : Fin 128) (a b : EReal) :
    Scalar.select (real (row0 t g) (ix2 i j)) a b = if 48 ≤ (3 * t.val + g.val) * 64 + i.val then a else b := by
  have hN := lt_N t
  have hg := g.isLt
  have hi := i.isLt
  rw [row0_eq]
  have e : IntOp.addi (BitVec.ofNat 32 i.val) (BitVec.ofNat 32 ((3 * t.val + g.val) * 64))
      = BitVec.ofNat 32 ((3 * t.val + g.val) * 64 + i.val) := by
    unfold IntOp.addi
    rw [← BitVec.ofNat_add, add_comm]
  pointwise [real]
  rw [e]
  exact select_sge (a := (3 * t.val + g.val) * 64 + i.val) (b := 48) a b (by omega) (by omega)

theorem gateZ_at (i : Fin 64) (j : Fin 128) (hj : j.val < 8) :
    gateZ (biasAt m c t) (rowsAt m c t g) (ix2 i j)
      = Mlstm.cap (rowsAt m c t g (ix2 i (⟨3072 + j.val, by omega⟩ : Fin 3200)) + bi m c ⟨j.val, hj⟩) := by
  pointwise [gateZ]
  rw [biasAt_at m c t j hj]
  rfl

theorem hq_at (h : Fin 4) (i : Fin 64) (d : Fin 128) :
    hq h (rowsAt m c t g) (ix2 i d) = (chunks m c h (3 * t.val + g.val)).q i d := by
  pointwise [hq]
  rw [rowsAt_at]
  unfold chunks Mlstm.chunkAt
  dsimp only
  by_cases hp : 48 ≤ (3 * t.val + g.val) * 64 + i.val
  · have hN := lt_N t
    rw [Mlstm.padded_token _ _ _ hp (by omega), Mlstm.padded_token _ _ _ hp (by omega)]
    congr 2
    exact Fin.ext (by simp only; omega)
  · rw [Mlstm.padded_ahead _ _ _ hp, Mlstm.padded_ahead _ _ _ hp, zero_mul]

theorem hk_at (h : Fin 4) (i : Fin 64) (d : Fin 128) :
    hk h (rowsAt m c t g) (ix2 i d) = (chunks m c h (3 * t.val + g.val)).k i d := by
  pointwise [hk, hkr]
  rw [rowsAt_at]
  unfold chunks Mlstm.chunkAt
  dsimp only
  congr 3
  funext r
  exact congrArg (pr m c r) (Fin.ext (by simp only; omega))

theorem hv_at (h : Fin 4) (i : Fin 64) (e : Fin 256) :
    hv h (rowsAt m c t g) (ix2 i e) = (chunks m c h (3 * t.val + g.val)).v i e := by
  pointwise [hv]
  rw [rowsAt_at]
  unfold chunks Mlstm.chunkAt
  dsimp only
  congr 3
  funext r
  exact congrArg (pr m c r) (Fin.ext (by simp only; omega))

theorem hi_at (h : Fin 4) (i : Fin 64) :
    hi h (gateI (row0 t g) (biasAt m c t) (rowsAt m c t g)) (ix2 i 0) = (chunks m c h (3 * t.val + g.val)).li i := by
  have hN := lt_N t
  pointwise [hi, gateI]
  rw [real_at, gateZ_at m c t g _ _ (by simp only; omega), rowsAt_at]
  unfold chunks Mlstm.chunkAt
  dsimp only
  by_cases hp : 48 ≤ (3 * t.val + g.val) * 64 + i.val
  · rw [if_pos hp, Mlstm.padded_token _ _ _ hp (by omega), Mlstm.padded_token _ _ _ hp (by omega)]
  · rw [if_neg hp, Mlstm.padded_ahead _ _ _ hp, neg_inf]

theorem hf_at (h : Fin 4) (i : Fin 64) :
    hf h (gateF (row0 t g) (biasAt m c t) (rowsAt m c t g)) (ix2 i 0) = (chunks m c h (3 * t.val + g.val)).lf i := by
  have hN := lt_N t
  pointwise [hf, gateF]
  rw [real_at, gateZ_at m c t g _ _ (by simp only; omega), rowsAt_at]
  unfold chunks Mlstm.chunkAt
  dsimp only
  by_cases hp : 48 ≤ (3 * t.val + g.val) * 64 + i.val
  · rw [if_pos hp, Mlstm.padded_token _ _ _ hp (by omega), Mlstm.padded_token _ _ _ hp (by omega), zero_sub]
    rfl
  · rw [if_neg hp, Mlstm.padded_ahead _ _ _ hp]

theorem chunkOfRows_eq (h : Fin 4) : chunkOfRows h (row0 t g) (biasAt m c t) (rowsAt m c t g) = chunks m c h (3 * t.val + g.val) := by
  unfold chunkOfRows chunkOf
  simp only [hq_at, hk_at, hv_at, hi_at, hf_at]

/-- A step of the state is a step of its entries. -/
theorem entries_next (h : Fin 4) (s : St) (hs : entries s = Mlstm.stateAt (chunks m c h) (3 * t.val + g.val)) :
    entries (nextOf h (row0 t g) (biasAt m c t) (rowsAt m c t g) s) = Mlstm.stateAt (chunks m c h) (3 * t.val + g.val + 1) := by
  rw [nextOf_at, chunkOfRows_eq, hs]
  rfl

theorem ahead_entries (h : Fin 4) (s : St) (hs : entries s = Mlstm.stateAt (chunks m c h) (3 * t.val)) :
    ∀ g : Fin 4, entries (ahead m c t h s g) = Mlstm.stateAt (chunks m c h) (3 * t.val + g.val) := by
  have h1 := entries_next m c t 0 h s hs
  have h2 := entries_next m c t 1 h _ h1
  have h3 := entries_next m c t 2 h _ h2
  intro g
  fin_cases g
  · exact hs
  · exact h1
  · exact h2
  · exact h3

/-! ## The state read from the scratch -/

theorem uncast_C (P : Vec Ideal S1x128x256 .f32) (d : Fin 128) (e : Fin 256) :
    shapeCast S128x256 P shapeCasts_S1x128x256_S128x256 (ix2 d e) = P (ix3 0 d e) := by
  pointwise
theorem uncast_N (P : Vec Ideal S1x1x128 .f32) (d : Fin 128) :
    shapeCast S1x128 P shapeCasts_S1x1x128_S1x128 (ix2 0 d) = P (ix3 0 0 d) := by
  pointwise
theorem uncast_M (P : Vec Ideal S1x1x1 .f32) : shapeCast S1x1 P shapeCasts_S1x1x1_S1x1 (ix2 0 0) = P (ix3 0 0 0) := by
  pointwise

theorem load_C (X : Vec Ideal S4x128x256 .f32) (h : Fin 4) (d : Fin 128) (e : Fin 256) :
    shapeCast S128x256 (View.readAt (Elt Ideal) scM0_0.view (Rect.unit (s := S4x128x256) ![h.val, 0, 0] S1x128x256.size (inb_C h)).toLoadRect
      ((Memref.isWhole_whole _).unread X) : Vec Ideal S1x128x256 .f32) shapeCasts_S1x128x256_S128x256 (ix2 d e) = X (ix3 h d e) := by
  refine (uncast_C _ d e).trans ?_
  rw [View.readAt_eq_ld, (Memref.isWhole_whole _).read_unread]
  refine View.ld_unit_apply_of _ _ _ _ _ (ix3 h d e) ?_
  intro a
  fin_cases a
  · rfl
  · exact (zero_add _).symm
  · exact (zero_add _).symm
theorem load_N (X : Vec Ideal S4x1x128 .f32) (h : Fin 4) (d : Fin 128) :
    shapeCast S1x128 (View.readAt (Elt Ideal) scM0_1.view (Rect.unit (s := S4x1x128) ![h.val, 0, 0] S1x1x128.size (inb_N h)).toLoadRect
      ((Memref.isWhole_whole _).unread X) : Vec Ideal S1x1x128 .f32) shapeCasts_S1x1x128_S1x128 (ix2 0 d) = X (ix3 h 0 d) := by
  refine (uncast_N _ d).trans ?_
  rw [View.readAt_eq_ld, (Memref.isWhole_whole _).read_unread]
  refine View.ld_unit_apply_of _ _ _ _ _ (ix3 h 0 d) ?_
  intro a
  fin_cases a
  · rfl
  · rfl
  · exact (zero_add _).symm
theorem load_M (X : Vec Ideal S4x1x1 .f32) (h : Fin 4) :
    shapeCast S1x1 (View.readAt (Elt Ideal) scM0_2.view (Rect.unit (s := S4x1x1) ![h.val, 0, 0] S1x1x1.size (inb_M h)).toLoadRect
      ((Memref.isWhole_whole _).unread X) : Vec Ideal S1x1x1 .f32) shapeCasts_S1x1x1_S1x1 (ix2 0 0) = X (ix3 h 0 0) := by
  refine (uncast_M _).trans ?_
  rw [View.readAt_eq_ld, (Memref.isWhole_whole _).read_unread]
  refine View.ld_unit_apply_of _ _ _ _ _ (ix3 h 0 0) ?_
  intro a
  fin_cases a
  · rfl
  · rfl
  · rfl

theorem entries_stB (h : Fin 4) (s : Mlstm.State)
    (hC : ∀ d e, (outsAt0 m c (t.val - 1) (Nat.lt_of_le_of_lt (Nat.sub_le _ _) t.isLt)).2.2.2.2.2.1 (ix3 h d e) = s.C d e)
    (hN : ∀ d, (outsAt0 m c (t.val - 1) (Nat.lt_of_le_of_lt (Nat.sub_le _ _) t.isLt)).2.2.2.2.2.2.1 (ix3 h 0 d) = s.N d)
    (hM : (outsAt0 m c (t.val - 1) (Nat.lt_of_le_of_lt (Nat.sub_le _ _) t.isLt)).2.2.2.2.2.2.2 (ix3 h 0 0) = s.M) :
    entries (stB0 m c t h) = s := by
  cases s
  unfold entries stB0
  congr 1
  · exact funext fun d => funext fun e => (load_C _ h d e).trans (hC d e)
  · exact funext fun d => (load_N _ h d).trans (hN d)
  · exact (load_M _ h).trans hM

/-! ## The zero state -/

theorem zero_C (r : LoadRect S4x128x256) (y : r.shape.Idx) :
    (scM0_0.view.readCov (kernelRun0_A.sl.HS0_1 (F := Ideal)) r y : EReal) = 0 := by
  rw [View.readCov_eq_canon']
  unfold kernelRun0_A.sl.HS0_1
  rw [View.canon_cons_unit_lit _ _ _ (by decide)]
  pointwise [k0_pay7]
theorem zero_N (r : LoadRect S4x1x128) (y : r.shape.Idx) :
    (scM0_1.view.readCov (kernelRun0_A.sl.HS1_1 (F := Ideal)) r y : EReal) = 0 := by
  rw [View.readCov_eq_canon']
  unfold kernelRun0_A.sl.HS1_1
  rw [View.canon_cons_unit_lit _ _ _ (by decide)]
  pointwise [k0_pay8]
theorem zero_M (r : LoadRect S4x1x1) (y : r.shape.Idx) :
    (scM0_2.view.readCov (kernelRun0_A.sl.HS2_1 (F := Ideal)) r y : EReal) = 0 := by
  rw [View.readCov_eq_canon']
  unfold kernelRun0_A.sl.HS2_1
  rw [View.canon_cons_unit_lit _ _ _ (by decide)]
  pointwise [k0_pay9]

theorem entries_zero (C : Vec Ideal S1x128x256 .f32) (N : Vec Ideal S1x1x128 .f32) (M : Vec Ideal S1x1x1 .f32)
    (hC : ∀ y, C y = (0 : EReal)) (hN : ∀ y, N y = (0 : EReal)) (hM : ∀ y, M y = (0 : EReal)) :
    entries ⟨shapeCast S128x256 C shapeCasts_S1x128x256_S128x256, shapeCast S1x128 N shapeCasts_S1x1x128_S1x128,
      shapeCast S1x1 M shapeCasts_S1x1x1_S1x1⟩ = ⟨fun _ _ => 0, fun _ => 0, 0⟩ := by
  unfold entries
  congr 1
  · exact funext fun d => funext fun e => (uncast_C C d e).trans (hC _)
  · exact funext fun d => (uncast_N N d).trans (hN _)
  · exact (uncast_M M).trans (hM _)

theorem entries_stA : ∀ h : Fin 4, entries (stA0 c h) = ⟨fun _ _ => 0, fun _ => 0, 0⟩
  | 0 => entries_zero _ _ _
      (zero_C (Rect.unit (s := S4x128x256) ![0, 0, 0] S1x128x256.size inb_S4x128x256_S1x128x256_0_0_0).toLoadRect)
      (zero_N (Rect.unit (s := S4x1x128) ![0, 0, 0] S1x1x128.size inb_S4x1x128_S1x1x128_0_0_0).toLoadRect)
      (zero_M (Rect.unit (s := S4x1x1) ![0, 0, 0] S1x1x1.size inb_S4x1x1_S1x1x1_0_0_0).toLoadRect)
  | 1 => entries_zero _ _ _
      (zero_C (Rect.unit (s := S4x128x256) ![1, 0, 0] S1x128x256.size inb_S4x128x256_S1x128x256_1_0_0).toLoadRect)
      (zero_N (Rect.unit (s := S4x1x128) ![1, 0, 0] S1x1x128.size inb_S4x1x128_S1x1x128_1_0_0).toLoadRect)
      (zero_M (Rect.unit (s := S4x1x1) ![1, 0, 0] S1x1x1.size inb_S4x1x1_S1x1x1_1_0_0).toLoadRect)
  | 2 => entries_zero _ _ _
      (zero_C (Rect.unit (s := S4x128x256) ![2, 0, 0] S1x128x256.size inb_S4x128x256_S1x128x256_2_0_0).toLoadRect)
      (zero_N (Rect.unit (s := S4x1x128) ![2, 0, 0] S1x1x128.size inb_S4x1x128_S1x1x128_2_0_0).toLoadRect)
      (zero_M (Rect.unit (s := S4x1x1) ![2, 0, 0] S1x1x1.size inb_S4x1x1_S1x1x1_2_0_0).toLoadRect)
  | 3 => entries_zero _ _ _
      (zero_C (Rect.unit (s := S4x128x256) ![3, 0, 0] S1x128x256.size inb_S4x128x256_S1x128x256_3_0_0).toLoadRect)
      (zero_N (Rect.unit (s := S4x1x128) ![3, 0, 0] S1x1x128.size inb_S4x1x128_S1x1x128_3_0_0).toLoadRect)
      (zero_M (Rect.unit (s := S4x1x1) ![3, 0, 0] S1x1x1.size inb_S4x1x1_S1x1x1_3_0_0).toLoadRect)

end Cert.MlstmFwdIdeal.Value
-- ==== Proof.MlstmArrays.lean ====
/- The recurrence's results as arrays, and its rows ahead of the first token. -/
module

public import proofs.«01_k».proof.Proof.MlstmSpec

@[expose] public section

noncomputable section

open Idealize.ShloMosaic

namespace Cert.Mlstm

section Ahead

variable (P : Fin 2064 → Fin 3200 → EReal) (B : Fin 8 → EReal) (h : Fin 4) (i : Fin 64) (hi : i.val < 48)

theorem exp_neg_zero : Ideal.exp (-0) = 1 := by
  rw [neg_zero, ← EReal.coe_zero, Ideal.exp_coe, Real.exp_zero, EReal.coe_one]

include hi in
/-- The output is zero ahead of the first token: the queries are, and the weights' sum is not. -/
theorem out_ahead (e : Fin 256) : out (chunkAt P B h 0) (stateAt (chunkAt P B h) 0) i e = 0 := by
  have hq : ∀ d, (chunkAt P B h 0).q i d = 0 := fun d => by
    unfold chunkAt
    dsimp only
    exact padded_ahead _ _ (0 * 64 + i.val) (by omega)
  have hs : ∀ s, smat (chunkAt P B h 0) (cum (chunkAt P B h 0).lf) (stateAt (chunkAt P B h) 0) i s = 0 := fun s => by
    unfold smat
    simp only [hq, zero_mul, Finset.sum_const_zero]
  have hc : cum (chunkAt P B h 0).lf i = 0 := by
    unfold cum
    refine Finset.sum_eq_zero fun s _ => ?_
    by_cases hs : s ≤ i
    · rw [if_pos hs]
      unfold chunkAt
      dsimp only
      have : s.val ≤ i.val := hs
      exact padded_ahead _ _ (0 * 64 + s.val) (by omega)
    · rw [if_neg hs]
  have hd : ∀ s, dmat (cum (chunkAt P B h 0).lf) (chunkAt P B h 0).li i s = ⊥ := fun s => by
    unfold dmat
    by_cases hs : s ≤ i
    · have : s.val ≤ i.val := hs
      have hl : (chunkAt P B h 0).li s = ⊥ := by
        unfold chunkAt
        dsimp only
        exact padded_ahead _ _ (0 * 64 + s.val) (by omega)
      rw [if_pos hs, hl]
      exact EReal.add_bot _
    · rw [if_neg hs]
  have ht : top (dmat (cum (chunkAt P B h 0).lf) (chunkAt P B h 0).li i) = ⊥ := by
    unfold top
    rw [show dmat (cum (chunkAt P B h 0).lf) (chunkAt P B h 0).li i = fun _ => ⊥ from funext hd]
    exact le_bot_iff.mp (Finset.fold_max_le _ |>.mpr ⟨le_rfl, fun _ _ => le_rfl⟩)
  have hm : mt (cum (chunkAt P B h 0).lf) (chunkAt P B h 0).li (stateAt (chunkAt P B h) 0).M i = 0 := by
    unfold mt inter
    rw [ht, hc, show (stateAt (chunkAt P B h) 0).M = 0 from rfl, add_zero]
    exact max_eq_left bot_le
  unfold out outB
  simp only [hq, hs, zero_mul, mul_zero, Finset.sum_const_zero, add_zero]
  refine Ideal.zero_div (ne_of_gt ?_)
  unfold den
  rw [hm, exp_neg_zero]
  exact lt_max_of_lt_right zero_lt_one

end Ahead

/-! ## The results -/

section Arrays

variable (P : Fin 2064 → Fin 3200 → EReal) (B : Fin 8 → EReal) (W : Fin 1024 → EReal)

def outArr (r : Fin 2112) (j : Fin 1024) : EReal :=
  out (chunkAt P B ⟨j.val / 256, by omega⟩ (r.val / 64)) (stateAt (chunkAt P B ⟨j.val / 256, by omega⟩) (r.val / 64))
    ⟨r.val % 64, by omega⟩ ⟨j.val % 256, by omega⟩

def gatedArr (r : Fin 2112) (j : Fin 1024) : EReal :=
  gatedAt P W ⟨j.val / 256, by omega⟩ (r.val / 64) ⟨r.val % 64, by omega⟩
    (out (chunkAt P B ⟨j.val / 256, by omega⟩ (r.val / 64)) (stateAt (chunkAt P B ⟨j.val / 256, by omega⟩) (r.val / 64))
      ⟨r.val % 64, by omega⟩) ⟨j.val % 256, by omega⟩

variable (n : ℕ) (t : Fin 64) (h : Fin 4) (e : Fin 256) (r : Fin 2112) (j : Fin 1024)
  (hr : r.val = n * 64 + t.val) (hj : j.val = h.val * 256 + e.val)

include hr hj

theorem outArr_at : outArr P B r j = out (chunkAt P B h n) (stateAt (chunkAt P B h) n) t e := by
  have e1 : r.val / 64 = n := by omega
  have e2 : (⟨r.val % 64, by omega⟩ : Fin 64) = t := Fin.ext (by simp only; omega)
  have e3 : (⟨j.val / 256, by omega⟩ : Fin 4) = h := Fin.ext (by simp only; omega)
  have e4 : (⟨j.val % 256, by omega⟩ : Fin 256) = e := Fin.ext (by simp only; omega)
  unfold outArr
  rw [e1, e2, e3, e4]

theorem gatedArr_at : gatedArr P B W r j = gatedAt P W h n t (out (chunkAt P B h n) (stateAt (chunkAt P B h) n) t) e := by
  have e1 : r.val / 64 = n := by omega
  have e2 : (⟨r.val % 64, by omega⟩ : Fin 64) = t := Fin.ext (by simp only; omega)
  have e3 : (⟨j.val / 256, by omega⟩ : Fin 4) = h := Fin.ext (by simp only; omega)
  have e4 : (⟨j.val % 256, by omega⟩ : Fin 256) = e := Fin.ext (by simp only; omega)
  unfold gatedArr
  rw [e1, e2, e3, e4]

end Arrays

end Cert.Mlstm
-- ==== Proof.MlstmPiecesA.lean ====
module

public import proofs.«01_k».proof.Proof.MlstmPieces

@[expose] public section

set_option maxRecDepth 16384
set_option maxHeartbeats 1000000

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

namespace Cert.MlstmFwdIdeal.Value

open Cert.MlstmFwdIdeal Cert.MlstmFwdIdeal.Gen Cert.Reals Model

variable (m : (ℓ : Loc nD τ sig) → Buf (Elt Ideal) ℓ) (c : Dev nD)
attribute [local irreducible] kernelRun0_A.sl.v11 kernelRun0_A.sl.v13 kernelRun0_A.sl.v15 kernelRun0_A.sl.v17 kernelRun0_A.sl.v19 kernelRun0_A.sl.v21 kernelRun0_A.sl.v23 kernelRun0_A.sl.v25 kernelRun0_A.sl.v27 kernelRun0_A.sl.v29 kernelRun0_A.sl.v31 kernelRun0_A.sl.v33

theorem hm_A (t : Fin cfg0.N) (h0 : t.val % 11 = 0) (g : Fin 3) (h : Fin 4) (i : Fin 64) (e : Fin 256) :
    (outsAt0 m c t.val t.isLt).1 (ix2 (⟨64 * g.val + i.val, by omega⟩ : Fin 192) (⟨256 * h.val + e.val, by omega⟩ : Fin 1024)) = gatedOf h (row0 t g) (biasAt m c t) (normAt m c t) (rowsAt m c t g) (ahead m c t h (stA0 c h) (Fin.castSucc (n := 3) g)) (ix2 i e) := by
  rw [outsAt0_A m c t h0]
  dsimp only
  unfold out0_A_3
  refine (View.read_writes_apply_eq_canon _ _ _ _ (cover0_A_3 ..)).trans ?_
  unfold kernelRun0_A
  dsimp only
  canon_tiles z e
  all_goals
    obtain ⟨g, hg⟩ := g
    obtain ⟨h, hh⟩ := h
    have e0 : 64 * g + i.val = _ := e0
    have e1 : 256 * h + e.val = _ := e1
    interval_cases g <;> interval_cases h <;> first
      | (exfalso; omega)
      | obtain rfl : i = z 0 := Fin.ext (by omega)
        obtain rfl : e = z 1 := Fin.ext (by omega)
        simp only [ahead_at0, ahead_at1, ahead_at2, ahead_at3, stA0_at0, stA0_at1, stA0_at2, stA0_at3]
        refine Eq.trans ?_ (at_ix _ z)
        refine congrFun ?_ z
        rfl

theorem ht_A (t : Fin cfg0.N) (h0 : t.val % 11 = 0) (g : Fin 3) (h : Fin 4) (i : Fin 64) (e : Fin 256) :
    (outsAt0 m c t.val t.isLt).2.1 (ix2 (⟨64 * g.val + i.val, by omega⟩ : Fin 192) (⟨256 * h.val + e.val, by omega⟩ : Fin 1024)) = outOf h (row0 t g) (biasAt m c t) (rowsAt m c t g) (ahead m c t h (stA0 c h) (Fin.castSucc (n := 3) g)) (ix2 i e) := by
  rw [outsAt0_A m c t h0]
  dsimp only
  unfold out0_A_4
  refine (View.read_writes_apply_eq_canon _ _ _ _ (cover0_A_4 ..)).trans ?_
  unfold kernelRun0_A
  dsimp only
  canon_tiles z e
  all_goals
    obtain ⟨g, hg⟩ := g
    obtain ⟨h, hh⟩ := h
    have e0 : 64 * g + i.val = _ := e0
    have e1 : 256 * h + e.val = _ := e1
    interval_cases g <;> interval_cases h <;> first
      | (exfalso; omega)
      | obtain rfl : i = z 0 := Fin.ext (by omega)
        obtain rfl : e = z 1 := Fin.ext (by omega)
        simp only [ahead_at0, ahead_at1, ahead_at2, ahead_at3, stA0_at0, stA0_at1, stA0_at2, stA0_at3]
        refine Eq.trans ?_ (at_ix _ z)
        refine congrFun ?_ z
        rfl

theorem cs_A (t : Fin cfg0.N) (h0 : t.val % 11 = 0) (g : Fin 3) (h : Fin 4) (d : Fin 128) (e : Fin 256) :
    (outsAt0 m c t.val t.isLt).2.2.1 (ix4 g h d e) = (ahead m c t h (stA0 c h) (Fin.castSucc (n := 3) g)).C (ix2 d e) := by
  rw [outsAt0_A m c t h0]
  dsimp only
  unfold out0_A_5
  refine (View.read_writes_apply_eq_canon _ _ _ _ (cover0_A_5 ..)).trans ?_
  unfold kernelRun0_A
  dsimp only
  canon_tiles z e
  all_goals
    obtain rfl : d = z 2 := Fin.ext e2
    obtain rfl : e = z 3 := Fin.ext e3
    obtain ⟨g, hg⟩ := g
    obtain ⟨h, hh⟩ := h
    have e0 : g = _ := e0
    have e1 : h = _ := e1
    interval_cases g <;> interval_cases h <;> first
      | (exfalso; omega)
      | simp only [ahead_at0, ahead_at1, ahead_at2, ahead_at3, stA0_at0, stA0_at1, stA0_at2, stA0_at3]
        refine Eq.trans ?_ (cast_C4 _ z)
        refine congrFun ?_ z
        rfl

theorem ns_A (t : Fin cfg0.N) (h0 : t.val % 11 = 0) (g : Fin 3) (h : Fin 4) (d : Fin 128) :
    (outsAt0 m c t.val t.isLt).2.2.2.1 (ix4 g h (0 : Fin 1) d) = (ahead m c t h (stA0 c h) (Fin.castSucc (n := 3) g)).N (ix2 0 d) := by
  rw [outsAt0_A m c t h0]
  dsimp only
  unfold out0_A_6
  refine (View.read_writes_apply_eq_canon _ _ _ _ (cover0_A_6 ..)).trans ?_
  unfold kernelRun0_A
  dsimp only
  canon_tiles z e
  all_goals
    obtain rfl : d = z 3 := Fin.ext e3
    obtain ⟨g, hg⟩ := g
    obtain ⟨h, hh⟩ := h
    have e0 : g = _ := e0
    have e1 : h = _ := e1
    interval_cases g <;> interval_cases h <;> first
      | (exfalso; omega)
      | simp only [ahead_at0, ahead_at1, ahead_at2, ahead_at3, stA0_at0, stA0_at1, stA0_at2, stA0_at3]
        refine Eq.trans ?_ (cast_N4 _ z)
        refine congrFun ?_ z
        rfl

theorem ms_A (t : Fin cfg0.N) (h0 : t.val % 11 = 0) (g : Fin 3) (h : Fin 4) :
    (outsAt0 m c t.val t.isLt).2.2.2.2.1 (ix4 g h (0 : Fin 1) (0 : Fin 1)) = (ahead m c t h (stA0 c h) (Fin.castSucc (n := 3) g)).M (ix2 0 0) := by
  rw [outsAt0_A m c t h0]
  dsimp only
  unfold out0_A_7
  refine (View.read_writes_apply_eq_canon _ _ _ _ (cover0_A_7 ..)).trans ?_
  unfold kernelRun0_A
  dsimp only
  canon_tiles z e
  all_goals
    obtain ⟨g, hg⟩ := g
    obtain ⟨h, hh⟩ := h
    have e0 : g = _ := e0
    have e1 : h = _ := e1
    interval_cases g <;> interval_cases h <;> first
      | (exfalso; omega)
      | simp only [ahead_at0, ahead_at1, ahead_at2, ahead_at3, stA0_at0, stA0_at1, stA0_at2, stA0_at3]
        refine Eq.trans ?_ (cast_M4 _ z)
        refine congrFun ?_ z
        rfl

theorem scrC_A (t : Fin cfg0.N) (h0 : t.val % 11 = 0) (h : Fin 4) (d : Fin 128) (e : Fin 256) :
    (outsAt0 m c t.val t.isLt).2.2.2.2.2.1 (ix3 h d e) = (ahead m c t h (stA0 c h) 3).C (ix2 d e) := by
  rw [outsAt0_A m c t h0]
  dsimp only
  unfold sout0_A_0
  refine (View.read_writes_apply_eq_canon _ _ _ _ (scover0_A_0 ..)).trans ?_
  unfold kernelRun0_A
  dsimp only
  unfold kernelRun0_A.sl.HS0_1
  refine (canon_first [_] [_, _, _, _] _ (View.cover_of_tiled_head _ _ _ rfl _)).trans ?_
  canon_tiles z e
  all_goals
    obtain rfl : d = z 1 := Fin.ext e1
    obtain rfl : e = z 2 := Fin.ext e2
    obtain ⟨h, hh⟩ := h
    have e0 : h = _ := e0
    interval_cases h <;> first
      | (exfalso; omega)
      | simp only [ahead_at0, ahead_at1, ahead_at2, ahead_at3, stA0_at0, stA0_at1, stA0_at2, stA0_at3]
        refine Eq.trans ?_ (cast_C3 _ z)
        refine congrFun ?_ z
        rfl

theorem scrN_A (t : Fin cfg0.N) (h0 : t.val % 11 = 0) (h : Fin 4) (d : Fin 128) :
    (outsAt0 m c t.val t.isLt).2.2.2.2.2.2.1 (ix3 h (0 : Fin 1) d) = (ahead m c t h (stA0 c h) 3).N (ix2 0 d) := by
  rw [outsAt0_A m c t h0]
  dsimp only
  unfold sout0_A_1
  refine (View.read_writes_apply_eq_canon _ _ _ _ (scover0_A_1 ..)).trans ?_
  unfold kernelRun0_A
  dsimp only
  unfold kernelRun0_A.sl.HS1_1
  refine (canon_first [_] [_, _, _, _] _ (View.cover_of_tiled_head _ _ _ rfl _)).trans ?_
  canon_tiles z e
  all_goals
    obtain rfl : d = z 2 := Fin.ext e2
    obtain ⟨h, hh⟩ := h
    have e0 : h = _ := e0
    interval_cases h <;> first
      | (exfalso; omega)
      | simp only [ahead_at0, ahead_at1, ahead_at2, ahead_at3, stA0_at0, stA0_at1, stA0_at2, stA0_at3]
        refine Eq.trans ?_ (cast_N3 _ z)
        refine congrFun ?_ z
        rfl

theorem scrM_A (t : Fin cfg0.N) (h0 : t.val % 11 = 0) (h : Fin 4) :
    (outsAt0 m c t.val t.isLt).2.2.2.2.2.2.2 (ix3 h (0 : Fin 1) (0 : Fin 1)) = (ahead m c t h (stA0 c h) 3).M (ix2 0 0) := by
  rw [outsAt0_A m c t h0]
  dsimp only
  unfold sout0_A_2
  refine (View.read_writes_apply_eq_canon _ _ _ _ (scover0_A_2 ..)).trans ?_
  unfold kernelRun0_A
  dsimp only
  unfold kernelRun0_A.sl.HS2_1
  refine (canon_first [_] [_, _, _, _] _ (View.cover_of_tiled_head _ _ _ rfl _)).trans ?_
  canon_tiles z e
  all_goals
    obtain ⟨h, hh⟩ := h
    have e0 : h = _ := e0
    interval_cases h <;> first
      | (exfalso; omega)
      | simp only [ahead_at0, ahead_at1, ahead_at2, ahead_at3, stA0_at0, stA0_at1, stA0_at2, stA0_at3]
        refine Eq.trans ?_ (cast_M3 _ z)
        refine congrFun ?_ z
        rfl

end Cert.MlstmFwdIdeal.Value
-- ==== Proof.MlstmPiecesB.lean ====
module

public import proofs.«01_k».proof.Proof.MlstmPieces

@[expose] public section

set_option maxRecDepth 16384
set_option maxHeartbeats 1000000

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

namespace Cert.MlstmFwdIdeal.Value

open Cert.MlstmFwdIdeal Cert.MlstmFwdIdeal.Gen Cert.Reals Model

variable (m : (ℓ : Loc nD τ sig) → Buf (Elt Ideal) ℓ) (c : Dev nD)

theorem hm_B (t : Fin cfg0.N) (h0 : ¬t.val % 11 = 0) (g : Fin 3) (h : Fin 4) (i : Fin 64) (e : Fin 256) :
    (outsAt0 m c t.val t.isLt).1 (ix2 (⟨64 * g.val + i.val, by omega⟩ : Fin 192) (⟨256 * h.val + e.val, by omega⟩ : Fin 1024)) = gatedOf h (row0 t g) (biasAt m c t) (normAt m c t) (rowsAt m c t g) (ahead m c t h (stB0 m c t h) (Fin.castSucc (n := 3) g)) (ix2 i e) := by
  rw [outsAt0_B m c t h0]
  dsimp only
  unfold out0_B_3
  refine (View.read_writes_apply_eq_canon _ _ _ _ (cover0_B_3 ..)).trans ?_
  unfold kernelRun0_B
  dsimp only
  canon_tiles z e
  all_goals
    obtain ⟨g, hg⟩ := g
    obtain ⟨h, hh⟩ := h
    have e0 : 64 * g + i.val = _ := e0
    have e1 : 256 * h + e.val = _ := e1
    interval_cases g <;> interval_cases h <;> first
      | (exfalso; omega)
      | obtain rfl : i = z 0 := Fin.ext (by omega)
        obtain rfl : e = z 1 := Fin.ext (by omega)
        exact (congrFun (show _ =  (gatedOf ⟨_, hh⟩ (row0 t ⟨_, hg⟩) (biasAt m c t) (normAt m c t) (rowsAt m c t ⟨_, hg⟩) (ahead m c t ⟨_, hh⟩ (stB0 m c t ⟨_, hh⟩) (Fin.castSucc (n := 3) ⟨_, hg⟩)))  from rfl) z).trans (at_ix _ z)

theorem ht_B (t : Fin cfg0.N) (h0 : ¬t.val % 11 = 0) (g : Fin 3) (h : Fin 4) (i : Fin 64) (e : Fin 256) :
    (outsAt0 m c t.val t.isLt).2.1 (ix2 (⟨64 * g.val + i.val, by omega⟩ : Fin 192) (⟨256 * h.val + e.val, by omega⟩ : Fin 1024)) = outOf h (row0 t g) (biasAt m c t) (rowsAt m c t g) (ahead m c t h (stB0 m c t h) (Fin.castSucc (n := 3) g)) (ix2 i e) := by
  rw [outsAt0_B m c t h0]
  dsimp only
  unfold out0_B_4
  refine (View.read_writes_apply_eq_canon _ _ _ _ (cover0_B_4 ..)).trans ?_
  unfold kernelRun0_B
  dsimp only
  canon_tiles z e
  all_goals
    obtain ⟨g, hg⟩ := g
    obtain ⟨h, hh⟩ := h
    have e0 : 64 * g + i.val = _ := e0
    have e1 : 256 * h + e.val = _ := e1
    interval_cases g <;> interval_cases h <;> first
      | (exfalso; omega)
      | obtain rfl : i = z 0 := Fin.ext (by omega)
        obtain rfl : e = z 1 := Fin.ext (by omega)
        exact (congrFun (show _ =  (outOf ⟨_, hh⟩ (row0 t ⟨_, hg⟩) (biasAt m c t) (rowsAt m c t ⟨_, hg⟩) (ahead m c t ⟨_, hh⟩ (stB0 m c t ⟨_, hh⟩) (Fin.castSucc (n := 3) ⟨_, hg⟩)))  from rfl) z).trans (at_ix _ z)

theorem cs_B (t : Fin cfg0.N) (h0 : ¬t.val % 11 = 0) (g : Fin 3) (h : Fin 4) (d : Fin 128) (e : Fin 256) :
    (outsAt0 m c t.val t.isLt).2.2.1 (ix4 g h d e) = (ahead m c t h (stB0 m c t h) (Fin.castSucc (n := 3) g)).C (ix2 d e) := by
  rw [outsAt0_B m c t h0]
  dsimp only
  unfold out0_B_5
  refine (View.read_writes_apply_eq_canon _ _ _ _ (cover0_B_5 ..)).trans ?_
  unfold kernelRun0_B
  dsimp only
  canon_tiles z e
  all_goals
    obtain rfl : d = z 2 := Fin.ext e2
    obtain rfl : e = z 3 := Fin.ext e3
    obtain ⟨g, hg⟩ := g
    obtain ⟨h, hh⟩ := h
    have e0 : g = _ := e0
    have e1 : h = _ := e1
    interval_cases g <;> interval_cases h <;> first
      | (exfalso; omega)
      | exact (congrFun (show _ = shapeCast S1x1x128x256 ((ahead m c t ⟨_, hh⟩ (stB0 m c t ⟨_, hh⟩) (Fin.castSucc (n := 3) ⟨_, hg⟩)).C) shapeCasts_S128x256_S1x1x128x256 from rfl) z).trans (cast_C4 _ z)

theorem ns_B (t : Fin cfg0.N) (h0 : ¬t.val % 11 = 0) (g : Fin 3) (h : Fin 4) (d : Fin 128) :
    (outsAt0 m c t.val t.isLt).2.2.2.1 (ix4 g h (0 : Fin 1) d) = (ahead m c t h (stB0 m c t h) (Fin.castSucc (n := 3) g)).N (ix2 0 d) := by
  rw [outsAt0_B m c t h0]
  dsimp only
  unfold out0_B_6
  refine (View.read_writes_apply_eq_canon _ _ _ _ (cover0_B_6 ..)).trans ?_
  unfold kernelRun0_B
  dsimp only
  canon_tiles z e
  all_goals
    obtain rfl : d = z 3 := Fin.ext e3
    obtain ⟨g, hg⟩ := g
    obtain ⟨h, hh⟩ := h
    have e0 : g = _ := e0
    have e1 : h = _ := e1
    interval_cases g <;> interval_cases h <;> first
      | (exfalso; omega)
      | exact (congrFun (show _ = shapeCast S1x1x1x128 ((ahead m c t ⟨_, hh⟩ (stB0 m c t ⟨_, hh⟩) (Fin.castSucc (n := 3) ⟨_, hg⟩)).N) shapeCasts_S1x128_S1x1x1x128 from rfl) z).trans (cast_N4 _ z)

theorem ms_B (t : Fin cfg0.N) (h0 : ¬t.val % 11 = 0) (g : Fin 3) (h : Fin 4) :
    (outsAt0 m c t.val t.isLt).2.2.2.2.1 (ix4 g h (0 : Fin 1) (0 : Fin 1)) = (ahead m c t h (stB0 m c t h) (Fin.castSucc (n := 3) g)).M (ix2 0 0) := by
  rw [outsAt0_B m c t h0]
  dsimp only
  unfold out0_B_7
  refine (View.read_writes_apply_eq_canon _ _ _ _ (cover0_B_7 ..)).trans ?_
  unfold kernelRun0_B
  dsimp only
  canon_tiles z e
  all_goals
    obtain ⟨g, hg⟩ := g
    obtain ⟨h, hh⟩ := h
    have e0 : g = _ := e0
    have e1 : h = _ := e1
    interval_cases g <;> interval_cases h <;> first
      | (exfalso; omega)
      | exact (congrFun (show _ = shapeCast S1x1x1x1 ((ahead m c t ⟨_, hh⟩ (stB0 m c t ⟨_, hh⟩) (Fin.castSucc (n := 3) ⟨_, hg⟩)).M) shapeCasts_S1x1_S1x1x1x1 from rfl) z).trans (cast_M4 _ z)

theorem scrC_B (t : Fin cfg0.N) (h0 : ¬t.val % 11 = 0) (h : Fin 4) (d : Fin 128) (e : Fin 256) :
    (outsAt0 m c t.val t.isLt).2.2.2.2.2.1 (ix3 h d e) = (ahead m c t h (stB0 m c t h) 3).C (ix2 d e) := by
  rw [outsAt0_B m c t h0]
  dsimp only
  unfold sout0_B_0
  refine (View.read_writes_apply_eq_canon _ _ _ _ (scover0_B_0 ..)).trans ?_
  unfold kernelRun0_B
  dsimp only
  canon_tiles z e
  all_goals
    obtain rfl : d = z 1 := Fin.ext e1
    obtain rfl : e = z 2 := Fin.ext e2
    obtain ⟨h, hh⟩ := h
    have e0 : h = _ := e0
    interval_cases h <;> first
      | (exfalso; omega)
      | exact (congrFun (show _ = shapeCast S1x128x256 ((ahead m c t ⟨_, hh⟩ (stB0 m c t ⟨_, hh⟩) 3).C) shapeCasts_S128x256_S1x128x256 from rfl) z).trans (cast_C3 _ z)

theorem scrN_B (t : Fin cfg0.N) (h0 : ¬t.val % 11 = 0) (h : Fin 4) (d : Fin 128) :
    (outsAt0 m c t.val t.isLt).2.2.2.2.2.2.1 (ix3 h (0 : Fin 1) d) = (ahead m c t h (stB0 m c t h) 3).N (ix2 0 d) := by
  rw [outsAt0_B m c t h0]
  dsimp only
  unfold sout0_B_1
  refine (View.read_writes_apply_eq_canon _ _ _ _ (scover0_B_1 ..)).trans ?_
  unfold kernelRun0_B
  dsimp only
  canon_tiles z e
  all_goals
    obtain rfl : d = z 2 := Fin.ext e2
    obtain ⟨h, hh⟩ := h
    have e0 : h = _ := e0
    interval_cases h <;> first
      | (exfalso; omega)
      | exact (congrFun (show _ = shapeCast S1x1x128 ((ahead m c t ⟨_, hh⟩ (stB0 m c t ⟨_, hh⟩) 3).N) shapeCasts_S1x128_S1x1x128 from rfl) z).trans (cast_N3 _ z)

theorem scrM_B (t : Fin cfg0.N) (h0 : ¬t.val % 11 = 0) (h : Fin 4) :
    (outsAt0 m c t.val t.isLt).2.2.2.2.2.2.2 (ix3 h (0 : Fin 1) (0 : Fin 1)) = (ahead m c t h (stB0 m c t h) 3).M (ix2 0 0) := by
  rw [outsAt0_B m c t h0]
  dsimp only
  unfold sout0_B_2
  refine (View.read_writes_apply_eq_canon _ _ _ _ (scover0_B_2 ..)).trans ?_
  unfold kernelRun0_B
  dsimp only
  canon_tiles z e
  all_goals
    obtain ⟨h, hh⟩ := h
    have e0 : h = _ := e0
    interval_cases h <;> first
      | (exfalso; omega)
      | exact (congrFun (show _ = shapeCast S1x1x1 ((ahead m c t ⟨_, hh⟩ (stB0 m c t ⟨_, hh⟩) 3).M) shapeCasts_S1x1_S1x1x1 from rfl) z).trans (cast_M3 _ z)

end Cert.MlstmFwdIdeal.Value
-- ==== Proof.MlstmOutputs.lean ====
/- What each grid point of the forward call leaves in its outputs and its scratch. -/
module

public import proofs.«01_k».proof.Proof.MlstmChunks
public import proofs.«01_k».proof.Proof.MlstmArrays
public import proofs.«01_k».proof.Proof.MlstmPiecesA
public import proofs.«01_k».proof.Proof.MlstmPiecesB

@[expose] public section

set_option maxRecDepth 16384

noncomputable section

open Idealize.ShloMosaic Idealize.ShloMosaic.TcCoe Idealize.ShloMosaic.Tactic Idealize.ShloMosaic.StableHlo

namespace Cert.MlstmFwdIdeal.Value

open Cert.MlstmFwdIdeal Cert.MlstmFwdIdeal.Gen Cert.Reals Model

variable (m : (ℓ : Loc nD τ sig) → Buf (Elt Ideal) ℓ) (c : Dev nD)

/-- The state a point starts from, and the state behind it. -/
def start (t : Fin cfg0.N) (h : Fin 4) : St := if t.val % 11 = 0 then stA0 c h else stB0 m c t h

variable (h : Fin 4)

theorem start_zero (t : Fin cfg0.N) (h0 : t.val % 11 = 0) : start m c t h = stA0 c h := if_pos h0
theorem start_pos (t : Fin cfg0.N) (h0 : ¬t.val % 11 = 0) : start m c t h = stB0 m c t h := if_neg h0

theorem scrC (t : Fin cfg0.N) (d : Fin 128) (e : Fin 256) :
    (outsAt0 m c t.val t.isLt).2.2.2.2.2.1 (ix3 h d e) = (entries (ahead m c t h (start m c t h) 3)).C d e := by
  by_cases h0 : t.val % 11 = 0
  · rw [start_zero m c h t h0]; exact scrC_A m c t h0 h d e
  · rw [start_pos m c h t h0]; exact scrC_B m c t h0 h d e
theorem scrN (t : Fin cfg0.N) (d : Fin 128) :
    (outsAt0 m c t.val t.isLt).2.2.2.2.2.2.1 (ix3 h 0 d) = (entries (ahead m c t h (start m c t h) 3)).N d := by
  by_cases h0 : t.val % 11 = 0
  · rw [start_zero m c h t h0]; exact scrN_A m c t h0 h d
  · rw [start_pos m c h t h0]; exact scrN_B m c t h0 h d
theorem scrM (t : Fin cfg0.N) :
    (outsAt0 m c t.val t.isLt).2.2.2.2.2.2.2 (ix3 h 0 0) = (entries (ahead m c t h (start m c t h) 3)).M := by
  by_cases h0 : t.val % 11 = 0
  · rw [start_zero m c h t h0]; exact scrM_A m c t h0 h
  · rw [start_pos m c h t h0]; exact scrM_B m c t h0 h

theorem start_entries : ∀ (n : ℕ) (hn : n < cfg0.N), entries (start m c ⟨n, hn⟩ h) = Mlstm.stateAt (chunks m c h) (3 * n)
  | 0, hn => by
    rw [start_zero m c h ⟨0, hn⟩ rfl, entries_stA]
    rfl
  | n + 1, hn => by
    have hN : n + 1 < 11 := lt_of_lt_of_eq hn N_0
    have ih := ahead_entries m c ⟨n, by omega⟩ h _ (start_entries n (by omega)) 3
    rw [start_pos m c h ⟨n + 1, hn⟩ (by simp only; omega)]
    refine entries_stB m c ⟨n + 1, hn⟩ h _ (fun d e => ?_) (fun d => ?_) ?_
    · exact (scrC m c h ⟨n, by omega⟩ d e).trans (congrArg (fun s : Mlstm.State => s.C d e) ih)
    · exact (scrN m c h ⟨n, by omega⟩ d).trans (congrArg (fun s : Mlstm.State => s.N d) ih)
    · exact (scrM m c h ⟨n, by omega⟩).trans (congrArg (fun s : Mlstm.State => s.M) ih)

variable (t : Fin cfg0.N) (g : Fin 3)

theorem ahead_start : entries (ahead m c t h (start m c t h) (Fin.castSucc (n := 3) g))
    = Mlstm.stateAt (chunks m c h) (3 * t.val + g.val) :=
  ahead_entries m c t h _ (start_entries m c h t.val t.isLt) (Fin.castSucc (n := 3) g)

theorem cs_at (d : Fin 128) (e : Fin 256) :
    (outsAt0 m c t.val t.isLt).2.2.1 (ix4 g h d e) = (Mlstm.stateAt (chunks m c h) (3 * t.val + g.val)).C d e := by
  rw [← ahead_start]
  by_cases h0 : t.val % 11 = 0
  · rw [start_zero m c h t h0]; exact cs_A m c t h0 g h d e
  · rw [start_pos m c h t h0]; exact cs_B m c t h0 g h d e
theorem ns_at (d : Fin 128) :
    (outsAt0 m c t.val t.isLt).2.2.2.1 (ix4 g h 0 d) = (Mlstm.stateAt (chunks m c h) (3 * t.val + g.val)).N d := by
  rw [← ahead_start]
  by_cases h0 : t.val % 11 = 0
  · rw [start_zero m c h t h0]; exact ns_A m c t h0 g h d
  · rw [start_pos m c h t h0]; exact ns_B m c t h0 g h d
theorem ms_at :
    (outsAt0 m c t.val t.isLt).2.2.2.2.1 (ix4 g h 0 0) = (Mlstm.stateAt (chunks m c h) (3 * t.val + g.val)).M := by
  rw [← ahead_start]
  by_cases h0 : t.val % 11 = 0
  · rw [start_zero m c h t h0]; exact ms_A m c t h0 g h
  · rw [start_pos m c h t h0]; exact ms_B m c t h0 g h

theorem ht_at (i : Fin 64) (e : Fin 256) :
    (outsAt0 m c t.val t.isLt).2.1 (ix2 (⟨64 * g.val + i.val, by omega⟩ : Fin 192) (⟨256 * h.val + e.val, by omega⟩ : Fin 1024))
      = Mlstm.out (chunks m c h (3 * t.val + g.val)) (Mlstm.stateAt (chunks m c h) (3 * t.val + g.val)) i e := by
  rw [← ahead_start, ← chunkOfRows_eq m c t g h, ← outOf_at]
  by_cases h0 : t.val % 11 = 0
  · rw [start_zero m c h t h0]; exact ht_A m c t h0 g h i e
  · rw [start_pos m c h t h0]; exact ht_B m c t h0 g h i e

theorem hm_at (i : Fin 64) (e : Fin 256) :
    (outsAt0 m c t.val t.isLt).1 (ix2 (⟨64 * g.val + i.val, by omega⟩ : Fin 192) (⟨256 * h.val + e.val, by omega⟩ : Fin 1024))
      = Mlstm.gatedAt (pr m c) (fun j => weightM m c (ix1 j)) h (3 * t.val + g.val) i
          (Mlstm.out (chunks m c h (3 * t.val + g.val)) (Mlstm.stateAt (chunks m c h) (3 * t.val + g.val)) i) e := by
  have hN := lt_N t
  have key : (outsAt0 m c t.val t.isLt).1 (ix2 (⟨64 * g.val + i.val, by omega⟩ : Fin 192) (⟨256 * h.val + e.val, by omega⟩ : Fin 1024))
      = gatedOf h (row0 t g) (biasAt m c t) (normAt m c t) (rowsAt m c t g)
          (ahead m c t h (start m c t h) (Fin.castSucc (n := 3) g)) (ix2 i e) := by
    by_cases h0 : t.val % 11 = 0
    · rw [start_zero m c h t h0]; exact hm_A m c t h0 g h i e
    · rw [start_pos m c h t h0]; exact hm_B m c t h0 g h i e
  rw [key, gatedOf_at, chunkOfRows_eq, ahead_start]
  have ew : (hw h (normAt m c t) (ix2 0 e) : EReal) = weightM m c (ix1 ⟨h.val * 256 + e.val, by omega⟩) := by
    pointwise [hw]
    rw [normAt_at]
    exact congrArg (fun j => weightM m c (ix1 j)) (Fin.ext (by simp only; omega))
  have eo : (ho h (rowsAt m c t g) (ix2 i e) : EReal)
      = Mlstm.padded (fun r => pr m c r ⟨2048 + (h.val * 256 + e.val), by omega⟩) 0 ((3 * t.val + g.val) * 64 + i.val) := by
    pointwise [ho]
    rw [rowsAt_at]
    congr 2
    funext r
    exact congrArg (pr m c r) (Fin.ext (by simp only; omega))
  rw [ew, eo]
  unfold Mlstm.gatedAt
  by_cases hp : 48 ≤ (3 * t.val + g.val) * 64 + i.val
  · rw [Mlstm.padded_token _ _ _ hp (by omega), Mlstm.padded_token _ _ _ hp (by omega)]
  · rw [Mlstm.padded_ahead _ _ _ hp, Mlstm.padded_ahead _ _ _ hp]
    have h0 : 3 * t.val + g.val = 0 := by omega
    rw [h0]
    unfold Mlstm.gated
    rw [show Mlstm.out (chunks m c h 0) (Mlstm.stateAt (chunks m c h) 0) i e = 0 from
      Mlstm.out_ahead (pr m c) (bi m c) h i (by omega) e, zero_mul, zero_mul, mul_zero]

end Cert.MlstmFwdIdeal.Value
-- ==== Proof.MlstmFinal.lean ====
/- The forward call's final arrays, index by index. -/
module

public import proofs.«01_k».proof.Proof.MlstmOutputs
public import Idealize.ShloMosaic.Lib.Pipeline.Value

@[expose] public section

set_option maxRecDepth 16384

noncomputable section

open Idealize.ShloMosaic Idealize.ShloMosaic.TcCoe Idealize.ShloMosaic.Tactic Idealize.ShloMosaic.StableHlo
open Idealize.SL.Sem
open Idealize.ShloMosaic.Pipeline (Dat)

namespace Cert.MlstmFwdIdeal.Value

open Cert.MlstmFwdIdeal Cert.MlstmFwdIdeal.Gen Cert.Reals Model

variable (m : (ℓ : Loc nD τ sig) → Buf (Elt Ideal) ℓ) (c : Dev nD)

theorem emb3 (t : Fin cfg0.N) (i : Fin 192) (j : Fin 1024) : ((cfg0.win 3).blk t).view.emb (ix2 i j)
    = ix2 (⟨192 * t.val + i.val, by have := lt_N t; omega⟩ : Fin 2112) (⟨j.val, by omega⟩ : Fin 2048) := by
  have := lt_N t
  blk_ext [idx t]
theorem emb4 (t : Fin cfg0.N) (i : Fin 192) (j : Fin 1024) : ((cfg0.win 4).blk t).view.emb (ix2 i j)
    = ix2 (⟨192 * t.val + i.val, by have := lt_N t; omega⟩ : Fin 2112) j := by
  have := lt_N t
  blk_ext [idx t]
theorem emb5 (t : Fin cfg0.N) (g : Fin 3) (h : Fin 4) (d : Fin 128) (e : Fin 256) :
    ((cfg0.win 5).blk t).view.emb (ix4 g h d e) = ix4 (⟨3 * t.val + g.val, by have := lt_N t; omega⟩ : Fin 33) h d e := by
  have := lt_N t
  blk_ext [idx t]
theorem emb6 (t : Fin cfg0.N) (g : Fin 3) (h : Fin 4) (d : Fin 128) :
    ((cfg0.win 6).blk t).view.emb (ix4 g h 0 d) = ix4 (⟨3 * t.val + g.val, by have := lt_N t; omega⟩ : Fin 33) h 0 d := by
  have := lt_N t
  blk_ext [idx t]
theorem emb7 (t : Fin cfg0.N) (g : Fin 3) (h : Fin 4) :
    ((cfg0.win 7).blk t).view.emb (ix4 g h 0 0) = ix4 (⟨3 * t.val + g.val, by have := lt_N t; omega⟩ : Fin 33) h 0 0 := by
  have := lt_N t
  blk_ext [idx t]

theorem final4 : (dats m 0 c).arrAt 4 cfg0.N = fun y : S2112x1024.Idx => Mlstm.outArr (pr m c) (bi m c) (y 0) (y 1) := by
  refine (dats m 0 c).arrAt_eq_of_covers 4 _ (by decide +kernel) fun t _ y => ?_
  have hN := lt_N t
  idx_vars y
  rw [emb4 t]
  blk_simp
  rw [after0_4]
  have key := ht_at m c ⟨y1.val / 256, by omega⟩ t ⟨y0.val / 64, by omega⟩ ⟨y0.val % 64, by omega⟩ ⟨y1.val % 256, by omega⟩
  have e0 : (⟨64 * (y0.val / 64) + y0.val % 64, by omega⟩ : Fin 192) = y0 := Fin.ext (by simp only; omega)
  have e1 : (⟨256 * (y1.val / 256) + y1.val % 256, by omega⟩ : Fin 1024) = y1 := Fin.ext (by simp only; omega)
  simp only [e0, e1] at key
  refine key.trans (Mlstm.outArr_at (pr m c) (bi m c) _ _ _ _ _ _ ?_ ?_).symm
  · show 192 * t.val + y0.val = (3 * t.val + y0.val / 64) * 64 + y0.val % 64
    omega
  · show y1.val = y1.val / 256 * 256 + y1.val % 256
    omega

theorem final5 : (dats m 0 c).arrAt 5 cfg0.N
    = fun y : S33x4x128x256.Idx => (Mlstm.stateAt (chunks m c (y 1)) (y 0).val).C (y 2) (y 3) := by
  refine (dats m 0 c).arrAt_eq_of_covers 5 _ (by decide +kernel) fun t _ y => ?_
  idx_vars y
  rw [emb5 t]
  blk_simp
  rw [after0_5]
  exact cs_at m c y1 t y0 y2 y3

theorem final6 : (dats m 0 c).arrAt 6 cfg0.N
    = fun y : S33x4x1x128.Idx => (Mlstm.stateAt (chunks m c (y 1)) (y 0).val).N (y 3) := by
  refine (dats m 0 c).arrAt_eq_of_covers 6 _ (by decide +kernel) fun t _ y => ?_
  idx_vars y
  obtain rfl : y2 = 0 := Subsingleton.elim _ _
  rw [emb6 t]
  blk_simp
  rw [after0_6]
  exact ns_at m c y1 t y0 y3

theorem final7 : (dats m 0 c).arrAt 7 cfg0.N
    = fun y : S33x4x1x1.Idx => (Mlstm.stateAt (chunks m c (y 1)) (y 0).val).M := by
  refine (dats m 0 c).arrAt_eq_of_covers 7 _ (by decide +kernel) fun t _ y => ?_
  idx_vars y
  obtain rfl : y2 = 0 := Subsingleton.elim _ _
  obtain rfl : y3 = 0 := Subsingleton.elim _ _
  rw [emb7 t]
  blk_simp
  rw [after0_7]
  exact ms_at m c y1 t y0

theorem idx_inj3 : ∀ t t' : Fin cfg0.N, win0_3.index t = win0_3.index t' → t = t' :=
  (by decide +kernel : ∀ t t' : Fin grid0.N, win0_3.index t = win0_3.index t' → t = t')
theorem flush3 : ∀ t : Fin cfg0.N, (cfg0.win 3).flush t = true :=
  (by decide +kernel : ∀ t : Fin grid0.N, _)

/-- The gated rows lie in the first 1024 columns of their array. -/
theorem final3 (r : Fin 2112) (j : Fin 1024) : (dats m 0 c).arrAt 3 cfg0.N (ix2 r (⟨j.val, by omega⟩ : Fin 2048))
    = Mlstm.gatedArr (pr m c) (bi m c) (fun j => weightM m c (ix1 j)) r j := by
  have hr := r.isLt
  have hj := j.isLt
  let t : Fin cfg0.N := ⟨r.val / 192, lt_of_lt_of_eq (by omega : r.val / 192 < 11) N_0.symm⟩
  have ht : t.val = r.val / 192 := rfl
  have hb := congrFun ((dats m 0 c).read_blk_arrAt_eq_flushed 3
    (fun t t' _ _ hne => (cfg0.win 3).disjoint_blk fun h => hne (idx_inj3 t t' h)) cfg0.N t t.isLt (flush3 t))
    (ix2 (⟨r.val % 192, by omega⟩ : Fin 192) j)
  have key := hm_at m c ⟨j.val / 256, by omega⟩ t ⟨r.val % 192 / 64, by omega⟩ ⟨r.val % 192 % 64, by omega⟩ ⟨j.val % 256, by omega⟩
  have e0 : (⟨64 * (r.val % 192 / 64) + r.val % 192 % 64, by omega⟩ : Fin 192) = ⟨r.val % 192, by omega⟩ :=
    Fin.ext (by simp only; omega)
  have e1 : (⟨256 * (j.val / 256) + j.val % 256, by omega⟩ : Fin 1024) = j := Fin.ext (by simp only; omega)
  simp only [e0, e1] at key
  have e2 : (ix2 r (⟨j.val, by omega⟩ : Fin 2048) : S2112x2048.Idx)
      = ((cfg0.win 3).blk t).view.emb (ix2 (⟨r.val % 192, by omega⟩ : Fin 192) j) := by
    rw [emb3 t]
    exact congrArg (fun q : Fin 2112 => (ix2 q (⟨j.val, by omega⟩ : Fin 2048) : S2112x2048.Idx)) (Fin.ext (by simp only; omega))
  rw [e2]
  refine Eq.trans hb ?_
  blk_simp
  rw [after0_3]
  refine key.trans (Mlstm.gatedArr_at (pr m c) (bi m c) _ _ _ _ _ _ _ ?_ ?_).symm
  · simp only; omega
  · simp only; omega

/-- The gated rows as the call returns them. -/
theorem result6 (r : PUnit × MemSt nD τ sig (Elt Ideal))
    (h : Pipeline.FramePost cfgs (dats m) 0 (Pipeline.afterTail₀ cfgs (dats m) 0 (V0 m) [hostOps1]) r) :
    r.2.mem ((c : Thread nD τ).loc main_v6)
      = fun y : S2112x1024.Idx => Mlstm.gatedArr (pr m c) (bi m c) (fun j => weightM m c (ix1 j)) (y 0) (y 1) := by
  refine ((h c).2 main_v6 (Pipeline.mem_restRefs_of main_v6 (by decide) (by decide))).trans ?_
  have e := Pipeline.withArrays_arr spec0 launch0.win.arr_inj c (V0 m c) (fun w => (dats m 0 c).arrAt w cfg0.N) 3
  unfold Pipeline.afterTail₀
  simp only [List.flatten_cons, List.flatten_nil, List.append_nil]
  after_results_simp
  funext y
  idx_vars y
  show extractStridedSlice S2112x1024 ![0, 0] (Pipeline.withArrays spec0 c (V0 m c) (fun w => (dats m 0 c).arrAt w cfg0.N)
    (Proc.devRef .tc (Pipeline.arrRef spec0 3))) slices_S2112x2048_S2112x1024_0_0 (ix2 y0 y1) = _
  rw [e]
  exact (by pointwise : extractStridedSlice S2112x1024 ![0, 0] ((dats m 0 c).arrAt 3 cfg0.N) slices_S2112x2048_S2112x1024_0_0 (ix2 y0 y1)
    = (dats m 0 c).arrAt 3 cfg0.N (ix2 y0 (⟨y1.val, by omega⟩ : Fin 2048))).trans (final3 m c y0 y1)

end Cert.MlstmFwdIdeal.Value
-- ==== Proof.MlstmCumsum.lean ====
/- The running sum of a row of 64 numbers, as the reference's windowed sum. -/
module

public import proofs.«01_k».proof.Proof.MlstmSpec
public import proofs.«01_k».proof.Proof.Gen.MlstmFwdRefIdeal

@[expose] public section

noncomputable section

open Idealize.ShloMosaic

namespace Cert.MlstmFwdRefIdeal.Trip

open Cert.MlstmFwdRefIdeal Cert.MlstmFwdRefIdeal.Gen

theorem foldl_sum {n : ℕ} (g : Fin n → EReal) (v : EReal) :
    (List.finRange n).foldl (fun r i => r + g i) v = v + ∑ i, g i := by
  rw [Fin.sum_univ_def]
  generalize List.finRange n = l
  induction l generalizing v with
  | nil => simp
  | cons a l ih => simp [ih, add_assoc]

/-- The coordinates of the window's position `n`. -/
def win (n : Fin (⟨3, ![1, 1, 64]⟩ : Shape).numel) (a : Fin 3) : ℕ := ((⟨3, ![1, 1, 64]⟩ : Shape).rowMajor.symm n a).val

theorem window_at (n : Fin (⟨3, ![1, 1, 64]⟩ : Shape).numel) : win n 0 = 0 ∧ win n 1 = 0 ∧ win n 2 = n.val := by
  revert n
  decide +kernel

theorem sum_shift (t : Fin 64) (x : Fin 64 → EReal) :
    (∑ n : Fin 64, if hn : 63 ≤ t.val + n.val then x ⟨t.val + n.val - 63, by omega⟩ else 0) = Mlstm.cum x t := by
  refine Fintype.sum_equiv (Equiv.addRight (t + 1)) _ _ fun n => ?_
  have hv : ((Equiv.addRight (t + 1)) n).val = (n.val + (t.val + 1) % 64) % 64 := by
    simp [Fin.val_add, Nat.add_assoc]
  by_cases hn : 63 ≤ t.val + n.val
  · rw [dif_pos hn, if_pos (Fin.le_def.mpr (by omega))]
    exact congrArg x (Fin.ext (by rw [hv]; simp only; omega))
  · rw [dif_neg hn, if_neg (fun h => by have := Fin.le_def.mp h; omega)]

theorem reduceWindow_at (x : FVec Ideal S1x4x64 .f32) (init : FVec Ideal S_ .f32) (hi : ∀ i, init i = 0) (h : Fin 4) (t : Fin 64) :
    Host.reduceWindowAdd ![1, 1, 64] ![1, 1, 1] ![0, 0, 63] ![0, 0, 0] x init
        reduceWindows_S1x4x64_S1x4x64_w1s1p0_0_w1s1p0_0_w64s1p63_0 h_S_ (ix3 0 h t)
      = Mlstm.cum (fun s => x (ix3 0 h s)) t := by
  rw [← sum_shift]
  unfold Host.reduceWindowAdd
  show Ideal.hostReduceWindowAdd _ _ _ _ _ _ _ _ = _
  unfold Ideal.hostReduceWindowAdd Host.reduceWindow
  dsimp only
  rw [foldl_sum, hi, zero_add]
  refine Fintype.sum_equiv (finCongr (by decide)) _ _ fun n => ?_
  obtain ⟨h0, h1, h2⟩ := window_at n
  have hlt := (finCongr (by decide : (⟨3, ![1, 1, 64]⟩ : Shape).numel = 64) n).isLt
  have hc : (finCongr (by decide : (⟨3, ![1, 1, 64]⟩ : Shape).numel = 64) n).val = n.val := rfl
  split
  · next hin =>
    have := hin 2
    change 63 ≤ t.val * 1 + win n 2 ∧ _ at this
    rw [dif_pos (by omega)]
    refine congrArg x (funext fun a => Fin.ext ?_)
    match a with
    | ⟨0, _⟩ => show 0 * 1 + win n 0 - 0 = 0; rw [h0]
    | ⟨1, _⟩ => show h.val * 1 + win n 1 - 0 = h.val; rw [h1]; omega
    | ⟨2, _⟩ => show t.val * 1 + win n 2 - 63 = t.val + n.val - 63; rw [h2]; omega
  · next hin =>
    rw [dif_neg]
    intro hle
    refine hin fun a => ?_
    match a with
    | ⟨0, _⟩ => show 0 ≤ 0 * 1 + win n 0 ∧ 0 * 1 + win n 0 - 0 < 1; rw [h0]; omega
    | ⟨1, _⟩ => show 0 ≤ h.val * 1 + win n 1 ∧ h.val * 1 + win n 1 - 0 < 4; rw [h1]; omega
    | ⟨2, _⟩ => show 63 ≤ t.val * 1 + win n 2 ∧ t.val * 1 + win n 2 - 63 < 64; rw [h2]; omega

end Cert.MlstmFwdRefIdeal.Trip
-- ==== Proof.MlstmTrip.lean ====
/- One trip of the reference's loop, entry by entry: the values it computes of the carried buffers are the recurrence's. -/
module

public import proofs.«01_k».proof.Proof.MlstmCumsum
public import proofs.«01_k».proof.Proof.Gen.MlstmFwdRefIdeal.Run
public import proofs.«01_k».proof.Proof.Gen.MlstmFwdRefIdeal.Step
public import proofs.«01_k».proof.Proof.Select
public import Idealize.ShloMosaic.Lib.WordCmp

@[expose] public section

set_option maxRecDepth 16384

noncomputable section

open Idealize.ShloMosaic Idealize.ShloMosaic.TcCoe Idealize.ShloMosaic.Tactic

namespace Cert.MlstmFwdRefIdeal.Trip

open Cert.MlstmFwdRefIdeal Cert.MlstmFwdRefIdeal.Gen Cert.MlstmFwdRefIdeal.Value Idealize.ShloMosaic.WordCmp

theorem neg_inf : Ideal.ofBits .f32 4286578688#32 = ⊥ := by simp [Ideal.ofBits, Ideal.ieee]

/-- The causal mask. -/
theorem mask_at (t s : Fin 64) : Step.K_main_v38 (F := Ideal) (ix2 t s) = if s ≤ t then 1#1 else 0#1 := by
  revert t s; decide +kernel

/-- The start of a slice or an update at the counter. -/
theorem start5 (n : Fin 33) (a : Fin 5) :
    ((![constantI S_ 32 (BitVec.ofNat 32 n.val), constantI S_ 32 0#32, constantI S_ 32 0#32, constantI S_ 32 0#32,
      constantI S_ 32 0#32] : Fin 5 → (⟨S_, .i32⟩ : BufTy).Contents (Elt Ideal)) a (Shape.Idx.first h_S_)).toInt = ((![n.val, 0, 0, 0, 0] a : ℕ) : ℤ) := by
  revert n a; decide +kernel
theorem start4 (n : Fin 33) (a : Fin 4) :
    ((![constantI S_ 32 (BitVec.ofNat 32 n.val), constantI S_ 32 0#32, constantI S_ 32 0#32, constantI S_ 32 0#32]
      : Fin 4 → (⟨S_, .i32⟩ : BufTy).Contents (Elt Ideal)) a (Shape.Idx.first h_S_)).toInt = ((![n.val, 0, 0, 0] a : ℕ) : ℤ) := by
  revert n a; decide +kernel
theorem start3 (n : Fin 33) (a : Fin 3) :
    ((![constantI S_ 32 (BitVec.ofNat 32 n.val), constantI S_ 32 0#32, constantI S_ 32 0#32]
      : Fin 3 → (⟨S_, .i32⟩ : BufTy).Contents (Elt Ideal)) a (Shape.Idx.first h_S_)).toInt = ((![n.val, 0, 0] a : ℕ) : ℤ) := by
  revert n a; decide +kernel

theorem fits_q (n : Fin 33) : S33x1x4x64x128.Slices ![n.val, 0, 0, 0, 0] S1x1x4x64x128 := by revert n; decide +kernel
theorem fits_v (n : Fin 33) : S33x1x4x64x256.Slices ![n.val, 0, 0, 0, 0] S1x1x4x64x256 := by revert n; decide +kernel
theorem fits_g (n : Fin 33) : S33x1x4x64.Slices ![n.val, 0, 0, 0] S1x1x4x64 := by revert n; decide +kernel

theorem fits_C (n : Fin 33) : S33x1x4x128x256.Slices ![n.val, 0, 0, 0, 0] S1x1x4x128x256 := by revert n; decide +kernel
theorem fits_N (n : Fin 33) : S33x1x4x128.Slices ![n.val, 0, 0, 0] S1x1x4x128 := by revert n; decide +kernel
theorem fits_M (n : Fin 33) : S33x1x4.Slices ![n.val, 0, 0] S1x1x4 := by revert n; decide +kernel

variable (V : Valuation τ sig (Elt Ideal)) (n : Fin 33) (h : Fin 4)

/-- The chunk the carried buffers hold for trip `n`. -/
def chunk : Mlstm.Chunk where
  q t d := V (Proc.devRef .tc main_v56_0) (ix5 n 0 h t d)
  k t d := V (Proc.devRef .tc main_v56_1) (ix5 n 0 h t d)
  v t e := V (Proc.devRef .tc main_v56_2) (ix5 n 0 h t e)
  li t := V (Proc.devRef .tc main_v56_3) (ix4 n 0 h t)
  lf t := V (Proc.devRef .tc main_v56_4) (ix4 n 0 h t)

/-- The state they hold. -/
def state : Mlstm.State where
  C d e := V (Proc.devRef .tc main_v56_7) (ix4 0 h d e)
  N d := V (Proc.devRef .tc main_v56_8) (ix3 0 h d)
  M := V (Proc.devRef .tc main_v56_9) (ix2 0 h)

/-- The counter is at `n`, and the causal mask is in place. -/
structure At : Prop where
  counter : V (Proc.devRef .tc main_v56_6) = constantI S_ 32 (BitVec.ofNat 32 n.val)
  mask : V (Proc.devRef .tc main_v56_5) = Step.K_main_v38 (F := Ideal)

variable {V n} (hV : At V n) (t : Fin 64)

include hV

theorem q_at (d : Fin 128) : res_main_while0b_v94 V (ix4 0 h t d) = (chunk V n h).q t d := by
  unfold res_main_while0b_v94
  rw [hV.counter]
  refine (congrFun (congrArg (fun y => shapeCast _ y _) (dynamicSlice_eq_extract _ _ _ _ _ (fits_q n) (start5 n))) _).trans ?_
  pointwise []
  rfl
theorem k_at (d : Fin 128) : res_main_while0b_v95 V (ix4 0 h t d) = (chunk V n h).k t d := by
  unfold res_main_while0b_v95
  rw [hV.counter]
  refine (congrFun (congrArg (fun y => shapeCast _ y _) (dynamicSlice_eq_extract _ _ _ _ _ (fits_q n) (start5 n))) _).trans ?_
  pointwise []
  rfl
theorem v_at (e : Fin 256) : res_main_while0b_v96 V (ix4 0 h t e) = (chunk V n h).v t e := by
  unfold res_main_while0b_v96
  rw [hV.counter]
  refine (congrFun (congrArg (fun y => shapeCast _ y _) (dynamicSlice_eq_extract _ _ _ _ _ (fits_v n) (start5 n))) _).trans ?_
  pointwise []
  rfl
theorem li_at : res_main_while0b_v97 V (ix3 0 h t) = (chunk V n h).li t := by
  unfold res_main_while0b_v97
  rw [hV.counter]
  refine (congrFun (congrArg (fun y => shapeCast _ y _) (dynamicSlice_eq_extract _ _ _ _ _ (fits_g n) (start4 n))) _).trans ?_
  pointwise []
  rfl
theorem cum_at : res_main_while0b_v99 V (ix3 0 h t) = Mlstm.cum (chunk V n h).lf t := by
  unfold res_main_while0b_v99
  rw [hV.counter]
  refine (reduceWindow_at _ _ (fun i => by pointwise []) h t).trans (congrArg (fun x => Mlstm.cum x t) (funext fun s => ?_))
  refine (congrFun (congrArg (fun y => shapeCast _ y _) (dynamicSlice_eq_extract _ _ _ _ _ (fits_g n) (start4 n))) _).trans ?_
  pointwise []
  rfl
theorem dmat_at (s : Fin 64) : res_main_while0b_v108 V (ix4 0 h t s)
    = Mlstm.dmat (Mlstm.cum (chunk V n h).lf) (chunk V n h).li t s := by
  unfold res_main_while0b_v108
  rw [hV.mask]
  pointwise []
  simp only [cum_at h hV, li_at h hV, mask_at]
  unfold Mlstm.dmat
  split
  · rfl
  · exact neg_inf
theorem mt_at : res_main_while0b_v113 V (ix3 0 h t)
    = Mlstm.mt (Mlstm.cum (chunk V n h).lf) (chunk V n h).li (state V h).M t := by
  pointwise [res_main_while0b_v113, res_main_while0b_v111]
  simp only [cum_at h hV, neg_inf]
  exact congrArg (max (α := EReal) _) ((Shape.ReducesTo.fold_fiber_r4_a3 reducesTo_S1x4x64x64_S1x4x64_d3 (ix3 0 h t) (α := EReal) max ⊥ _).trans
    (congrArg (Finset.univ.fold (β := EReal) max ⊥) (funext (dmat_at h hV t))))
theorem wInter_at : res_main_while0b_v115 V (ix3 0 h t)
    = Mlstm.wInter (Mlstm.cum (chunk V n h).lf) (chunk V n h).li (state V h).M t := by
  pointwise [res_main_while0b_v115, res_main_while0b_v111]
  simp only [cum_at h hV, mt_at h hV]
  rfl
theorem smat_at (s : Fin 64) : res_main_while0b_v121 V (ix4 0 h t s)
    = Mlstm.smat (chunk V n h) (Mlstm.cum (chunk V n h).lf) (state V h) t s := by
  pointwise [res_main_while0b_v121]
  simp only [q_at h hV, k_at h hV, dmat_at h hV, mt_at h hV]
  rfl
theorem bEnd_at : res_main_while0b_v140 V (ix2 0 h) = Mlstm.cum (chunk V n h).lf 63 := by
  pointwise [res_main_while0b_v140]
  exact cum_at h hV 63
theorem decay_at : res_main_while0b_v144 V (ix3 0 h t) = Mlstm.decay (Mlstm.cum (chunk V n h).lf) (chunk V n h).li t := by
  pointwise [res_main_while0b_v144]
  simp only [cum_at h hV, li_at h hV, bEnd_at h hV]
  rfl
omit t in
theorem mNew_at : res_main_while0b_v147 V (ix2 0 h)
    = Mlstm.mNew (Mlstm.cum (chunk V n h).lf) (chunk V n h).li (state V h).M := by
  pointwise [res_main_while0b_v147, res_main_while0b_v145]
  simp only [bEnd_at h hV, neg_inf]
  exact congrArg (max (α := EReal) _) ((Shape.ReducesTo.fold_fiber_r3_a2 reducesTo_S1x4x64_S1x4_d2 (ix2 0 h) (α := EReal) max ⊥ _).trans
    (congrArg (Finset.univ.fold (β := EReal) max ⊥) (funext (decay_at h hV))))
theorem wOld_at : res_main_while0b_v149 V (ix2 0 h)
    = Mlstm.wOld (Mlstm.cum (chunk V n h).lf) (chunk V n h).li (state V h).M := by
  pointwise [res_main_while0b_v149, res_main_while0b_v145]
  simp only [bEnd_at h hV, mNew_at h hV]
  rfl
theorem wIn_at : res_main_while0b_v153 V (ix3 0 h t)
    = Mlstm.wIn (Mlstm.cum (chunk V n h).lf) (chunk V n h).li (state V h).M t := by
  pointwise [res_main_while0b_v153]
  simp only [decay_at h hV, mNew_at h hV]
  rfl

/-! ## What the trip leaves -/

omit t in
theorem state_next : state (STEP V) h = Mlstm.next (chunk V n h) (state V h) := by
  unfold state Mlstm.next Mlstm.nextB
  congr 1
  · funext d e
    rw [STEP_main_v56_7]
    rw [step_main_v56_7, id_eq]
    pointwise []
    simp only [wOld_at h hV, wIn_at h hV, k_at h hV, v_at h hV]
    rfl
  · funext d
    rw [STEP_main_v56_8]
    rw [step_main_v56_8, id_eq]
    pointwise []
    simp only [wOld_at h hV, wIn_at h hV, k_at h hV]
    rfl
  · rw [STEP_main_v56_9]
    exact mNew_at h hV

theorem out_at (i : Fin 33) (e : Fin 256) : STEP V (Proc.devRef .tc main_v56_10) (ix5 i 0 h t e)
    = if i = n then Mlstm.out (chunk V n h) (state V h) t e else V (Proc.devRef .tc main_v56_10) (ix5 i 0 h t e) := by
  rw [STEP_main_v56_10]
  unfold step_main_v56_10
  rw [hV.counter]
  refine (congrFun (dynamicUpdateSlice_eq_update _ _ _ _ _ (fits_v n) (start5 n)) _).trans ?_
  pointwise []
  simp only [wInter_at h hV, q_at h hV, smat_at h hV, v_at h hV, mt_at h hV]
  by_cases hi : i = n
  · rw [if_pos hi, dif_pos (by rw [hi]; omega)]
    rfl
  · rw [if_neg hi, dif_neg (fun h => hi (Fin.ext (by omega)))]
omit t in
theorem keepC_at (i : Fin 33) (d : Fin 128) (e : Fin 256): STEP V (Proc.devRef .tc main_v56_11) (ix5 i 0 h d e)
    = if i = n then (state V h).C d e else V (Proc.devRef .tc main_v56_11) (ix5 i 0 h d e) := by
  rw [STEP_main_v56_11]
  unfold step_main_v56_11
  rw [hV.counter]
  refine (congrFun (dynamicUpdateSlice_eq_update _ _ _ _ _ (fits_C n) (start5 n)) _).trans ?_
  pointwise []
  by_cases hi : i = n
  · rw [if_pos hi, dif_pos (by rw [hi]; omega)]
    rfl
  · rw [if_neg hi, dif_neg (fun h => hi (Fin.ext (by omega)))]
omit t in
theorem keepN_at (i : Fin 33) (d : Fin 128): STEP V (Proc.devRef .tc main_v56_12) (ix4 i 0 h d)
    = if i = n then (state V h).N d else V (Proc.devRef .tc main_v56_12) (ix4 i 0 h d) := by
  rw [STEP_main_v56_12]
  unfold step_main_v56_12
  rw [hV.counter]
  refine (congrFun (dynamicUpdateSlice_eq_update _ _ _ _ _ (fits_N n) (start4 n)) _).trans ?_
  pointwise []
  by_cases hi : i = n
  · rw [if_pos hi, dif_pos (by rw [hi]; omega)]
    rfl
  · rw [if_neg hi, dif_neg (fun h => hi (Fin.ext (by omega)))]
omit t in
theorem keepM_at (i : Fin 33) : STEP V (Proc.devRef .tc main_v56_13) (ix3 i 0 h)
    = if i = n then (state V h).M else V (Proc.devRef .tc main_v56_13) (ix3 i 0 h) := by
  rw [STEP_main_v56_13]
  unfold step_main_v56_13
  rw [hV.counter]
  refine (congrFun (dynamicUpdateSlice_eq_update _ _ _ _ _ (fits_M n) (start3 n)) _).trans ?_
  pointwise []
  by_cases hi : i = n
  · rw [if_pos hi, dif_pos (by rw [hi]; omega)]
    rfl
  · rw [if_neg hi, dif_neg (fun h => hi (Fin.ext (by omega)))]

end Cert.MlstmFwdRefIdeal.Trip
-- ==== Proof.MlstmStart.lean ====
/- What the reference hands its loop: every head's chunks of the projection. -/
module

public import proofs.«01_k».proof.Proof.MlstmTrip

@[expose] public section

set_option maxRecDepth 65536

noncomputable section

open Idealize.ShloMosaic Idealize.ShloMosaic.TcCoe Idealize.ShloMosaic.Tactic Idealize.ShloMosaic.StableHlo

namespace Cert.MlstmFwdRefIdeal.Trip

open Cert.MlstmFwdRefIdeal Cert.MlstmFwdRefIdeal.Gen Cert.MlstmFwdRefIdeal.Value

theorem sitofp_zero : FloatOps.sitofp (F := Ideal) .f32 0#32 = (0 : EReal) := by
  show (((0#32 : BitVec 32).toInt : ℝ) : EReal) = 0
  simp

/-- A capped logit is a number. -/
theorem cap_real (x : EReal) : ∃ r : ℝ, Mlstm.cap x = r := by
  have h15 : Ideal.ofBits .f32 0x41700000#32 = ((15 : ℝ) : EReal) := by
    simp [Ideal.ofBits, Ideal.ieee]
    rw [← EReal.coe_mul]
    norm_num
  have ht : ∀ y : EReal, ∃ r : ℝ, Ideal.tanh y = r := by
    intro y
    induction y with
    | bot => exact ⟨-1, rfl⟩
    | top => exact ⟨1, rfl⟩
    | coe y => exact ⟨Real.tanh y, rfl⟩
  obtain ⟨r, hr⟩ := ht (Ideal.div x (Ideal.ofBits .f32 0x41700000#32))
  exact ⟨15 * r, by unfold Mlstm.cap; rw [hr, h15, EReal.coe_mul]⟩

theorem logSigmoid_eq (x : EReal) :
    -(max (-Mlstm.cap x) 0 + Ideal.log1p (Ideal.exp (-FloatOps.absf (F := Ideal) (φ := .f32) (-Mlstm.cap x))))
      = Mlstm.logSigmoid (Mlstm.cap x) := by
  obtain ⟨r, hr⟩ := cap_real x
  unfold Mlstm.logSigmoid
  rw [hr]
  have ha : FloatOps.absf (F := Ideal) (φ := .f32) (-(r : EReal)) = max (r : EReal) (-r) := by
    show max (-(r : EReal)) (-(-(r : EReal))) = _
    rw [neg_neg, max_comm]
  have hm : max (-(r : EReal)) 0 = ((max (-r) 0 : ℝ) : EReal) := by
    rw [← EReal.coe_neg, ← EReal.coe_zero]
    exact (EReal.coe_strictMono.monotone.map_max).symm
  have hn : min (r : EReal) 0 = ((min r 0 : ℝ) : EReal) := by
    rw [← EReal.coe_zero]
    exact (EReal.coe_strictMono.monotone.map_min).symm
  rw [ha, hm, hn, EReal.neg_add (.inl (EReal.coe_ne_bot _)) (.inl (EReal.coe_ne_top _)), ← EReal.coe_neg]
  have h : -max (-r) 0 = min r 0 := by rw [← min_neg_neg, neg_neg, neg_zero]
  rw [h]
  rfl

section Rows

variable (P : FVec Ideal S1x2064x3200 .f32) (B : FVec Ideal S8 .f32) (n : Fin 33) (h : Fin 4) (t : Fin 64)

theorem start_q (d : Fin 128) : Step.A_main_v43 (F := Ideal) P B (ix5 n 0 h t d)
    = (Mlstm.chunkAt (fun i j => P (ix3 0 i j)) (fun i => B (ix1 i)) h n).q t d := by
  pointwise [Step.A_main_v43, Step.A_main_v42, Step.A_main_v32, Step.A_main_v14, Step.A_main_v12, Step.A_main_v9, Step.A_main_v0, Step.K_main_v13, Step.K_main_cst, Step.K_main_call1_v0, Step.K_main_c]
  exact dite_congr rfl (fun _ => rfl) (fun _ => sitofp_zero)
theorem start_k (d : Fin 128) : Step.A_main_v45 (F := Ideal) P B (ix5 n 0 h t d)
    = (Mlstm.chunkAt (fun i j => P (ix3 0 i j)) (fun i => B (ix1 i)) h n).k t d := by
  pointwise [Step.A_main_v45, Step.A_main_v44, Step.A_main_v33, Step.A_main_v15, Step.A_main_v10, Step.A_main_v1, Step.K_main_call2_v0, Step.K_main_c_4]
  exact dite_congr rfl (fun _ => rfl) (fun _ => sitofp_zero)
theorem start_v (e : Fin 256) : Step.A_main_v47 (F := Ideal) P B (ix5 n 0 h t e)
    = (Mlstm.chunkAt (fun i j => P (ix3 0 i j)) (fun i => B (ix1 i)) h n).v t e := by
  pointwise [Step.A_main_v47, Step.A_main_v46, Step.A_main_v34, Step.A_main_v16, Step.A_main_v11, Step.A_main_v2, Step.K_main_call3_v0, Step.K_main_c_5]
  exact dite_congr rfl (fun _ => rfl) (fun _ => sitofp_zero)
theorem start_li : Step.A_main_v49 (F := Ideal) P B (ix4 n 0 h t)
    = (Mlstm.chunkAt (fun i j => P (ix3 0 i j)) (fun i => B (ix1 i)) h n).li t := by
  pointwise [Step.A_main_v49, Step.A_main_v48, Step.A_main_v35, Step.A_main_v22, Step.A_main_v21, Step.A_main_v19, Step.A_main_v18, Step.A_main_v7, Step.A_main_v6, Step.A_main_v5, Step.A_main_v4, Step.A_main_v3, Step.K_main_v17, Step.K_main_cst_0, Step.K_main_v20, Step.K_main_cst_1, Step.K_main_call4_v0, Step.K_main_cst_6]
  exact dite_congr rfl (fun _ => rfl) (fun _ => neg_inf)
theorem logit_f (r : Fin 2064) : Step.A_main_v28 (F := Ideal) P B (ix3 0 h r)
     = Mlstm.cap (P (ix3 0 r ⟨3072 + (4 + h.val), by omega⟩) + B (ix1 ⟨4 + h.val, by omega⟩)) := by
  pointwise [Step.A_main_v28, Step.A_main_v27, Step.A_main_v25, Step.A_main_v24, Step.A_main_v8, Step.A_main_v6, Step.A_main_v5, Step.A_main_v4, Step.A_main_v3, Step.K_main_v23, Step.K_main_cst_2, Step.K_main_v26, Step.K_main_cst_3]
  rfl
theorem start_lf : Step.A_main_v51 (F := Ideal) P B (ix4 n 0 h t)
    = (Mlstm.chunkAt (fun i j => P (ix3 0 i j)) (fun i => B (ix1 i)) h n).lf t := by
  pointwise [Step.A_main_v51, Step.A_main_v50, Step.A_main_v36, Step.A_main_v31, Step.A_main_v30, Step.A_main_call0_v4, Step.A_main_call0_v11, Step.A_main_call0_v10, Step.A_main_call0_v9, Step.A_main_call0_v8, Step.A_main_call0_v7, Step.A_main_call0_v3, Step.A_main_call0_v1, Step.A_main_v29, Step.K_main_call0_v0, Step.K_main_call0_v2, Step.K_main_call0_cst, Step.K_main_call5_v0, Step.K_main_c_7]
  simp only [ne_eq, not_true_eq_false, if_false, logit_f]
  exact dite_congr rfl (fun _ => logSigmoid_eq _) (fun _ => sitofp_zero)
end Rows
section Run

variable (m : (ℓ : Loc nD τ sig) → Buf (Elt Ideal) ℓ) (c : Dev nD)

/-- The projection and the gates' bias. -/
def proj : FVec Ideal S1x2064x3200 .f32 := m ((c.tc : Thread nD τ).loc main_arg0)
def bias : FVec Ideal S8 .f32 := m ((c.tc : Thread nD τ).loc main_arg1)

/-- What chunk `n` brings to head `h`. -/
def chunks (h : Fin 4) (n : ℕ) : Mlstm.Chunk :=
  Mlstm.chunkAt (fun i j => proj m c (ix3 0 i j)) (fun i => bias m c (ix1 i)) h n

theorem entry_0 : entryContents preI m c (Proc.devRef .tc main_v56_0) = Step.A_main_v43 (F := Ideal) (proj m c) (bias m c) := by
  simp only [entryContents, afterL_cons, afterL_nil]
  after_reads_simp
  rfl
theorem entry_1 : entryContents preI m c (Proc.devRef .tc main_v56_1) = Step.A_main_v45 (F := Ideal) (proj m c) (bias m c) := by
  simp only [entryContents, afterL_cons, afterL_nil]
  after_reads_simp
  rfl
theorem entry_2 : entryContents preI m c (Proc.devRef .tc main_v56_2) = Step.A_main_v47 (F := Ideal) (proj m c) (bias m c) := by
  simp only [entryContents, afterL_cons, afterL_nil]
  after_reads_simp
  rfl
theorem entry_3 : entryContents preI m c (Proc.devRef .tc main_v56_3) = Step.A_main_v49 (F := Ideal) (proj m c) (bias m c) := by
  simp only [entryContents, afterL_cons, afterL_nil]
  after_reads_simp
  rfl
theorem entry_4 : entryContents preI m c (Proc.devRef .tc main_v56_4) = Step.A_main_v51 (F := Ideal) (proj m c) (bias m c) := by
  simp only [entryContents, afterL_cons, afterL_nil]
  after_reads_simp
  rfl
theorem entry_5 : entryContents preI m c (Proc.devRef .tc main_v56_5) = Step.K_main_v38 (F := Ideal) := by
  simp only [entryContents, afterL_cons, afterL_nil]
  after_reads_simp
  rfl
theorem entry_7 : entryContents preI m c (Proc.devRef .tc main_v56_7) = Step.K_main_v39 (F := Ideal) := by
  simp only [entryContents, afterL_cons, afterL_nil]
  after_reads_simp
  rfl
theorem entry_8 : entryContents preI m c (Proc.devRef .tc main_v56_8) = Step.K_main_v40 (F := Ideal) := by
  simp only [entryContents, afterL_cons, afterL_nil]
  after_reads_simp
  rfl
theorem entry_9 : entryContents preI m c (Proc.devRef .tc main_v56_9) = Step.K_main_v41 (F := Ideal) := by
  simp only [entryContents, afterL_cons, afterL_nil]
  after_reads_simp
  rfl

/-- What the carried buffers hold ahead of trip `j`. -/
structure Inv (j : ℕ) (V : Valuation τ sig (Elt Ideal)) : Prop where
  counter : V (Proc.devRef .tc main_v56_6) = constantI S_ 32 (BitVec.ofNat 32 j)
  mask : V (Proc.devRef .tc main_v56_5) = Step.K_main_v38 (F := Ideal)
  chunk : ∀ n h, chunk V n h = chunks m c h n.val
  state : ∀ h, state V h = Mlstm.stateAt (chunks m c h) j
  out : ∀ (n : Fin 33) h t e, n.val < j → V (Proc.devRef .tc main_v56_10) (ix5 n 0 h t e)
    = Mlstm.out (chunks m c h n.val) (Mlstm.stateAt (chunks m c h) n.val) t e
  keepC : ∀ (n : Fin 33) h d e, n.val < j → V (Proc.devRef .tc main_v56_11) (ix5 n 0 h d e)
    = (Mlstm.stateAt (chunks m c h) n.val).C d e
  keepN : ∀ (n : Fin 33) h d, n.val < j → V (Proc.devRef .tc main_v56_12) (ix4 n 0 h d)
    = (Mlstm.stateAt (chunks m c h) n.val).N d
  keepM : ∀ (n : Fin 33) h, n.val < j → V (Proc.devRef .tc main_v56_13) (ix3 n 0 h)
    = (Mlstm.stateAt (chunks m c h) n.val).M

theorem inv_zero : Inv m c 0 (entryContents preI m c) where
  counter := ctr_entry m c
  mask := entry_5 m c
  chunk n h := by
    unfold Trip.chunk
    rw [entry_0, entry_1, entry_2, entry_3, entry_4]
    unfold chunks
    simp only [start_q, start_k, start_v, start_li, start_lf]
  state h := by
    unfold Trip.state
    rw [entry_7, entry_8, entry_9]
    show _ = Mlstm.State.mk (fun _ _ => 0) (fun _ => 0) 0
    congr 1
    · funext d e; pointwise [Step.K_main_v39, Step.K_main_cst_9]
    · funext d; pointwise [Step.K_main_v40, Step.K_main_cst_10]
    · pointwise [Step.K_main_v41, Step.K_main_cst_11]
  out _ _ _ _ h := absurd h (Nat.not_lt_zero _)
  keepC _ _ _ _ h := absurd h (Nat.not_lt_zero _)
  keepN _ _ _ h := absurd h (Nat.not_lt_zero _)
  keepM _ _ h := absurd h (Nat.not_lt_zero _)

variable {m c}

theorem inv_succ {n : Fin 33} {V : Valuation τ sig (Elt Ideal)} (hV : Inv m c n.val V) : Inv m c (n.val + 1) (STEP V) := by
  have hAt : At V n := ⟨hV.counter, hV.mask⟩
  have hcase : ∀ i : Fin 33, i.val < n.val + 1 → i ≠ n → i.val < n.val := fun i h hne =>
    Nat.lt_of_le_of_ne (Nat.lt_succ_iff.mp h) fun h => hne (Fin.ext h)
  refine ⟨?_, (STEP_main_v56_5 V).trans hV.mask, fun i h => ?_, fun h => ?_, fun i h t e hi => ?_, fun i h d e hi => ?_,
    fun i h d hi => ?_, fun i h hi => ?_⟩
  · rw [STEP_main_v56_6, step_main_v56_6, id_eq, hV.counter]
    funext i
    exact (BitVec.ofNat_add n.val 1).symm
  · rw [← hV.chunk i h]
    unfold Trip.chunk
    rw [STEP_main_v56_0, STEP_main_v56_1, STEP_main_v56_2, STEP_main_v56_3, STEP_main_v56_4]
  · rw [state_next h hAt, hV.chunk, hV.state]
    rfl
  · rw [out_at h hAt]
    split
    · next he => rw [hV.chunk, hV.state, he]
    · next he => exact hV.out i h t e (hcase i hi he)
  · rw [keepC_at h hAt]
    split
    · next he => rw [hV.state, he]
    · next he => exact hV.keepC i h d e (hcase i hi he)
  · rw [keepN_at h hAt]
    split
    · next he => rw [hV.state, he]
    · next he => exact hV.keepN i h d (hcase i hi he)
  · rw [keepM_at h hAt]
    split
    · next he => rw [hV.state, he]
    · next he => exact hV.keepM i h (hcase i hi he)

variable (m c)

theorem inv_at : ∀ j, j ≤ 33 → Inv m c j (STEP^[j] (entryContents preI m c))
  | 0, _ => inv_zero m c
  | j + 1, hj => by
    rw [Function.iterate_succ_apply']
    exact inv_succ (n := ⟨j, hj⟩) (inv_at j (Nat.le_of_succ_le hj))

end Run

end Cert.MlstmFwdRefIdeal.Trip
-- ==== Proof.MlstmEnd.lean ====
/- The reference's results, entry by entry. -/
module

public import proofs.«01_k».proof.Proof.MlstmStart
public import proofs.«01_k».proof.Proof.MlstmArrays

@[expose] public section

set_option maxRecDepth 65536

noncomputable section

open Idealize.ShloMosaic Idealize.ShloMosaic.TcCoe Idealize.ShloMosaic.Tactic Idealize.ShloMosaic.StableHlo

namespace Cert.MlstmFwdRefIdeal.Trip

open Cert.MlstmFwdRefIdeal Cert.MlstmFwdRefIdeal.Gen Cert.MlstmFwdRefIdeal.Value

variable (m : (ℓ : Loc nD τ sig) → Buf (Elt Ideal) ℓ) (c : Dev nD) (n : Fin 33) (h : Fin 4) (t : Fin 64)

abbrev last : Valuation τ sig (Elt Ideal) := STEP^[33] (entryContents preI m c)

theorem ht_at (e : Fin 256) : out_main_v88 (last m c) (ix2 ⟨n.val * 64 + t.val, by omega⟩ ⟨h.val * 256 + e.val, by omega⟩)
    = Mlstm.out (chunks m c h n.val) (Mlstm.stateAt (chunks m c h) n.val) t e := by
  rw [← (inv_at m c 33 le_rfl).out n h t e n.isLt]
  pointwise [out_main_v88]

theorem cs_at (d : Fin 128) (e : Fin 256) : out_main_v89 (last m c) (ix4 n h d e)
    = (Mlstm.stateAt (chunks m c h) n.val).C d e := by
  rw [← (inv_at m c 33 le_rfl).keepC n h d e n.isLt]
  pointwise [out_main_v89]
theorem ns_at (d : Fin 128) : out_main_v91 (last m c) (ix4 n h 0 d)
    = (Mlstm.stateAt (chunks m c h) n.val).N d := by
  rw [← (inv_at m c 33 le_rfl).keepN n h d n.isLt]
  pointwise [out_main_v91]
theorem ms_at : out_main_v93 (last m c) (ix4 n h 0 0)
    = (Mlstm.stateAt (chunks m c h) n.val).M := by
  rw [← (inv_at m c 33 le_rfl).keepM n h n.isLt]
  pointwise [out_main_v93]

/-- The norm's weight. -/
def weight : FVec Ideal S1024 .f32 := m ((c.tc : Thread nD τ).loc main_arg2)

set_option maxHeartbeats 2000000 in
theorem gated_at (V : Valuation τ sig (Elt Ideal)) (P : FVec Ideal S1x2064x3200 .f32) (W : FVec Ideal S1024 .f32) (o : Fin 256 → EReal)
    (hP : V (Proc.devRef .tc main_arg0) = P) (hW : V (Proc.devRef .tc main_arg2) = W)
    (ho : ∀ x, V (Proc.devRef .tc main_v56_10) (ix5 n 0 h t x) = o x) (e : Fin 256) :
    out_main_v86 V (ix2 ⟨n.val * 64 + t.val, by omega⟩ ⟨h.val * 256 + e.val, by omega⟩)
      = Mlstm.gatedAt (fun i j => P (ix3 0 i j)) (fun i => W (ix1 i)) h n.val t o e := by
  have hn := n.isLt
  have ht := t.isLt
  have he := e.isLt
  have hh := h.isLt
  pointwise [out_main_v86]
  unfold Mlstm.gatedAt
  by_cases hp : 48 ≤ n.val * 64 + t.val
  · rw [Mlstm.padded_token _ _ _ hp (by omega)]
    refine (dif_pos ⟨⟨hp, by omega⟩, by omega⟩).trans ?_
    have e1 : ∀ h1, (⟨(48 + (n.val * 64 + t.val - 48)) / 64, h1⟩ : Fin 33) = n := fun _ => Fin.ext (by simp only; omega)
    have e2 : ∀ h1, (⟨(48 + (n.val * 64 + t.val - 48)) % 64, h1⟩ : Fin 64) = t := fun _ => Fin.ext (by simp only; omega)
    simp only [e1, e2, ho, hP, hW]
    try rfl
  · rw [Mlstm.padded_ahead _ _ _ hp]
    exact (dif_neg fun h => hp h.1.1).trans sitofp_zero

theorem hm_at (e : Fin 256) : out_main_v86 (last m c) (ix2 ⟨n.val * 64 + t.val, by omega⟩ ⟨h.val * 256 + e.val, by omega⟩)
    = Mlstm.gatedAt (fun i j => proj m c (ix3 0 i j)) (fun i => weight m c (ix1 i)) h n.val t
        (Mlstm.out (chunks m c h n.val) (Mlstm.stateAt (chunks m c h) n.val) t) e :=
  gated_at n h t (last m c) (proj m c) (weight m c) _ (iter_main_arg0 m c 33) (iter_main_arg2 m c 33)
    (fun x => (inv_at m c 33 le_rfl).out n h t x n.isLt) e

/-! ## The results as arrays -/

section Arrays

omit n h t

theorem res86 : out_main_v86 (last m c) = fun y : S2112x1024.Idx => Mlstm.gatedArr (fun i j => proj m c (ix3 0 i j))
    (fun i => bias m c (ix1 i)) (fun i => weight m c (ix1 i)) (y 0) (y 1) := by
  funext y
  idx_vars y
  have key := hm_at m c ⟨y0.val / 64, by omega⟩ ⟨y1.val / 256, by omega⟩ ⟨y0.val % 64, by omega⟩ ⟨y1.val % 256, by omega⟩
  have e0 : (⟨y0.val / 64 * 64 + y0.val % 64, by omega⟩ : Fin 2112) = y0 := Fin.ext (by simp only; omega)
  have e1 : (⟨y1.val / 256 * 256 + y1.val % 256, by omega⟩ : Fin 1024) = y1 := Fin.ext (by simp only; omega)
  simp only [e0, e1] at key
  exact key

theorem res88 : out_main_v88 (last m c) = fun y : S2112x1024.Idx => Mlstm.outArr (fun i j => proj m c (ix3 0 i j))
    (fun i => bias m c (ix1 i)) (y 0) (y 1) := by
  funext y
  idx_vars y
  have key := ht_at m c ⟨y0.val / 64, by omega⟩ ⟨y1.val / 256, by omega⟩ ⟨y0.val % 64, by omega⟩ ⟨y1.val % 256, by omega⟩
  have e0 : (⟨y0.val / 64 * 64 + y0.val % 64, by omega⟩ : Fin 2112) = y0 := Fin.ext (by simp only; omega)
  have e1 : (⟨y1.val / 256 * 256 + y1.val % 256, by omega⟩ : Fin 1024) = y1 := Fin.ext (by simp only; omega)
  simp only [e0, e1] at key
  exact key

theorem res89 : out_main_v89 (last m c)
    = fun y : S33x4x128x256.Idx => (Mlstm.stateAt (chunks m c (y 1)) (y 0).val).C (y 2) (y 3) := by
  funext y
  idx_vars y
  exact cs_at m c y0 y1 y2 y3

theorem res91 : out_main_v91 (last m c)
    = fun y : S33x4x1x128.Idx => (Mlstm.stateAt (chunks m c (y 1)) (y 0).val).N (y 3) := by
  funext y
  idx_vars y
  obtain rfl : y2 = 0 := Subsingleton.elim _ _
  exact ns_at m c y0 y1 y3

theorem res93 : out_main_v93 (last m c)
    = fun y : S33x4x1x1.Idx => (Mlstm.stateAt (chunks m c (y 1)) (y 0).val).M := by
  funext y
  idx_vars y
  obtain rfl : y2 = 0 := Subsingleton.elim _ _
  obtain rfl : y3 = 0 := Subsingleton.elim _ _
  exact ms_at m c y0 y1

end Arrays

end Cert.MlstmFwdRefIdeal.Trip
-- ==== Proof.MlstmValue.lean ====
/- The claims about the forward call of the recurrence. -/
module

public import proofs.«01_k».proof.Defs
public import proofs.«01_k».proof.Proof.Gen.MlstmFwd
public import proofs.«01_k».proof.Proof.Gen.MlstmFwd.Frame
public import proofs.«01_k».proof.Proof.Gen.MlstmFwdRefIdeal
public import proofs.«01_k».proof.Proof.MlstmFinal
public import proofs.«01_k».proof.Proof.MlstmEnd

@[expose] public section

set_option maxRecDepth 16384

noncomputable section

open Idealize.ShloMosaic Idealize.ShloMosaic.TcCoe Idealize.ShloMosaic.Tactic Idealize.ShloMosaic.StableHlo
open Idealize.SL.Sem

namespace Cert.MlstmFwdIdeal.Value

open Cert.MlstmFwdIdeal Cert.MlstmFwdIdeal.Gen

variable (m : (ℓ : Loc nD τ sig) → Buf (Elt Ideal) ℓ) (ρ : Dev nD → PrngReg)

/-- The run, with every result named. -/
theorem run : θ_run defs (onTc (τ := τ) (main (F := Ideal))) ⟨m, fun _ => 0, ρ⟩ fun r => ∀ c : Dev nD,
      r.2.mem ((c : Thread nD τ).loc main_v6)
        = (fun y : S2112x1024.Idx => Mlstm.gatedArr (pr m c) (bi m c) (fun j => weightM m c (ix1 j)) (y 0) (y 1))
      ∧ r.2.mem ((c : Thread nD τ).loc main_v5_1) = (fun y : S2112x1024.Idx => Mlstm.outArr (pr m c) (bi m c) (y 0) (y 1))
      ∧ r.2.mem ((c : Thread nD τ).loc main_v5_2)
        = (fun y : S33x4x128x256.Idx => (Mlstm.stateAt (chunks m c (y 1)) (y 0).val).C (y 2) (y 3))
      ∧ r.2.mem ((c : Thread nD τ).loc main_v5_3)
        = (fun y : S33x4x1x128.Idx => (Mlstm.stateAt (chunks m c (y 1)) (y 0).val).N (y 3))
      ∧ r.2.mem ((c : Thread nD τ).loc main_v5_4) = (fun y : S33x4x1x1.Idx => (Mlstm.stateAt (chunks m c (y 1)) (y 0).val).M)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨result6 m c r h, ((h c).1 4).trans (final4 m c), ((h c).1 5).trans (final5 m c),
      ((h c).1 6).trans (final6 m c), ((h c).1 7).trans (final7 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.MlstmFwdIdeal.Value

namespace Cert.Proof.Mlstm

theorem frame_p : Cert.quiescent_MlstmFwd := fun m ρ _ => Cert.MlstmFwd.Gen.frame m ρ
theorem frame_pi : Cert.quiescent_MlstmFwdIdeal := fun m ρ _ => Cert.MlstmFwdIdeal.Gen.frame m ρ
theorem frame_ri : Cert.quiescent_MlstmFwdRefIdeal := fun m ρ _ =>
  (θ_run Cert.MlstmFwdRefIdeal.defs _ _).mono (fun r h => ⟨fun c => (h c).2.2.2.2.2,
      Idealize.ShloMosaic.sem_eq_zero_of_no_sems (by decide) r.2⟩)
    (Cert.MlstmFwdRefIdeal.Value.run (F := Ideal) m ρ)

theorem algebraic : Cert.algebraic_MlstmFwdIdeal_MlstmFwdRefIdeal := by
  intro m ρ m' ρ' _ hagree
  refine ⟨_, _, _, _, _, Cert.MlstmFwdIdeal.Value.run m ρ, ?_⟩
  refine (θ_run Cert.MlstmFwdRefIdeal.defs _ _).mono
    (fun _ h c => ⟨(h c).1.trans ?_, (h c).2.1.trans ?_, (h c).2.2.1.trans ?_, (h c).2.2.2.1.trans ?_, (h c).2.2.2.2.1.trans ?_,
      (h c).2.2.2.2.2⟩)
    (Cert.MlstmFwdRefIdeal.Value.run (F := Ideal) m' ρ')
  all_goals
    have e0 : Cert.MlstmFwdRefIdeal.Trip.proj m' c = Cert.MlstmFwdIdeal.Value.projM m c := (hagree c).1
    have e1 : Cert.MlstmFwdRefIdeal.Trip.bias m' c = Cert.MlstmFwdIdeal.Value.biasM m c := (hagree c).2.1
    have e2 : Cert.MlstmFwdRefIdeal.Trip.weight m' c = Cert.MlstmFwdIdeal.Value.weightM m c := (hagree c).2.2
    have e3 : Cert.MlstmFwdRefIdeal.Trip.chunks m' c = Cert.MlstmFwdIdeal.Value.chunks m c := by
      unfold Cert.MlstmFwdRefIdeal.Trip.chunks
      rw [e0, e1]
      rfl
  · refine (Cert.MlstmFwdRefIdeal.Trip.res86 m' c).trans ?_
    rw [e0, e1, e2]
    rfl
  · refine (Cert.MlstmFwdRefIdeal.Trip.res88 m' c).trans ?_
    rw [e0, e1]
    rfl
  · refine (Cert.MlstmFwdRefIdeal.Trip.res89 m' c).trans ?_
    rw [e3]
  · refine (Cert.MlstmFwdRefIdeal.Trip.res91 m' c).trans ?_
    rw [e3]
  · refine (Cert.MlstmFwdRefIdeal.Trip.res93 m' c).trans ?_
    rw [e3]

end Cert.Proof.Mlstm
-- ==== Proof.MlstmBack.lean ====
/- The recurrence's backward call: its frames, and the signs that it takes from the words of its numbers. -/
module

public import proofs.«01_k».proof.Defs
public import proofs.«01_k».proof.Proof.Gen.MlstmBwd
public import proofs.«01_k».proof.Proof.Gen.MlstmBwd.Frame
public import proofs.«01_k».proof.Proof.Gen.MlstmBwdIdeal
public import proofs.«01_k».proof.Proof.Gen.MlstmBwdIdeal.Frame

@[expose] public section

set_option maxRecDepth 16384

noncomputable section

open Idealize.ShloMosaic

namespace Cert.Proof.MlstmBwd

theorem frame_p : Cert.quiescent_MlstmBwd := fun m ρ _ => Cert.MlstmBwd.Gen.frame m ρ
theorem frame_pi : Cert.quiescent_MlstmBwdIdeal := fun m ρ _ => Cert.MlstmBwdIdeal.Gen.frame m ρ
theorem preserves : Cert.preserves_MlstmBwd_MlstmBwdIdeal := IdealRules.sign_bit.statement _ _

end Cert.Proof.MlstmBwd
-- ==== Proof.NormRun.lean ====
/- The normalised projection's frame, by hand. Window 3 (the normalised rows) is stored at the first of the five points of a
   row block only and written back after the last: the proof data says that at every point of the block it holds what the
   first point stores. -/
module

public import proofs.«01_k».proof.Proof.Gen.NormProjIdeal.Frame
public import Idealize.ShloMosaic.Lib.Pipeline.TableIdle
public import Idealize.ShloMosaic.Lib.Claim

@[expose] public section

set_option maxRecDepth 16384

noncomputable section

namespace Cert.NormProjIdeal.Hand

open Cert.NormProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a row block's first point: the pieces it stores into the normalised rows and into the product. -/
def firstRun (c : Dev nD) (i : grid0.Coords) (a2 : Memref sig .tc .vmem S1056x2048 .f32) (h2 : a2.IsWhole)
    (a3 : Memref sig .tc .vmem S1x2048 .f32) (h3 : a3.IsWhole) (a4 : Memref sig .tc .vmem S640x2048 .bf16) (h4 : a4.IsWhole)
    (a5 : Memref sig .tc .vmem S1056x2048 .bf16) (h5 : a5.IsWhole) (a6 : Memref sig .tc .vmem S1056x640 .f32) (h6 : a6.IsWhole)
    (hc : k0_cond1 i = 1#1)
    (x0 : Vec F S1056x2048 .f32) (x1 : Vec F S1x2048 .f32) (x2 : Vec F S640x2048 .bf16) :
    Σ' (L3 : List (View.Piece (Elt F) S1056x2048 .bf16)), { L4 : List (View.Piece (Elt F) S1056x640 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ (∃ d, owns (c : Thread nD τ) a5 fullShare d) ∗ (∃ d, owns (c : Thread nD τ) a6 fullShare d)
            ∗ (iprop(owns (c : Thread nD τ) a2 fullShare x0 ∗ owns (c : Thread nD τ) a3 fullShare x1 ∗ owns (c : Thread nD τ) a4 fullShare x2
                ∗ (∃ f, a5.view.loc (c : Thread nD τ) ↦[a5.view.set]{fullShare} a5.view.writes (Elt F) f L3)
                ∗ (∃ f, a6.view.loc (c : Thread nD τ) ↦[a6.view.set]{fullShare} a6.view.writes (Elt F) f L4)) -∗ K ⟨⟩))
          ⊢ wp frame (wpE (defs₀ (F := F)) Variants.none c none) E (cc0_proj_mlstm i a2 h2 a3 h3 a4 h4 a5 h5 a6 h6) K } := by
  refine ⟨?_, ?_, fun E K => ?run⟩
  case run =>
    unfold cc0_proj_mlstm
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := h2.eq_unread hf0; obtain rfl := h3.eq_unread hf1; obtain rfl := h4.eq_unread hf2
    sl_exec (disch := first | sl_exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]; · iexists _; iexact H3
    iexists _; iexact H4

set_option maxHeartbeats 1000000 in
/-- The body at a later point of the block: it keeps the normalised rows `x3` and stores the product. -/
def laterRun (c : Dev nD) (i : grid0.Coords) (a2 : Memref sig .tc .vmem S1056x2048 .f32) (h2 : a2.IsWhole)
    (a3 : Memref sig .tc .vmem S1x2048 .f32) (h3 : a3.IsWhole) (a4 : Memref sig .tc .vmem S640x2048 .bf16) (h4 : a4.IsWhole)
    (a5 : Memref sig .tc .vmem S1056x2048 .bf16) (h5 : a5.IsWhole) (a6 : Memref sig .tc .vmem S1056x640 .f32) (h6 : a6.IsWhole)
    (hc : ¬k0_cond1 i = 1#1)
    (x2 : Vec F S640x2048 .bf16) (x3 : Vec F S1056x2048 .bf16) :
    { L4 : List (View.Piece (Elt F) S1056x640 .f32) //
      ∀ (E : Set ℕ) (K : PUnit → sProp 𝕄),
        iprop(owns (c : Thread nD τ) a4 fullShare x2 ∗ owns (c : Thread nD τ) a5 fullShare x3 ∗ (∃ d, owns (c : Thread nD τ) a6 fullShare d)
            ∗ (iprop(owns (c : Thread nD τ) a4 fullShare x2 ∗ owns (c : Thread nD τ) a5 fullShare x3
                ∗ (∃ f, a6.view.loc (c : Thread nD τ) ↦[a6.view.set]{fullShare} a6.view.writes (Elt F) f L4)) -∗ K ⟨⟩))
          ⊢ wp frame (wpE (defs₀ (F := F)) Variants.none c none) E (cc0_proj_mlstm i a2 h2 a3 h3 a4 h4 a5 h5 a6 h6) K } := by
  refine ⟨?_, fun E K => ?run⟩
  case run =>
    unfold cc0_proj_mlstm
    unfold owns
    iintro ⟨⟨%f2, %hf2, H2⟩, ⟨%f3, %hf3, H3⟩, ⟨%d4, %f4, -, H4⟩, Hk⟩
    obtain rfl := h4.eq_unread hf2; obtain rfl := h5.eq_unread hf3
    sl_exec (disch := first | sl_exact hc)
    sl_step
    iapply Hk
    isplitl [H2]
    · iexists _; isplitr; · ipureintro; exact h4.read_unread _
      iexact H2
    isplitl [H3]
    · iexists _; isplitr; · ipureintro; exact h5.read_unread _
      iexact H3
    iexists _; iexact H4

/-! ## What the body leaves -/

theorem cond_iff : ∀ t : Fin cfg0.N, k0_cond1 (grid0.coords t) = 1#1 ↔ t.val % 5 = 0 := by decide +kernel

/-- The first point of `t`'s row block. -/
def first (t : Fin cfg0.N) : Fin cfg0.N := ⟨5 * (t.val / 5), lt_of_le_of_lt (Nat.mul_div_le _ _) t.isLt⟩

theorem first_cond (t : Fin cfg0.N) : k0_cond1 (grid0.coords (first t)) = 1#1 :=
  (cond_iff _).2 (Nat.mul_mod_right 5 _)

theorem first_of (t : Fin cfg0.N) (h : t.val % 5 = 0) : first t = t := Fin.ext (by show 5 * (t.val / 5) = t.val; omega)

theorem first_before (t : Fin cfg0.N) (h : ¬t.val % 5 = 0) :
    first ⟨t.val - 1, Nat.lt_of_le_of_lt (Nat.sub_le _ _) t.isLt⟩ = first t :=
  Fin.ext (by show 5 * ((t.val - 1) / 5) = 5 * (t.val / 5); omega)

/-- One staging buffer of each output, through which its contents are read. -/
abbrev VO3 : View sig .tc .vmem S1056x2048 .bf16 := (Memref.whole cc0_stg3_0 : Memref sig .tc .vmem S1056x2048 .bf16).view
abbrev VO4 : View sig .tc .vmem S1056x640 .f32 := (Memref.whole cc0_stg4_0 : Memref sig .tc .vmem S1056x640 .f32).view

/-- The runs at a point of the grid. -/
abbrev firstAt (c : Dev nD) (t : Fin cfg0.N) (hc : k0_cond1 (grid0.coords t) = 1#1) :=
  firstRun (F := F) c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4)) hc
abbrev laterAt (c : Dev nD) (t : Fin cfg0.N) (hc : ¬k0_cond1 (grid0.coords t) = 1#1) :=
  laterRun (F := F) c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4)) hc

/-- The normalised rows the first point stores. -/
def rows (c : Dev nD) (t : Fin cfg0.N) (hc : k0_cond1 (grid0.coords t) = 1#1)
    (x0 : Vec F S1056x2048 .f32) (x1 : Vec F S1x2048 .f32) (x2 : Vec F S640x2048 .bf16) : Vec F S1056x2048 .bf16 :=
  VO3.read (Elt F) (VO3.writes (Elt F) VO3.junk (firstAt c t hc x0 x1 x2).1)

/-- The product the first point stores. -/
def firstProd (c : Dev nD) (t : Fin cfg0.N) (hc : k0_cond1 (grid0.coords t) = 1#1)
    (x0 : Vec F S1056x2048 .f32) (x1 : Vec F S1x2048 .f32) (x2 : Vec F S640x2048 .bf16) : Vec F S1056x640 .f32 :=
  VO4.read (Elt F) (VO4.writes (Elt F) VO4.junk (firstAt c t hc x0 x1 x2).2.1)

/-- The product a later point stores. -/
def laterProd (c : Dev nD) (t : Fin cfg0.N) (hc : ¬k0_cond1 (grid0.coords t) = 1#1)
    (x2 : Vec F S640x2048 .bf16) (x3 : Vec F S1056x2048 .bf16) : Vec F S1056x640 .f32 :=
  VO4.read (Elt F) (VO4.writes (Elt F) VO4.junk (laterAt c t hc x2 x3).1)

theorem cover_rows (c : Dev nD) (t : Fin cfg0.N) (hc : k0_cond1 (grid0.coords t) = 1#1)
    (x0 : Vec F S1056x2048 .f32) (x1 : Vec F S1x2048 .f32) (x2 : Vec F S640x2048 .bf16) (y : S1056x2048.Idx) :
    ∃ pc ∈ (firstAt c t hc x0 x1 x2).1, y ∈ pc.1.set :=
  View.cover_of_tiledL (firstAt c t hc x0 x1 x2).1 S1056x2048.size (by sl_kernel_rfl) y
theorem cover_first (c : Dev nD) (t : Fin cfg0.N) (hc : k0_cond1 (grid0.coords t) = 1#1)
    (x0 : Vec F S1056x2048 .f32) (x1 : Vec F S1x2048 .f32) (x2 : Vec F S640x2048 .bf16) (y : S1056x640.Idx) :
    ∃ pc ∈ (firstAt c t hc x0 x1 x2).2.1, y ∈ pc.1.set :=
  View.cover_of_tiledL (firstAt c t hc x0 x1 x2).2.1 S1056x640.size (by sl_kernel_rfl) y
theorem cover_later (c : Dev nD) (t : Fin cfg0.N) (hc : ¬k0_cond1 (grid0.coords t) = 1#1)
    (x2 : Vec F S640x2048 .bf16) (x3 : Vec F S1056x2048 .bf16) (y : S1056x640.Idx) :
    ∃ pc ∈ (laterAt c t hc x2 x3).1, y ∈ pc.1.set :=
  View.cover_of_tiledL (laterAt c t hc x2 x3).1 S1056x640.size (by sl_kernel_rfl) y

/-- The rows stored at two names of one point are the same. -/
theorem rows_congr (c : Dev nD) {t t' : Fin cfg0.N} (e : t = t') (h : k0_cond1 (grid0.coords t) = 1#1)
    (h' : k0_cond1 (grid0.coords t') = 1#1) :
    rows c t h (iblk m c 0 t) (iblk m c 1 t) (X0_2 m c t) = rows c t' h' (iblk m c 0 t') (iblk m c 1 t') (X0_2 m c t') := by
  subst e; rfl

/-- The normalised rows of `t`'s row block. -/
def rowsAt (c : Dev nD) (t : Fin cfg0.N) : Vec F S1056x2048 .bf16 :=
  rows c (first t) (first_cond t) (iblk m c 0 (first t)) (iblk m c 1 (first t)) (X0_2 m c (first t))

/-- The product at `t`. -/
def prodAt (c : Dev nD) (t : Fin cfg0.N) : Vec F S1056x640 .f32 :=
  if hc : k0_cond1 (grid0.coords t) = 1#1 then firstProd c t hc (iblk m c 0 t) (iblk m c 1 t) (X0_2 m c t)
  else laterProd c t hc (X0_2 m c t) (rowsAt m c t)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => rowsAt m c t
    | ⟨4, _⟩ => prodAt m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = X0_2 m c t := by dsimp only [dats]
theorem after_3 (c : Dev nD) (t : Fin cfg0.N) : (dats m 0 c).after 3 t = rowsAt m c t := by dsimp only [dats]
theorem after_4 (c : Dev nD) (t : Fin cfg0.N) : (dats m 0 c).after 4 t = prodAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = X0_2 m c t :=
  before0_2_of m (dats m 0 c) (A_eq m c 2) (after_2 m c) t d

/-- The normalised rows' buffer is idle exactly at the later points, and fresh exactly at the first ones. -/
theorem idle_iff : ∀ t : Fin cfg0.N, cfg0.idle 3 (grid0.coords t) = true ↔ ¬t.val % 5 = 0 := by decide +kernel

def freshTab : ℕ → Bool := fun n => n % 5 == 0
theorem fresh_eq (t : Fin cfg0.N) : cfg0.fresh 3 t.val = freshTab t.val :=
  Pipeline.Cfg.fresh_tab cfg0 3 freshTab rfl (by decide +kernel) t.val (Nat.le_of_lt t.isLt)

theorem before_3 (c : Dev nD) (t : Fin cfg0.N) (h : ¬t.val % 5 = 0) (d) : (dats m 0 c).before 3 t d = rowsAt m c t := by
  rw [Dat.before_out_traj _ 3 rfl (fun _ _ => rfl) (fun t _ hi _ => ?_) t.val t rfl d,
    if_neg (by rw [fresh_eq]; simpa [freshTab] using h), after_3]
  · exact rows_congr m c (first_before t h) _ _
  · rw [after_3, after_3]
    exact (rows_congr m c (first_before t ((idle_iff t).1 hi)) _ _).symm

/-! ## The body's obligation -/

theorem leaves_0 (c : Dev nD) (t : Fin cfg0.N) : (dats m 0 c).leavesExact 0 t
    = owns (c : Thread nD τ) (win0_0.stage (cfg0.slots t 0)) fullShare (iblk m c 0 t) := by
  unfold Dat.leavesExact; rw [show cfg0.idle 0 (cfg0.grid.coords t) = false from rfl, after_0]
theorem leaves_1 (c : Dev nD) (t : Fin cfg0.N) : (dats m 0 c).leavesExact 1 t
    = owns (c : Thread nD τ) (win0_1.stage (cfg0.slots t 1)) fullShare (iblk m c 1 t) := by
  unfold Dat.leavesExact; rw [show cfg0.idle 1 (cfg0.grid.coords t) = false from rfl, after_1]
theorem leaves_2 (c : Dev nD) (t : Fin cfg0.N) : (dats m 0 c).leavesExact 2 t
    = owns (c : Thread nD τ) (win0_2.stage (cfg0.slots t 2)) fullShare (X0_2 m c t) := by
  unfold Dat.leavesExact; rw [show cfg0.idle 2 (cfg0.grid.coords t) = false from rfl, after_2]
theorem leaves_4 (c : Dev nD) (t : Fin cfg0.N) : (dats m 0 c).leavesExact 4 t
    = owns (c : Thread nD τ) (win0_4.stage (cfg0.slots t 4)) fullShare (prodAt m c t) := by
  unfold Dat.leavesExact; rw [show cfg0.idle 4 (cfg0.grid.coords t) = false from rfl, after_4]

/-- At every point it is enough to leave the normalised rows of the block. -/
theorem leaves_3 (c : Dev nD) (t : Fin cfg0.N) :
    owns (c : Thread nD τ) (win0_3.stage (cfg0.slots t 3)) fullShare (rowsAt m c t) ⊢ ((dats m 0 c).leavesExact 3 t : sProp 𝕄) := by
  by_cases h : t.val % 5 = 0
  · unfold Dat.leavesExact
    rw [show cfg0.idle 3 (cfg0.grid.coords t) = false from Bool.eq_false_iff.2 fun hi => (idle_iff t).1 hi h, after_3]
  · by_cases hf : (cfg0.win 3).flush t = true
    · unfold Dat.leavesExact
      rw [show cfg0.idle 3 (cfg0.grid.coords t) = true from (idle_iff t).2 h, hf, after_3]
    · rw [Dat.leavesExact_idle _ 3 t ((idle_iff t).2 h) (Bool.eq_false_iff.2 hf)]
      iintro H
      iexists (rowsAt m c t)
      rw [before_3 m c t h]
      iexact H

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem rowsAt_first (c : Dev nD) (t : Fin cfg0.N) (h : t.val % 5 = 0) :
    rowsAt m c t = rows c t ((cond_iff t).2 h) (iblk m c 0 t) (iblk m c 1 t) (X0_2 m c t) :=
  rows_congr m c (first_of t h) _ _

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl, leaves_0, leaves_1, leaves_2, leaves_4]
  by_cases h : t.val % 5 = 0
  · iintro ⟨HΦ, Ho, ⟨%d0, H0⟩, ⟨%d1, H1⟩, ⟨%d2, H2⟩, ⟨%d3, H3⟩, ⟨%d4, H4⟩⟩
    iapply ((firstAt c t ((cond_iff t).2 h) (iblk m c 0 t) (iblk m c 1 t) (X0_2 m c t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · iapply (leaves_3 m c t)
      rw [rowsAt_first m c t h]
      unfold owns rows; iexists _; isplitr
      swap; · iexact H3
      ipureintro; exact View.read_writes_of_cover _ _ _ _ _ (cover_rows c t _ _ _ _)
    rw [prodAt, dif_pos ((cond_iff t).2 h)]
    unfold owns firstProd; iexists _; isplitr
    swap; · iexact H4
    ipureintro; exact View.read_writes_of_cover _ _ _ _ _ (cover_first c t _ _ _ _)
  · have hc : ¬k0_cond1 (grid0.coords t) = 1#1 := fun e => h ((cond_iff t).1 e)
    simp only [before_3 m c t h]
    iintro ⟨HΦ, Ho, ⟨%d0, H0⟩, ⟨%d1, H1⟩, ⟨%d2, H2⟩, ⟨%d3, H3⟩, ⟨%d4, H4⟩⟩
    iapply ((laterAt c t hc (X0_2 m c t) (rowsAt m c t)).2 Set.univ _)
    isplitl [H2]; · iexact H2
    isplitl [H3]; · iexact H3
    isplitl [H4]; · iexists _; iexact H4
    iintro ⟨H2, H3, ⟨%e4, H4⟩⟩
    isplitl [HΦ]; · iexact HΦ
    isplitl [Ho]; · iexact Ho
    isplitl [H0]; · iexact H0
    isplitl [H1]; · iexact H1
    isplitl [H2]; · iexact H2
    isplitl [H3]
    · iapply (leaves_3 m c t); iexact H3
    rw [prodAt, dif_neg hc]
    unfold owns laterProd; iexists _; isplitr
    swap; · iexact H4
    ipureintro; exact View.read_writes_of_cover _ _ _ _ _ (cover_later c t _ _ _)

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run and the frame -/

set_option backward.isDefEq.respectTransparency.types false in
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.NormProjIdeal.Hand

end
-- ==== Proof.NormProjValue.lean ====
/- The norm before the mLSTM's input projection and the projection's first 3200 columns: each block of rows is normalised once
   and multiplied with five tiles of the weight, the reference's entry for entry, for all arguments. -/
module

public import proofs.«01_k».proof.Defs
public import proofs.«01_k».proof.Proof.Gen.NormProj
public import proofs.«01_k».proof.Proof.Gen.NormProj.Frame
public import proofs.«01_k».proof.Proof.Gen.NormProjIdeal
public import proofs.«01_k».proof.Proof.Gen.NormProjIdeal.Frame
public import proofs.«01_k».proof.Proof.NormRun
public import proofs.«01_k».proof.Proof.Gen.NormProjRefIdeal
public import proofs.«01_k».proof.Proof.Gen.NormProjRefIdeal.Run
public import proofs.«01_k».proof.Proof.Gen.NormProjRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormProjIdeal.Hand

open Cert.NormProjIdeal Cert.NormProjIdeal.Gen

/-- A row divided by the root of its mean square, times the weight. -/
def normRow (y w : Fin 2048 → EReal) (j : Fin 2048) : EReal :=
  y j * Ideal.rsqrt (Ideal.div (∑ k, y k * y k) (Ideal.ofBits .f32 0x45000000#32) + Ideal.ofBits .f32 0x358637BD#32) * w j

section Blocks

variable (c : Dev nD) (t : Fin cfg0.N) (x0 : Vec Ideal S1056x2048 .f32) (x1 : Vec Ideal S1x2048 .f32) (x2 : Vec Ideal S640x2048 .bf16)
  (x3 : Vec Ideal S1056x2048 .bf16) (i : Fin 1056) (j : Fin 640) (a w b : Fin 2048 → EReal)
  (h0 : ∀ k, x0 (ix2 i k) = a k) (h1 : ∀ k, x1 (ix2 0 k) = w k) (h2 : ∀ k, x2 (ix2 j k) = b k) (h3 : ∀ k, x3 (ix2 i k) = normRow a w k)

include h0 h1 in
theorem rows_at (hc : k0_cond1 (grid0.coords t) = 1#1) (k : Fin 2048) :
    rows (F := Ideal) c t hc x0 x1 x2 (ix2 i k) = normRow a w k := by
  unfold rows firstAt firstRun
  frame_out
  pointwise
  simp only [h0, h1]
  rfl
include h0 h1 h2 in
set_option maxHeartbeats 1000000 in
theorem firstProd_at (hc : k0_cond1 (grid0.coords t) = 1#1) :
    firstProd (F := Ideal) c t hc x0 x1 x2 (ix2 i j) = ∑ k, normRow a w k * b k := by
  unfold firstProd firstAt firstRun
  frame_out
  pointwise
  simp only [h0, h1, h2]
  rfl
include h2 h3 in
theorem laterProd_at (hc : ¬k0_cond1 (grid0.coords t) = 1#1) :
    laterProd (F := Ideal) c t hc x2 x3 (ix2 i j) = ∑ k, normRow a w k * b k := by
  unfold laterProd laterAt laterRun
  frame_out
  pointwise
  simp only [h2, h3]

end Blocks

/-! ## The blocks of the arrays -/

variable (m : (ℓ : Loc nD τ sig) → Buf (Elt Ideal) ℓ) (c : Dev nD)

theorem idx : ∀ t : Fin cfg0.N, win0_0.index t = ![t.val / 5, 0] ∧ win0_1.index t = ![0, 0] ∧ win0_2.index t = ![t.val % 5, 0]
    ∧ win0_3.index t = ![t.val / 5, 0] ∧ win0_4.index t = ![t.val / 5, t.val % 5] :=
  (by decide +kernel : ∀ t : Fin grid0.N, _)
theorem lt_N (t : Fin cfg0.N) : t.val < 10 := lt_of_lt_of_eq t.isLt N_0

/-- The array's row that row `i` of block `t` is. -/
def row (t : Fin cfg0.N) (i : Fin 1056) : Fin 2112 := ⟨t.val / 5 * 1056 + i.val, by have := lt_N t; omega⟩
/-- The result's column that column `j` of block `t` is. -/
def col (t : Fin cfg0.N) (j : Fin 640) : Fin 3200 := ⟨t.val % 5 * 640 + j.val, by omega⟩
/-- The weight's column that the result's column is. -/
def wide (j : Fin 3200) : Fin 6152 := ⟨j.val, by omega⟩

theorem row_first (t : Fin cfg0.N) (i : Fin 1056) : row (first t) i = row t i :=
  Fin.ext (by show 5 * (t.val / 5) / 5 * 1056 + i.val = t.val / 5 * 1056 + i.val; omega)

abbrev H : FVec Ideal S2112x2048 .f32 := m ((c : Thread nD τ).loc main_arg0)
abbrev W : FVec Ideal S2048 .f32 := m ((c : Thread nD τ).loc main_arg1)
abbrev B : FVec Ideal S2048x6152 .f32 := m ((c : Thread nD τ).loc main_arg2)

theorem blk0 (t : Fin cfg0.N) (i : Fin 1056) (k : Fin 2048) : iblk m c 0 t (ix2 i k) = H m c (ix2 (row t i) k) := by
  unfold row; blk_point [iblk, V, idx t]
theorem blk1 (t : Fin cfg0.N) (k : Fin 2048) : iblk m c 1 t (ix2 0 k) = W m c (ix1 k) := by
  blk_simp [iblk, V, idx t]
  entry_read
  pointwise
  blk_ext [idx t]
theorem blk2 (t : Fin cfg0.N) (j : Fin 640) (k : Fin 2048) : X0_2 m c t (ix2 j k) = B m c (ix2 k (wide (col t j))) := by
  unfold X0_2
  unfold Pipeline.Window.fill
  rw [dif_pos (moved0_2 t (ix2 j k))]
  show V m c main_v2 (((cfg0.win 2).blk t).view.emb _) = _
  have e : ((cfg0.win 2).blk t).view.emb (fun a => ⟨(ix2 j k a).val, ((cfg0.win 2).moved_iff _ (ix2 j k)).mp (moved0_2 t (ix2 j k)) a⟩)
      = ix2 (wide (col t j)) k := by unfold wide col; blk_ext [idx t]
  rw [e]
  simp only [V, hostOps0]
  after_results_simp
  pointwise

theorem emb3 (t : Fin cfg0.N) (i : Fin 1056) (k : Fin 2048) : ((cfg0.win 3).blk t).view.emb (ix2 i k) = ix2 (row t i) k := by
  unfold row; blk_ext [idx t]
theorem emb4 (t : Fin cfg0.N) (i : Fin 1056) (j : Fin 640) : ((cfg0.win 4).blk t).view.emb (ix2 i j) = ix2 (row t i) (col t j) := by
  unfold row col; blk_ext [idx t]

/-! ## The result arrays -/

theorem rowsAt_at (t : Fin cfg0.N) (i : Fin 1056) (k : Fin 2048) :
    rowsAt m c t (ix2 i k) = normRow (fun k => H m c (ix2 (row t i) k)) (fun k => W m c (ix1 k)) k := by
  unfold rowsAt
  exact rows_at c _ _ _ _ i _ _ (fun k => (blk0 m c _ i k).trans (by rw [row_first])) (blk1 m c _) _ k
theorem prodAt_at (t : Fin cfg0.N) (i : Fin 1056) (j : Fin 640) :
    prodAt m c t (ix2 i j) = ∑ k, normRow (fun k => H m c (ix2 (row t i) k)) (fun k => W m c (ix1 k)) k * B m c (ix2 k (wide (col t j))) := by
  unfold prodAt
  split
  · exact firstProd_at c t _ _ _ i j _ _ _ (blk0 m c t i) (blk1 m c t) (blk2 m c t j) _
  · exact laterProd_at c t _ _ i j _ _ _ (blk2 m c t j) (rowsAt_at m c t i) _

open Cert.NormProjRefIdeal.Read

theorem ref12_at (h : FVec Ideal S2112x2048 .f32) (w : FVec Ideal S2048 .f32) (i : Fin 2112) (k : Fin 2048) :
    val_main_v12 (F := Ideal) h w (ix2 i k) = normRow (fun k => h (ix2 i k)) (fun k => w (ix1 k)) k := by
  unfold val_main_v12 val_main_v9 val_main_v8 val_main_v7 val_main_v6 val_main_v4 val_main_v2 val_main_v1 val_main_v0
  pointwise [val_main_v11, val_main_v10, val_main_v5, val_main_v3, val_main_cst, val_main_cst_0, val_main_cst_1]
  rfl
theorem ref13_at (h : FVec Ideal S2112x2048 .f32) (w : FVec Ideal S2048 .f32) (i : Fin 2112) (k : Fin 2048) :
    val_main_v13 (F := Ideal) h w (ix2 i k) = normRow (fun k => h (ix2 i k)) (fun k => w (ix1 k)) k := by
  rw [← ref12_at h w i k]
  rfl
theorem ref14_at (b : FVec Ideal S2048x6152 .f32) (k : Fin 2048) (j : Fin 3200) :
    val_main_v14 (F := Ideal) b (ix2 k j) = b (ix2 k (wide j)) := by
  rw [val_main_v14_apply]
  unfold wide; blk_ext
theorem ref15_at (h : FVec Ideal S2112x2048 .f32) (w : FVec Ideal S2048 .f32) (b : FVec Ideal S2048x6152 .f32) (i : Fin 2112) (j : Fin 3200) :
    val_main_v15 (F := Ideal) h w b (ix2 i j) = ∑ k, normRow (fun k => h (ix2 i k)) (fun k => w (ix1 k)) k * b (ix2 k (wide j)) := by
  have key := ref12_at h w i
  unfold val_main_v15
  have keyB := fun k => ref14_at b k j
  generalize val_main_v12 (F := Ideal) h w = y at key ⊢
  generalize val_main_v14 (F := Ideal) b = z at keyB ⊢
  pointwise
  simp only [key, keyB]

theorem final3 : (dats m 0 c).arrAt 3 cfg0.N = val_main_v13 (F := Ideal) (H m c) (W m c) := by
  refine (dats m 0 c).arrAt_eq_of_covers 3 _ (by decide +kernel) fun t _ y => ?_
  idx_vars y
  rw [emb3, ref13_at]
  blk_simp
  rw [after_3]
  exact rowsAt_at m c t y0 y1
theorem final4 : (dats m 0 c).arrAt 4 cfg0.N = val_main_v15 (F := Ideal) (H m c) (W m c) (B m c) := by
  refine (dats m 0 c).arrAt_eq_of_covers 4 _ (by decide +kernel) fun t _ y => ?_
  idx_vars y
  rw [emb4, ref15_at]
  blk_simp
  rw [after_4]
  exact prodAt_at m c t y0 y1

/-- The run, with the results it leaves. -/
theorem run_results (ρ : Dev nD → PrngReg) : θ_run defs (onTc (τ := τ) (main (F := Ideal))) ⟨m, fun _ => 0, ρ⟩ (fun r => ∀ c : Dev nD,
      r.2.mem ((c : Thread nD τ).loc main_v3_0) = (dats m 0 c).arrAt 3 cfg0.N
      ∧ r.2.mem ((c : Thread nD τ).loc main_v3_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c => ⟨(h.1 c).1 3, (h.1 c).1 4, h.2 c⟩)
    (θ_run_and (run_main m ρ) (frame_of m ρ (dats m) (A_eq m) (run_main m ρ)))

end Cert.NormProjIdeal.Hand

/-! ## The claims -/

namespace Cert.Proof.NormProj

/-- The two kernels run the same text: one proof stands for both. -/
theorem frame_p : Cert.quiescent_NormProj := fun m ρ _ => by
  refine Eq.mp ?_ (Cert.NormProjIdeal.Hand.frame (F := Bits) m ρ)
  sl_kernel_rfl
theorem frame_pi : Cert.quiescent_NormProjIdeal := fun m ρ _ => Cert.NormProjIdeal.Hand.frame m ρ
theorem frame_ri : Cert.quiescent_NormProjRefIdeal := fun m ρ _ =>
  (θ_run Cert.NormProjRefIdeal.defs _ _).mono (fun r h => ⟨fun c => (h c).2.2, Idealize.ShloMosaic.sem_eq_zero_of_no_sems (by decide) r.2⟩)
    (Cert.NormProjRefIdeal.Value.run (F := Ideal) m ρ)

open Cert.NormProjRefIdeal.Read in
theorem algebraic : Cert.algebraic_NormProjIdeal_NormProjRefIdeal := by
  intro m ρ m' ρ' _ hagree
  refine ⟨_, _, Cert.NormProjIdeal.Hand.run_results m ρ, ?_⟩
  refine (θ_run Cert.NormProjRefIdeal.defs _ _).mono (fun _ h c => ⟨(h c).1.trans ?_, (h c).2.1.trans ?_, (h c).2.2⟩)
    (Cert.NormProjRefIdeal.Value.run (F := Ideal) m' ρ')
  · rw [(hagree c).1, (hagree c).2.1, val_main_v13_eq]
    exact (Cert.NormProjIdeal.Hand.final3 m c).symm
  · rw [(hagree c).1, (hagree c).2.1, (hagree c).2.2, val_main_v15_eq]
    exact (Cert.NormProjIdeal.Hand.final4 m c).symm

end Cert.Proof.NormProj
-- ==== Proof.OutValue.lean ====
/- The output projection with the residual and the next norm: each block of rows is a product, a sum and a normalised row, the
   reference's entry for entry, for all arguments. -/
module

public import proofs.«01_k».proof.Defs
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutProjIdeal.Value

open Cert.OutProjIdeal Cert.OutProjIdeal.Gen

/-- The residual row plus the product's row. -/
def sumRow (a : Fin 2048 → EReal) (b : Fin 2048 → Fin 2048 → EReal) (r : Fin 2048 → EReal) (j : Fin 2048) : EReal :=
  r j + ∑ k, a k * b k j

/-- A row divided by the root of its mean square, times the weight. -/
def normRow (y w : Fin 2048 → EReal) (j : Fin 2048) : EReal :=
  y j * Ideal.rsqrt (Ideal.div (∑ k, y k * y k) (Ideal.ofBits .f32 0x45000000#32) + Ideal.ofBits .f32 0x358637BD#32) * w j

section Blocks

variable (x0 : Vec Ideal S528x2048 .bf16) (x1 : Vec Ideal S2048x2048 .bf16) (x2 : Vec Ideal S528x2048 .f32) (x3 : Vec Ideal S1x2048 .f32)
  (i : Fin 528) (a r w : Fin 2048 → EReal) (b : Fin 2048 → Fin 2048 → EReal)
  (h0 : ∀ k, x0 (ix2 i k) = a k) (h1 : ∀ k j, x1 (ix2 k j) = b k j) (h2 : ∀ k, x2 (ix2 i k) = r k) (h3 : ∀ k, x3 (ix2 0 k) = w k)

include h0 h1 h2 in
theorem pay1_at (j : Fin 2048) : k0_pay1 (F := Ideal) x0 x1 x2 (ix2 i j) = sumRow a b r j := by
  pointwise [k0_pay1]
  simp only [h0, h1, h2]
  exact add_comm _ _
include h0 h1 h2 in
theorem out4_at (j : Fin 2048) : out0_4 (F := Ideal) x0 x1 x2 x3 (ix2 i j) = sumRow a b r j := by
  unfold out0_4
  frame_out
  exact pay1_at x0 x1 x2 i a r b h0 h1 h2 j
include h0 h1 h2 h3 in
theorem out5_at (j : Fin 2048) : out0_5 (F := Ideal) x0 x1 x2 x3 (ix2 i j) = normRow (sumRow a b r) w j := by
  unfold out0_5
  frame_out
  have key := pay1_at x0 x1 x2 i a r b h0 h1 h2
  unfold k0_pay2
  generalize k0_pay1 (F := Ideal) x0 x1 x2 = y at key ⊢
  pointwise
  simp only [key, h3]
  rfl

end Blocks

/-! ## The blocks of the arrays -/

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)
theorem lt_N (t : Fin cfg0.N) : t.val < 4 := lt_of_lt_of_eq t.isLt N_0

/-- The array's row that row `i` of block `t` is. -/
def row (t : Fin cfg0.N) (i : Fin 528) : Fin 2112 := ⟨t.val * 528 + i.val, by have := lt_N t; omega⟩

abbrev A : FVec Ideal S2112x2048 .f32 := m ((c : Thread nD τ).loc main_arg0)
abbrev B : FVec Ideal S2048x2048 .f32 := m ((c : Thread nD τ).loc main_arg1)
abbrev R : FVec Ideal S2112x2048 .f32 := m ((c : Thread nD τ).loc main_arg2)
abbrev W : FVec Ideal S2048 .f32 := m ((c : Thread nD τ).loc main_arg3)

theorem blk0 (t : Fin cfg0.N) (i : Fin 528) (k : Fin 2048) : iblk m c 0 t (ix2 i k) = A m c (ix2 (row t i) k) := by
  have e : ((cfg0.win 0).blk t).view.emb (ix2 i k) = ix2 (row t i) k := by unfold row; blk_ext [idx t]
  show V m c main_v0 (((cfg0.win 0).blk t).view.emb (ix2 i k)) = _
  rw [e]
  simp only [V, hostOps0]
  after_results_simp
  pointwise
theorem blk1 (t : Fin cfg0.N) (k j : Fin 2048) : iblk m c 1 t (ix2 k j) = B m c (ix2 k j) := by
  have e : ((cfg0.win 1).blk t).view.emb (ix2 k j) = ix2 k j := by blk_ext [idx t]
  show V m c main_v1 (((cfg0.win 1).blk t).view.emb (ix2 k j)) = _
  rw [e]
  simp only [V, hostOps0]
  after_results_simp
  pointwise
theorem blk2 (t : Fin cfg0.N) (i : Fin 528) (k : Fin 2048) : iblk m c 2 t (ix2 i k) = R m c (ix2 (row t i) k) := by
  unfold row; blk_point [iblk, V, idx t]
theorem blk3 (t : Fin cfg0.N) (k : Fin 2048) : iblk m c 3 t (ix2 0 k) = W m c (ix1 k) := by
  blk_simp [iblk, V, idx t]
  entry_read
  pointwise
  blk_ext [idx t]

theorem emb4 (t : Fin cfg0.N) (i : Fin 528) (k : Fin 2048) : ((cfg0.win 4).blk t).view.emb (ix2 i k) = ix2 (row t i) k := by
  unfold row; blk_ext [idx t]
theorem emb5 (t : Fin cfg0.N) (i : Fin 528) (k : Fin 2048) : ((cfg0.win 5).blk t).view.emb (ix2 i k) = ix2 (row t i) k := by
  unfold row; blk_ext [idx t]

/-! ## The result arrays -/

open Cert.OutProjRefIdeal.Read

theorem ref1_at (a r : FVec Ideal S2112x2048 .f32) (b : FVec Ideal S2048x2048 .f32) (i : Fin 2112) (j : Fin 2048) :
    val_main_v1 (F := Ideal) a b r (ix2 i j) = sumRow (fun k => a (ix2 i k)) (fun k j => b (ix2 k j)) (fun k => r (ix2 i k)) j := by
  pointwise [val_main_v1, val_main_v0]
  rfl
theorem ref15_at (a r : FVec Ideal S2112x2048 .f32) (b : FVec Ideal S2048x2048 .f32) (w : FVec Ideal S2048 .f32) (i : Fin 2112)
    (j : Fin 2048) : val_main_v15 (F := Ideal) a b r w (ix2 i j)
      = normRow (sumRow (fun k => a (ix2 i k)) (fun k j => b (ix2 k j)) (fun k => r (ix2 i k))) (fun k => w (ix1 k)) j := by
  have key := ref1_at a r b i
  unfold val_main_v15 val_main_v14 val_main_v11 val_main_v10 val_main_v9 val_main_v8 val_main_v6 val_main_v4 val_main_v3 val_main_v2
  generalize val_main_v1 (F := Ideal) a b r = y at key ⊢
  pointwise [val_main_v13, val_main_v12, val_main_v7, val_main_v5, val_main_cst, val_main_cst_0, val_main_cst_1]
  simp only [key]
  rfl

theorem final4 : (dats m 0 c).arrAt 4 cfg0.N = val_main_v1 (F := Ideal) (A m c) (B m c) (R m c) := by
  refine (dats m 0 c).arrAt_eq_of_covers 4 _ (by decide +kernel) fun t _ y => ?_
  idx_vars y
  rw [emb4, ref1_at]
  blk_simp
  rw [after0_4]
  exact out4_at _ _ _ _ y0 _ _ _ (fun k => blk0 m c t y0 k) (blk1 m c t) (fun k => blk2 m c t y0 k) y1
theorem final5 : (dats m 0 c).arrAt 5 cfg0.N = val_main_v15 (F := Ideal) (A m c) (B m c) (R m c) (W m c) := by
  refine (dats m 0 c).arrAt_eq_of_covers 5 _ (by decide +kernel) fun t _ y => ?_
  idx_vars y
  rw [emb5, ref15_at]
  blk_simp
  rw [after0_5]
  exact out5_at _ _ _ _ y0 _ _ _ _ (fun k => blk0 m c t y0 k) (blk1 m c t) (fun k => blk2 m c t y0 k) (blk3 m c t) y1

end Cert.OutProjIdeal.Value

/-! ## The claims -/

namespace Cert.Proof.OutProj

theorem frame_p : Cert.quiescent_OutProj := fun m ρ _ => Cert.OutProj.Gen.frame m ρ
theorem frame_pi : Cert.quiescent_OutProjIdeal := fun m ρ _ => Cert.OutProjIdeal.Gen.frame m ρ
theorem frame_ri : Cert.quiescent_OutProjRefIdeal := fun m ρ _ =>
  (θ_run Cert.OutProjRefIdeal.defs _ _).mono (fun r h => ⟨fun c => (h c).2.2, Idealize.ShloMosaic.sem_eq_zero_of_no_sems (by decide) r.2⟩)
    (Cert.OutProjRefIdeal.Value.run (F := Ideal) m ρ)

open Cert.OutProjRefIdeal.Read in
theorem algebraic : Cert.algebraic_OutProjIdeal_OutProjRefIdeal := by
  intro m ρ m' ρ' _ hagree
  refine ⟨_, _, Cert.OutProjIdeal.Value.run_blocks (F := Ideal) m ρ, ?_⟩
  refine (θ_run Cert.OutProjRefIdeal.defs _ _).mono (fun _ h c => ⟨(h c).1.trans ?_, (h c).2.1.trans ?_, (h c).2.2⟩)
    (Cert.OutProjRefIdeal.Value.run (F := Ideal) m' ρ')
  · rw [(hagree c).1, (hagree c).2.1, (hagree c).2.2.1, val_main_v1_eq]
    exact (Cert.OutProjIdeal.Value.final4 m c).symm
  · rw [(hagree c).1, (hagree c).2.1, (hagree c).2.2.1, (hagree c).2.2.2, val_main_v15_eq]
    exact (Cert.OutProjIdeal.Value.final5 m c).symm

end Cert.Proof.OutProj
-- ==== Proof.ConvFwdValue.lean ====
/- The gated convolution of the forward pass: the second half of the joint array's columns is the gate times the convolution,
   the first half is kept, the reference's entry for entry, for all arguments. -/
module

public import proofs.«01_k».proof.Defs
public import proofs.«01_k».proof.Proof.ConvValue
public import proofs.«01_k».proof.Proof.Gen.ConvFwd
public import proofs.«01_k».proof.Proof.Gen.ConvFwd.Frame
public import proofs.«01_k».proof.Proof.Gen.ConvFwdIdeal
public import proofs.«01_k».proof.Proof.Gen.ConvFwdIdeal.Frame
public import proofs.«01_k».proof.Proof.Gen.ConvFwdIdeal.Value
public import proofs.«01_k».proof.Proof.Gen.ConvFwdRefIdeal
public import proofs.«01_k».proof.Proof.Gen.ConvFwdRefIdeal.Run
public import proofs.«01_k».proof.Proof.Gen.ConvFwdRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ConvFwdIdeal.Value

open Cert.ConvFwdIdeal Cert.ConvFwdIdeal.Gen Cert.Reals
open Cert.ConvBwdIdeal.Value (col col_zero col_of conv)

/-- The gate's column times the convolved column of the product of the other two, as they stand in the padded array. -/
def gated (u b e : ℕ → EReal) (w : Fin 3 → EReal) (i : ℕ) : EReal := b i * conv (fun i => e i * u i) w (i - 2)

/-- Below the padding the gate's column vanishes, and with it the gated convolution. -/
theorem gated_zero (u b e : ℕ → EReal) (w : Fin 3 → EReal) {i : ℕ} (h : b i = 0) : gated u b e w i = 0 := by
  unfold gated
  rw [h, zero_mul]

section Kernel

variable (c : Dev nD) (g : grid0.Coords) (pc : FVec Ideal S3x2112x128 .f32) (w : FVec Ideal S8x128 .f32)
  (k : Fin 128) (u b e : ℕ → EReal) (wc : Fin 3 → EReal)
  (h0 : ∀ i, pc (ix3 0 i k) = u i.val) (h1 : ∀ i, pc (ix3 1 i k) = b i.val) (h2 : ∀ i, pc (ix3 2 i k) = e i.val)
  (w0 : w (ix2 0 k) = wc 0) (w1 : w (ix2 1 k) = wc 1) (w2 : w (ix2 2 k) = wc 2) (hb : ∀ i, i < 48 → b i = 0)

include h0 h1 h2 w0 w1 w2 hb in
theorem out_at (i : Fin 2112) (arg1 : Memref sig .tc .vmem S3x2112x128 .f32) (harg1 : arg1.IsWhole)
    (arg2 : Memref sig .tc .vmem S8x128 .f32) (harg2 : arg2.IsWhole) (arg4 : Memref sig .tc .vmem S2112x128 .bf16)
    (harg4 : arg4.IsWhole) : out0_A_2 (F := Ideal) c g arg1 harg1 arg2 harg2 arg4 harg4 pc w (ix2 i k) = gated u b e wc i.val := by
  unfold out0_A_2
  frame_out
  open_payloads
  pointwise
  simp (disch := omega) only [select_sge]
  simp only [h0, h1, h2, w0, w1, w2]
  by_cases hi : i.val < 48
  · rw [hb _ hi, zero_mul, gated_zero _ _ _ _ (hb _ hi)]
  · rw [if_pos (by omega), if_pos (by omega), (by omega : (i.val + 2112 - 2) % 2112 = i.val - 2),
      (by omega : (i.val + 2112 - 1) % 2112 = i.val - 2 + 1)]
    unfold gated conv
    rw [(by omega : i.val - 2 + 2 = i.val)]

end Kernel

/-! ## The blocks of the arrays -/

variable (m : (ℓ : Loc nD τ sig) → Buf (Elt Ideal) ℓ) (c : Dev nD)

theorem idx : ∀ t : Fin cfg0.N, win0_0.index t = ![0, 0, t.val] ∧ win0_1.index t = ![0, t.val] ∧ win0_2.index t = ![0, 8 + t.val] :=
  (by decide +kernel : ∀ t : Fin grid0.N, _)
theorem lt_N (t : Fin cfg0.N) : t.val < 8 := lt_of_lt_of_eq t.isLt N_0

/-- The feature that column `k` of block `t` is. -/
def feat (t : Fin cfg0.N) (k : Fin 128) : Fin 1024 := ⟨t.val * 128 + k.val, by have := lt_N t; omega⟩

abbrev U : FVec Ideal S1x2064x1024 .f32 := m ((c : Thread nD τ).loc main_arg0)
abbrev B : FVec Ideal S1x2064x1024 .f32 := m ((c : Thread nD τ).loc main_arg1)
abbrev C : FVec Ideal S1x2064x1024 .f32 := m ((c : Thread nD τ).loc main_arg2)
abbrev W : FVec Ideal S3x1024 .f32 := m ((c : Thread nD τ).loc main_arg3)
abbrev H : FVec Ideal S1x2064x1024 .f32 := m ((c : Thread nD τ).loc main_arg4)

theorem blk0 (t : Fin cfg0.N) (p : Fin 3) (i : Fin 2112) (k : Fin 128) :
    iblk m c 0 t (ix3 p i k) = col (![U m c, B m c, C m c] p) (feat t k) i.val := by
  have hN := lt_N t
  have e : ((cfg0.win 0).blk t).view.emb (ix3 p i k) = ix3 p i (feat t k) := by unfold feat; blk_ext [idx t]
  show V m c main_v1 (((cfg0.win 0).blk t).view.emb (ix3 p i k)) = _
  rw [e]
  simp only [V, hostOps0, hostOps0_1, hostOps0_2, hostOps0_3, hostOps0_4, hostOps0_5, hostOps0_6, List.flatten_cons, List.flatten_nil,
    List.append_nil, List.cons_append, List.nil_append]
  after_results_simp
  show pad S3x2112x1024 ![0, 48, 0] ![0, 0, 0] ![0, 0, 0]
    (concatenate S3x2064x1024 0 [⟨S1x2064x1024, U m c⟩, ⟨S1x2064x1024, B m c⟩, ⟨S1x2064x1024, C m c⟩]
      concatenates_S1x2064x1024_S1x2064x1024_S1x2064x1024_S3x2064x1024_d0)
    (sitofp .f32 (constantI S_ 32 0#32)) pads_S3x2064x1024_S3x2112x1024_000_4800_000 h_S_ (ix3 p i (feat t k)) = _
  fin_cases p <;> pointwise
  all_goals
    by_cases hi : 48 ≤ i.val
    · rw [dif_pos (by omega)]
      simp only [col_of, (by omega : 48 + (i.val - 48) = i.val)]
    · rw [dif_neg (by omega), col_zero _ _ (Or.inl (not_le.mp hi))]
      simp [FloatOps.sitofp]
theorem blk1 (t : Fin cfg0.N) (p : Fin 8) (k : Fin 128) (hp : p.val < 3) :
    iblk m c 1 t (ix2 p k) = W m c (ix2 (⟨p.val, hp⟩ : Fin 3) (feat t k)) := by
  have hN := lt_N t
  have e : ((cfg0.win 1).blk t).view.emb (ix2 p k) = ix2 p (feat t k) := by unfold feat; blk_ext [idx t]
  show V m c main_v5 (((cfg0.win 1).blk t).view.emb (ix2 p k)) = _
  rw [e]
  simp only [V, hostOps0, hostOps0_1, hostOps0_2, hostOps0_3, hostOps0_4, hostOps0_5, hostOps0_6, List.flatten_cons, List.flatten_nil,
    List.append_nil, List.cons_append, List.nil_append]
  after_results_simp
  show pad S8x1024 ![0, 0] ![5, 0] ![0, 0] (W m c) (sitofp .f32 (constantI S_ 32 0#32)) pads_S3x1024_S8x1024_050_000 h_S_
    (ix2 p (feat t k)) = _
  pointwise
  rw [dif_pos (by omega)]
/-- The joint array as the call finds it, on its first half of columns. -/
theorem kept_at (i : Fin 2112) (j : Fin 2048) (hj : j.val < 1024) : V m c main_v6 (ix2 i j) = col (H m c) ⟨j.val, hj⟩ i.val := by
  simp only [V, hostOps0, hostOps0_1, hostOps0_2, hostOps0_3, hostOps0_4, hostOps0_5, hostOps0_6, List.flatten_cons, List.flatten_nil,
    List.append_nil, List.cons_append, List.nil_append]
  after_results_simp
  show truncf .bf16 (pad S2112x2048 ![48, 0] ![0, 1024] ![0, 0] (shapeCast S2064x1024 (H m c) shapeCasts_S1x2064x1024_S2064x1024)
    (sitofp .f32 (constantI S_ 32 0#32)) pads_S2064x1024_S2112x2048_4800_010240 h_S_) bitsLt_bf16_f32 (ix2 i j) = _
  pointwise
  by_cases hi : 48 ≤ i.val
  · rw [dif_pos (by omega)]
    simp only [col_of, (by omega : 48 + (i.val - 48) = i.val)]
  · rw [dif_neg (by omega), col_zero _ _ (Or.inl (not_le.mp hi))]
    simp [FloatOps.sitofp]

theorem emb2 (t : Fin cfg0.N) (i : Fin 2112) (k : Fin 128) :
    ((cfg0.win 2).blk t).view.emb (ix2 i k) = ix2 i (⟨1024 + (feat t k).val, by omega⟩ : Fin 2048) := by
  have := lt_N t
  unfold feat; blk_ext [idx t]

theorem flush2 : ∀ t : Fin cfg0.N, (cfg0.win 2).flush t = true := (by decide +kernel : ∀ t : Fin grid0.N, _)

/-! ## The result array -/

open Cert.ConvFwdRefIdeal.Read

/-- An entry of the joint array. -/
def joint (u b e h : FVec Ideal S1x2064x1024 .f32) (w : FVec Ideal S3x1024 .f32) (i : Fin 2112) (j : Fin 2048) : EReal :=
  if hj : j.val < 1024 then col h ⟨j.val, hj⟩ i.val
  else gated (col u ⟨j.val - 1024, by omega⟩) (col b ⟨j.val - 1024, by omega⟩) (col e ⟨j.val - 1024, by omega⟩)
    (fun p => w (ix2 p ⟨j.val - 1024, by omega⟩)) i.val

set_option maxHeartbeats 2000000 in
theorem ref_at (u b e h : FVec Ideal S1x2064x1024 .f32) (w : FVec Ideal S3x1024 .f32) (i : Fin 2112) (j : Fin 2048) :
    val_main_v29 (F := Ideal) u b e w h (ix2 i j) = joint u b e h w i j := by
  unfold val_main_v29 val_main_v28 joint
  pointwise [val_main_v27, val_main_v26, val_main_v25, val_main_v24, val_main_v23, val_main_v22, val_main_v21, val_main_v20,
    val_main_v19, val_main_v18, val_main_v17, val_main_v16, val_main_v15, val_main_v14, val_main_v13, val_main_v12, val_main_v11,
    val_main_v10, val_main_v9, val_main_v8, val_main_v7, val_main_v6, val_main_v5, val_main_v4, val_main_v3, val_main_v2, val_main_v1,
    val_main_v0, val_main_cst, val_main_cst_0, val_main_c, val_main_call0_v0]
  by_cases hi : 48 ≤ i.val
  · rw [dif_pos ⟨hi, by omega⟩]
    by_cases hj : j.val < 1024
    · rw [dif_pos hj, dif_pos hj]
      simp only [col_of, (by omega : 48 + (i.val - 48) = i.val)]
    · rw [dif_neg hj, dif_neg hj]
      simp only [col_of, (by omega : 48 + (i.val - 48) = i.val)]
      unfold gated conv
      have z0 : i.val - 48 < 2 → ∀ a k, col a k (i.val - 2) = 0 := fun h a k => col_zero a k (Or.inl (by omega))
      have z1 : 1 + (i.val - 48) < 2 → ∀ a k, col a k (i.val - 2 + 1) = 0 := fun h a k => col_zero a k (Or.inl (by omega))
      have e2 : i.val - 2 + 2 = i.val := by omega
      by_cases h2 : i.val - 48 < 2
      · by_cases h3 : 1 + (i.val - 48) < 2
        · simp only [dif_pos h2, dif_pos h3, z0 h2, z1 h3, e2, zero_mul]
        · simp only [dif_pos h2, dif_neg h3, z0 h2, e2, zero_mul, (by omega : 48 + (1 + (i.val - 48) - 2) = i.val - 2 + 1)]
      · have h3 : ¬ 1 + (i.val - 48) < 2 := by omega
        simp only [dif_neg h2, dif_neg h3, e2, (by omega : 48 + (i.val - 48 - 2) = i.val - 2),
          (by omega : 48 + (1 + (i.val - 48) - 2) = i.val - 2 + 1)]
  · rw [dif_neg (by omega)]
    by_cases hj : j.val < 1024
    · rw [dif_pos hj, col_zero _ _ (Or.inl (not_le.mp hi))]
      simp [FloatOps.sitofp]
    · rw [dif_neg hj, gated_zero _ _ _ _ (col_zero _ _ (Or.inl (not_le.mp hi)))]
      simp [FloatOps.sitofp]

theorem final2 : (dats m 0 c).arrAt 2 cfg0.N = val_main_v29 (F := Ideal) (U m c) (B m c) (C m c) (W m c) (H m c) := by
  funext y
  idx_vars y
  rw [ref_at]
  unfold joint
  by_cases hj : y1.val < 1024
  · rw [dif_pos hj, entry2 m c]
    · exact kept_at m c y0 y1 hj
    · intro t _ hm
      obtain ⟨x, -, hx⟩ := Finset.mem_map.1 hm
      idx_vars x
      have e := (emb2 t x0 x1).symm.trans hx
      have := congrArg (fun z : S2112x2048.Idx => (z 1).val) e
      change 1024 + (feat t x1).val = y1.val at this
      omega
  · rw [dif_neg hj]
    obtain ⟨t, k, hk⟩ : ∃ (t : Fin cfg0.N) (k : Fin 128), (⟨y1.val - 1024, by omega⟩ : Fin 1024) = feat t k :=
      ⟨⟨(y1.val - 1024) / 128, lt_of_lt_of_eq (by omega) N_0.symm⟩, ⟨(y1.val - 1024) % 128, by omega⟩, Fin.ext (by unfold feat; simp only; omega)⟩
    have hy : ix2 y0 y1 = ((cfg0.win 2).blk t).view.emb (ix2 y0 k) := by
      rw [emb2]
      exact congrArg (ix2 y0) (Fin.ext (by have := congrArg Fin.val hk; simp only at this ⊢; omega))
    rw [hk, hy]
    refine (congrFun (blocks2 m c t (flush2 t)) (ix2 y0 k)).trans ?_
    rw [flushed2_A]
    exact out_at _ _ _ _ k _ _ _ _ (fun i => blk0 m c t 0 i k) (fun i => blk0 m c t 1 i k) (fun i => blk0 m c t 2 i k)
      (blk1 m c t 0 k (by decide)) (blk1 m c t 1 k (by decide)) (blk1 m c t 2 k (by decide)) (fun i hi => col_zero _ _ (Or.inl hi)) y0 _ _ _ _ _ _

end Cert.ConvFwdIdeal.Value

/-! ## The claims -/

namespace Cert.Proof.ConvFwd

theorem frame_p : Cert.quiescent_ConvFwd := fun m ρ _ => Cert.ConvFwd.Gen.frame m ρ
theorem frame_pi : Cert.quiescent_ConvFwdIdeal := fun m ρ _ => Cert.ConvFwdIdeal.Gen.frame m ρ
theorem frame_ri : Cert.quiescent_ConvFwdRefIdeal := fun m ρ _ =>
  (θ_run Cert.ConvFwdRefIdeal.defs _ _).mono (fun r h => ⟨fun c => (h c).2, Idealize.ShloMosaic.sem_eq_zero_of_no_sems (by decide) r.2⟩)
    (Cert.ConvFwdRefIdeal.Value.run (F := Ideal) m ρ)

open Cert.ConvFwdRefIdeal.Read in
theorem algebraic : Cert.algebraic_ConvFwdIdeal_ConvFwdRefIdeal := by
  intro m ρ m' ρ' _ hagree
  refine ⟨_, Cert.ConvFwdIdeal.Value.run_blocks (F := Ideal) m ρ, ?_⟩
  refine (θ_run Cert.ConvFwdRefIdeal.defs _ _).mono (fun _ h c => ⟨(h c).1.trans ?_, (h c).2⟩)
    (Cert.ConvFwdRefIdeal.Value.run (F := Ideal) m' ρ')
  rw [(hagree c).1, (hagree c).2.1, (hagree c).2.2.1, (hagree c).2.2.2.1, (hagree c).2.2.2.2, val_main_v29_eq]
  exact (Cert.ConvFwdIdeal.Value.final2 m c).symm

end Cert.Proof.ConvFwd
-- ==== Proof.Products.lean ====
/- Three plain products, each at its largest shape: every block is a product of a block of rows and a block of columns,
   the reference's entry for entry, for all arguments. -/
module

public import proofs.«01_k».proof.Defs
public import proofs.«01_k».proof.Proof.Gen.MmNn
public import proofs.«01_k».proof.Proof.Gen.MmNn.Frame
public import proofs.«01_k».proof.Proof.Gen.MmNnIdeal
public import proofs.«01_k».proof.Proof.Gen.MmNnIdeal.Frame
public import proofs.«01_k».proof.Proof.Gen.MmNnIdeal.Value
public import proofs.«01_k».proof.Proof.Gen.MmNnRefIdeal
public import proofs.«01_k».proof.Proof.Gen.MmNnRefIdeal.Run
public import proofs.«01_k».proof.Proof.Gen.MmNnRefIdeal.Read
public import proofs.«01_k».proof.Proof.Gen.MmNt
public import proofs.«01_k».proof.Proof.Gen.MmNt.Frame
public import proofs.«01_k».proof.Proof.Gen.MmNtIdeal
public import proofs.«01_k».proof.Proof.Gen.MmNtIdeal.Frame
public import proofs.«01_k».proof.Proof.Gen.MmNtIdeal.Value
public import proofs.«01_k».proof.Proof.Gen.MmNtRefIdeal
public import proofs.«01_k».proof.Proof.Gen.MmNtRefIdeal.Run
public import proofs.«01_k».proof.Proof.Gen.MmNtRefIdeal.Read
public import proofs.«01_k».proof.Proof.Gen.MmTn
public import proofs.«01_k».proof.Proof.Gen.MmTn.Frame
public import proofs.«01_k».proof.Proof.Gen.MmTnIdeal
public import proofs.«01_k».proof.Proof.Gen.MmTnIdeal.Frame
public import proofs.«01_k».proof.Proof.Gen.MmTnIdeal.Value
public import proofs.«01_k».proof.Proof.Gen.MmTnRefIdeal
public import proofs.«01_k».proof.Proof.Gen.MmTnRefIdeal.Run
public import proofs.«01_k».proof.Proof.Gen.MmTnRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

/-! ## The feed-forward part's second product, with the residual -/

namespace Cert.MmNnIdeal.Value

open Cert.MmNnIdeal Cert.MmNnIdeal.Gen Cert.MmNnRefIdeal.Read

theorem out_at (x0 : Vec Ideal S1056x5632 .bf16) (x1 : Vec Ideal S5632x512 .bf16) (x2 : Vec Ideal S1056x512 .f32) (i : Fin 1056) (j : Fin 512)
    (a b : Fin 5632 → EReal) (r : EReal) (h0 : ∀ k, x0 (ix2 i k) = a k) (h1 : ∀ k, x1 (ix2 k j) = b k) (h2 : x2 (ix2 i j) = r) :
    out0_3 (F := Ideal) x0 x1 x2 (ix2 i j) = r + ∑ k, a k * b k := by
  unfold out0_3
  frame_out
  open_payloads
  pointwise
  simp only [h0, h1, h2]
  exact add_comm _ _

variable (m : (ℓ : Loc nD τ sig) → Buf (Elt Ideal) ℓ) (c : Dev nD)

theorem idx : ∀ t : Fin cfg0.N, win0_0.index t = ![t.val / 4, 0] ∧ win0_1.index t = ![0, t.val % 4] ∧ win0_2.index t = ![t.val / 4, t.val % 4]
    ∧ win0_3.index t = ![t.val / 4, t.val % 4] :=
  (by decide +kernel : ∀ t : Fin grid0.N, _)
theorem lt_N (t : Fin cfg0.N) : t.val < 8 := lt_of_lt_of_eq t.isLt N_0
/-- The array's row and column that row `i` and column `j` of block `t` are. -/
def row (t : Fin cfg0.N) (i : Fin 1056) : Fin 2112 := ⟨t.val / 4 * 1056 + i.val, by have := lt_N t; omega⟩
def col (t : Fin cfg0.N) (i : Fin 512) : Fin 2048 := ⟨t.val % 4 * 512 + i.val, by have := lt_N t; omega⟩

abbrev A : FVec Ideal S2112x5632 .f32 := m ((c : Thread nD τ).loc main_arg0)
abbrev B : FVec Ideal S5632x2048 .f32 := m ((c : Thread nD τ).loc main_arg1)
abbrev R : FVec Ideal S2112x2048 .f32 := m ((c : Thread nD τ).loc main_arg2)

theorem blk0 (t : Fin cfg0.N) (i : Fin 1056) (k : Fin 5632) : iblk m c 0 t (ix2 i k) = A m c (ix2 (row t i) k) := by
  have e : ((cfg0.win 0).blk t).view.emb (ix2 i k) = ix2 (row t i) k := by unfold row; blk_ext [idx t]
  show V m c main_v0 (((cfg0.win 0).blk t).view.emb (ix2 i k)) = _
  rw [e]
  simp only [V, hostOps0]
  after_results_simp
  pointwise
theorem blk1 (t : Fin cfg0.N) (k : Fin 5632) (j : Fin 512) : iblk m c 1 t (ix2 k j) = B m c (ix2 k (col t j)) := by
  have e : ((cfg0.win 1).blk t).view.emb (ix2 k j) = ix2 k (col t j) := by unfold col; blk_ext [idx t]
  show V m c main_v1 (((cfg0.win 1).blk t).view.emb (ix2 k j)) = _
  rw [e]
  simp only [V, hostOps0]
  after_results_simp
  pointwise
theorem blk2 (t : Fin cfg0.N) (i : Fin 1056) (j : Fin 512) : iblk m c 2 t (ix2 i j) = R m c (ix2 (row t i) (col t j)) := by
  unfold row col; blk_point [iblk, V, idx t]
theorem emb3 (t : Fin cfg0.N) (i : Fin 1056) (j : Fin 512) : ((cfg0.win 3).blk t).view.emb (ix2 i j) = ix2 (row t i) (col t j) := by
  unfold row col; blk_ext [idx t]

theorem ref_at (a : FVec Ideal S2112x5632 .f32) (b : FVec Ideal S5632x2048 .f32) (r : FVec Ideal S2112x2048 .f32) (i : Fin 2112) (j : Fin 2048) :
    val_main_v1 (F := Ideal) a b r (ix2 i j) = r (ix2 i j) + (∑ k : Fin 5632, a (ix2 i k) * b (ix2 k j) : EReal) := by
  pointwise [val_main_v1, val_main_v0]

theorem final3 : (dats m 0 c).arrAt 3 cfg0.N = val_main_v1 (F := Ideal) (A m c) (B m c) (R m c) := by
  refine (dats m 0 c).arrAt_eq_of_covers 3 _ (by decide +kernel) fun t _ y => ?_
  idx_vars y
  rw [emb3, ref_at]
  blk_simp
  rw [after0_3]
  exact out_at _ _ _ y0 y1 _ _ _ (fun k => blk0 m c t y0 k) (fun k => blk1 m c t k y1) (blk2 m c t y0 y1)

end Cert.MmNnIdeal.Value

namespace Cert.Proof.MmNn

theorem frame_p : Cert.quiescent_MmNn := fun m ρ _ => Cert.MmNn.Gen.frame m ρ
theorem frame_pi : Cert.quiescent_MmNnIdeal := fun m ρ _ => Cert.MmNnIdeal.Gen.frame m ρ
theorem frame_ri : Cert.quiescent_MmNnRefIdeal := fun m ρ _ =>
  (θ_run Cert.MmNnRefIdeal.defs _ _).mono (fun r h => ⟨fun c => (h c).2, Idealize.ShloMosaic.sem_eq_zero_of_no_sems (by decide) r.2⟩)
    (Cert.MmNnRefIdeal.Value.run (F := Ideal) m ρ)

open Cert.MmNnRefIdeal.Read in
theorem algebraic : Cert.algebraic_MmNnIdeal_MmNnRefIdeal := by
  intro m ρ m' ρ' _ hagree
  refine ⟨_, Cert.MmNnIdeal.Value.run_blocks (F := Ideal) m ρ, ?_⟩
  refine (θ_run Cert.MmNnRefIdeal.defs _ _).mono (fun _ h c => ⟨(h c).1.trans ?_, (h c).2⟩)
    (Cert.MmNnRefIdeal.Value.run (F := Ideal) m' ρ')
  rw [(hagree c).1, (hagree c).2.1, (hagree c).2.2, val_main_v1_eq]
  exact (Cert.MmNnIdeal.Value.final3 m c).symm

end Cert.Proof.MmNn

/-! ## The gradient into the output projection: the second factor read by rows -/

namespace Cert.MmNtIdeal.Value

open Cert.MmNtIdeal Cert.MmNtIdeal.Gen Cert.MmNtRefIdeal.Read

theorem out_at (x0 : Vec Ideal S1056x2048 .bf16) (x1 : Vec Ideal S512x2048 .bf16) (i : Fin 1056) (j : Fin 512)
    (a b : Fin 2048 → EReal) (h0 : ∀ k, x0 (ix2 i k) = a k) (h1 : ∀ k, x1 (ix2 j k) = b k) :
    out0_2 (F := Ideal) x0 x1 (ix2 i j) = ∑ k, a k * b k := by
  unfold out0_2
  frame_out
  open_payloads
  pointwise
  simp only [h0, h1]

variable (m : (ℓ : Loc nD τ sig) → Buf (Elt Ideal) ℓ) (c : Dev nD)

theorem idx : ∀ t : Fin cfg0.N, win0_0.index t = ![t.val / 4, 0] ∧ win0_1.index t = ![t.val % 4, 0] ∧ win0_2.index t = ![t.val / 4, t.val % 4] :=
  (by decide +kernel : ∀ t : Fin grid0.N, _)
theorem lt_N (t : Fin cfg0.N) : t.val < 8 := lt_of_lt_of_eq t.isLt N_0
/-- The array's row and column that row `i` and column `j` of block `t` are. -/
def row (t : Fin cfg0.N) (i : Fin 1056) : Fin 2112 := ⟨t.val / 4 * 1056 + i.val, by have := lt_N t; omega⟩
def col (t : Fin cfg0.N) (i : Fin 512) : Fin 2048 := ⟨t.val % 4 * 512 + i.val, by have := lt_N t; omega⟩

abbrev A : FVec Ideal S2112x2048 .f32 := m ((c : Thread nD τ).loc main_arg0)
abbrev B : FVec Ideal S2048x2048 .f32 := m ((c : Thread nD τ).loc main_arg1)

theorem blk0 (t : Fin cfg0.N) (i : Fin 1056) (k : Fin 2048) : iblk m c 0 t (ix2 i k) = A m c (ix2 (row t i) k) := by
  have e : ((cfg0.win 0).blk t).view.emb (ix2 i k) = ix2 (row t i) k := by unfold row; blk_ext [idx t]
  show V m c main_v0 (((cfg0.win 0).blk t).view.emb (ix2 i k)) = _
  rw [e]
  simp only [V, hostOps0]
  after_results_simp
  pointwise
theorem blk1 (t : Fin cfg0.N) (j : Fin 512) (k : Fin 2048) : iblk m c 1 t (ix2 j k) = B m c (ix2 (col t j) k) := by
  have e : ((cfg0.win 1).blk t).view.emb (ix2 j k) = ix2 (col t j) k := by unfold col; blk_ext [idx t]
  show V m c main_v1 (((cfg0.win 1).blk t).view.emb (ix2 j k)) = _
  rw [e]
  simp only [V, hostOps0]
  after_results_simp
  pointwise
theorem emb2 (t : Fin cfg0.N) (i : Fin 1056) (j : Fin 512) : ((cfg0.win 2).blk t).view.emb (ix2 i j) = ix2 (row t i) (col t j) := by
  unfold row col; blk_ext [idx t]

theorem ref_at (a : FVec Ideal S2112x2048 .f32) (b : FVec Ideal S2048x2048 .f32) (i : Fin 2112) (j : Fin 2048) :
    val_main_v1 (F := Ideal) a b (ix2 i j) = (∑ k : Fin 2048, a (ix2 i k) * b (ix2 j k) : EReal) := by
  pointwise [val_main_v1, val_main_v0]

theorem final2 : (dats m 0 c).arrAt 2 cfg0.N = val_main_v1 (F := Ideal) (A m c) (B m c) := by
  refine (dats m 0 c).arrAt_eq_of_covers 2 _ (by decide +kernel) fun t _ y => ?_
  idx_vars y
  rw [emb2, ref_at]
  blk_simp
  rw [after0_2]
  exact out_at _ _ y0 y1 _ _ (fun k => blk0 m c t y0 k) (fun k => blk1 m c t y1 k)

end Cert.MmNtIdeal.Value

namespace Cert.Proof.MmNt

theorem frame_p : Cert.quiescent_MmNt := fun m ρ _ => Cert.MmNt.Gen.frame m ρ
theorem frame_pi : Cert.quiescent_MmNtIdeal := fun m ρ _ => Cert.MmNtIdeal.Gen.frame m ρ
theorem frame_ri : Cert.quiescent_MmNtRefIdeal := fun m ρ _ =>
  (θ_run Cert.MmNtRefIdeal.defs _ _).mono (fun r h => ⟨fun c => (h c).2, Idealize.ShloMosaic.sem_eq_zero_of_no_sems (by decide) r.2⟩)
    (Cert.MmNtRefIdeal.Value.run (F := Ideal) m ρ)

open Cert.MmNtRefIdeal.Read in
theorem algebraic : Cert.algebraic_MmNtIdeal_MmNtRefIdeal := by
  intro m ρ m' ρ' _ hagree
  refine ⟨_, Cert.MmNtIdeal.Value.run_blocks (F := Ideal) m ρ, ?_⟩
  refine (θ_run Cert.MmNtRefIdeal.defs _ _).mono (fun _ h c => ⟨(h c).1.trans ?_, (h c).2⟩)
    (Cert.MmNtRefIdeal.Value.run (F := Ideal) m' ρ')
  rw [(hagree c).1, (hagree c).2, val_main_v1_eq]
  exact (Cert.MmNtIdeal.Value.final2 m c).symm

end Cert.Proof.MmNt

/-! ## The gradient of a weight: the first factor read by columns, the result rounded -/

namespace Cert.MmTnIdeal.Value

open Cert.MmTnIdeal Cert.MmTnIdeal.Gen Cert.MmTnRefIdeal.Read

theorem out_at (x0 : Vec Ideal S2112x1408 .bf16) (x1 : Vec Ideal S2112x1024 .bf16) (i : Fin 1408) (j : Fin 1024)
    (a b : Fin 2112 → EReal) (h0 : ∀ k, x0 (ix2 k i) = a k) (h1 : ∀ k, x1 (ix2 k j) = b k) :
    out0_2 (F := Ideal) x0 x1 (ix2 i j) = ∑ k, a k * b k := by
  unfold out0_2
  frame_out
  open_payloads
  pointwise
  simp only [h0, h1]

variable (m : (ℓ : Loc nD τ sig) → Buf (Elt Ideal) ℓ) (c : Dev nD)

theorem idx : ∀ t : Fin cfg0.N, win0_0.index t = ![0, t.val / 2] ∧ win0_1.index t = ![0, t.val % 2] ∧ win0_2.index t = ![t.val / 2, t.val % 2] :=
  (by decide +kernel : ∀ t : Fin grid0.N, _)
theorem lt_N (t : Fin cfg0.N) : t.val < 8 := lt_of_lt_of_eq t.isLt N_0
/-- The array's row and column that row `i` and column `j` of block `t` are. -/
def row (t : Fin cfg0.N) (i : Fin 1408) : Fin 5632 := ⟨t.val / 2 * 1408 + i.val, by have := lt_N t; omega⟩
def col (t : Fin cfg0.N) (i : Fin 1024) : Fin 2048 := ⟨t.val % 2 * 1024 + i.val, by have := lt_N t; omega⟩

abbrev A : FVec Ideal S2112x5632 .f32 := m ((c : Thread nD τ).loc main_arg0)
abbrev B : FVec Ideal S2112x2048 .f32 := m ((c : Thread nD τ).loc main_arg1)

theorem blk0 (t : Fin cfg0.N) (k : Fin 2112) (i : Fin 1408) : iblk m c 0 t (ix2 k i) = A m c (ix2 k (row t i)) := by
  have e : ((cfg0.win 0).blk t).view.emb (ix2 k i) = ix2 k (row t i) := by unfold row; blk_ext [idx t]
  show V m c main_v0 (((cfg0.win 0).blk t).view.emb (ix2 k i)) = _
  rw [e]
  simp only [V, hostOps0]
  after_results_simp
  pointwise
theorem blk1 (t : Fin cfg0.N) (k : Fin 2112) (j : Fin 1024) : iblk m c 1 t (ix2 k j) = B m c (ix2 k (col t j)) := by
  have e : ((cfg0.win 1).blk t).view.emb (ix2 k j) = ix2 k (col t j) := by unfold col; blk_ext [idx t]
  show V m c main_v1 (((cfg0.win 1).blk t).view.emb (ix2 k j)) = _
  rw [e]
  simp only [V, hostOps0]
  after_results_simp
  pointwise
theorem emb2 (t : Fin cfg0.N) (i : Fin 1408) (j : Fin 1024) : ((cfg0.win 2).blk t).view.emb (ix2 i j) = ix2 (row t i) (col t j) := by
  unfold row col; blk_ext [idx t]

theorem ref_at (a : FVec Ideal S2112x5632 .f32) (b : FVec Ideal S2112x2048 .f32) (i : Fin 5632) (j : Fin 2048) :
    val_main_v2 (F := Ideal) a b (ix2 i j) = (∑ k : Fin 2112, a (ix2 k i) * b (ix2 k j) : EReal) := by
  pointwise [val_main_v2, val_main_v1, val_main_v0]

theorem final2 : (dats m 0 c).arrAt 2 cfg0.N = val_main_v2 (F := Ideal) (A m c) (B m c) := by
  refine (dats m 0 c).arrAt_eq_of_covers 2 _ (by decide +kernel) fun t _ y => ?_
  idx_vars y
  rw [emb2, ref_at]
  blk_simp
  rw [after0_2]
  exact out_at _ _ y0 y1 _ _ (fun k => blk0 m c t k y0) (fun k => blk1 m c t k y1)

end Cert.MmTnIdeal.Value

namespace Cert.Proof.MmTn

theorem frame_p : Cert.quiescent_MmTn := fun m ρ _ => Cert.MmTn.Gen.frame m ρ
theorem frame_pi : Cert.quiescent_MmTnIdeal := fun m ρ _ => Cert.MmTnIdeal.Gen.frame m ρ
theorem frame_ri : Cert.quiescent_MmTnRefIdeal := fun m ρ _ =>
  (θ_run Cert.MmTnRefIdeal.defs _ _).mono (fun r h => ⟨fun c => (h c).2, Idealize.ShloMosaic.sem_eq_zero_of_no_sems (by decide) r.2⟩)
    (Cert.MmTnRefIdeal.Value.run (F := Ideal) m ρ)

open Cert.MmTnRefIdeal.Read in
theorem algebraic : Cert.algebraic_MmTnIdeal_MmTnRefIdeal := by
  intro m ρ m' ρ' _ hagree
  refine ⟨_, Cert.MmTnIdeal.Value.run_blocks (F := Ideal) m ρ, ?_⟩
  refine (θ_run Cert.MmTnRefIdeal.defs _ _).mono (fun _ h c => ⟨(h c).1.trans ?_, (h c).2⟩)
    (Cert.MmTnRefIdeal.Value.run (F := Ideal) m' ρ')
  rw [(hagree c).1, (hagree c).2, val_main_v2_eq]
  exact (Cert.MmTnIdeal.Value.final2 m c).symm

end Cert.Proof.MmTn
-- ==== Proof.ColumnProducts.lean ====
/- The two products over three groups of columns that the convolution half's projections share: every block is a product
   of a block of rows and the columns of one group, the reference's entry for entry, for all arguments. -/
module

public import proofs.«01_k».proof.Defs
public import proofs.«01_k».proof.Proof.Gen.MmBcols
public import proofs.«01_k».proof.Proof.Gen.MmBcols.Frame
public import proofs.«01_k».proof.Proof.Gen.MmBcolsIdeal
public import proofs.«01_k».proof.Proof.Gen.MmBcolsIdeal.Frame
public import proofs.«01_k».proof.Proof.Gen.MmBcolsIdeal.Value
public import proofs.«01_k».proof.Proof.Gen.MmBcolsRefIdeal
public import proofs.«01_k».proof.Proof.Gen.MmBcolsRefIdeal.Run
public import proofs.«01_k».proof.Proof.Gen.MmBcolsRefIdeal.Read
public import proofs.«01_k».proof.Proof.Gen.MmAcols
public import proofs.«01_k».proof.Proof.Gen.MmAcols.Frame
public import proofs.«01_k».proof.Proof.Gen.MmAcolsIdeal
public import proofs.«01_k».proof.Proof.Gen.MmAcolsIdeal.Frame
public import proofs.«01_k».proof.Proof.Gen.MmAcolsIdeal.Value
public import proofs.«01_k».proof.Proof.Gen.MmAcolsRefIdeal
public import proofs.«01_k».proof.Proof.Gen.MmAcolsRefIdeal.Run
public import proofs.«01_k».proof.Proof.Gen.MmAcolsRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

/-! ## The projection onto the three groups of 1024 columns -/

namespace Cert.MmBcolsIdeal.Value

open Cert.MmBcolsIdeal Cert.MmBcolsIdeal.Gen Cert.MmBcolsRefIdeal.Read

theorem out_at (x0 : Vec Ideal S1056x2048 .bf16) (x1 : Vec Ideal S1x1024x2048 .bf16) (i : Fin 1056) (j : Fin 1024)
    (a b : Fin 2048 → EReal) (h0 : ∀ k, x0 (ix2 i k) = a k) (h1 : ∀ k, x1 (ix3 0 j k) = b k) :
    out0_2 (F := Ideal) x0 x1 (ix3 0 i j) = ∑ k, a k * b k := by
  unfold out0_2
  frame_out
  open_payloads
  pointwise
  simp only [h0, h1]

variable (m : (ℓ : Loc nD τ sig) → Buf (Elt Ideal) ℓ) (c : Dev nD)

theorem idx : ∀ t : Fin cfg0.N, win0_0.index t = ![t.val / 3, 0] ∧ win0_1.index t = ![t.val % 3, 0, 0] ∧ win0_2.index t = ![t.val % 3, t.val / 3, 0] :=
  (by decide +kernel : ∀ t : Fin grid0.N, _)
theorem lt_N (t : Fin cfg0.N) : t.val < 6 := lt_of_lt_of_eq t.isLt N_0
/-- The array's row that row `i` of block `t` is, and the block's group of columns. -/
def row (t : Fin cfg0.N) (i : Fin 1056) : Fin 2112 := ⟨t.val / 3 * 1056 + i.val, by have := lt_N t; omega⟩
def grp (t : Fin cfg0.N) : Fin 3 := ⟨t.val % 3, by omega⟩
/-- Column `j` of group `g` in the joint weight. -/
def wcol (g : Fin 3) (j : Fin 1024) : Fin 6152 := ⟨3080 + (g.val * 1024 + j.val), by omega⟩

abbrev A : FVec Ideal S2112x2048 .f32 := m ((c : Thread nD τ).loc main_arg0)
abbrev B : FVec Ideal S2048x6152 .f32 := m ((c : Thread nD τ).loc main_arg1)

theorem blk0 (t : Fin cfg0.N) (i : Fin 1056) (k : Fin 2048) : iblk m c 0 t (ix2 i k) = A m c (ix2 (row t i) k) := by
  have e : ((cfg0.win 0).blk t).view.emb (ix2 i k) = ix2 (row t i) k := by unfold row; blk_ext [idx t]
  show V m c main_v0 (((cfg0.win 0).blk t).view.emb (ix2 i k)) = _
  rw [e]
  simp only [V, hostOps0]
  after_results_simp
  pointwise
theorem blk1 (t : Fin cfg0.N) (j : Fin 1024) (k : Fin 2048) : iblk m c 1 t (ix3 0 j k) = B m c (ix2 k (wcol (grp t) j)) := by
  have e : ((cfg0.win 1).blk t).view.emb (ix3 0 j k) = ix3 (grp t) j k := by unfold grp; blk_ext [idx t]
  show V m c main_v4 (((cfg0.win 1).blk t).view.emb (ix3 0 j k)) = _
  rw [e]
  simp only [V, hostOps0]
  after_results_simp
  pointwise
  rfl
theorem emb2 (t : Fin cfg0.N) (i : Fin 1056) (j : Fin 1024) : ((cfg0.win 2).blk t).view.emb (ix3 0 i j) = ix3 (grp t) (row t i) j := by
  unfold row grp; blk_ext [idx t]

theorem ref_at (a : FVec Ideal S2112x2048 .f32) (b : FVec Ideal S2048x6152 .f32) (g : Fin 3) (i : Fin 2112) (j : Fin 1024) :
    val_main_v7 (F := Ideal) a b (ix3 g i j) = (∑ k : Fin 2048, a (ix2 i k) * b (ix2 k (wcol g j)) : EReal) := by
  unfold val_main_v7 wcol
  fin_cases g <;> pointwise [val_main_v6, val_main_v5, val_main_v4, val_main_v3, val_main_v2, val_main_v1, val_main_v0]
  all_goals simp only [← Nat.add_assoc, Nat.reduceAdd]

theorem final2 : (dats m 0 c).arrAt 2 cfg0.N = val_main_v7 (F := Ideal) (A m c) (B m c) := by
  refine (dats m 0 c).arrAt_eq_of_covers 2 _ (by decide +kernel) fun t _ y => ?_
  idx_vars y
  obtain rfl : y0 = 0 := Subsingleton.elim _ _
  rw [emb2, ref_at]
  blk_simp
  rw [after0_2]
  exact out_at _ _ y1 y2 _ _ (fun k => blk0 m c t y1 k) (fun k => blk1 m c t y2 k)

end Cert.MmBcolsIdeal.Value

namespace Cert.Proof.MmBcols

theorem frame_p : Cert.quiescent_MmBcols := fun m ρ _ => Cert.MmBcols.Gen.frame m ρ
theorem frame_pi : Cert.quiescent_MmBcolsIdeal := fun m ρ _ => Cert.MmBcolsIdeal.Gen.frame m ρ
theorem frame_ri : Cert.quiescent_MmBcolsRefIdeal := fun m ρ _ =>
  (θ_run Cert.MmBcolsRefIdeal.defs _ _).mono (fun r h => ⟨fun c => (h c).2, Idealize.ShloMosaic.sem_eq_zero_of_no_sems (by decide) r.2⟩)
    (Cert.MmBcolsRefIdeal.Value.run (F := Ideal) m ρ)

open Cert.MmBcolsRefIdeal.Read in
theorem algebraic : Cert.algebraic_MmBcolsIdeal_MmBcolsRefIdeal := by
  intro m ρ m' ρ' _ hagree
  refine ⟨_, Cert.MmBcolsIdeal.Value.run_blocks (F := Ideal) m ρ, ?_⟩
  refine (θ_run Cert.MmBcolsRefIdeal.defs _ _).mono (fun _ h c => ⟨(h c).1.trans ?_, (h c).2⟩)
    (Cert.MmBcolsRefIdeal.Value.run (F := Ideal) m' ρ')
  rw [(hagree c).1, (hagree c).2, val_main_v7_eq]
  exact (Cert.MmBcolsIdeal.Value.final2 m c).symm

end Cert.Proof.MmBcols

/-! ## The weight's gradient over the three groups of columns -/

namespace Cert.MmAcolsIdeal.Value

open Cert.MmAcolsIdeal Cert.MmAcolsIdeal.Gen Cert.MmAcolsRefIdeal.Read

theorem out_at (x0 : Vec Ideal S1x2112x1024 .bf16) (x1 : Vec Ideal S2112x1024 .bf16) (i : Fin 1024) (j : Fin 1024)
    (a b : Fin 2112 → EReal) (h0 : ∀ k, x0 (ix3 0 k i) = a k) (h1 : ∀ k, x1 (ix2 k j) = b k) :
    out0_2 (F := Ideal) x0 x1 (ix3 0 i j) = ∑ k, a k * b k := by
  unfold out0_2
  frame_out
  open_payloads
  pointwise
  simp only [h0, h1]

variable (m : (ℓ : Loc nD τ sig) → Buf (Elt Ideal) ℓ) (c : Dev nD)

theorem idx : ∀ t : Fin cfg0.N, win0_0.index t = ![t.val % 3, 0, 0] ∧ win0_1.index t = ![0, t.val / 3] ∧ win0_2.index t = ![t.val % 3, 0, t.val / 3] :=
  (by decide +kernel : ∀ t : Fin grid0.N, _)
theorem lt_N (t : Fin cfg0.N) : t.val < 6 := lt_of_lt_of_eq t.isLt N_0
/-- The array's column that column `j` of block `t` is, and the block's group. -/
def col (t : Fin cfg0.N) (i : Fin 1024) : Fin 2048 := ⟨t.val / 3 * 1024 + i.val, by have := lt_N t; omega⟩
def grp (t : Fin cfg0.N) : Fin 3 := ⟨t.val % 3, by omega⟩

abbrev A0 : FVec Ideal S2112x1024 .f32 := m ((c : Thread nD τ).loc main_arg0)
abbrev A1 : FVec Ideal S2112x1024 .f32 := m ((c : Thread nD τ).loc main_arg1)
abbrev A2 : FVec Ideal S2112x1024 .f32 := m ((c : Thread nD τ).loc main_arg2)
abbrev H : FVec Ideal S2112x2048 .f32 := m ((c : Thread nD τ).loc main_arg3)
/-- The group's array. -/
def A (g : Fin 3) : FVec Ideal S2112x1024 .f32 := ![A0 m c, A1 m c, A2 m c] g

theorem cat_at (g : Fin 3) (k : Fin 2112) (i : Fin 1024) : V m c main_v4 (ix3 g k i) = A m c g (ix2 k i) := by
  simp only [V, hostOps0]
  after_results_simp
  fin_cases g <;> (pointwise [A]; after_results_simp; pointwise)
theorem blk0 (t : Fin cfg0.N) (k : Fin 2112) (i : Fin 1024) : iblk m c 0 t (ix3 0 k i) = A m c (grp t) (ix2 k i) := by
  have e : ((cfg0.win 0).blk t).view.emb (ix3 0 k i) = ix3 (grp t) k i := by unfold grp; blk_ext [idx t]
  show V m c main_v4 (((cfg0.win 0).blk t).view.emb (ix3 0 k i)) = _
  rw [e, cat_at]
theorem blk1 (t : Fin cfg0.N) (k : Fin 2112) (j : Fin 1024) : iblk m c 1 t (ix2 k j) = H m c (ix2 k (col t j)) := by
  have e : ((cfg0.win 1).blk t).view.emb (ix2 k j) = ix2 k (col t j) := by unfold col; blk_ext [idx t]
  show V m c main_v5 (((cfg0.win 1).blk t).view.emb (ix2 k j)) = _
  rw [e]
  simp only [V, hostOps0]
  after_results_simp
  pointwise
theorem emb2 (t : Fin cfg0.N) (i : Fin 1024) (j : Fin 1024) : ((cfg0.win 2).blk t).view.emb (ix3 0 i j) = ix3 (grp t) i (col t j) := by
  unfold col grp; blk_ext [idx t]

theorem ref_at (a0 a1 a2 : FVec Ideal S2112x1024 .f32) (h : FVec Ideal S2112x2048 .f32) (g : Fin 3) (i : Fin 1024) (j : Fin 2048) :
    val_main_v10 (F := Ideal) a0 a1 a2 h (ix3 g i j)
      = (∑ k : Fin 2112, (![a0, a1, a2] g : FVec Ideal S2112x1024 .f32) (ix2 k i) * h (ix2 k j) : EReal) := by
  unfold val_main_v10 val_main_v9
  fin_cases g <;> pointwise [val_main_v8, val_main_v7, val_main_v6, val_main_v5, val_main_v4, val_main_v3, val_main_v2, val_main_v1, val_main_v0]

theorem final2 : (dats m 0 c).arrAt 2 cfg0.N = val_main_v10 (F := Ideal) (A0 m c) (A1 m c) (A2 m c) (H m c) := by
  refine (dats m 0 c).arrAt_eq_of_covers 2 _ (by decide +kernel) fun t _ y => ?_
  idx_vars y
  obtain rfl : y0 = 0 := Subsingleton.elim _ _
  rw [emb2, ref_at]
  blk_simp
  rw [after0_2]
  exact out_at _ _ y1 y2 _ _ (fun k => blk0 m c t k y1) (fun k => blk1 m c t k y2)

end Cert.MmAcolsIdeal.Value

namespace Cert.Proof.MmAcols

theorem frame_p : Cert.quiescent_MmAcols := fun m ρ _ => Cert.MmAcols.Gen.frame m ρ
theorem frame_pi : Cert.quiescent_MmAcolsIdeal := fun m ρ _ => Cert.MmAcolsIdeal.Gen.frame m ρ
theorem frame_ri : Cert.quiescent_MmAcolsRefIdeal := fun m ρ _ =>
  (θ_run Cert.MmAcolsRefIdeal.defs _ _).mono (fun r h => ⟨fun c => (h c).2, Idealize.ShloMosaic.sem_eq_zero_of_no_sems (by decide) r.2⟩)
    (Cert.MmAcolsRefIdeal.Value.run (F := Ideal) m ρ)

open Cert.MmAcolsRefIdeal.Read in
theorem algebraic : Cert.algebraic_MmAcolsIdeal_MmAcolsRefIdeal := by
  intro m ρ m' ρ' _ hagree
  refine ⟨_, Cert.MmAcolsIdeal.Value.run_blocks (F := Ideal) m ρ, ?_⟩
  refine (θ_run Cert.MmAcolsRefIdeal.defs _ _).mono (fun _ h c => ⟨(h c).1.trans ?_, (h c).2⟩)
    (Cert.MmAcolsRefIdeal.Value.run (F := Ideal) m' ρ')
  rw [(hagree c).1, (hagree c).2.1, (hagree c).2.2.1, (hagree c).2.2.2, val_main_v10_eq]
  exact (Cert.MmAcolsIdeal.Value.final2 m c).symm

end Cert.Proof.MmAcols
-- ==== Proof.TwoProducts.lean ====
/- The gradient of the normalised row: the padded columns of the recurrence and the three groups of columns of the convolution,
   four products that together are one product over all columns, for all arguments. -/
module

public import proofs.«01_k».proof.Defs
public import proofs.«01_k».proof.Proof.Gen.MmTwo
public import proofs.«01_k».proof.Proof.Gen.MmTwo.Frame
public import proofs.«01_k».proof.Proof.Gen.MmTwoIdeal
public import proofs.«01_k».proof.Proof.Gen.MmTwoIdeal.Frame
public import proofs.«01_k».proof.Proof.Gen.MmTwoIdeal.Value
public import proofs.«01_k».proof.Proof.Gen.MmTwoRefIdeal
public import proofs.«01_k».proof.Proof.Gen.MmTwoRefIdeal.Run
public import proofs.«01_k».proof.Proof.Gen.MmTwoRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MmTwoIdeal.Value

open Cert.MmTwoIdeal Cert.MmTwoIdeal.Gen Cert.MmTwoRefIdeal.Read

/-- Column `j` of group `g` among the joint columns. -/
def wcol (g : Fin 3) (j : Fin 1024) : Fin 6152 := ⟨3080 + (g.val * 1024 + j.val), by omega⟩
/-- Column `k` of the first 3200. -/
def wide (k : Fin 3200) : Fin 6152 := ⟨k.val, by omega⟩
/-- The first 3080 entries of a row, then zeros. -/
def front (a : Fin 6152 → EReal) (k : Fin 3200) : EReal := if k.val < 3080 then a (wide k) else 0

/-- The product of a row's groups with a column's. -/
abbrev four (a b : Fin 6152 → EReal) : EReal :=
  (∑ k, front a k * b (wide k)) + (∑ j, a (wcol 0 j) * b (wcol 0 j)) + (∑ j, a (wcol 1 j) * b (wcol 1 j)) + (∑ j, a (wcol 2 j) * b (wcol 2 j))

/-- A sum over all columns is the sum over the first 3080 and over the three groups behind them. -/
theorem sum_groups (a b : Fin 6152 → EReal) : four a b = ∑ k, a k * b k := by
  let f : ℕ → EReal := fun n => if h : n < 6152 then a ⟨n, h⟩ * b ⟨n, h⟩ else 0
  have at_val : ∀ k : Fin 6152, a k * b k = f k.val := fun k => by simp only [f, k.isLt, dif_pos, Fin.eta]
  have hall : ∑ k, a k * b k = ∑ n ∈ Finset.range 6152, f n := by
    rw [← Fin.sum_univ_eq_sum_range]
    exact Finset.sum_congr rfl fun k _ => at_val k
  have hgrp : ∀ g : Fin 3, ∑ j, a (wcol g j) * b (wcol g j) = ∑ j ∈ Finset.range 1024, f (3080 + g.val * 1024 + j) := fun g => by
    rw [← Fin.sum_univ_eq_sum_range (fun j => f (3080 + g.val * 1024 + j))]
    refine Finset.sum_congr rfl fun j _ => ?_
    rw [at_val, Nat.add_assoc]
    rfl
  have hfront : ∑ k, front a k * b (wide k) = ∑ n ∈ Finset.range 3080, f n := by
    have e : ∑ k, front a k * b (wide k) = ∑ n ∈ Finset.range (3080 + 120), if n < 3080 then f n else 0 := by
      rw [← Fin.sum_univ_eq_sum_range (fun n => if n < 3080 then f n else 0)]
      refine Finset.sum_congr rfl fun k _ => ?_
      unfold front
      split
      · exact at_val (wide k)
      · exact zero_mul _
    rw [e, Finset.sum_range_add _ 3080 120, Finset.sum_congr rfl fun n hn => if_pos (Finset.mem_range.1 hn),
      Finset.sum_eq_zero fun n _ => if_neg (by omega), add_zero]
  rw [four, hall, hfront, hgrp, hgrp, hgrp, show 6152 = 3080 + 1024 + 1024 + 1024 from rfl,
    Finset.sum_range_add f (3080 + 1024 + 1024) 1024, Finset.sum_range_add f (3080 + 1024) 1024, Finset.sum_range_add f 3080 1024]
  rfl

variable (m : (ℓ : Loc nD τ sig) → Buf (Elt Ideal) ℓ) (c : Dev nD)

theorem idx : ∀ t : Fin cfg0.N, win0_0.index t = ![t.val / 4, 0] ∧ win0_1.index t = ![0, t.val % 4] ∧ win0_2.index t = ![0, t.val / 4, 0]
    ∧ win0_3.index t = ![0, 0, t.val % 4] ∧ win0_4.index t = ![t.val / 4, t.val % 4] :=
  (by decide +kernel : ∀ t : Fin grid0.N, _)
theorem lt_N (t : Fin cfg0.N) : t.val < 8 := lt_of_lt_of_eq t.isLt N_0
/-- The array's row and column that row `i` and column `j` of block `t` are. -/
def row (t : Fin cfg0.N) (i : Fin 1056) : Fin 2112 := ⟨t.val / 4 * 1056 + i.val, by have := lt_N t; omega⟩
def col (t : Fin cfg0.N) (i : Fin 512) : Fin 2048 := ⟨t.val % 4 * 512 + i.val, by have := lt_N t; omega⟩

abbrev D : FVec Ideal S2112x6152 .f32 := m ((c : Thread nD τ).loc main_arg0)
abbrev W : FVec Ideal S2048x6152 .f32 := m ((c : Thread nD τ).loc main_arg1)

theorem out_at (t : Fin cfg0.N) (x0 : Vec Ideal S1056x3200 .bf16) (x1 : Vec Ideal S3200x512 .bf16) (x2 : Vec Ideal S3x1056x1024 .bf16)
    (x3 : Vec Ideal S3x1024x512 .bf16) (i : Fin 1056) (j : Fin 512) (a b : Fin 6152 → EReal) (h0 : ∀ k, x0 (ix2 i k) = front a k)
    (h1 : ∀ k, x1 (ix2 k j) = b (wide k)) (h2 : ∀ g k, x2 (ix3 g i k) = a (wcol g k)) (h3 : ∀ g k, x3 (ix3 g k j) = b (wcol g k)) :
    out0_A_4 (F := Ideal) c (grid0.coords t) (ms0_0 t) (hs0_0 t) (ms0_1 t) (hs0_1 t) (ms0_2 t) (hs0_2 t) (ms0_3 t) (hs0_3 t) (ms0_4 t) (hs0_4 t)
      x0 x1 x2 x3 (ix2 i j) = four a b := by
  unfold out0_A_4 kernelRun0_A
  frame_out
  pointwise [k0_pay1]
  simp only [h0, h1, h2, h3]

theorem dpm_at (i : Fin 2112) (k : Fin 3200) : V m c main_v4 (ix2 i k) = front (fun k => D m c (ix2 i k)) k := by
  simp only [V, hostOps0, hostOps0_1, hostOps0_2, List.flatten_cons, List.flatten_nil, List.append_nil, List.cons_append, List.nil_append]
  after_results_simp
  show truncf .bf16 (pad S2112x3200 ![0, 0] ![0, 120] ![0, 0]
    (extractStridedSlice S2112x3080 ![0, 0] (D m c) slices_S2112x6152_S2112x3080_0_0)
    (sitofp .f32 (constantI S_ 32 0#32)) pads_S2112x3080_S2112x3200_000_01200 h_S_) bitsLt_bf16_f32 (ix2 i k) = _
  pointwise
  unfold front
  by_cases hk : k.val < 3080
  · rw [dif_pos (by omega), if_pos hk]
    rfl
  · rw [dif_neg (by omega), if_neg hk]
    simp [FloatOps.sitofp]
theorem dpc_at (g : Fin 3) (i : Fin 2112) (j : Fin 1024) : V m c main_v8 (ix3 g i j) = D m c (ix2 i (wcol g j)) := by
  simp only [V, hostOps0, hostOps0_1, hostOps0_2, List.flatten_cons, List.flatten_nil, List.append_nil, List.cons_append, List.nil_append]
  after_results_simp
  pointwise
  rfl
theorem wc_at (g : Fin 3) (j : Fin 1024) (n : Fin 2048) : V m c main_v10 (ix3 g j n) = W m c (ix2 n (wcol g j)) := by
  simp only [V, hostOps0, hostOps0_1, hostOps0_2, List.flatten_cons, List.flatten_nil, List.append_nil, List.cons_append, List.nil_append]
  after_results_simp
  pointwise
  rfl
theorem wt_at (k : Fin 6152) (n : Fin 2048) : V m c main_v1 (ix2 k n) = W m c (ix2 n k) := by
  simp only [V, hostOps0, hostOps0_1, hostOps0_2, List.flatten_cons, List.flatten_nil, List.append_nil, List.cons_append, List.nil_append]
  after_results_simp
  pointwise

theorem blk0 (t : Fin cfg0.N) (i : Fin 1056) (k : Fin 3200) : iblk m c 0 t (ix2 i k) = front (fun k => D m c (ix2 (row t i) k)) k := by
  have e : ((cfg0.win 0).blk t).view.emb (ix2 i k) = ix2 (row t i) k := by unfold row; blk_ext [idx t]
  show V m c main_v4 (((cfg0.win 0).blk t).view.emb (ix2 i k)) = _
  rw [e, dpm_at]
theorem blk1 (t : Fin cfg0.N) (k : Fin 3200) (j : Fin 512) : X0_1 m c t (ix2 k j) = W m c (ix2 (col t j) (wide k)) := by
  unfold X0_1
  unfold Pipeline.Window.fill
  rw [dif_pos (moved0_1 t (ix2 k j))]
  show V m c main_v1 (((cfg0.win 1).blk t).view.emb _) = _
  have e : ((cfg0.win 1).blk t).view.emb (fun a => ⟨(ix2 k j a).val, ((cfg0.win 1).moved_iff _ (ix2 k j)).mp (moved0_1 t (ix2 k j)) a⟩)
      = ix2 (wide k) (col t j) := by unfold wide col; blk_ext [idx t]
  rw [e, wt_at]
theorem blk2 (t : Fin cfg0.N) (g : Fin 3) (i : Fin 1056) (k : Fin 1024) : iblk m c 2 t (ix3 g i k) = D m c (ix2 (row t i) (wcol g k)) := by
  have e : ((cfg0.win 2).blk t).view.emb (ix3 g i k) = ix3 g (row t i) k := by unfold row; blk_ext [idx t]
  show V m c main_v8 (((cfg0.win 2).blk t).view.emb (ix3 g i k)) = _
  rw [e, dpc_at]
theorem blk3 (t : Fin cfg0.N) (g : Fin 3) (k : Fin 1024) (j : Fin 512) : iblk m c 3 t (ix3 g k j) = W m c (ix2 (col t j) (wcol g k)) := by
  have e : ((cfg0.win 3).blk t).view.emb (ix3 g k j) = ix3 g k (col t j) := by unfold col; blk_ext [idx t]
  show V m c main_v10 (((cfg0.win 3).blk t).view.emb (ix3 g k j)) = _
  rw [e, wc_at]
theorem emb4 (t : Fin cfg0.N) (i : Fin 1056) (j : Fin 512) : ((cfg0.win 4).blk t).view.emb (ix2 i j) = ix2 (row t i) (col t j) := by
  unfold row col; blk_ext [idx t]

theorem ref_at (d : FVec Ideal S2112x6152 .f32) (w : FVec Ideal S2048x6152 .f32) (i : Fin 2112) (n : Fin 2048) :
    val_main_v1 (F := Ideal) d w (ix2 i n) = (∑ k : Fin 6152, d (ix2 i k) * w (ix2 n k) : EReal) := by
  pointwise [val_main_v1, val_main_v0]

theorem final4 : (dats m 0 c).arrAt 4 cfg0.N = val_main_v1 (F := Ideal) (D m c) (W m c) := by
  refine (dats m 0 c).arrAt_eq_of_covers 4 _ (by decide +kernel) fun t _ y => ?_
  idx_vars y
  rw [emb4, ref_at]
  blk_simp
  rw [after0_4, outsAt0]
  exact (out_at c t _ _ _ _ y0 y1 _ _ (blk0 m c t y0) (fun k => blk1 m c t k y1) (fun g k => blk2 m c t g y0 k) (fun g k => blk3 m c t g k y1)).trans
    (sum_groups (fun k => D m c (ix2 (row t y0) k)) (fun k => W m c (ix2 (col t y1) k)))

end Cert.MmTwoIdeal.Value

/-! ## The claims -/

namespace Cert.Proof.MmTwo

theorem frame_p : Cert.quiescent_MmTwo := fun m ρ _ => Cert.MmTwo.Gen.frame m ρ
theorem frame_pi : Cert.quiescent_MmTwoIdeal := fun m ρ _ => Cert.MmTwoIdeal.Gen.frame m ρ
theorem frame_ri : Cert.quiescent_MmTwoRefIdeal := fun m ρ _ =>
  (θ_run Cert.MmTwoRefIdeal.defs _ _).mono (fun r h => ⟨fun c => (h c).2, Idealize.ShloMosaic.sem_eq_zero_of_no_sems (by decide) r.2⟩)
    (Cert.MmTwoRefIdeal.Value.run (F := Ideal) m ρ)

open Cert.MmTwoRefIdeal.Read in
theorem algebraic : Cert.algebraic_MmTwoIdeal_MmTwoRefIdeal := by
  intro m ρ m' ρ' _ hagree
  refine ⟨_, Cert.MmTwoIdeal.Value.run_blocks (F := Ideal) m ρ, ?_⟩
  refine (θ_run Cert.MmTwoRefIdeal.defs _ _).mono (fun _ h c => ⟨(h c).1.trans ?_, (h c).2⟩)
    (Cert.MmTwoRefIdeal.Value.run (F := Ideal) m' ρ')
  rw [(hagree c).1, (hagree c).2, val_main_v1_eq]
  exact (Cert.MmTwoIdeal.Value.final4 m c).symm

end Cert.Proof.MmTwo
-- ==== Proof.lean ====
/- The claims: for each part of the training step its frames, the frame of its reference, and their equality. -/
module

public import proofs.«01_k».proof.Defs
public import proofs.«01_k».proof.Proof.AdamValue
public import proofs.«01_k».proof.Proof.NormValue
public import proofs.«01_k».proof.Proof.LossValue
public import proofs.«01_k».proof.Proof.ConvValue
public import proofs.«01_k».proof.Proof.GateValue
public import proofs.«01_k».proof.Proof.MlstmValue
public import proofs.«01_k».proof.Proof.MlstmBack
public import proofs.«01_k».proof.Proof.NormProjValue
public import proofs.«01_k».proof.Proof.OutValue
public import proofs.«01_k».proof.Proof.ConvFwdValue
public import proofs.«01_k».proof.Proof.Products
public import proofs.«01_k».proof.Proof.ColumnProducts
public import proofs.«01_k».proof.Proof.TwoProducts

@[expose] public section

noncomputable section

namespace Cert.Proof

theorem claim : Cert.Claim :=
  ⟨Cert.NormBwd.Gen.facts, Cert.NormBwdIdeal.Gen.facts, Cert.NormBwdRefIdeal.Gen.facts,
    Cert.Loss.Gen.facts, Cert.LossIdeal.Gen.facts, Cert.LossRefIdeal.Gen.facts,
    Cert.ConvBwd.Gen.facts, Cert.ConvBwdIdeal.Gen.facts, Cert.ConvBwdRefIdeal.Gen.facts,
    Cert.GateBwd.Gen.facts, Cert.GateBwdIdeal.Gen.facts, Cert.GateBwdRefIdeal.Gen.facts,
    Cert.MlstmFwd.Gen.facts, Cert.MlstmFwdIdeal.Gen.facts, Cert.MlstmFwdRefIdeal.Gen.facts,
    Cert.NormProj.Gen.facts, Cert.NormProjIdeal.Gen.facts, Cert.NormProjRefIdeal.Gen.facts,
    Cert.OutProj.Gen.facts, Cert.OutProjIdeal.Gen.facts, Cert.OutProjRefIdeal.Gen.facts,
    Cert.ConvFwd.Gen.facts, Cert.ConvFwdIdeal.Gen.facts, Cert.ConvFwdRefIdeal.Gen.facts,
    Cert.MlstmBwd.Gen.facts, Cert.MlstmBwdIdeal.Gen.facts,
    Cert.MmNn.Gen.facts, Cert.MmNnIdeal.Gen.facts, Cert.MmNnRefIdeal.Gen.facts,
    Cert.MmTwo.Gen.facts, Cert.MmTwoIdeal.Gen.facts, Cert.MmTwoRefIdeal.Gen.facts,
    Cert.MmNt.Gen.facts, Cert.MmNtIdeal.Gen.facts, Cert.MmNtRefIdeal.Gen.facts,
    Cert.MmBcols.Gen.facts, Cert.MmBcolsIdeal.Gen.facts, Cert.MmBcolsRefIdeal.Gen.facts,
    Cert.MmTn.Gen.facts, Cert.MmTnIdeal.Gen.facts, Cert.MmTnRefIdeal.Gen.facts,
    Cert.MmAcols.Gen.facts, Cert.MmAcolsIdeal.Gen.facts, Cert.MmAcolsRefIdeal.Gen.facts,
    Cert.Adam.Gen.facts, Cert.AdamIdeal.Gen.facts, Cert.AdamRefIdeal.Gen.facts,
    Norm.preFacts, Loss.preFacts, Gate.preFacts,
    Norm.frame_p, Norm.frame_pi, Norm.frame_pi_pre, Norm.frame_ri, Norm.frame_ri_pre,
    Loss.frame_p, Loss.frame_pi, Loss.frame_pi_pre, Loss.frame_ri, Loss.frame_ri_pre,
    Conv.frame_p, Conv.frame_pi, Conv.frame_ri,
    Gate.frame_p, Gate.frame_pi, Gate.frame_pi_pre, Gate.frame_ri, Gate.frame_ri_pre,
    Mlstm.frame_p, Mlstm.frame_pi, Mlstm.frame_ri,
    NormProj.frame_p, NormProj.frame_pi, NormProj.frame_ri,
    OutProj.frame_p, OutProj.frame_pi, OutProj.frame_ri,
    ConvFwd.frame_p, ConvFwd.frame_pi, ConvFwd.frame_ri,
    MlstmBwd.frame_p, MlstmBwd.frame_pi,
    MmNn.frame_p, MmNn.frame_pi, MmNn.frame_ri,
    MmTwo.frame_p, MmTwo.frame_pi, MmTwo.frame_ri,
    MmNt.frame_p, MmNt.frame_pi, MmNt.frame_ri,
    MmBcols.frame_p, MmBcols.frame_pi, MmBcols.frame_ri,
    MmTn.frame_p, MmTn.frame_pi, MmTn.frame_ri,
    MmAcols.frame_p, MmAcols.frame_pi, MmAcols.frame_ri,
    Adam.frame_p, Adam.frame_pi, Adam.frame_ri,
    trivial, Norm.algebraic, trivial, Loss.algebraic, trivial, Conv.algebraic, trivial, Gate.algebraic,
    trivial, Mlstm.algebraic, trivial, NormProj.algebraic, trivial, OutProj.algebraic, trivial, ConvFwd.algebraic, MlstmBwd.preserves,
    trivial, MmNn.algebraic, trivial, MmTwo.algebraic, trivial, MmNt.algebraic, trivial, MmBcols.algebraic, trivial, MmTn.algebraic, trivial, MmAcols.algebraic,
    trivial, Adam.algebraic⟩

end Cert.Proof
